-- ==== Defs.lean ====
def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_head_finite [hPre_loss_head_finite : Cert.Pre_loss_head_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5))).1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5))).2.1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5))).2.2.1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5))).2.2.2.1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5))).2.2.2.2.1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5))).2.2.2.2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_head_finite [hPre_loss_head_finite : Cert.Pre_loss_head_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))).1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))).2.1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))).2.2.1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))).2.2.2.1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))).2.2.2.2.1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))).2.2.2.2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_bwd_finite [hPre_attn_bwd_finite : Cert.Pre_attn_bwd_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).1 = (fun _ => 1#1)
    ∧ (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.1 = (fun _ => 1#1)
    ∧ (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_bwd_finite [hPre_attn_bwd_finite : Cert.Pre_attn_bwd_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).1 = (fun _ => 1#1)
    ∧ (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2.1 = (fun _ => 1#1)
    ∧ (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2.2 = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_bwd_finite [hPre_in_bwd_finite : Cert.Pre_in_bwd_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_bwd_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).1 = (fun _ => 1#1)
    ∧ (Cert.Pre_in_bwd_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.1 = (fun _ => 1#1)
    ∧ (Cert.Pre_in_bwd_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.1 = (fun _ => 1#1)
    ∧ (Cert.Pre_in_bwd_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.2.1 = (fun _ => 1#1)
    ∧ (Cert.Pre_in_bwd_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5))).2.2.2.2 = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_in_bwd_finite [hPre_in_bwd_finite : Cert.Pre_in_bwd_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_in_bwd_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).1 = (fun _ => 1#1)
    ∧ (Cert.Pre_in_bwd_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).2.1 = (fun _ => 1#1)
    ∧ (Cert.Pre_in_bwd_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).2.2.1 = (fun _ => 1#1)
    ∧ (Cert.Pre_in_bwd_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).2.2.2.1 = (fun _ => 1#1)
    ∧ (Cert.Pre_in_bwd_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5))).2.2.2.2 = (fun _ => 1#1)

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_in_dx_finite [hPre_in_dx_finite : Cert.Pre_in_dx_finite.Facts] (m : (ℓ : Loc Cert.InDxIdeal.nD Cert.InDxIdeal.τ Cert.InDxIdeal.sig) → Buf (Elt Ideal) ℓ) : Prop :=
  ∀ c : Dev Cert.InDxIdeal.nD,
    (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).1 = (fun _ => 1#1)
    ∧ (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.1 = (fun _ => 1#1)
    ∧ (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.2.1 = (fun _ => 1#1)
    ∧ (Cert.Pre_in_dx_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.2.2 = (fun _ => 1#1)

def Pre_InDxRefIdeal (m : (ℓ : Loc Cert.InDxRefIdeal.nD Cert.InDxRefIdeal.τ Cert.InDxRefIdeal.sig) → Buf (Elt Ideal) ℓ) : Prop :=
  True

def Pre_InDxRefIdeal_in_dx_finite [hPre_in_dx_finite : Cert.Pre_in_dx_finite.Facts] (m : (ℓ : Loc Cert.InDxRefIdeal.nD Cert.InDxRefIdeal.τ Cert.InDxRefIdeal.sig) → Buf (Elt Ideal) ℓ) : Prop :=
  ∀ c : Dev Cert.InDxRefIdeal.nD,
    (Cert.Pre_in_dx_finite.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).1 = (fun _ => 1#1)
    ∧ (Cert.Pre_in_dx_finite.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.1 = (fun _ => 1#1)
    ∧ (Cert.Pre_in_dx_finite.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.2.1 = (fun _ => 1#1)
    ∧ (Cert.Pre_in_dx_finite.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).2 = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutInProj (m : (ℓ : Loc Cert.OutInProj.nD Cert.OutInProj.τ Cert.OutInProj.sig) → Buf (Elt Bits) ℓ) : Prop :=
  True

def Pre_OutInProjIdeal (m : (ℓ : Loc Cert.OutInProjIdeal.nD Cert.OutInProjIdeal.τ Cert.OutInProjIdeal.sig) → Buf (Elt Ideal) ℓ) : Prop :=
  True

def Pre_OutInProjRefIdeal (m : (ℓ : Loc Cert.OutInProjRefIdeal.nD Cert.OutInProjRefIdeal.τ Cert.OutInProjRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4)
      ∧ r.2.mem ((c.tc : Thread Cert.LossHead.nD Cert.LossHead.τ).loc Cert.LossHead.main_arg5) = m ((c.tc : Thread Cert.LossHead.nD Cert.LossHead.τ).loc Cert.LossHead.main_arg5))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ r.2.sem = fun _ => 0)

def quiescent_LossHeadIdeal_pre_loss_head_finite [hLossHeadIdeal : Cert.LossHeadIdeal.Facts] [hPre_loss_head_finite : Cert.Pre_loss_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_head_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4)
      ∧ r.2.mem ((c.tc : Thread Cert.LossHeadRefIdeal.nD Cert.LossHeadRefIdeal.τ).loc Cert.LossHeadRefIdeal.main_arg5) = m ((c.tc : Thread Cert.LossHeadRefIdeal.nD Cert.LossHeadRefIdeal.τ).loc Cert.LossHeadRefIdeal.main_arg5))
      ∧ r.2.sem = fun _ => 0)

def quiescent_LossHeadRefIdeal_pre_loss_head_finite [hLossHeadRefIdeal : Cert.LossHeadRefIdeal.Facts] [hPre_loss_head_finite : Cert.Pre_loss_head_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_head_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4)
      ∧ r.2.mem ((c.tc : Thread Cert.LossHeadRefIdeal.nD Cert.LossHeadRefIdeal.τ).loc Cert.LossHeadRefIdeal.main_arg5) = m ((c.tc : Thread Cert.LossHeadRefIdeal.nD Cert.LossHeadRefIdeal.τ).loc Cert.LossHeadRefIdeal.main_arg5))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_attn_bwd_finite [hAttnBwdIdeal : Cert.AttnBwdIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_bwd_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_AttnBwdRefIdeal_pre_attn_bwd_finite [hAttnBwdRefIdeal : Cert.AttnBwdRefIdeal.Facts] [hPre_attn_bwd_finite : Cert.Pre_attn_bwd_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_bwd_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdIdeal_pre_in_bwd_finite [hInBwdIdeal : Cert.InBwdIdeal.Facts] [hPre_in_bwd_finite : Cert.Pre_in_bwd_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_bwd_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5))
      ∧ r.2.sem = fun _ => 0)

def quiescent_InBwdRefIdeal_pre_in_bwd_finite [hInBwdRefIdeal : Cert.InBwdRefIdeal.Facts] [hPre_in_bwd_finite : Cert.Pre_in_bwd_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_in_bwd_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxIdeal_pre_in_dx_finite [hInDxIdeal : Cert.InDxIdeal.Facts] [hPre_in_dx_finite : Cert.Pre_in_dx_finite.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_in_dx_finite m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_InDxRefIdeal_pre_in_dx_finite [hInDxRefIdeal : Cert.InDxRefIdeal.Facts] [hPre_in_dx_finite : Cert.Pre_in_dx_finite.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal_in_dx_finite m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutInProj [hOutInProj : Cert.OutInProj.Facts] : Prop :=
  ∀ (m : (ℓ : Loc Cert.OutInProj.nD Cert.OutInProj.τ Cert.OutInProj.sig) → Buf (Elt Bits) ℓ) (g : Dev Cert.OutInProj.nD → PrngReg), Pre_OutInProj m →
    θ_run (Cert.OutInProj.defs (F := Bits)) (onTc (τ := Cert.OutInProj.τ) (Cert.OutInProj.main (F := Bits))) ⟨m, fun _ => 0, g⟩ (fun r => (∀ c : Dev Cert.OutInProj.nD,
      r.2.mem ((c.tc : Thread Cert.OutInProj.nD Cert.OutInProj.τ).loc Cert.OutInProj.main_arg0) = m ((c.tc : Thread Cert.OutInProj.nD Cert.OutInProj.τ).loc Cert.OutInProj.main_arg0)
      ∧ r.2.mem ((c.tc : Thread Cert.OutInProj.nD Cert.OutInProj.τ).loc Cert.OutInProj.main_arg1) = m ((c.tc : Thread Cert.OutInProj.nD Cert.OutInProj.τ).loc Cert.OutInProj.main_arg1)
      ∧ r.2.mem ((c.tc : Thread Cert.OutInProj.nD Cert.OutInProj.τ).loc Cert.OutInProj.main_arg2) = m ((c.tc : Thread Cert.OutInProj.nD Cert.OutInProj.τ).loc Cert.OutInProj.main_arg2)
      ∧ r.2.mem ((c.tc : Thread Cert.OutInProj.nD Cert.OutInProj.τ).loc Cert.OutInProj.main_arg3) = m ((c.tc : Thread Cert.OutInProj.nD Cert.OutInProj.τ).loc Cert.OutInProj.main_arg3)
      ∧ r.2.mem ((c.tc : Thread Cert.OutInProj.nD Cert.OutInProj.τ).loc Cert.OutInProj.main_arg4) = m ((c.tc : Thread Cert.OutInProj.nD Cert.OutInProj.τ).loc Cert.OutInProj.main_arg4)
      ∧ r.2.mem ((c.tc : Thread Cert.OutInProj.nD Cert.OutInProj.τ).loc Cert.OutInProj.main_arg5) = m ((c.tc : Thread Cert.OutInProj.nD Cert.OutInProj.τ).loc Cert.OutInProj.main_arg5))
      ∧ r.2.sem = fun _ => 0)

def quiescent_OutInProjIdeal [hOutInProjIdeal : Cert.OutInProjIdeal.Facts] : Prop :=
  ∀ (m : (ℓ : Loc Cert.OutInProjIdeal.nD Cert.OutInProjIdeal.τ Cert.OutInProjIdeal.sig) → Buf (Elt Ideal) ℓ) (g : Dev Cert.OutInProjIdeal.nD → PrngReg), Pre_OutInProjIdeal m →
    θ_run (Cert.OutInProjIdeal.defs (F := Ideal)) (onTc (τ := Cert.OutInProjIdeal.τ) (Cert.OutInProjIdeal.main (F := Ideal))) ⟨m, fun _ => 0, g⟩ (fun r => (∀ c : Dev Cert.OutInProjIdeal.nD,
      r.2.mem ((c.tc : Thread Cert.OutInProjIdeal.nD Cert.OutInProjIdeal.τ).loc Cert.OutInProjIdeal.main_arg0) = m ((c.tc : Thread Cert.OutInProjIdeal.nD Cert.OutInProjIdeal.τ).loc Cert.OutInProjIdeal.main_arg0)
      ∧ r.2.mem ((c.tc : Thread Cert.OutInProjIdeal.nD Cert.OutInProjIdeal.τ).loc Cert.OutInProjIdeal.main_arg1) = m ((c.tc : Thread Cert.OutInProjIdeal.nD Cert.OutInProjIdeal.τ).loc Cert.OutInProjIdeal.main_arg1)
      ∧ r.2.mem ((c.tc : Thread Cert.OutInProjIdeal.nD Cert.OutInProjIdeal.τ).loc Cert.OutInProjIdeal.main_arg2) = m ((c.tc : Thread Cert.OutInProjIdeal.nD Cert.OutInProjIdeal.τ).loc Cert.OutInProjIdeal.main_arg2)
      ∧ r.2.mem ((c.tc : Thread Cert.OutInProjIdeal.nD Cert.OutInProjIdeal.τ).loc Cert.OutInProjIdeal.main_arg3) = m ((c.tc : Thread Cert.OutInProjIdeal.nD Cert.OutInProjIdeal.τ).loc Cert.OutInProjIdeal.main_arg3)
      ∧ r.2.mem ((c.tc : Thread Cert.OutInProjIdeal.nD Cert.OutInProjIdeal.τ).loc Cert.OutInProjIdeal.main_arg4) = m ((c.tc : Thread Cert.OutInProjIdeal.nD Cert.OutInProjIdeal.τ).loc Cert.OutInProjIdeal.main_arg4)
      ∧ r.2.mem ((c.tc : Thread Cert.OutInProjIdeal.nD Cert.OutInProjIdeal.τ).loc Cert.OutInProjIdeal.main_arg5) = m ((c.tc : Thread Cert.OutInProjIdeal.nD Cert.OutInProjIdeal.τ).loc Cert.OutInProjIdeal.main_arg5))
      ∧ r.2.sem = fun _ => 0)

def quiescent_OutInProjRefIdeal [hOutInProjRefIdeal : Cert.OutInProjRefIdeal.Facts] : Prop :=
  ∀ (m : (ℓ : Loc Cert.OutInProjRefIdeal.nD Cert.OutInProjRefIdeal.τ Cert.OutInProjRefIdeal.sig) → Buf (Elt Ideal) ℓ) (g : Dev Cert.OutInProjRefIdeal.nD → PrngReg), Pre_OutInProjRefIdeal m →
    θ_run (Cert.OutInProjRefIdeal.defs (F := Ideal)) (onTc (τ := Cert.OutInProjRefIdeal.τ) (Cert.OutInProjRefIdeal.main (F := Ideal))) ⟨m, fun _ => 0, g⟩ (fun r => (∀ c : Dev Cert.OutInProjRefIdeal.nD,
      r.2.mem ((c.tc : Thread Cert.OutInProjRefIdeal.nD Cert.OutInProjRefIdeal.τ).loc Cert.OutInProjRefIdeal.main_arg0) = m ((c.tc : Thread Cert.OutInProjRefIdeal.nD Cert.OutInProjRefIdeal.τ).loc Cert.OutInProjRefIdeal.main_arg0)
      ∧ r.2.mem ((c.tc : Thread Cert.OutInProjRefIdeal.nD Cert.OutInProjRefIdeal.τ).loc Cert.OutInProjRefIdeal.main_arg1) = m ((c.tc : Thread Cert.OutInProjRefIdeal.nD Cert.OutInProjRefIdeal.τ).loc Cert.OutInProjRefIdeal.main_arg1)
      ∧ r.2.mem ((c.tc : Thread Cert.OutInProjRefIdeal.nD Cert.OutInProjRefIdeal.τ).loc Cert.OutInProjRefIdeal.main_arg2) = m ((c.tc : Thread Cert.OutInProjRefIdeal.nD Cert.OutInProjRefIdeal.τ).loc Cert.OutInProjRefIdeal.main_arg2)
      ∧ r.2.mem ((c.tc : Thread Cert.OutInProjRefIdeal.nD Cert.OutInProjRefIdeal.τ).loc Cert.OutInProjRefIdeal.main_arg3) = m ((c.tc : Thread Cert.OutInProjRefIdeal.nD Cert.OutInProjRefIdeal.τ).loc Cert.OutInProjRefIdeal.main_arg3)
      ∧ r.2.mem ((c.tc : Thread Cert.OutInProjRefIdeal.nD Cert.OutInProjRefIdeal.τ).loc Cert.OutInProjRefIdeal.main_arg4) = m ((c.tc : Thread Cert.OutInProjRefIdeal.nD Cert.OutInProjRefIdeal.τ).loc Cert.OutInProjRefIdeal.main_arg4)
      ∧ r.2.mem ((c.tc : Thread Cert.OutInProjRefIdeal.nD Cert.OutInProjRefIdeal.τ).loc Cert.OutInProjRefIdeal.main_arg5) = m ((c.tc : Thread Cert.OutInProjRefIdeal.nD Cert.OutInProjRefIdeal.τ).loc Cert.OutInProjRefIdeal.main_arg5))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3)
      ∧ r.2.mem ((c.tc : Thread Cert.AdamW.nD Cert.AdamW.τ).loc Cert.AdamW.main_arg4) = m ((c.tc : Thread Cert.AdamW.nD Cert.AdamW.τ).loc Cert.AdamW.main_arg4))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
      ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3)
      ∧ r.2.mem ((c.tc : Thread Cert.AdamWRefIdeal.nD Cert.AdamWRefIdeal.τ).loc Cert.AdamWRefIdeal.main_arg4) = m ((c.tc : Thread Cert.AdamWRefIdeal.nD Cert.AdamWRefIdeal.τ).loc Cert.AdamWRefIdeal.main_arg4))
      ∧ r.2.sem = fun _ => 0)

def preserves_LossHead_LossHeadIdeal : Prop :=
  True

def algebraic_LossHeadIdeal_LossHeadRefIdeal_pre_loss_head_finite [hLossHeadIdeal : Cert.LossHeadIdeal.Facts] [hLossHeadRefIdeal : Cert.LossHeadRefIdeal.Facts] [hPre_loss_head_finite : Cert.Pre_loss_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_head_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)
      ∧ m' ((c.tc : Thread Cert.LossHeadRefIdeal.nD Cert.LossHeadRefIdeal.τ).loc Cert.LossHeadRefIdeal.main_arg5) = m ((c.tc : Thread Cert.LossHeadIdeal.nD Cert.LossHeadIdeal.τ).loc Cert.LossHeadIdeal.main_arg5)) →
    ∃ (v0 : (c : Dev Cert.LossHeadIdeal.nD) → Buf (Elt Ideal) ((c.tc : Thread Cert.LossHeadIdeal.nD Cert.LossHeadIdeal.τ).loc Cert.LossHeadIdeal.main_v2_0)) (v1 : (c : Dev Cert.LossHeadIdeal.nD) → Buf (Elt Ideal) ((c.tc : Thread Cert.LossHeadIdeal.nD Cert.LossHeadIdeal.τ).loc Cert.LossHeadIdeal.main_v2_1)) (v2 : (c : Dev Cert.LossHeadIdeal.nD) → Buf (Elt Ideal) ((c.tc : Thread Cert.LossHeadIdeal.nD Cert.LossHeadIdeal.τ).loc Cert.LossHeadIdeal.main_v2_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v2_0) = v0 c
          ∧ r.2.mem ((c.tc : Thread Cert.LossHeadIdeal.nD Cert.LossHeadIdeal.τ).loc Cert.LossHeadIdeal.main_v2_1) = v1 c
          ∧ r.2.mem ((c.tc : Thread Cert.LossHeadIdeal.nD Cert.LossHeadIdeal.τ).loc Cert.LossHeadIdeal.main_v2_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
          ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v74) = v0 c
          ∧ r.2.mem ((c.tc : Thread Cert.LossHeadRefIdeal.nD Cert.LossHeadRefIdeal.τ).loc Cert.LossHeadRefIdeal.main_v75) = v1 c
          ∧ r.2.mem ((c.tc : Thread Cert.LossHeadRefIdeal.nD Cert.LossHeadRefIdeal.τ).loc Cert.LossHeadRefIdeal.main_v55) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4)
          ∧ r.2.mem ((c.tc : Thread Cert.LossHeadRefIdeal.nD Cert.LossHeadRefIdeal.τ).loc Cert.LossHeadRefIdeal.main_arg5) = m' ((c.tc : Thread Cert.LossHeadRefIdeal.nD Cert.LossHeadRefIdeal.τ).loc Cert.LossHeadRefIdeal.main_arg5))

def preserves_AttnBwd_AttnBwdIdeal : Prop :=
  IdealRules.named_const.Statement Cert.AttnBwdIdeal.κ "mask" .f32 0xF149F2CA#32 ⊥

def algebraic_AttnBwdIdeal_AttnBwdRefIdeal_pre_attn_bwd_finite [hAttnBwdIdeal : Cert.AttnBwdIdeal.Facts] [hAttnBwdRefIdeal : Cert.AttnBwdRefIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_bwd_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v88_0)) (v1 : (c : Dev Cert.AttnBwdIdeal.nD) → Buf (Elt Ideal) ((c.tc : Thread Cert.AttnBwdIdeal.nD Cert.AttnBwdIdeal.τ).loc Cert.AttnBwdIdeal.main_v88_1)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v88_0) = v0 c
          ∧ r.2.mem ((c.tc : Thread Cert.AttnBwdIdeal.nD Cert.AttnBwdIdeal.τ).loc Cert.AttnBwdIdeal.main_v88_1) = v1 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v153) = v0 c
          ∧ r.2.mem ((c.tc : Thread Cert.AttnBwdRefIdeal.nD Cert.AttnBwdRefIdeal.τ).loc Cert.AttnBwdRefIdeal.main_v155) = v1 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2))

def preserves_InBwd_InBwdIdeal : Prop :=
  True

def algebraic_InBwdIdeal_InBwdRefIdeal_pre_in_bwd_finite [hInBwdIdeal : Cert.InBwdIdeal.Facts] [hInBwdRefIdeal : Cert.InBwdRefIdeal.Facts] [hPre_in_bwd_finite : Cert.Pre_in_bwd_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_in_bwd_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)) →
    ∃ (v0 : (c : Dev Cert.InBwdIdeal.nD) → Buf (Elt Ideal) ((c.tc : Thread Cert.InBwdIdeal.nD Cert.InBwdIdeal.τ).loc Cert.InBwdIdeal.main_v3_0)) (v1 : (c : Dev Cert.InBwdIdeal.nD) → Buf (Elt Ideal) ((c.tc : Thread Cert.InBwdIdeal.nD Cert.InBwdIdeal.τ).loc Cert.InBwdIdeal.main_v3_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v3_0) = v0 c
          ∧ r.2.mem ((c.tc : Thread Cert.InBwdIdeal.nD Cert.InBwdIdeal.τ).loc Cert.InBwdIdeal.main_v3_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v97) = v0 c
          ∧ r.2.mem ((c.tc : Thread Cert.InBwdRefIdeal.nD Cert.InBwdRefIdeal.τ).loc Cert.InBwdRefIdeal.main_v98) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5))

def preserves_InDx_InDxIdeal : Prop :=
  True

def algebraic_InDxIdeal_InDxRefIdeal_pre_in_dx_finite [hInDxIdeal : Cert.InDxIdeal.Facts] [hInDxRefIdeal : Cert.InDxRefIdeal.Facts] [hPre_in_dx_finite : Cert.Pre_in_dx_finite.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal_in_dx_finite m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v3_0)) (v1 : (c : Dev Cert.InDxIdeal.nD) → Buf (Elt Ideal) ((c.tc : Thread Cert.InDxIdeal.nD Cert.InDxIdeal.τ).loc Cert.InDxIdeal.main_v3_1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v3_0) = v0 c
          ∧ r.2.mem ((c.tc : Thread Cert.InDxIdeal.nD Cert.InDxIdeal.τ).loc Cert.InDxIdeal.main_v3_1) = v1 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v43) = v0 c
          ∧ r.2.mem ((c.tc : Thread Cert.InDxRefIdeal.nD Cert.InDxRefIdeal.τ).loc Cert.InDxRefIdeal.main_v44) = v1 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_AttnFwd_AttnFwdIdeal : Prop :=
  IdealRules.named_const.Statement Cert.AttnFwdIdeal.κ "mask" .f32 0xF149F2CA#32 ⊥

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0_0)) (v1 : (c : Dev Cert.AttnFwdIdeal.nD) → Buf (Elt Ideal) ((c.tc : Thread Cert.AttnFwdIdeal.nD Cert.AttnFwdIdeal.τ).loc Cert.AttnFwdIdeal.main_v0_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0_0) = v0 c
          ∧ r.2.mem ((c.tc : Thread Cert.AttnFwdIdeal.nD Cert.AttnFwdIdeal.τ).loc Cert.AttnFwdIdeal.main_v0_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v91) = v0 c
          ∧ r.2.mem ((c.tc : Thread Cert.AttnFwdRefIdeal.nD Cert.AttnFwdRefIdeal.τ).loc Cert.AttnFwdRefIdeal.main_v88) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)) →
    ∃ (v0 : (c : Dev Cert.MixFwdIdeal.nD) → Buf (Elt Ideal) ((c.tc : Thread Cert.MixFwdIdeal.nD Cert.MixFwdIdeal.τ).loc Cert.MixFwdIdeal.main_v20_0)) (v1 : (c : Dev Cert.MixFwdIdeal.nD) → Buf (Elt Ideal) ((c.tc : Thread Cert.MixFwdIdeal.nD Cert.MixFwdIdeal.τ).loc Cert.MixFwdIdeal.main_v20_1)) (v2 : (c : Dev Cert.MixFwdIdeal.nD) → Buf (Elt Ideal) ((c.tc : Thread Cert.MixFwdIdeal.nD Cert.MixFwdIdeal.τ).loc Cert.MixFwdIdeal.main_v20_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v20_0) = v0 c
          ∧ r.2.mem ((c.tc : Thread Cert.MixFwdIdeal.nD Cert.MixFwdIdeal.τ).loc Cert.MixFwdIdeal.main_v20_1) = v1 c
          ∧ r.2.mem ((c.tc : Thread Cert.MixFwdIdeal.nD Cert.MixFwdIdeal.τ).loc Cert.MixFwdIdeal.main_v20_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v103) = v0 c
          ∧ r.2.mem ((c.tc : Thread Cert.MixFwdRefIdeal.nD Cert.MixFwdRefIdeal.τ).loc Cert.MixFwdRefIdeal.main_v67) = v1 c
          ∧ r.2.mem ((c.tc : Thread Cert.MixFwdRefIdeal.nD Cert.MixFwdRefIdeal.τ).loc Cert.MixFwdRefIdeal.main_v105) = v2 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutInProj_OutInProjIdeal : Prop :=
  True

def algebraic_OutInProjIdeal_OutInProjRefIdeal [hOutInProjIdeal : Cert.OutInProjIdeal.Facts] [hOutInProjRefIdeal : Cert.OutInProjRefIdeal.Facts] : Prop :=
  ∀ (m : (ℓ : Loc Cert.OutInProjIdeal.nD Cert.OutInProjIdeal.τ Cert.OutInProjIdeal.sig) → Buf (Elt Ideal) ℓ) (g : Dev Cert.OutInProjIdeal.nD → PrngReg)
    (m' : (ℓ : Loc Cert.OutInProjRefIdeal.nD Cert.OutInProjRefIdeal.τ Cert.OutInProjRefIdeal.sig) → Buf (Elt Ideal) ℓ) (g' : Dev Cert.OutInProjRefIdeal.nD → PrngReg), Pre_OutInProjIdeal m →
    (∀ c : Dev Cert.OutInProjIdeal.nD,
      m' ((c.tc : Thread Cert.OutInProjRefIdeal.nD Cert.OutInProjRefIdeal.τ).loc Cert.OutInProjRefIdeal.main_arg0) = m ((c.tc : Thread Cert.OutInProjIdeal.nD Cert.OutInProjIdeal.τ).loc Cert.OutInProjIdeal.main_arg0)
      ∧ m' ((c.tc : Thread Cert.OutInProjRefIdeal.nD Cert.OutInProjRefIdeal.τ).loc Cert.OutInProjRefIdeal.main_arg1) = m ((c.tc : Thread Cert.OutInProjIdeal.nD Cert.OutInProjIdeal.τ).loc Cert.OutInProjIdeal.main_arg1)
      ∧ m' ((c.tc : Thread Cert.OutInProjRefIdeal.nD Cert.OutInProjRefIdeal.τ).loc Cert.OutInProjRefIdeal.main_arg2) = m ((c.tc : Thread Cert.OutInProjIdeal.nD Cert.OutInProjIdeal.τ).loc Cert.OutInProjIdeal.main_arg2)
      ∧ m' ((c.tc : Thread Cert.OutInProjRefIdeal.nD Cert.OutInProjRefIdeal.τ).loc Cert.OutInProjRefIdeal.main_arg3) = m ((c.tc : Thread Cert.OutInProjIdeal.nD Cert.OutInProjIdeal.τ).loc Cert.OutInProjIdeal.main_arg3)
      ∧ m' ((c.tc : Thread Cert.OutInProjRefIdeal.nD Cert.OutInProjRefIdeal.τ).loc Cert.OutInProjRefIdeal.main_arg4) = m ((c.tc : Thread Cert.OutInProjIdeal.nD Cert.OutInProjIdeal.τ).loc Cert.OutInProjIdeal.main_arg4)
      ∧ m' ((c.tc : Thread Cert.OutInProjRefIdeal.nD Cert.OutInProjRefIdeal.τ).loc Cert.OutInProjRefIdeal.main_arg5) = m ((c.tc : Thread Cert.OutInProjIdeal.nD Cert.OutInProjIdeal.τ).loc Cert.OutInProjIdeal.main_arg5)) →
    ∃ (v0 : (c : Dev Cert.OutInProjIdeal.nD) → Buf (Elt Ideal) ((c.tc : Thread Cert.OutInProjIdeal.nD Cert.OutInProjIdeal.τ).loc Cert.OutInProjIdeal.main_v4_0)) (v1 : (c : Dev Cert.OutInProjIdeal.nD) → Buf (Elt Ideal) ((c.tc : Thread Cert.OutInProjIdeal.nD Cert.OutInProjIdeal.τ).loc Cert.OutInProjIdeal.main_v4_1)),
      θ_run (Cert.OutInProjIdeal.defs (F := Ideal)) (onTc (τ := Cert.OutInProjIdeal.τ) (Cert.OutInProjIdeal.main (F := Ideal))) ⟨m, fun _ => 0, g⟩ (fun r => ∀ c : Dev Cert.OutInProjIdeal.nD,
          r.2.mem ((c.tc : Thread Cert.OutInProjIdeal.nD Cert.OutInProjIdeal.τ).loc Cert.OutInProjIdeal.main_v4_0) = v0 c
          ∧ r.2.mem ((c.tc : Thread Cert.OutInProjIdeal.nD Cert.OutInProjIdeal.τ).loc Cert.OutInProjIdeal.main_v4_1) = v1 c
          ∧ r.2.mem ((c.tc : Thread Cert.OutInProjIdeal.nD Cert.OutInProjIdeal.τ).loc Cert.OutInProjIdeal.main_arg0) = m ((c.tc : Thread Cert.OutInProjIdeal.nD Cert.OutInProjIdeal.τ).loc Cert.OutInProjIdeal.main_arg0)
          ∧ r.2.mem ((c.tc : Thread Cert.OutInProjIdeal.nD Cert.OutInProjIdeal.τ).loc Cert.OutInProjIdeal.main_arg1) = m ((c.tc : Thread Cert.OutInProjIdeal.nD Cert.OutInProjIdeal.τ).loc Cert.OutInProjIdeal.main_arg1)
          ∧ r.2.mem ((c.tc : Thread Cert.OutInProjIdeal.nD Cert.OutInProjIdeal.τ).loc Cert.OutInProjIdeal.main_arg2) = m ((c.tc : Thread Cert.OutInProjIdeal.nD Cert.OutInProjIdeal.τ).loc Cert.OutInProjIdeal.main_arg2)
          ∧ r.2.mem ((c.tc : Thread Cert.OutInProjIdeal.nD Cert.OutInProjIdeal.τ).loc Cert.OutInProjIdeal.main_arg3) = m ((c.tc : Thread Cert.OutInProjIdeal.nD Cert.OutInProjIdeal.τ).loc Cert.OutInProjIdeal.main_arg3)
          ∧ r.2.mem ((c.tc : Thread Cert.OutInProjIdeal.nD Cert.OutInProjIdeal.τ).loc Cert.OutInProjIdeal.main_arg4) = m ((c.tc : Thread Cert.OutInProjIdeal.nD Cert.OutInProjIdeal.τ).loc Cert.OutInProjIdeal.main_arg4)
          ∧ r.2.mem ((c.tc : Thread Cert.OutInProjIdeal.nD Cert.OutInProjIdeal.τ).loc Cert.OutInProjIdeal.main_arg5) = m ((c.tc : Thread Cert.OutInProjIdeal.nD Cert.OutInProjIdeal.τ).loc Cert.OutInProjIdeal.main_arg5))
      ∧ θ_run (Cert.OutInProjRefIdeal.defs (F := Ideal)) (onTc (τ := Cert.OutInProjRefIdeal.τ) (Cert.OutInProjRefIdeal.main (F := Ideal))) ⟨m', fun _ => 0, g'⟩ (fun r => ∀ c : Dev Cert.OutInProjRefIdeal.nD,
          r.2.mem ((c.tc : Thread Cert.OutInProjRefIdeal.nD Cert.OutInProjRefIdeal.τ).loc Cert.OutInProjRefIdeal.main_v4) = v0 c
          ∧ r.2.mem ((c.tc : Thread Cert.OutInProjRefIdeal.nD Cert.OutInProjRefIdeal.τ).loc Cert.OutInProjRefIdeal.main_v20) = v1 c
          ∧ r.2.mem ((c.tc : Thread Cert.OutInProjRefIdeal.nD Cert.OutInProjRefIdeal.τ).loc Cert.OutInProjRefIdeal.main_arg0) = m' ((c.tc : Thread Cert.OutInProjRefIdeal.nD Cert.OutInProjRefIdeal.τ).loc Cert.OutInProjRefIdeal.main_arg0)
          ∧ r.2.mem ((c.tc : Thread Cert.OutInProjRefIdeal.nD Cert.OutInProjRefIdeal.τ).loc Cert.OutInProjRefIdeal.main_arg1) = m' ((c.tc : Thread Cert.OutInProjRefIdeal.nD Cert.OutInProjRefIdeal.τ).loc Cert.OutInProjRefIdeal.main_arg1)
          ∧ r.2.mem ((c.tc : Thread Cert.OutInProjRefIdeal.nD Cert.OutInProjRefIdeal.τ).loc Cert.OutInProjRefIdeal.main_arg2) = m' ((c.tc : Thread Cert.OutInProjRefIdeal.nD Cert.OutInProjRefIdeal.τ).loc Cert.OutInProjRefIdeal.main_arg2)
          ∧ r.2.mem ((c.tc : Thread Cert.OutInProjRefIdeal.nD Cert.OutInProjRefIdeal.τ).loc Cert.OutInProjRefIdeal.main_arg3) = m' ((c.tc : Thread Cert.OutInProjRefIdeal.nD Cert.OutInProjRefIdeal.τ).loc Cert.OutInProjRefIdeal.main_arg3)
          ∧ r.2.mem ((c.tc : Thread Cert.OutInProjRefIdeal.nD Cert.OutInProjRefIdeal.τ).loc Cert.OutInProjRefIdeal.main_arg4) = m' ((c.tc : Thread Cert.OutInProjRefIdeal.nD Cert.OutInProjRefIdeal.τ).loc Cert.OutInProjRefIdeal.main_arg4)
          ∧ r.2.mem ((c.tc : Thread Cert.OutInProjRefIdeal.nD Cert.OutInProjRefIdeal.τ).loc Cert.OutInProjRefIdeal.main_arg5) = m' ((c.tc : Thread Cert.OutInProjRefIdeal.nD Cert.OutInProjRefIdeal.τ).loc Cert.OutInProjRefIdeal.main_arg5))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)) →
    ∃ (v0 : (c : Dev Cert.OutBwdIdeal.nD) → Buf (Elt Ideal) ((c.tc : Thread Cert.OutBwdIdeal.nD Cert.OutBwdIdeal.τ).loc Cert.OutBwdIdeal.main_v1_0)) (v1 : (c : Dev Cert.OutBwdIdeal.nD) → Buf (Elt Ideal) ((c.tc : Thread Cert.OutBwdIdeal.nD Cert.OutBwdIdeal.τ).loc Cert.OutBwdIdeal.main_v1_1)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v1_0) = v0 c
          ∧ r.2.mem ((c.tc : Thread Cert.OutBwdIdeal.nD Cert.OutBwdIdeal.τ).loc Cert.OutBwdIdeal.main_v1_1) = v1 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v6) = v0 c
          ∧ r.2.mem ((c.tc : Thread Cert.OutBwdRefIdeal.nD Cert.OutBwdRefIdeal.τ).loc Cert.OutBwdRefIdeal.main_v7) = v1 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)
      ∧ m' ((c.tc : Thread Cert.AdamWRefIdeal.nD Cert.AdamWRefIdeal.τ).loc Cert.AdamWRefIdeal.main_arg4) = m ((c.tc : Thread Cert.AdamWIdeal.nD Cert.AdamWIdeal.τ).loc Cert.AdamWIdeal.main_arg4)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
          ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v6) = v0 c
          ∧ r.2.mem ((c.tc : Thread Cert.AdamWRefIdeal.nD Cert.AdamWRefIdeal.τ).loc Cert.AdamWRefIdeal.main_v30) = v1 c
          ∧ r.2.mem ((c.tc : Thread Cert.AdamWRefIdeal.nD Cert.AdamWRefIdeal.τ).loc Cert.AdamWRefIdeal.main_v11) = v2 c
          ∧ r.2.mem ((c.tc : Thread Cert.AdamWRefIdeal.nD Cert.AdamWRefIdeal.τ).loc Cert.AdamWRefIdeal.main_v17) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3)
          ∧ r.2.mem ((c.tc : Thread Cert.AdamWRefIdeal.nD Cert.AdamWRefIdeal.τ).loc Cert.AdamWRefIdeal.main_arg4) = m' ((c.tc : Thread Cert.AdamWRefIdeal.nD Cert.AdamWRefIdeal.τ).loc Cert.AdamWRefIdeal.main_arg4))

def Claim : Prop :=
  ∃ (hLossHead : Cert.LossHead.Facts) (hLossHeadIdeal : Cert.LossHeadIdeal.Facts) (hLossHeadRefIdeal : Cert.LossHeadRefIdeal.Facts) (hAttnBwd : Cert.AttnBwd.Facts) (hAttnBwdIdeal : Cert.AttnBwdIdeal.Facts) (hAttnBwdRefIdeal : Cert.AttnBwdRefIdeal.Facts) (hInBwd : Cert.InBwd.Facts) (hInBwdIdeal : Cert.InBwdIdeal.Facts) (hInBwdRefIdeal : Cert.InBwdRefIdeal.Facts) (hInDx : Cert.InDx.Facts) (hInDxIdeal : Cert.InDxIdeal.Facts) (hInDxRefIdeal : Cert.InDxRefIdeal.Facts) (hAttnFwd : Cert.AttnFwd.Facts) (hAttnFwdIdeal : Cert.AttnFwdIdeal.Facts) (hAttnFwdRefIdeal : Cert.AttnFwdRefIdeal.Facts) (hMixFwd : Cert.MixFwd.Facts) (hMixFwdIdeal : Cert.MixFwdIdeal.Facts) (hMixFwdRefIdeal : Cert.MixFwdRefIdeal.Facts) (hInProj : Cert.InProj.Facts) (hInProjIdeal : Cert.InProjIdeal.Facts) (hInProjRefIdeal : Cert.InProjRefIdeal.Facts) (hOutInProj : Cert.OutInProj.Facts) (hOutInProjIdeal : Cert.OutInProjIdeal.Facts) (hOutInProjRefIdeal : Cert.OutInProjRefIdeal.Facts) (hOutBwd : Cert.OutBwd.Facts) (hOutBwdIdeal : Cert.OutBwdIdeal.Facts) (hOutBwdRefIdeal : Cert.OutBwdRefIdeal.Facts) (hAdamW : Cert.AdamW.Facts) (hAdamWIdeal : Cert.AdamWIdeal.Facts) (hAdamWRefIdeal : Cert.AdamWRefIdeal.Facts) (hPre_loss_head_finite : Cert.Pre_loss_head_finite.Facts) (hPre_attn_bwd_finite : Cert.Pre_attn_bwd_finite.Facts) (hPre_in_bwd_finite : Cert.Pre_in_bwd_finite.Facts) (hPre_in_dx_finite : Cert.Pre_in_dx_finite.Facts) (hPre_attn_fwd_finite : Cert.Pre_attn_fwd_finite.Facts),
    quiescent_LossHead (hLossHead := hLossHead)
    ∧ quiescent_LossHeadIdeal (hLossHeadIdeal := hLossHeadIdeal)
    ∧ quiescent_LossHeadIdeal_pre_loss_head_finite (hLossHeadIdeal := hLossHeadIdeal) (hPre_loss_head_finite := hPre_loss_head_finite)
    ∧ quiescent_LossHeadRefIdeal (hLossHeadRefIdeal := hLossHeadRefIdeal)
    ∧ quiescent_LossHeadRefIdeal_pre_loss_head_finite (hLossHeadRefIdeal := hLossHeadRefIdeal) (hPre_loss_head_finite := hPre_loss_head_finite)
    ∧ quiescent_AttnBwd (hAttnBwd := hAttnBwd)
    ∧ quiescent_AttnBwdIdeal (hAttnBwdIdeal := hAttnBwdIdeal)
    ∧ quiescent_AttnBwdIdeal_pre_attn_bwd_finite (hAttnBwdIdeal := hAttnBwdIdeal) (hPre_attn_bwd_finite := hPre_attn_bwd_finite)
    ∧ quiescent_AttnBwdRefIdeal (hAttnBwdRefIdeal := hAttnBwdRefIdeal)
    ∧ quiescent_AttnBwdRefIdeal_pre_attn_bwd_finite (hAttnBwdRefIdeal := hAttnBwdRefIdeal) (hPre_attn_bwd_finite := hPre_attn_bwd_finite)
    ∧ quiescent_InBwd (hInBwd := hInBwd)
    ∧ quiescent_InBwdIdeal (hInBwdIdeal := hInBwdIdeal)
    ∧ quiescent_InBwdIdeal_pre_in_bwd_finite (hInBwdIdeal := hInBwdIdeal) (hPre_in_bwd_finite := hPre_in_bwd_finite)
    ∧ quiescent_InBwdRefIdeal (hInBwdRefIdeal := hInBwdRefIdeal)
    ∧ quiescent_InBwdRefIdeal_pre_in_bwd_finite (hInBwdRefIdeal := hInBwdRefIdeal) (hPre_in_bwd_finite := hPre_in_bwd_finite)
    ∧ quiescent_InDx (hInDx := hInDx)
    ∧ quiescent_InDxIdeal (hInDxIdeal := hInDxIdeal)
    ∧ quiescent_InDxIdeal_pre_in_dx_finite (hInDxIdeal := hInDxIdeal) (hPre_in_dx_finite := hPre_in_dx_finite)
    ∧ quiescent_InDxRefIdeal (hInDxRefIdeal := hInDxRefIdeal)
    ∧ quiescent_InDxRefIdeal_pre_in_dx_finite (hInDxRefIdeal := hInDxRefIdeal) (hPre_in_dx_finite := hPre_in_dx_finite)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutInProj (hOutInProj := hOutInProj)
    ∧ quiescent_OutInProjIdeal (hOutInProjIdeal := hOutInProjIdeal)
    ∧ quiescent_OutInProjRefIdeal (hOutInProjRefIdeal := hOutInProjRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ preserves_LossHead_LossHeadIdeal
    ∧ algebraic_LossHeadIdeal_LossHeadRefIdeal_pre_loss_head_finite (hLossHeadIdeal := hLossHeadIdeal) (hLossHeadRefIdeal := hLossHeadRefIdeal) (hPre_loss_head_finite := hPre_loss_head_finite)
    ∧ preserves_AttnBwd_AttnBwdIdeal
    ∧ algebraic_AttnBwdIdeal_AttnBwdRefIdeal_pre_attn_bwd_finite (hAttnBwdIdeal := hAttnBwdIdeal) (hAttnBwdRefIdeal := hAttnBwdRefIdeal) (hPre_attn_bwd_finite := hPre_attn_bwd_finite)
    ∧ preserves_InBwd_InBwdIdeal
    ∧ algebraic_InBwdIdeal_InBwdRefIdeal_pre_in_bwd_finite (hInBwdIdeal := hInBwdIdeal) (hInBwdRefIdeal := hInBwdRefIdeal) (hPre_in_bwd_finite := hPre_in_bwd_finite)
    ∧ preserves_InDx_InDxIdeal
    ∧ algebraic_InDxIdeal_InDxRefIdeal_pre_in_dx_finite (hInDxIdeal := hInDxIdeal) (hInDxRefIdeal := hInDxRefIdeal) (hPre_in_dx_finite := hPre_in_dx_finite)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_MixFwd_MixFwdIdeal
    ∧ algebraic_MixFwdIdeal_MixFwdRefIdeal (hMixFwdIdeal := hMixFwdIdeal) (hMixFwdRefIdeal := hMixFwdRefIdeal)
    ∧ preserves_InProj_InProjIdeal
    ∧ algebraic_InProjIdeal_InProjRefIdeal (hInProjIdeal := hInProjIdeal) (hInProjRefIdeal := hInProjRefIdeal)
    ∧ preserves_OutInProj_OutInProjIdeal
    ∧ algebraic_OutInProjIdeal_OutInProjRefIdeal (hOutInProjIdeal := hOutInProjIdeal) (hOutInProjRefIdeal := hOutInProjRefIdeal)
    ∧ preserves_OutBwd_OutBwdIdeal
    ∧ algebraic_OutBwdIdeal_OutBwdRefIdeal (hOutBwdIdeal := hOutBwdIdeal) (hOutBwdRefIdeal := hOutBwdRefIdeal)
    ∧ preserves_AdamW_AdamWIdeal
    ∧ algebraic_AdamWIdeal_AdamWRefIdeal (hAdamWIdeal := hAdamWIdeal) (hAdamWRefIdeal := hAdamWRefIdeal)
-- ==== Pre_attn_bwd_finite.lean ====
abbrev S8192x2560 : Shape := ⟨2, ![8192, 2560]⟩
abbrev S8192x1024 : Shape := ⟨2, ![8192, 1024]⟩
abbrev S8 : Shape := ⟨1, ![8]⟩
abbrev S_ : Shape := ⟨0, ![]⟩

class Facts : Prop where
  bcast_S_S8192x2560 : S_.BroadcastsInDim S8192x2560 (![] : Fin 0 → Fin S8192x2560.rank)
  bcast_S_S8192x1024 : S_.BroadcastsInDim S8192x1024 (![] : Fin 0 → Fin S8192x1024.rank)
  bcast_S_S8 : S_.BroadcastsInDim S8 (![] : Fin 0 → Fin S8.rank)

variable [Facts]

def fn {F : FTy → Type} [FloatOps F] (main_arg0 : FVec F S8192x2560 .f32) (main_arg1 : FVec F S8192x1024 .f32) (main_arg2 : FVec F S8 .f32) : IVec S8192x2560 1 × IVec S8192x1024 1 × IVec S8 1 :=
  let main_v0 : FVec F S8192x2560 .f32 := Host.absf main_arg0
  let main_cst : FVec F S_ .f32 := constant S_ .f32 0x7F800000#32
  let main_v1 : FVec F S8192x2560 .f32 := broadcastInDim S8192x2560 ![] bcast_S_S8192x2560 main_cst
  let main_v2 : IVec S8192x2560 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8 .f32 := Host.absf main_arg2
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Pre_attn_fwd_finite.lean ====
abbrev S8192x2560 : Shape := ⟨2, ![8192, 2560]⟩
abbrev S8 : Shape := ⟨1, ![8]⟩
abbrev S_ : Shape := ⟨0, ![]⟩

class Facts : Prop where
  bcast_S_S8192x2560 : S_.BroadcastsInDim S8192x2560 (![] : Fin 0 → Fin S8192x2560.rank)
  bcast_S_S8 : S_.BroadcastsInDim S8 (![] : Fin 0 → Fin S8.rank)

variable [Facts]

def fn {F : FTy → Type} [FloatOps F] (main_arg0 : FVec F S8192x2560 .f32) (main_arg1 : FVec F S8 .f32) : IVec S8192x2560 1 × IVec S8 1 :=
  let main_v0 : FVec F S8192x2560 .f32 := Host.absf main_arg0
  let main_cst : FVec F S_ .f32 := constant S_ .f32 0x7F800000#32
  let main_v1 : FVec F S8192x2560 .f32 := broadcastInDim S8192x2560 ![] bcast_S_S8192x2560 main_cst
  let main_v2 : IVec S8192x2560 1 := cmpf .olt main_v0 main_v1
  let main_v3 : FVec F S8 .f32 := Host.absf main_arg1
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  (main_v2, main_v5)
-- ==== Pre_in_bwd_finite.lean ====
abbrev S8192x1280 : Shape := ⟨2, ![8192, 1280]⟩
abbrev S8192x1536 : Shape := ⟨2, ![8192, 1536]⟩
abbrev S8192x1024 : Shape := ⟨2, ![8192, 1024]⟩
abbrev S2x1024 : Shape := ⟨2, ![2, 1024]⟩
abbrev S1024x2560 : Shape := ⟨2, ![1024, 2560]⟩
abbrev S_ : Shape := ⟨0, ![]⟩

class Facts : Prop where
  bcast_S_S8192x1280 : S_.BroadcastsInDim S8192x1280 (![] : Fin 0 → Fin S8192x1280.rank)
  bcast_S_S8192x1536 : S_.BroadcastsInDim S8192x1536 (![] : Fin 0 → Fin S8192x1536.rank)
  bcast_S_S8192x1024 : S_.BroadcastsInDim S8192x1024 (![] : Fin 0 → Fin S8192x1024.rank)
  bcast_S_S2x1024 : S_.BroadcastsInDim S2x1024 (![] : Fin 0 → Fin S2x1024.rank)
  bcast_S_S1024x2560 : S_.BroadcastsInDim S1024x2560 (![] : Fin 0 → Fin S1024x2560.rank)

variable [Facts]

def fn {F : FTy → Type} [FloatOps F] (main_arg0 : FVec F S8192x1280 .bf16) (main_arg1 : FVec F S8192x1536 .f32) (main_arg2 : FVec F S8192x1024 .f32) (main_arg3 : FVec F S8192x1024 .f32) (main_arg4 : FVec F S2x1024 .f32) (main_arg5 : FVec F S1024x2560 .f32) : IVec S8192x1280 1 × IVec S8192x1536 1 × IVec S8192x1024 1 × IVec S2x1024 1 × IVec S1024x2560 1 :=
  let main_v0 : FVec F S8192x1280 .bf16 := Host.absf main_arg0
  let main_cst : FVec F S_ .bf16 := constant S_ .bf16 0x7F80#16
  let main_v1 : FVec F S8192x1280 .bf16 := broadcastInDim S8192x1280 ![] bcast_S_S8192x1280 main_cst
  let main_v2 : IVec S8192x1280 1 := cmpf .olt main_v0 main_v1
  let main_v3 : FVec F S8192x1536 .f32 := Host.absf main_arg1
  let main_cst_0 : FVec F S_ .f32 := constant S_ .f32 0x7F800000#32
  let main_v4 : FVec F S8192x1536 .f32 := broadcastInDim S8192x1536 ![] bcast_S_S8192x1536 main_cst_0
  let main_v5 : IVec S8192x1536 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S2x1024 .f32 := Host.absf main_arg4
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_v12 : FVec F S1024x2560 .f32 := Host.absf main_arg5
  let main_cst_3 : FVec F S_ .f32 := constant S_ .f32 0x7F800000#32
  let main_v13 : FVec F S1024x2560 .f32 := broadcastInDim S1024x2560 ![] bcast_S_S1024x2560 main_cst_3
  let main_v14 : IVec S1024x2560 1 := cmpf .olt main_v12 main_v13
  (main_v2, main_v5, main_v8, main_v11, main_v14)
-- ==== Pre_in_dx_finite.lean ====
abbrev S8192x2560 : Shape := ⟨2, ![8192, 2560]⟩
abbrev S8192x1024 : Shape := ⟨2, ![8192, 1024]⟩
abbrev S2x1024 : Shape := ⟨2, ![2, 1024]⟩
abbrev S1024x2560 : Shape := ⟨2, ![1024, 2560]⟩
abbrev S_ : Shape := ⟨0, ![]⟩

class Facts : Prop where
  bcast_S_S8192x2560 : S_.BroadcastsInDim S8192x2560 (![] : Fin 0 → Fin S8192x2560.rank)
  bcast_S_S8192x1024 : S_.BroadcastsInDim S8192x1024 (![] : Fin 0 → Fin S8192x1024.rank)
  bcast_S_S2x1024 : S_.BroadcastsInDim S2x1024 (![] : Fin 0 → Fin S2x1024.rank)
  bcast_S_S1024x2560 : S_.BroadcastsInDim S1024x2560 (![] : Fin 0 → Fin S1024x2560.rank)

variable [Facts]

def fn {F : FTy → Type} [FloatOps F] (main_arg0 : FVec F S8192x2560 .bf16) (main_arg1 : FVec F S8192x1024 .f32) (main_arg2 : FVec F S8192x1024 .f32) (main_arg3 : FVec F S2x1024 .f32) (main_arg4 : FVec F S1024x2560 .f32) : IVec S8192x2560 1 × IVec S8192x1024 1 × IVec S2x1024 1 × IVec S1024x2560 1 :=
  let main_v0 : FVec F S8192x2560 .bf16 := Host.absf main_arg0
  let main_cst : FVec F S_ .bf16 := constant S_ .bf16 0x7F80#16
  let main_v1 : FVec F S8192x2560 .bf16 := broadcastInDim S8192x2560 ![] bcast_S_S8192x2560 main_cst
  let main_v2 : IVec S8192x2560 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S2x1024 .f32 := Host.absf main_arg3
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S1024x2560 .f32 := Host.absf main_arg4
  let main_cst_2 : FVec F S_ .f32 := constant S_ .f32 0x7F800000#32
  let main_v10 : FVec F S1024x2560 .f32 := broadcastInDim S1024x2560 ![] bcast_S_S1024x2560 main_cst_2
  let main_v11 : IVec S1024x2560 1 := cmpf .olt main_v9 main_v10
  (main_v2, main_v5, main_v8, main_v11)
-- ==== Pre_loss_head_finite.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S8192x1024 .f32) (main_arg1 : FVec F S8192x512 .bf16) (main_arg2 : FVec F S8192x512 .bf16) (main_arg3 : FVec F S1024x1024 .f32) (main_arg4 : FVec F S8192x1024 .f32) (main_arg5 : FVec F S1024 .f32) : IVec S8192x1024 1 × IVec S8192x512 1 × IVec S8192x512 1 × IVec S1024x1024 1 × IVec S8192x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .bf16 := Host.absf main_arg1
  let main_cst_0 : FVec F S_ .bf16 := constant S_ .bf16 0x7F80#16
  let main_v4 : FVec F S8192x512 .bf16 := broadcastInDim S8192x512 ![] bcast_S_S8192x512 main_cst_0
  let main_v5 : IVec S8192x512 1 := cmpf .olt main_v3 main_v4
  let main_v6 : FVec F S8192x512 .bf16 := Host.absf main_arg2
  let main_cst_1 : FVec F S_ .bf16 := constant S_ .bf16 0x7F80#16
  let main_v7 : FVec F S8192x512 .bf16 := broadcastInDim S8192x512 ![] bcast_S_S8192x512 main_cst_1
  let main_v8 : IVec S8192x512 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== LossHead.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .f32⟩
  | .hbm, ⟨4, _⟩ => ⟨S8192x1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x128, .f32⟩
  | .hbm, ⟨9, _⟩ => ⟨S1x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x128, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LossHeadRefIdeal.lean ====
abbrev S8192x1024 : Shape := ⟨2, ![8192, 1024]⟩
abbrev S8192x512 : Shape := ⟨2, ![8192, 512]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .f32⟩
  | .hbm, ⟨4, _⟩ => ⟨S8192x1024, .f32⟩
  | .hbm, ⟨5, _⟩ => ⟨S1024, .f32⟩
  | .hbm, ⟨6, _⟩ => ⟨S8192x512, .f32⟩
  | .hbm, ⟨7, _⟩ => ⟨S8192x512, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S8192x1, .f32⟩
  | .hbm, ⟨92, _⟩ => ⟨S8192x1024, .f32⟩
  | .hbm, ⟨93, _⟩ => ⟨S8192x1024, .f32⟩
  | .hbm, ⟨94, _⟩ => ⟨S1x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S_, .f32⟩
  | .hbm, ⟨101, _⟩ => ⟨S1x128, .f32⟩
  | .hbm, ⟨102, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_14 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_16 : Ref sig .tc := ⟨.hbm, 82, rfl⟩
abbrev main_v59 : Ref sig .tc := ⟨.hbm, 83, rfl⟩
abbrev main_v60 : Ref sig .tc := ⟨.hbm, 84, rfl⟩
abbrev main_cst_17 : Ref sig .tc := ⟨.hbm, 85, rfl⟩
abbrev main_v61 : Ref sig .tc := ⟨.hbm, 86, rfl⟩
abbrev main_v62 : Ref sig .tc := ⟨.hbm, 87, rfl⟩
abbrev main_cst_18 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_19 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]
-- ==== AttnBwd.lean ====
abbrev S8192x2560 : Shape := ⟨2, ![8192, 2560]⟩
abbrev S8192x1024 : Shape := ⟨2, ![8192, 1024]⟩
abbrev S8 : Shape := ⟨1, ![8]⟩
abbrev S8192x512 : Shape := ⟨2, ![8192, 512]⟩
abbrev S8192x128 : Shape := ⟨2, ![8192, 128]⟩
abbrev S64x128x2x64 : Shape := ⟨4, ![64, 128, 2, 64]⟩
abbrev S_ : Shape := ⟨0, ![]⟩
abbrev S65x128x2x64 : Shape := ⟨4, ![65, 128, 2, 64]⟩
abbrev S64x256x2x64 : Shape := ⟨4, ![64, 256, 2, 64]⟩
abbrev S64x128x2x4x64 : Shape := ⟨5, ![64, 128, 2, 4, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1 : Shape := ⟨1, ![1]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S64x1x1x128x256 : Shape := ⟨5, ![64, 1, 1, 128, 256]⟩
abbrev S1x2x4x128x256 : Shape := ⟨5, ![1, 2, 4, 128, 256]⟩
abbrev S1x2x4x1x1 : Shape := ⟨5, ![1, 2, 4, 1, 1]⟩
abbrev S64x2x4x128x1 : Shape := ⟨5, ![64, 2, 4, 128, 1]⟩
abbrev S64x2x4x128x257 : Shape := ⟨5, ![64, 2, 4, 128, 257]⟩
abbrev S64x2x4x128 : Shape := ⟨4, ![64, 2, 4, 128]⟩
abbrev S64x2x64x4x128 : Shape := ⟨5, ![64, 2, 64, 4, 128]⟩
abbrev S8192x1536 : Shape := ⟨2, ![8192, 1536]⟩
abbrev S8x128 : Shape := ⟨2, ![8, 128]⟩
abbrev S512x1280 : Shape := ⟨2, ![512, 1280]⟩
abbrev S512x512 : Shape := ⟨2, ![512, 512]⟩
abbrev S512x1536 : Shape := ⟨2, ![512, 1536]⟩
abbrev S2x2x256x512 : Shape := ⟨4, ![2, 2, 256, 512]⟩
abbrev S256x512 : Shape := ⟨2, ![256, 512]⟩
abbrev S1x1x256x512 : Shape := ⟨4, ![1, 1, 256, 512]⟩
abbrev S256x256 : Shape := ⟨2, ![256, 256]⟩
abbrev S256x128 : Shape := ⟨2, ![256, 128]⟩
abbrev S128x512 : Shape := ⟨2, ![128, 512]⟩
abbrev S1x128 : Shape := ⟨2, ![1, 128]⟩
abbrev S512x128 : Shape := ⟨2, ![512, 128]⟩
abbrev S128x128 : Shape := ⟨2, ![128, 128]⟩
abbrev S256x1 : Shape := ⟨2, ![256, 1]⟩
abbrev S1x1 : Shape := ⟨2, ![1, 1]⟩
abbrev S64x256 : Shape := ⟨2, ![64, 256]⟩
abbrev S128x1536 : Shape := ⟨2, ![128, 1536]⟩
abbrev S8x1 : Shape := ⟨2, ![8, 1]⟩

abbrev nBuf : Space → Nat
  | .hbm => 118
  | .vmem => 12
  | .smem => 1
  | _ => 0

abbrev bufTy : (tb : Table) → Fin (tcTables nBuf tb) → BufTy
  | .hbm, ⟨0, _⟩ => ⟨S8192x2560, .f32⟩
  | .hbm, ⟨1, _⟩ => ⟨S8192x1024, .f32⟩
  | .hbm, ⟨2, _⟩ => ⟨S8, .f32⟩
  | .hbm, ⟨3, _⟩ => ⟨S8192x512, .f32⟩
  | .hbm, ⟨4, _⟩ => ⟨S8192x128, .f32⟩
  | .hbm, ⟨5, _⟩ => ⟨S8192x128, .f32⟩
  | .hbm, ⟨6, _⟩ => ⟨S64x128x2x64, .f32⟩
  | .hbm, ⟨7, _⟩ => ⟨S_, .i32⟩
  | .hbm, ⟨8, _⟩ => ⟨S_, .f32⟩
  | .hbm, ⟨9, _⟩ => ⟨S65x128x2x64, .f32⟩
  | .hbm, ⟨10, _⟩ => ⟨S64x128x2x64, .f32⟩
  | .hbm, ⟨11, _⟩ => ⟨S64x128x2x64, .f32⟩
  | .hbm, ⟨12, _⟩ => ⟨S64x256x2x64, .f32⟩
  | .hbm, ⟨13, _⟩ => ⟨S64x128x2x64, .f32⟩
  | .hbm, ⟨14, _⟩ => ⟨S_, .i32⟩
  | .hbm, ⟨15, _⟩ => ⟨S_, .f32⟩
  | .hbm, ⟨16, _⟩ => ⟨S65x128x2x64, .f32⟩
  | .hbm, ⟨17, _⟩ => ⟨S64x128x2x64, .f32⟩
  | .hbm, ⟨18, _⟩ => ⟨S64x128x2x64, .f32⟩
  | .hbm, ⟨19, _⟩ => ⟨S64x256x2x64, .f32⟩
  | .hbm, ⟨20, _⟩ => ⟨S64x128x2x4x64, .f32⟩
  | .hbm, ⟨21, _⟩ => ⟨S_, .f32⟩
  | .hbm, ⟨22, _⟩ => ⟨S64x128x2x4x64, .f32⟩
  | .hbm, ⟨23, _⟩ => ⟨S64x128x2x4x64, .f32⟩
  | .hbm, ⟨24, _⟩ => ⟨S64x2x256x128x4, .f32⟩
  | .hbm, ⟨25, _⟩ => ⟨S64x2x4x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S64, .i32⟩
  | .hbm, ⟨44, _⟩ => ⟨S_, .i32⟩
  | .hbm, ⟨45, _⟩ => ⟨S64, .i32⟩
  | .hbm, ⟨46, _⟩ => ⟨S64, .i1⟩
  | .hbm, ⟨47, _⟩ => ⟨S64x1x1, .i1⟩
  | .hbm, ⟨48, _⟩ => ⟨S_, .i32⟩
  | .hbm, ⟨49, _⟩ => ⟨S1x256, .i32⟩
  | .hbm, ⟨50, _⟩ => ⟨S1x256, .i1⟩
  | .hbm, ⟨51, _⟩ => ⟨S1x1x256, .i1⟩
  | .hbm, ⟨52, _⟩ => ⟨S64x1x256, .i1⟩
  | .hbm, ⟨53, _⟩ => ⟨S64x1x256, .i1⟩
  | .hbm, ⟨54, _⟩ => ⟨S64x1x256, .i1⟩
  | .hbm, ⟨55, _⟩ => ⟨S64x1x256, .i1⟩
  | .hbm, ⟨56, _⟩ => ⟨S1x128x256, .i1⟩
  | .hbm, ⟨57, _⟩ => ⟨S64x128x256, .i1⟩
  | .hbm, ⟨58, _⟩ => ⟨S64x128x256, .i1⟩
  | .hbm, ⟨59, _⟩ => ⟨S64x128x256, .i1⟩
  | .hbm, ⟨60, _⟩ => ⟨S_, .f32⟩
  | .hbm, ⟨61, _⟩ => ⟨S1, .f32⟩
  | .hbm, ⟨62, _⟩ => ⟨S_, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S_, .f32⟩
  | .hbm, ⟨67, _⟩ => ⟨S1, .f32⟩
  | .hbm, ⟨68, _⟩ => ⟨S_, .f32⟩
  | .hbm, ⟨69, _⟩ => ⟨S1, .f32⟩
  | .hbm, ⟨70, _⟩ => ⟨S_, .f32⟩
  | .hbm, ⟨71, _⟩ => ⟨S1, .f32⟩
  | .hbm, ⟨72, _⟩ => ⟨S_, .f32⟩
  | .hbm, ⟨73, _⟩ => ⟨S1, .f32⟩
  | .hbm, ⟨74, _⟩ => ⟨S_, .f32⟩
  | .hbm, ⟨75, _⟩ => ⟨S1, .f32⟩
  | .hbm, ⟨76, _⟩ => ⟨S8, .f32⟩
  | .hbm, ⟨77, _⟩ => ⟨S2x4, .f32⟩
  | .hbm, ⟨78, _⟩ => ⟨S2x4x1x1, .f32⟩
  | .hbm, ⟨79, _⟩ => ⟨S2x4x1x1, .f32⟩
  | .hbm, ⟨80, _⟩ => ⟨S128x256, .f32⟩
  | .hbm, ⟨81, _⟩ => ⟨S1x1x128x256, .f32⟩
  | .hbm, ⟨82, _⟩ => ⟨S2x4x128x256, .f32⟩
  | .hbm, ⟨83, _⟩ => ⟨S2x4x128x256, .f32⟩
  | .hbm, ⟨84, _⟩ => ⟨S2x4x128x256, .f32⟩
  | .hbm, ⟨85, _⟩ => ⟨S64x1x1x128x256, .i1⟩
  | .hbm, ⟨86, _⟩ => ⟨S1x2x4x128x256, .f32⟩
  | .hbm, ⟨87, _⟩ => ⟨S64x2x4x128x256, .f32⟩
  | .hbm, ⟨88, _⟩ => ⟨S64x2x4x128x256, .f32⟩
  | .hbm, ⟨89, _⟩ => ⟨S_, .f32⟩
  | .hbm, ⟨90, _⟩ => ⟨S_, .f32⟩
  | .hbm, ⟨91, _⟩ => ⟨S64x2x4x128x256, .i1⟩
  | .hbm, ⟨92, _⟩ => ⟨S64x2x4x128x256, .f32⟩
  | .hbm, ⟨93, _⟩ => ⟨S64x2x4x128x256, .f32⟩
  | .hbm, ⟨94, _⟩ => ⟨S2x4, .f32⟩
  | .hbm, ⟨95, _⟩ => ⟨S1x2x4x1x1, .f32⟩
  | .hbm, ⟨96, _⟩ => ⟨S64x2x4x128x1, .f32⟩
  | .hbm, ⟨97, _⟩ => ⟨S64x2x4x128x257, .f32⟩
  | .hbm, ⟨98, _⟩ => ⟨S_, .f32⟩
  | .hbm, ⟨99, _⟩ => ⟨S64x2x4x128, .f32⟩
  | .hbm, ⟨100, _⟩ => ⟨S_, .f32⟩
  | .hbm, ⟨101, _⟩ => ⟨S64x2x4x128, .f32⟩
  | .hbm, ⟨102, _⟩ => ⟨S64x2x4x128, .f32⟩
  | .hbm, ⟨103, _⟩ => ⟨S64x2x4x128x1, .f32⟩
  | .hbm, ⟨104, _⟩ => ⟨S64x2x4x128x257, .f32⟩
  | .hbm, ⟨105, _⟩ => ⟨S64x2x4x128x257, .f32⟩
  | .hbm, ⟨106, _⟩ => ⟨S64x2x4x128x257, .f32⟩
  | .hbm, ⟨107, _⟩ => ⟨S_, .f32⟩
  | .hbm, ⟨108, _⟩ => ⟨S64x2x4x128, .f32⟩
  | .hbm, ⟨109, _⟩ => ⟨S64x2x4x128x1, .f32⟩
  | .hbm, ⟨110, _⟩ => ⟨S64x2x4x128x257, .f32⟩
  | .hbm, ⟨111, _⟩ => ⟨S64x2x4x128x257, .f32⟩
  | .hbm, ⟨112, _⟩ => ⟨S64x2x4x128x256, .f32⟩
  | .hbm, ⟨113, _⟩ => ⟨S64x2x64x4x128, .f32⟩
  | .hbm, ⟨114, _⟩ => ⟨S64x128x2x4x64, .f32⟩
  | .hbm, ⟨115, _⟩ => ⟨S8192x512, .f32⟩
  | .hbm, ⟨116, _⟩ => ⟨S8192x1536, .f32⟩
  | .hbm, ⟨117, _⟩ => ⟨S8x128, .f32⟩
  | .local _ .vmem, ⟨0, _⟩ => ⟨S512x1280, .f32⟩
  | .local _ .vmem, ⟨1, _⟩ => ⟨S512x1280, .f32⟩
  | .local _ .vmem, ⟨2, _⟩ => ⟨S128x256, .f32⟩
  | .local _ .vmem, ⟨3, _⟩ => ⟨S128x256, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1536, .f32⟩
  | .local _ .vmem, ⟨9, _⟩ => ⟨S512x1536, .f32⟩
  | .local _ .vmem, ⟨10, _⟩ => ⟨S8x128, .f32⟩
  | .local _ .vmem, ⟨11, _⟩ => ⟨S2x2x256x512, .f32⟩
  | .local _ .smem, ⟨0, _⟩ => ⟨S8, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88_0 : Ref sig .tc := ⟨.hbm, 116, rfl⟩
abbrev main_v88_1 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_off1 (i : grid0.Coords) : Fin 4 → Nat :=
  let arg0 : BitVec 32 := BitVec.ofNat 32 (i 0).val
  let c0_i32_4 : BitVec 32 := 0#32
  let v10 : BitVec 1 := Scalar.cmpi .eq arg0 c0_i32_4
  let c0_i32_5 : BitVec 32 := 0#32
  let c1_i32 : BitVec 32 := 1#32
  let v11 : BitVec 32 := Scalar.select v10 c0_i32_5 c1_i32
  let v60 : Index := Scalar.indexCast v11
  let c0_21 : Index := 0#32
  let c0_22 : Index := 0#32
  let c0_23 : Index := 0#32
  ![v60.toNat, 0, 0, 0]
def k0_off2 (i : grid0.Coords) : Fin 4 → Nat :=
  let arg0 : BitVec 32 := BitVec.ofNat 32 (i 0).val
  let c0_i32_4 : BitVec 32 := 0#32
  let v10 : BitVec 1 := Scalar.cmpi .eq arg0 c0_i32_4
  let c0_i32_5 : BitVec 32 := 0#32
  let c1_i32 : BitVec 32 := 1#32
  let v11 : BitVec 32 := Scalar.select v10 c0_i32_5 c1_i32
  let v100 : Index := Scalar.indexCast v11
  let c1 : Index := 1#32
  let c0_32 : Index := 0#32
  let c0_33 : Index := 0#32
  ![v100.toNat, 1, 0, 0]
def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnBwdIdeal.lean ====
variable {F : FTy → Type} [FloatOps F] [Named F]
def κ : String → Option EReal := fun
  | "mask" => some ⊥
  | _ => none
-- ==== AttnBwdRefIdeal.lean ====
abbrev S8192x2560 : Shape := ⟨2, ![8192, 2560]⟩
abbrev S8192x1024 : Shape := ⟨2, ![8192, 1024]⟩
abbrev S8 : Shape := ⟨1, ![8]⟩
abbrev S8192x512 : Shape := ⟨2, ![8192, 512]⟩
abbrev S8192x128 : Shape := ⟨2, ![8192, 128]⟩
abbrev S64x128x2x64 : Shape := ⟨4, ![64, 128, 2, 64]⟩
abbrev S_ : Shape := ⟨0, ![]⟩
abbrev S65x128x2x64 : Shape := ⟨4, ![65, 128, 2, 64]⟩
abbrev S64x256x2x64 : Shape := ⟨4, ![64, 256, 2, 64]⟩
abbrev S64x128x2x4x64 : Shape := ⟨5, ![64, 128, 2, 4, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1 : Shape := ⟨1, ![1]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S64x1x1x128x256 : Shape := ⟨5, ![64, 1, 1, 128, 256]⟩
abbrev S1x2x4x128x256 : Shape := ⟨5, ![1, 2, 4, 128, 256]⟩
abbrev S1x2x4x1x1 : Shape := ⟨5, ![1, 2, 4, 1, 1]⟩
abbrev S64x2x4x128x1 : Shape := ⟨5, ![64, 2, 4, 128, 1]⟩
abbrev S64x2x4x128x257 : Shape := ⟨5, ![64, 2, 4, 128, 257]⟩
abbrev S64x2x4x128 : Shape := ⟨4, ![64, 2, 4, 128]⟩
abbrev S64x2x64x4x128 : Shape := ⟨5, ![64, 2, 64, 4, 128]⟩
abbrev S64x2x64x256 : Shape := ⟨4, ![64, 2, 64, 256]⟩
abbrev S64x2x128x4x64 : Shape := ⟨5, ![64, 2, 128, 4, 64]⟩
abbrev S64x2x256x64 : Shape := ⟨4, ![64, 2, 256, 64]⟩
abbrev S8192x1536 : Shape := ⟨2, ![8192, 1536]⟩
abbrev S8x1 : Shape := ⟨2, ![8, 1]⟩
abbrev S8x128 : Shape := ⟨2, ![8, 128]⟩

abbrev nBuf : Space → Nat
  | .hbm => 216
  | .vmem => 0
  | .smem => 0
  | _ => 0

abbrev hbmTy0_0 (i : Nat) : BufTy := match i % 128 with
  | 0 => ⟨S8192x2560, .f32⟩
  | 1 => ⟨S8192x1024, .f32⟩
  | 2 => ⟨S8, .f32⟩
  | 3 => ⟨S8192x512, .f32⟩
  | 4 => ⟨S8192x128, .f32⟩
  | 5 => ⟨S8192x128, .f32⟩
  | 6 => ⟨S8192x512, .f32⟩
  | 7 => ⟨S64x128x2x64, .f32⟩
  | 8 => ⟨S_, .i32⟩
  | 9 => ⟨S_, .f32⟩
  | 10 => ⟨S65x128x2x64, .f32⟩
  | 11 => ⟨S64x128x2x64, .f32⟩
  | 12 => ⟨S64x128x2x64, .f32⟩
  | 13 => ⟨S64x256x2x64, .f32⟩
  | 14 => ⟨S64x128x2x64, .f32⟩
  | 15 => ⟨S_, .i32⟩
  | 16 => ⟨S_, .f32⟩
  | 17 => ⟨S65x128x2x64, .f32⟩
  | 18 => ⟨S64x128x2x64, .f32⟩
  | 19 => ⟨S64x128x2x64, .f32⟩
  | 20 => ⟨S64x256x2x64, .f32⟩
  | 21 => ⟨S64x128x2x4x64, .f32⟩
  | 22 => ⟨S_, .f32⟩
  | 23 => ⟨S64x128x2x4x64, .f32⟩
  | 24 => ⟨S64x128x2x4x64, .f32⟩
  | 25 => ⟨S64x2x256x128x4, .f32⟩
  | 26 => ⟨S64x2x4x128x256, .f32⟩
  | 27 => ⟨S128, .i32⟩
  | 28 => ⟨S128x1, .i32⟩
  | 29 => ⟨S256, .i32⟩
  | 30 => ⟨S1x256, .i32⟩
  | 31 => ⟨S_, .i32⟩
  | 32 => ⟨S128x1, .i32⟩
  | 33 => ⟨S128x1, .i32⟩
  | 34 => ⟨S128x256, .i32⟩
  | 35 => ⟨S128x256, .i32⟩
  | 36 => ⟨S128x256, .i32⟩
  | 37 => ⟨S_, .i32⟩
  | 38 => ⟨S128x256, .i32⟩
  | 39 => ⟨S128x256, .i1⟩
  | 40 => ⟨S_, .i32⟩
  | 41 => ⟨S128x256, .i32⟩
  | 42 => ⟨S128x256, .i1⟩
  | 43 => ⟨S128x256, .i1⟩
  | 44 => ⟨S64, .i32⟩
  | 45 => ⟨S_, .i32⟩
  | 46 => ⟨S64, .i32⟩
  | 47 => ⟨S64, .i1⟩
  | 48 => ⟨S64x1x1, .i1⟩
  | 49 => ⟨S_, .i32⟩
  | 50 => ⟨S1x256, .i32⟩
  | 51 => ⟨S1x256, .i1⟩
  | 52 => ⟨S1x1x256, .i1⟩
  | 53 => ⟨S64x1x256, .i1⟩
  | 54 => ⟨S64x1x256, .i1⟩
  | 55 => ⟨S64x1x256, .i1⟩
  | 56 => ⟨S64x1x256, .i1⟩
  | 57 => ⟨S1x128x256, .i1⟩
  | 58 => ⟨S64x128x256, .i1⟩
  | 59 => ⟨S64x128x256, .i1⟩
  | 60 => ⟨S64x128x256, .i1⟩
  | 61 => ⟨S_, .f32⟩
  | 62 => ⟨S1, .f32⟩
  | 63 => ⟨S_, .f32⟩
  | 64 => ⟨S1, .f32⟩
  | 65 => ⟨S_, .f32⟩
  | 66 => ⟨S1, .f32⟩
  | 67 => ⟨S_, .f32⟩
  | 68 => ⟨S1, .f32⟩
  | 69 => ⟨S_, .f32⟩
  | 70 => ⟨S1, .f32⟩
  | 71 => ⟨S_, .f32⟩
  | 72 => ⟨S1, .f32⟩
  | 73 => ⟨S_, .f32⟩
  | 74 => ⟨S1, .f32⟩
  | 75 => ⟨S_, .f32⟩
  | 76 => ⟨S1, .f32⟩
  | 77 => ⟨S8, .f32⟩
  | 78 => ⟨S2x4, .f32⟩
  | 79 => ⟨S2x4x1x1, .f32⟩
  | 80 => ⟨S2x4x1x1, .f32⟩
  | 81 => ⟨S128x256, .f32⟩
  | 82 => ⟨S1x1x128x256, .f32⟩
  | 83 => ⟨S2x4x128x256, .f32⟩
  | 84 => ⟨S2x4x128x256, .f32⟩
  | 85 => ⟨S2x4x128x256, .f32⟩
  | 86 => ⟨S64x1x1x128x256, .i1⟩
  | 87 => ⟨S1x2x4x128x256, .f32⟩
  | 88 => ⟨S64x2x4x128x256, .f32⟩
  | 89 => ⟨S64x2x4x128x256, .f32⟩
  | 90 => ⟨S_, .f32⟩
  | 91 => ⟨S_, .f32⟩
  | 92 => ⟨S64x2x4x128x256, .i1⟩
  | 93 => ⟨S64x2x4x128x256, .f32⟩
  | 94 => ⟨S64x2x4x128x256, .f32⟩
  | 95 => ⟨S_, .f32⟩
  | 96 => ⟨S64x2x4x128x256, .f32⟩
  | 97 => ⟨S2x4, .f32⟩
  | 98 => ⟨S1x2x4x1x1, .f32⟩
  | 99 => ⟨S64x2x4x128x1, .f32⟩
  | 100 => ⟨S64x2x4x128x257, .f32⟩
  | 101 => ⟨S_, .f32⟩
  | 102 => ⟨S64x2x4x128, .f32⟩
  | 103 => ⟨S64x2x4x128x1, .f32⟩
  | 104 => ⟨S64x2x4x128x257, .f32⟩
  | 105 => ⟨S64x2x4x128x257, .i1⟩
  | 106 => ⟨S64x2x4x128x257, .f32⟩
  | 107 => ⟨S_, .f32⟩
  | 108 => ⟨S64x2x4x128, .f32⟩
  | 109 => ⟨S_, .f32⟩
  | 110 => ⟨S64x2x4x128, .f32⟩
  | 111 => ⟨S64x2x4x128, .f32⟩
  | 112 => ⟨S_, .f32⟩
  | 113 => ⟨S64x2x4x128, .f32⟩
  | 114 => ⟨S64x2x4x128, .i1⟩
  | 115 => ⟨S_, .f32⟩
  | 116 => ⟨S64x2x4x128, .f32⟩
  | 117 => ⟨S64x2x4x128, .i1⟩
  | 118 => ⟨S_, .f32⟩
  | 119 => ⟨S64x2x4x128, .f32⟩
  | 120 => ⟨S_, .f32⟩
  | 121 => ⟨S64x2x4x128, .f32⟩
  | 122 => ⟨S_, .f32⟩
  | 123 => ⟨S64x2x4x128, .f32⟩
  | 124 => ⟨S64x2x4x128, .f32⟩
  | 125 => ⟨S64x2x4x128, .f32⟩
  | 126 => ⟨S64x2x4x128x1, .f32⟩
  | 127 => ⟨S64x2x4x128x257, .f32⟩
  | _ => ⟨S8192x2560, .f32⟩

abbrev hbmTy0_1 (i : Nat) : BufTy := match i % 128 with
  | 0 => ⟨S64x2x4x128x257, .f32⟩
  | 1 => ⟨S64x2x4x128x257, .f32⟩
  | 2 => ⟨S_, .f32⟩
  | 3 => ⟨S64x2x4x128, .f32⟩
  | 4 => ⟨S64x2x4x128x1, .f32⟩
  | 5 => ⟨S64x2x4x128x257, .f32⟩
  | 6 => ⟨S64x2x4x128x257, .f32⟩
  | 7 => ⟨S64x2x4x128x1, .f32⟩
  | 8 => ⟨S_, .f32⟩
  | 9 => ⟨S64x2x4x128x1, .f32⟩
  | 10 => ⟨S64x2x4x128x1, .f32⟩
  | 11 => ⟨S64x2x4x128x256, .f32⟩
  | 12 => ⟨S64x2x64x4x128, .f32⟩
  | 13 => ⟨S64x128x2x4x64, .f32⟩
  | 14 => ⟨S8192x512, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S8192x512, .f32⟩
  | 34 => ⟨S8192x512, .f32⟩
  | 35 => ⟨S8192x512, .f32⟩
  | 36 => ⟨S64x128x2x4x64, .f32⟩
  | 37 => ⟨S64x2x64x4x128, .f32⟩
  | 38 => ⟨S64x2x4x128x256, .f32⟩
  | 39 => ⟨S64x2x64x256, .f32⟩
  | 40 => ⟨S64x256x2x64, .f32⟩
  | 41 => ⟨S_, .f32⟩
  | 42 => ⟨S64x2x4x128x257, .f32⟩
  | 43 => ⟨S64x2x4x128x257, .f32⟩
  | 44 => ⟨S64x2x4x128x257, .f32⟩
  | 45 => ⟨S64x2x4x128x257, .f32⟩
  | 46 => ⟨S_, .f32⟩
  | 47 => ⟨S64x2x4x128, .f32⟩
  | 48 => ⟨S64x2x4x128x1, .f32⟩
  | 49 => ⟨S64x2x4x128x1, .f32⟩
  | 50 => ⟨S64x2x4x128x257, .f32⟩
  | 51 => ⟨S64x2x4x128x257, .f32⟩
  | 52 => ⟨S_, .f32⟩
  | 53 => ⟨S64x2x4x128, .f32⟩
  | 54 => ⟨S64x2x4x128x257, .f32⟩
  | 55 => ⟨S64x2x4x128x257, .f32⟩
  | 56 => ⟨S64x2x4x128x257, .f32⟩
  | 57 => ⟨S64x2x4x128x256, .f32⟩
  | 58 => ⟨S64x2x4x128x1, .f32⟩
  | 59 => ⟨S_, .f32⟩
  | 60 => ⟨S2x4, .f32⟩
  | 61 => ⟨S1x2x4x1x1, .f32⟩
  | 62 => ⟨S_, .f32⟩
  | 63 => ⟨S2x4, .f32⟩
  | 64 => ⟨S8, .f32⟩
  | 65 => ⟨S_, .f32⟩
  | 66 => ⟨S64x2x4x128x256, .f32⟩
  | 67 => ⟨S64x2x4x128x256, .f32⟩
  | 68 => ⟨S64x2x256x128x4, .f32⟩
  | 69 => ⟨S64x2x128x4x64, .f32⟩
  | 70 => ⟨S64x128x2x4x64, .f32⟩
  | 71 => ⟨S64x2x256x64, .f32⟩
  | 72 => ⟨S64x256x2x64, .f32⟩
  | 73 => ⟨S_, .f32⟩
  | 74 => ⟨S64x128x2x4x64, .f32⟩
  | 75 => ⟨S64x128x2x4x64, .f32⟩
  | 76 => ⟨S8192x512, .f32⟩
  | 77 => ⟨S64x128x2x64, .f32⟩
  | 78 => ⟨S8192x128, .f32⟩
  | 79 => ⟨S64x128x2x64, .f32⟩
  | 80 => ⟨S8192x128, .f32⟩
  | 81 => ⟨S64x128x2x64, .f32⟩
  | 82 => ⟨S8192x128, .f32⟩
  | 83 => ⟨S64x128x2x64, .f32⟩
  | 84 => ⟨S8192x128, .f32⟩
  | 85 => ⟨S8192x1536, .f32⟩
  | 86 => ⟨S8x1, .f32⟩
  | 87 => ⟨S8x128, .f32⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_call2_v0 : Ref sig .tc := ⟨.hbm, 91, rfl⟩
abbrev main_v69_1 : Ref sig .tc := ⟨.hbm, 92, rfl⟩
abbrev main_call2_v2 : Ref sig .tc := ⟨.hbm, 93, rfl⟩
abbrev main_v69_0 : Ref sig .tc := ⟨.hbm, 94, rfl⟩
abbrev main_call2_cst : Ref sig .tc := ⟨.hbm, 95, rfl⟩
abbrev main_v69_2 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_cst_17 : Ref sig .tc := ⟨.hbm, 109, rfl⟩
abbrev main_v80 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_cst_20 : Ref sig .tc := ⟨.hbm, 118, rfl⟩
abbrev main_v86 : Ref sig .tc := ⟨.hbm, 119, rfl⟩
abbrev main_cst_21 : Ref sig .tc := ⟨.hbm, 120, rfl⟩
abbrev main_v87 : Ref sig .tc := ⟨.hbm, 121, rfl⟩
abbrev main_cst_22 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_23 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_24 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_call3_v0 : Ref sig .tc := ⟨.hbm, 143, rfl⟩
abbrev main_call3_v1 : Ref sig .tc := ⟨.hbm, 144, rfl⟩
abbrev main_call3_cst : Ref sig .tc := ⟨.hbm, 145, rfl⟩
abbrev main_call3_v2 : Ref sig .tc := ⟨.hbm, 146, rfl⟩
abbrev main_call3_v3 : Ref sig .tc := ⟨.hbm, 147, rfl⟩
abbrev main_call3_cst_0 : Ref sig .tc := ⟨.hbm, 148, rfl⟩
abbrev main_call3_v4 : Ref sig .tc := ⟨.hbm, 149, rfl⟩
abbrev main_v106_2 : Ref sig .tc := ⟨.hbm, 150, rfl⟩
abbrev main_call3_cst_1 : Ref sig .tc := ⟨.hbm, 151, rfl⟩
abbrev main_call3_v6 : Ref sig .tc := ⟨.hbm, 152, rfl⟩
abbrev main_call3_v7 : Ref sig .tc := ⟨.hbm, 153, rfl⟩
abbrev main_v106_1 : Ref sig .tc := ⟨.hbm, 154, rfl⟩
abbrev main_v106_0 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_call4_v0 : Ref sig .tc := ⟨.hbm, 160, rfl⟩
abbrev main_call4_v1 : Ref sig .tc := ⟨.hbm, 161, rfl⟩
abbrev main_call4_v2 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_25 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_cst_26 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_27 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_28 : Ref sig .tc := ⟨.hbm, 187, rfl⟩
abbrev main_v132 : Ref sig .tc := ⟨.hbm, 188, rfl⟩
abbrev main_v133 : Ref sig .tc := ⟨.hbm, 189, rfl⟩
abbrev main_cst_29 : Ref sig .tc := ⟨.hbm, 190, rfl⟩
abbrev main_v134 : Ref sig .tc := ⟨.hbm, 191, rfl⟩
abbrev main_v135 : Ref sig .tc := ⟨.hbm, 192, rfl⟩
abbrev main_call5_cst : Ref sig .tc := ⟨.hbm, 193, rfl⟩
abbrev main_call5_v0 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_30 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩

abbrev nD : Nat := 1
abbrev τ : Topo := Topo.v7x

variable {F : FTy → Type} [FloatOps F]
-- ==== InBwd.lean ====
abbrev S8192x1280 : Shape := ⟨2, ![8192, 1280]⟩
abbrev S8192x1536 : Shape := ⟨2, ![8192, 1536]⟩
abbrev S8192x1024 : Shape := ⟨2, ![8192, 1024]⟩
abbrev S2x1024 : Shape := ⟨2, ![2, 1024]⟩
abbrev S1024x2560 : Shape := ⟨2, ![1024, 2560]⟩
abbrev S2x1x1024 : Shape := ⟨3, ![2, 1, 1024]⟩
abbrev S2560x1024 : Shape := ⟨2, ![2560, 1024]⟩
abbrev S1x1024 : Shape := ⟨2, ![1, 1024]⟩
abbrev S512x1280 : Shape := ⟨2, ![512, 1280]⟩
abbrev S512x1536 : Shape := ⟨2, ![512, 1536]⟩
abbrev S128x256 : Shape := ⟨2, ![128, 256]⟩
abbrev S512x1024 : Shape := ⟨2, ![512, 1024]⟩
abbrev S1x1x1024 : Shape := ⟨3, ![1, 1, 1024]⟩
abbrev S_ : Shape := ⟨0, ![]⟩
abbrev S384x256 : Shape := ⟨2, ![384, 256]⟩
abbrev S512x256 : Shape := ⟨2, ![512, 256]⟩
abbrev S512x512 : Shape := ⟨2, ![512, 512]⟩
abbrev S512x2560 : Shape := ⟨2, ![512, 2560]⟩
abbrev S512 : Shape := ⟨1, ![512]⟩
abbrev S512x1 : Shape := ⟨2, ![512, 1]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S8192x1280, .bf16⟩
  | .hbm, ⟨1, _⟩ => ⟨S8192x1536, .f32⟩
  | .hbm, ⟨2, _⟩ => ⟨S8192x1024, .f32⟩
  | .hbm, ⟨3, _⟩ => ⟨S8192x1024, .f32⟩
  | .hbm, ⟨4, _⟩ => ⟨S2x1024, .f32⟩
  | .hbm, ⟨5, _⟩ => ⟨S1024x2560, .f32⟩
  | .hbm, ⟨6, _⟩ => ⟨S2x1x1024, .f32⟩
  | .hbm, ⟨7, _⟩ => ⟨S2560x1024, .f32⟩
  | .hbm, ⟨8, _⟩ => ⟨S2560x1024, .bf16⟩
  | .hbm, ⟨9, _⟩ => ⟨S8192x1024, .f32⟩
  | .hbm, ⟨10, _⟩ => ⟨S1x1024, .f32⟩
  | .hbm, ⟨11, _⟩ => ⟨S2560x1024, .bf16⟩
  | .local _ .vmem, ⟨0, _⟩ => ⟨S512x1280, .bf16⟩
  | .local _ .vmem, ⟨1, _⟩ => ⟨S512x1280, .bf16⟩
  | .local _ .vmem, ⟨2, _⟩ => ⟨S512x1536, .f32⟩
  | .local _ .vmem, ⟨3, _⟩ => ⟨S512x1536, .f32⟩
  | .local _ .vmem, ⟨4, _⟩ => ⟨S128x256, .f32⟩
  | .local _ .vmem, ⟨5, _⟩ => ⟨S128x256, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S2560x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S2560x1024, .f32⟩
  | .local _ .vmem, ⟨16, _⟩ => ⟨S2560x1024, .bf16⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c3_i32 : BitVec 32 := 3#32
  let c0_i32 : BitVec 32 := 0#32
  ![v2.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2560x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InBwdRefIdeal.lean ====
abbrev S8192x1280 : Shape := ⟨2, ![8192, 1280]⟩
abbrev S8192x1536 : Shape := ⟨2, ![8192, 1536]⟩
abbrev S8192x1024 : Shape := ⟨2, ![8192, 1024]⟩
abbrev S2x1024 : Shape := ⟨2, ![2, 1024]⟩
abbrev S1024x2560 : Shape := ⟨2, ![1024, 2560]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S8192x512 : Shape := ⟨2, ![8192, 512]⟩
abbrev S8192x128 : Shape := ⟨2, ![8192, 128]⟩
abbrev S64x128x2x64 : Shape := ⟨4, ![64, 128, 2, 64]⟩
abbrev S1x128x2x64 : Shape := ⟨4, ![1, 128, 2, 64]⟩
abbrev S63x128x2x64 : Shape := ⟨4, ![63, 128, 2, 64]⟩
abbrev S64x256x2x64 : Shape := ⟨4, ![64, 256, 2, 64]⟩
abbrev S2560x1024 : Shape := ⟨2, ![2560, 1024]⟩

abbrev nBuf : Space → Nat
  | .hbm => 125
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1536, .f32⟩
  | .hbm, ⟨2, _⟩ => ⟨S8192x1024, .f32⟩
  | .hbm, ⟨3, _⟩ => ⟨S8192x1024, .f32⟩
  | .hbm, ⟨4, _⟩ => ⟨S2x1024, .f32⟩
  | .hbm, ⟨5, _⟩ => ⟨S1024x2560, .f32⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2560, .f32⟩
  | .hbm, ⟨29, _⟩ => ⟨S8192x1280, .f32⟩
  | .hbm, ⟨30, _⟩ => ⟨S8192x512, .f32⟩
  | .hbm, ⟨31, _⟩ => ⟨S8192x128, .f32⟩
  | .hbm, ⟨32, _⟩ => ⟨S64x128x2x64, .f32⟩
  | .hbm, ⟨33, _⟩ => ⟨S1x128x2x64, .f32⟩
  | .hbm, ⟨34, _⟩ => ⟨S_, .f32⟩
  | .hbm, ⟨35, _⟩ => ⟨S1x128x2x64, .f32⟩
  | .hbm, ⟨36, _⟩ => ⟨S63x128x2x64, .f32⟩
  | .hbm, ⟨37, _⟩ => ⟨S64x128x2x64, .f32⟩
  | .hbm, ⟨38, _⟩ => ⟨S_, .f32⟩
  | .hbm, ⟨39, _⟩ => ⟨S1x128x2x64, .f32⟩
  | .hbm, ⟨40, _⟩ => ⟨S64x256x2x64, .f32⟩
  | .hbm, ⟨41, _⟩ => ⟨S8192x128, .f32⟩
  | .hbm, ⟨42, _⟩ => ⟨S64x128x2x64, .f32⟩
  | .hbm, ⟨43, _⟩ => ⟨S1x128x2x64, .f32⟩
  | .hbm, ⟨44, _⟩ => ⟨S_, .f32⟩
  | .hbm, ⟨45, _⟩ => ⟨S1x128x2x64, .f32⟩
  | .hbm, ⟨46, _⟩ => ⟨S63x128x2x64, .f32⟩
  | .hbm, ⟨47, _⟩ => ⟨S64x128x2x64, .f32⟩
  | .hbm, ⟨48, _⟩ => ⟨S_, .f32⟩
  | .hbm, ⟨49, _⟩ => ⟨S1x128x2x64, .f32⟩
  | .hbm, ⟨50, _⟩ => ⟨S64x256x2x64, .f32⟩
  | .hbm, ⟨51, _⟩ => ⟨S8192x512, .f32⟩
  | .hbm, ⟨52, _⟩ => ⟨S8192x128, .f32⟩
  | .hbm, ⟨53, _⟩ => ⟨S64x128x2x64, .f32⟩
  | .hbm, ⟨54, _⟩ => ⟨S8192x128, .f32⟩
  | .hbm, ⟨55, _⟩ => ⟨S64x128x2x64, .f32⟩
  | .hbm, ⟨56, _⟩ => ⟨S64x256x2x64, .f32⟩
  | .hbm, ⟨57, _⟩ => ⟨S8192x128, .f32⟩
  | .hbm, ⟨58, _⟩ => ⟨S64x128x2x64, .f32⟩
  | .hbm, ⟨59, _⟩ => ⟨S8192x128, .f32⟩
  | .hbm, ⟨60, _⟩ => ⟨S64x128x2x64, .f32⟩
  | .hbm, ⟨61, _⟩ => ⟨S64x256x2x64, .f32⟩
  | .hbm, ⟨62, _⟩ => ⟨S8192x1280, .f32⟩
  | .hbm, ⟨63, _⟩ => ⟨S8192x512, .f32⟩
  | .hbm, ⟨64, _⟩ => ⟨S8192x512, .f32⟩
  | .hbm, ⟨65, _⟩ => ⟨S_, .f32⟩
  | .hbm, ⟨66, _⟩ => ⟨S8192x2560, .f32⟩
  | .hbm, ⟨67, _⟩ => ⟨S64x128x2x64, .f32⟩
  | .hbm, ⟨68, _⟩ => ⟨S64x128x2x64, .f32⟩
  | .hbm, ⟨69, _⟩ => ⟨S1x128x2x64, .f32⟩
  | .hbm, ⟨70, _⟩ => ⟨S63x128x2x64, .f32⟩
  | .hbm, ⟨71, _⟩ => ⟨S_, .f32⟩
  | .hbm, ⟨72, _⟩ => ⟨S64x128x2x64, .f32⟩
  | .hbm, ⟨73, _⟩ => ⟨S64x128x2x64, .f32⟩
  | .hbm, ⟨74, _⟩ => ⟨S8192x128, .f32⟩
  | .hbm, ⟨75, _⟩ => ⟨S_, .f32⟩
  | .hbm, ⟨76, _⟩ => ⟨S8192x2560, .f32⟩
  | .hbm, ⟨77, _⟩ => ⟨S8192x2560, .f32⟩
  | .hbm, ⟨78, _⟩ => ⟨S64x128x2x64, .f32⟩
  | .hbm, ⟨79, _⟩ => ⟨S64x128x2x64, .f32⟩
  | .hbm, ⟨80, _⟩ => ⟨S1x128x2x64, .f32⟩
  | .hbm, ⟨81, _⟩ => ⟨S63x128x2x64, .f32⟩
  | .hbm, ⟨82, _⟩ => ⟨S_, .f32⟩
  | .hbm, ⟨83, _⟩ => ⟨S64x128x2x64, .f32⟩
  | .hbm, ⟨84, _⟩ => ⟨S64x128x2x64, .f32⟩
  | .hbm, ⟨85, _⟩ => ⟨S8192x128, .f32⟩
  | .hbm, ⟨86, _⟩ => ⟨S_, .f32⟩
  | .hbm, ⟨87, _⟩ => ⟨S8192x2560, .f32⟩
  | .hbm, ⟨88, _⟩ => ⟨S8192x2560, .f32⟩
  | .hbm, ⟨89, _⟩ => ⟨S_, .f32⟩
  | .hbm, ⟨90, _⟩ => ⟨S8192x2560, .f32⟩
  | .hbm, ⟨91, _⟩ => ⟨S8192x2560, .f32⟩
  | .hbm, ⟨92, _⟩ => ⟨S_, .f32⟩
  | .hbm, ⟨93, _⟩ => ⟨S8192x2560, .f32⟩
  | .hbm, ⟨94, _⟩ => ⟨S8192x2560, .f32⟩
  | .hbm, ⟨95, _⟩ => ⟨S2560x1024, .f32⟩
  | .hbm, ⟨96, _⟩ => ⟨S1024x2560, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S8192x1024, .f32⟩
  | .hbm, ⟨103, _⟩ => ⟨S8192x1024, .f32⟩
  | .hbm, ⟨104, _⟩ => ⟨S_, .f32⟩
  | .hbm, ⟨105, _⟩ => ⟨S1024, .f32⟩
  | .hbm, ⟨106, _⟩ => ⟨S8192x1024, .f32⟩
  | .hbm, ⟨107, _⟩ => ⟨S_, .f32⟩
  | .hbm, ⟨108, _⟩ => ⟨S8192, .f32⟩
  | .hbm, ⟨109, _⟩ => ⟨S8192x1, .f32⟩
  | .hbm, ⟨110, _⟩ => ⟨S8192x1024, .f32⟩
  | .hbm, ⟨111, _⟩ => ⟨S8192x1024, .f32⟩
  | .hbm, ⟨112, _⟩ => ⟨S8192x1, .f32⟩
  | .hbm, ⟨113, _⟩ => ⟨S_, .f32⟩
  | .hbm, ⟨114, _⟩ => ⟨S8192x1, .f32⟩
  | .hbm, ⟨115, _⟩ => ⟨S8192x1, .f32⟩
  | .hbm, ⟨116, _⟩ => ⟨S_, .f32⟩
  | .hbm, ⟨117, _⟩ => ⟨S8192, .f32⟩
  | .hbm, ⟨118, _⟩ => ⟨S8192x1024, .f32⟩
  | .hbm, ⟨119, _⟩ => ⟨S8192x1024, .f32⟩
  | .hbm, ⟨120, _⟩ => ⟨S8192x1024, .f32⟩
  | .hbm, ⟨121, _⟩ => ⟨S8192x1024, .f32⟩
  | .hbm, ⟨122, _⟩ => ⟨S8192x1024, .f32⟩
  | .hbm, ⟨123, _⟩ => ⟨S8192x1024, .f32⟩
  | .hbm, ⟨124, _⟩ => ⟨S1x1024, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_11 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_cst_13 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_14 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_15 : Ref sig .tc := ⟨.hbm, 104, rfl⟩
abbrev main_v82 : Ref sig .tc := ⟨.hbm, 105, rfl⟩
abbrev main_v83 : Ref sig .tc := ⟨.hbm, 106, rfl⟩
abbrev main_cst_16 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_17 : Ref sig .tc := ⟨.hbm, 113, rfl⟩
abbrev main_v89 : Ref sig .tc := ⟨.hbm, 114, rfl⟩
abbrev main_v90 : Ref sig .tc := ⟨.hbm, 115, rfl⟩
abbrev main_cst_18 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩

abbrev nD : Nat := 1
abbrev τ : Topo := Topo.v7x

variable {F : FTy → Type} [FloatOps F]
-- ==== InDx.lean ====
abbrev S8192x2560 : Shape := ⟨2, ![8192, 2560]⟩
abbrev S8192x1024 : Shape := ⟨2, ![8192, 1024]⟩
abbrev S2x1024 : Shape := ⟨2, ![2, 1024]⟩
abbrev S1024x2560 : Shape := ⟨2, ![1024, 2560]⟩
abbrev S2x1x1024 : Shape := ⟨3, ![2, 1, 1024]⟩
abbrev S2560x1024 : Shape := ⟨2, ![2560, 1024]⟩
abbrev S1x1024 : Shape := ⟨2, ![1, 1024]⟩
abbrev S512x2560 : Shape := ⟨2, ![512, 2560]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .f32⟩
  | .hbm, ⟨2, _⟩ => ⟨S8192x1024, .f32⟩
  | .hbm, ⟨3, _⟩ => ⟨S2x1024, .f32⟩
  | .hbm, ⟨4, _⟩ => ⟨S1024x2560, .f32⟩
  | .hbm, ⟨5, _⟩ => ⟨S2x1x1024, .f32⟩
  | .hbm, ⟨6, _⟩ => ⟨S2560x1024, .f32⟩
  | .hbm, ⟨7, _⟩ => ⟨S2560x1024, .bf16⟩
  | .hbm, ⟨8, _⟩ => ⟨S8192x1024, .f32⟩
  | .hbm, ⟨9, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S2560x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InDxRefIdeal.lean ====
abbrev S8192x2560 : Shape := ⟨2, ![8192, 2560]⟩
abbrev S8192x1024 : Shape := ⟨2, ![8192, 1024]⟩
abbrev S2x1024 : Shape := ⟨2, ![2, 1024]⟩
abbrev S1024x2560 : Shape := ⟨2, ![1024, 2560]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2560x1024 : Shape := ⟨2, ![2560, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .f32⟩
  | .hbm, ⟨2, _⟩ => ⟨S8192x1024, .f32⟩
  | .hbm, ⟨3, _⟩ => ⟨S2x1024, .f32⟩
  | .hbm, ⟨4, _⟩ => ⟨S1024x2560, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2560, .f32⟩
  | .hbm, ⟨28, _⟩ => ⟨S8192x2560, .f32⟩
  | .hbm, ⟨29, _⟩ => ⟨S2560x1024, .f32⟩
  | .hbm, ⟨30, _⟩ => ⟨S1024x2560, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== AttnFwd.lean ====
abbrev S8192x2560 : Shape := ⟨2, ![8192, 2560]⟩
abbrev S8 : Shape := ⟨1, ![8]⟩
abbrev S8192x512 : Shape := ⟨2, ![8192, 512]⟩
abbrev S512x1280 : Shape := ⟨2, ![512, 1280]⟩
abbrev S128x256 : Shape := ⟨2, ![128, 256]⟩
abbrev S512x512 : Shape := ⟨2, ![512, 512]⟩
abbrev S2x2x256x512 : Shape := ⟨4, ![2, 2, 256, 512]⟩
abbrev S256x512 : Shape := ⟨2, ![256, 512]⟩
abbrev S1x1x256x512 : Shape := ⟨4, ![1, 1, 256, 512]⟩
abbrev S256x256 : Shape := ⟨2, ![256, 256]⟩
abbrev S256x128 : Shape := ⟨2, ![256, 128]⟩
abbrev S128x512 : Shape := ⟨2, ![128, 512]⟩
abbrev S1x128 : Shape := ⟨2, ![1, 128]⟩
abbrev S512x128 : Shape := ⟨2, ![512, 128]⟩
abbrev S128x128 : Shape := ⟨2, ![128, 128]⟩
abbrev S1 : Shape := ⟨1, ![1]⟩
abbrev S256x1 : Shape := ⟨2, ![256, 1]⟩
abbrev S256 : Shape := ⟨1, ![256]⟩

abbrev nBuf : Space → Nat
  | .hbm => 4
  | .vmem => 9
  | .smem => 1
  | _ => 0

abbrev bufTy : (tb : Table) → Fin (tcTables nBuf tb) → BufTy
  | .hbm, ⟨0, _⟩ => ⟨S8192x2560, .f32⟩
  | .hbm, ⟨1, _⟩ => ⟨S8, .f32⟩
  | .hbm, ⟨2, _⟩ => ⟨S8192x512, .bf16⟩
  | .hbm, ⟨3, _⟩ => ⟨S8192x512, .f32⟩
  | .local _ .vmem, ⟨0, _⟩ => ⟨S512x1280, .f32⟩
  | .local _ .vmem, ⟨1, _⟩ => ⟨S512x1280, .f32⟩
  | .local _ .vmem, ⟨2, _⟩ => ⟨S128x256, .f32⟩
  | .local _ .vmem, ⟨3, _⟩ => ⟨S128x256, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S2x2x256x512, .f32⟩
  | .local _ .smem, ⟨0, _⟩ => ⟨S8, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def k0_off1 (i : grid0.Coords) : Fin 4 → Nat :=
  let arg0 : BitVec 32 := BitVec.ofNat 32 (i 0).val
  let c0_i32_4 : BitVec 32 := 0#32
  let v10 : BitVec 1 := Scalar.cmpi .eq arg0 c0_i32_4
  let c0_i32_5 : BitVec 32 := 0#32
  let c1_i32 : BitVec 32 := 1#32
  let v11 : BitVec 32 := Scalar.select v10 c0_i32_5 c1_i32
  let v46 : Index := Scalar.indexCast v11
  let c0_15 : Index := 0#32
  let c0_16 : Index := 0#32
  let c0_17 : Index := 0#32
  ![v46.toNat, 0, 0, 0]
def k0_off2 (i : grid0.Coords) : Fin 4 → Nat :=
  let arg0 : BitVec 32 := BitVec.ofNat 32 (i 0).val
  let c0_i32_4 : BitVec 32 := 0#32
  let v10 : BitVec 1 := Scalar.cmpi .eq arg0 c0_i32_4
  let c0_i32_5 : BitVec 32 := 0#32
  let c1_i32 : BitVec 32 := 1#32
  let v11 : BitVec 32 := Scalar.select v10 c0_i32_5 c1_i32
  let v83 : Index := Scalar.indexCast v11
  let c1 : Index := 1#32
  let c0_26 : Index := 0#32
  let c0_27 : Index := 0#32
  ![v83.toNat, 1, 0, 0]
def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S8192x2560 : Shape := ⟨2, ![8192, 2560]⟩
abbrev S8 : Shape := ⟨1, ![8]⟩
abbrev S8192x512 : Shape := ⟨2, ![8192, 512]⟩
abbrev S8192x128 : Shape := ⟨2, ![8192, 128]⟩
abbrev S64x128x2x64 : Shape := ⟨4, ![64, 128, 2, 64]⟩
abbrev S_ : Shape := ⟨0, ![]⟩
abbrev S65x128x2x64 : Shape := ⟨4, ![65, 128, 2, 64]⟩
abbrev S64x256x2x64 : Shape := ⟨4, ![64, 256, 2, 64]⟩
abbrev S64x128x2x4x64 : Shape := ⟨5, ![64, 128, 2, 4, 64]⟩
abbrev S64x2x256x128x4 : Shape := ⟨5, ![64, 2, 256, 128, 4]⟩
abbrev S64x2x4x128x256 : Shape := ⟨5, ![64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1 : Shape := ⟨1, ![1]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S64x1x1x128x256 : Shape := ⟨5, ![64, 1, 1, 128, 256]⟩
abbrev S1x2x4x128x256 : Shape := ⟨5, ![1, 2, 4, 128, 256]⟩
abbrev S1x2x4x1x1 : Shape := ⟨5, ![1, 2, 4, 1, 1]⟩
abbrev S64x2x4x128x1 : Shape := ⟨5, ![64, 2, 4, 128, 1]⟩
abbrev S64x2x4x128x257 : Shape := ⟨5, ![64, 2, 4, 128, 257]⟩
abbrev S64x2x4x128 : Shape := ⟨4, ![64, 2, 4, 128]⟩
abbrev S64x2x64x4x128 : Shape := ⟨5, ![64, 2, 64, 4, 128]⟩

abbrev nBuf : Space → Nat
  | .hbm => 127
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S8, .f32⟩
  | .hbm, ⟨2, _⟩ => ⟨S8192x512, .f32⟩
  | .hbm, ⟨3, _⟩ => ⟨S8192x128, .f32⟩
  | .hbm, ⟨4, _⟩ => ⟨S8192x128, .f32⟩
  | .hbm, ⟨5, _⟩ => ⟨S8192x512, .f32⟩
  | .hbm, ⟨6, _⟩ => ⟨S64x128x2x64, .f32⟩
  | .hbm, ⟨7, _⟩ => ⟨S_, .i32⟩
  | .hbm, ⟨8, _⟩ => ⟨S_, .f32⟩
  | .hbm, ⟨9, _⟩ => ⟨S65x128x2x64, .f32⟩
  | .hbm, ⟨10, _⟩ => ⟨S64x128x2x64, .f32⟩
  | .hbm, ⟨11, _⟩ => ⟨S64x128x2x64, .f32⟩
  | .hbm, ⟨12, _⟩ => ⟨S64x256x2x64, .f32⟩
  | .hbm, ⟨13, _⟩ => ⟨S64x128x2x64, .f32⟩
  | .hbm, ⟨14, _⟩ => ⟨S_, .i32⟩
  | .hbm, ⟨15, _⟩ => ⟨S_, .f32⟩
  | .hbm, ⟨16, _⟩ => ⟨S65x128x2x64, .f32⟩
  | .hbm, ⟨17, _⟩ => ⟨S64x128x2x64, .f32⟩
  | .hbm, ⟨18, _⟩ => ⟨S64x128x2x64, .f32⟩
  | .hbm, ⟨19, _⟩ => ⟨S64x256x2x64, .f32⟩
  | .hbm, ⟨20, _⟩ => ⟨S64x128x2x4x64, .f32⟩
  | .hbm, ⟨21, _⟩ => ⟨S_, .f32⟩
  | .hbm, ⟨22, _⟩ => ⟨S64x128x2x4x64, .f32⟩
  | .hbm, ⟨23, _⟩ => ⟨S64x128x2x4x64, .f32⟩
  | .hbm, ⟨24, _⟩ => ⟨S64x2x256x128x4, .f32⟩
  | .hbm, ⟨25, _⟩ => ⟨S64x2x4x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S64, .i32⟩
  | .hbm, ⟨44, _⟩ => ⟨S_, .i32⟩
  | .hbm, ⟨45, _⟩ => ⟨S64, .i32⟩
  | .hbm, ⟨46, _⟩ => ⟨S64, .i1⟩
  | .hbm, ⟨47, _⟩ => ⟨S64x1x1, .i1⟩
  | .hbm, ⟨48, _⟩ => ⟨S_, .i32⟩
  | .hbm, ⟨49, _⟩ => ⟨S1x256, .i32⟩
  | .hbm, ⟨50, _⟩ => ⟨S1x256, .i1⟩
  | .hbm, ⟨51, _⟩ => ⟨S1x1x256, .i1⟩
  | .hbm, ⟨52, _⟩ => ⟨S64x1x256, .i1⟩
  | .hbm, ⟨53, _⟩ => ⟨S64x1x256, .i1⟩
  | .hbm, ⟨54, _⟩ => ⟨S64x1x256, .i1⟩
  | .hbm, ⟨55, _⟩ => ⟨S64x1x256, .i1⟩
  | .hbm, ⟨56, _⟩ => ⟨S1x128x256, .i1⟩
  | .hbm, ⟨57, _⟩ => ⟨S64x128x256, .i1⟩
  | .hbm, ⟨58, _⟩ => ⟨S64x128x256, .i1⟩
  | .hbm, ⟨59, _⟩ => ⟨S64x128x256, .i1⟩
  | .hbm, ⟨60, _⟩ => ⟨S_, .f32⟩
  | .hbm, ⟨61, _⟩ => ⟨S1, .f32⟩
  | .hbm, ⟨62, _⟩ => ⟨S_, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S_, .f32⟩
  | .hbm, ⟨67, _⟩ => ⟨S1, .f32⟩
  | .hbm, ⟨68, _⟩ => ⟨S_, .f32⟩
  | .hbm, ⟨69, _⟩ => ⟨S1, .f32⟩
  | .hbm, ⟨70, _⟩ => ⟨S_, .f32⟩
  | .hbm, ⟨71, _⟩ => ⟨S1, .f32⟩
  | .hbm, ⟨72, _⟩ => ⟨S_, .f32⟩
  | .hbm, ⟨73, _⟩ => ⟨S1, .f32⟩
  | .hbm, ⟨74, _⟩ => ⟨S_, .f32⟩
  | .hbm, ⟨75, _⟩ => ⟨S1, .f32⟩
  | .hbm, ⟨76, _⟩ => ⟨S8, .f32⟩
  | .hbm, ⟨77, _⟩ => ⟨S2x4, .f32⟩
  | .hbm, ⟨78, _⟩ => ⟨S2x4x1x1, .f32⟩
  | .hbm, ⟨79, _⟩ => ⟨S2x4x1x1, .f32⟩
  | .hbm, ⟨80, _⟩ => ⟨S128x256, .f32⟩
  | .hbm, ⟨81, _⟩ => ⟨S1x1x128x256, .f32⟩
  | .hbm, ⟨82, _⟩ => ⟨S2x4x128x256, .f32⟩
  | .hbm, ⟨83, _⟩ => ⟨S2x4x128x256, .f32⟩
  | .hbm, ⟨84, _⟩ => ⟨S2x4x128x256, .f32⟩
  | .hbm, ⟨85, _⟩ => ⟨S64x1x1x128x256, .i1⟩
  | .hbm, ⟨86, _⟩ => ⟨S1x2x4x128x256, .f32⟩
  | .hbm, ⟨87, _⟩ => ⟨S64x2x4x128x256, .f32⟩
  | .hbm, ⟨88, _⟩ => ⟨S64x2x4x128x256, .f32⟩
  | .hbm, ⟨89, _⟩ => ⟨S_, .f32⟩
  | .hbm, ⟨90, _⟩ => ⟨S_, .f32⟩
  | .hbm, ⟨91, _⟩ => ⟨S64x2x4x128x256, .i1⟩
  | .hbm, ⟨92, _⟩ => ⟨S64x2x4x128x256, .f32⟩
  | .hbm, ⟨93, _⟩ => ⟨S64x2x4x128x256, .f32⟩
  | .hbm, ⟨94, _⟩ => ⟨S2x4, .f32⟩
  | .hbm, ⟨95, _⟩ => ⟨S1x2x4x1x1, .f32⟩
  | .hbm, ⟨96, _⟩ => ⟨S64x2x4x128x1, .f32⟩
  | .hbm, ⟨97, _⟩ => ⟨S64x2x4x128x257, .f32⟩
  | .hbm, ⟨98, _⟩ => ⟨S_, .f32⟩
  | .hbm, ⟨99, _⟩ => ⟨S64x2x4x128, .f32⟩
  | .hbm, ⟨100, _⟩ => ⟨S_, .f32⟩
  | .hbm, ⟨101, _⟩ => ⟨S64x2x4x128, .f32⟩
  | .hbm, ⟨102, _⟩ => ⟨S64x2x4x128, .f32⟩
  | .hbm, ⟨103, _⟩ => ⟨S64x2x4x128x1, .f32⟩
  | .hbm, ⟨104, _⟩ => ⟨S64x2x4x128x257, .f32⟩
  | .hbm, ⟨105, _⟩ => ⟨S64x2x4x128x257, .f32⟩
  | .hbm, ⟨106, _⟩ => ⟨S64x2x4x128x257, .f32⟩
  | .hbm, ⟨107, _⟩ => ⟨S_, .f32⟩
  | .hbm, ⟨108, _⟩ => ⟨S64x2x4x128, .f32⟩
  | .hbm, ⟨109, _⟩ => ⟨S64x2x4x128x1, .f32⟩
  | .hbm, ⟨110, _⟩ => ⟨S64x2x4x128x257, .f32⟩
  | .hbm, ⟨111, _⟩ => ⟨S64x2x4x128x257, .f32⟩
  | .hbm, ⟨112, _⟩ => ⟨S64x2x4x128x256, .f32⟩
  | .hbm, ⟨113, _⟩ => ⟨S64x2x64x4x128, .f32⟩
  | .hbm, ⟨114, _⟩ => ⟨S64x128x2x4x64, .f32⟩
  | .hbm, ⟨115, _⟩ => ⟨S8192x512, .f32⟩
  | .hbm, ⟨116, _⟩ => ⟨S8192x512, .f32⟩
  | .hbm, ⟨117, _⟩ => ⟨S8192x512, .f32⟩
  | .hbm, ⟨118, _⟩ => ⟨S_, .f32⟩
  | .hbm, ⟨119, _⟩ => ⟨S8192x512, .f32⟩
  | .hbm, ⟨120, _⟩ => ⟨S8192x512, .f32⟩
  | .hbm, ⟨121, _⟩ => ⟨S_, .f32⟩
  | .hbm, ⟨122, _⟩ => ⟨S8192x512, .f32⟩
  | .hbm, ⟨123, _⟩ => ⟨S8192x512, .f32⟩
  | .hbm, ⟨124, _⟩ => ⟨S8192x512, .f32⟩
  | .hbm, ⟨125, _⟩ => ⟨S8192x512, .f32⟩
  | .hbm, ⟨126, _⟩ => ⟨S8192x512, .bf16⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_cst_13 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_15 : Ref sig .tc := ⟨.hbm, 98, rfl⟩
abbrev main_v74 : Ref sig .tc := ⟨.hbm, 99, rfl⟩
abbrev main_cst_16 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_17 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_call3_v5 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩

abbrev nD : Nat := 1
abbrev τ : Topo := Topo.v7x

variable {F : FTy → Type} [FloatOps F]
-- ==== MixFwd.lean ====
abbrev S8192x2560 : Shape := ⟨2, ![8192, 2560]⟩
abbrev S4x64x64 : Shape := ⟨3, ![4, 64, 64]⟩
abbrev S2x256 : Shape := ⟨2, ![2, 256]⟩
abbrev S31x256 : Shape := ⟨2, ![31, 256]⟩
abbrev S256x256 : Shape := ⟨2, ![256, 256]⟩
abbrev S256x64 : Shape := ⟨2, ![256, 64]⟩
abbrev S1x256x1x64 : Shape := ⟨4, ![1, 256, 1, 64]⟩
abbrev S1x256x4x64 : Shape := ⟨4, ![1, 256, 4, 64]⟩
abbrev S_ : Shape := ⟨0, ![]⟩
abbrev S2x1x256 : Shape := ⟨3, ![2, 1, 256]⟩
abbrev S256x31 : Shape := ⟨2, ![256, 31]⟩
abbrev S256x32 : Shape := ⟨2, ![256, 32]⟩
abbrev S32x256 : Shape := ⟨2, ![32, 256]⟩
abbrev S8192x512 : Shape := ⟨2, ![8192, 512]⟩
abbrev S8192x256 : Shape := ⟨2, ![8192, 256]⟩
abbrev S512x1280 : Shape := ⟨2, ![512, 1280]⟩
abbrev S32x1280 : Shape := ⟨2, ![32, 1280]⟩
abbrev S1x1x256 : Shape := ⟨3, ![1, 1, 256]⟩
abbrev S512x512 : Shape := ⟨2, ![512, 512]⟩
abbrev S512x256 : Shape := ⟨2, ![512, 256]⟩
abbrev S544x1280 : Shape := ⟨2, ![544, 1280]⟩
abbrev S544x256 : Shape := ⟨2, ![544, 256]⟩
abbrev S1x256 : Shape := ⟨2, ![1, 256]⟩
abbrev S512x1 : Shape := ⟨2, ![512, 1]⟩
abbrev S512 : Shape := ⟨1, ![512]⟩

abbrev nBuf : Space → Nat
  | .hbm => 68
  | .vmem => 17
  | .smem => 0
  | _ => 0

abbrev bufTy : (tb : Table) → Fin (tcTables nBuf tb) → BufTy
  | .hbm, ⟨0, _⟩ => ⟨S8192x2560, .f32⟩
  | .hbm, ⟨1, _⟩ => ⟨S4x64x64, .f32⟩
  | .hbm, ⟨2, _⟩ => ⟨S2x256, .f32⟩
  | .hbm, ⟨3, _⟩ => ⟨S31x256, .f32⟩
  | .hbm, ⟨4, _⟩ => ⟨S2x256, .f32⟩
  | .hbm, ⟨5, _⟩ => ⟨S2x256, .f32⟩
  | .hbm, ⟨6, _⟩ => ⟨S2x256, .f32⟩
  | .hbm, ⟨7, _⟩ => ⟨S256x256, .f32⟩
  | .hbm, ⟨8, _⟩ => ⟨S256x64, .f32⟩
  | .hbm, ⟨9, _⟩ => ⟨S1x256x1x64, .f32⟩
  | .hbm, ⟨10, _⟩ => ⟨S1x256x4x64, .f32⟩
  | .hbm, ⟨11, _⟩ => ⟨S256x256, .f32⟩
  | .hbm, ⟨12, _⟩ => ⟨S256x256, .i32⟩
  | .hbm, ⟨13, _⟩ => ⟨S_, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S256x256, .i32⟩
  | .hbm, ⟨22, _⟩ => ⟨S256x256, .i32⟩
  | .hbm, ⟨23, _⟩ => ⟨S_, .i32⟩
  | .hbm, ⟨24, _⟩ => ⟨S256x256, .i32⟩
  | .hbm, ⟨25, _⟩ => ⟨S256x256, .i1⟩
  | .hbm, ⟨26, _⟩ => ⟨S256x256, .i1⟩
  | .hbm, ⟨27, _⟩ => ⟨S_, .i32⟩
  | .hbm, ⟨28, _⟩ => ⟨S256x256, .i32⟩
  | .hbm, ⟨29, _⟩ => ⟨S256x256, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S_, .i32⟩
  | .hbm, ⟨34, _⟩ => ⟨S256x256, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i1⟩
  | .hbm, ⟨40, _⟩ => ⟨S256x256, .i32⟩
  | .hbm, ⟨41, _⟩ => ⟨S256x256, .i32⟩
  | .hbm, ⟨42, _⟩ => ⟨S_, .i32⟩
  | .hbm, ⟨43, _⟩ => ⟨S256x256, .i32⟩
  | .hbm, ⟨44, _⟩ => ⟨S256x256, .i1⟩
  | .hbm, ⟨45, _⟩ => ⟨S256x256, .i1⟩
  | .hbm, ⟨46, _⟩ => ⟨S_, .i32⟩
  | .hbm, ⟨47, _⟩ => ⟨S256x256, .i32⟩
  | .hbm, ⟨48, _⟩ => ⟨S256x256, .i32⟩
  | .hbm, ⟨49, _⟩ => ⟨S256x256, .i32⟩
  | .hbm, ⟨50, _⟩ => ⟨S256x256, .i1⟩
  | .hbm, ⟨51, _⟩ => ⟨S_, .f32⟩
  | .hbm, ⟨52, _⟩ => ⟨S256x256, .f32⟩
  | .hbm, ⟨53, _⟩ => ⟨S256x256, .f32⟩
  | .hbm, ⟨54, _⟩ => ⟨S256x256, .bf16⟩
  | .hbm, ⟨55, _⟩ => ⟨S2x1x256, .f32⟩
  | .hbm, ⟨56, _⟩ => ⟨S256x31, .f32⟩
  | .hbm, ⟨57, _⟩ => ⟨S_, .i32⟩
  | .hbm, ⟨58, _⟩ => ⟨S_, .f32⟩
  | .hbm, ⟨59, _⟩ => ⟨S256x32, .f32⟩
  | .hbm, ⟨60, _⟩ => ⟨S32x256, .f32⟩
  | .hbm, ⟨61, _⟩ => ⟨S2x1x256, .f32⟩
  | .hbm, ⟨62, _⟩ => ⟨S2x1x256, .f32⟩
  | .hbm, ⟨63, _⟩ => ⟨S2x1x256, .f32⟩
  | .hbm, ⟨64, _⟩ => ⟨S256x256, .bf16⟩
  | .hbm, ⟨65, _⟩ => ⟨S8192x512, .bf16⟩
  | .hbm, ⟨66, _⟩ => ⟨S8192x256, .f32⟩
  | .hbm, ⟨67, _⟩ => ⟨S8192x256, .bf16⟩
  | .local _ .vmem, ⟨0, _⟩ => ⟨S512x1280, .f32⟩
  | .local _ .vmem, ⟨1, _⟩ => ⟨S512x1280, .f32⟩
  | .local _ .vmem, ⟨2, _⟩ => ⟨S32x1280, .f32⟩
  | .local _ .vmem, ⟨3, _⟩ => ⟨S32x1280, .f32⟩
  | .local _ .vmem, ⟨4, _⟩ => ⟨S256x256, .bf16⟩
  | .local _ .vmem, ⟨5, _⟩ => ⟨S1x1x256, .f32⟩
  | .local _ .vmem, ⟨6, _⟩ => ⟨S32x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S256x256, .bf16⟩
  | .local _ .vmem, ⟨11, _⟩ => ⟨S512x512, .bf16⟩
  | .local _ .vmem, ⟨12, _⟩ => ⟨S512x512, .bf16⟩
  | .local _ .vmem, ⟨13, _⟩ => ⟨S512x256, .f32⟩
  | .local _ .vmem, ⟨14, _⟩ => ⟨S512x256, .f32⟩
  | .local _ .vmem, ⟨15, _⟩ => ⟨S512x256, .bf16⟩
  | .local _ .vmem, ⟨16, _⟩ => ⟨S512x256, .bf16⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v7 : Ref sig .tc := ⟨.hbm, 49, rfl⟩
abbrev main_v8 : Ref sig .tc := ⟨.hbm, 50, rfl⟩
abbrev main_cst : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_c_1 : Ref sig .tc := ⟨.hbm, 57, rfl⟩
abbrev main_call3_v0 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20_0 : Ref sig .tc := ⟨.hbm, 65, rfl⟩
abbrev main_v20_1 : Ref sig .tc := ⟨.hbm, 66, rfl⟩
abbrev main_v20_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixFwdRefIdeal.lean ====
abbrev S8192x2560 : Shape := ⟨2, ![8192, 2560]⟩
abbrev S4x64x64 : Shape := ⟨3, ![4, 64, 64]⟩
abbrev S2x256 : Shape := ⟨2, ![2, 256]⟩
abbrev S31x256 : Shape := ⟨2, ![31, 256]⟩
abbrev S256x256 : Shape := ⟨2, ![256, 256]⟩
abbrev S8192x256 : Shape := ⟨2, ![8192, 256]⟩
abbrev S8192x4x64 : Shape := ⟨3, ![8192, 4, 64]⟩
abbrev S_ : Shape := ⟨0, ![]⟩
abbrev S1 : Shape := ⟨1, ![1]⟩
abbrev S4 : Shape := ⟨1, ![4]⟩
abbrev S4x1 : Shape := ⟨2, ![4, 1]⟩
abbrev S8192x8192x4x64 : Shape := ⟨4, ![8192, 8192, 4, 64]⟩
abbrev S1x1x4x1 : Shape := ⟨4, ![1, 1, 4, 1]⟩
abbrev S8192 : Shape := ⟨1, ![8192]⟩
abbrev S8192x1x1 : Shape := ⟨3, ![8192, 1, 1]⟩
abbrev S1x4x1 : Shape := ⟨3, ![1, 4, 1]⟩
abbrev S8192x4x1 : Shape := ⟨3, ![8192, 4, 1]⟩
abbrev S4x64x8192 : Shape := ⟨3, ![4, 64, 8192]⟩
abbrev S1x256 : Shape := ⟨2, ![1, 256]⟩
abbrev S256 : Shape := ⟨1, ![256]⟩
abbrev S8192x31x8192x256 : Shape := ⟨4, ![8192, 31, 8192, 256]⟩
abbrev S8192x31x256 : Shape := ⟨3, ![8192, 31, 256]⟩
abbrev S1x31x256 : Shape := ⟨3, ![1, 31, 256]⟩
abbrev S8192x1 : Shape := ⟨2, ![8192, 1]⟩
abbrev S8192x512 : Shape := ⟨2, ![8192, 512]⟩

abbrev nBuf : Space → Nat
  | .hbm => 162
  | .vmem => 0
  | .smem => 0
  | _ => 0

abbrev hbmTy0_0 (i : Nat) : BufTy := match i % 128 with
  | 0 => ⟨S8192x2560, .f32⟩
  | 1 => ⟨S4x64x64, .f32⟩
  | 2 => ⟨S2x256, .f32⟩
  | 3 => ⟨S31x256, .f32⟩
  | 4 => ⟨S2x256, .f32⟩
  | 5 => ⟨S2x256, .f32⟩
  | 6 => ⟨S2x256, .f32⟩
  | 7 => ⟨S256x256, .f32⟩
  | 8 => ⟨S8192x256, .f32⟩
  | 9 => ⟨S8192x256, .f32⟩
  | 10 => ⟨S8192x256, .f32⟩
  | 11 => ⟨S8192x256, .f32⟩
  | 12 => ⟨S8192x256, .f32⟩
  | 13 => ⟨S8192x4x64, .f32⟩
  | 14 => ⟨S_, .i32⟩
  | 15 => ⟨S1, .i32⟩
  | 16 => ⟨S_, .i32⟩
  | 17 => ⟨S1, .i32⟩
  | 18 => ⟨S_, .i32⟩
  | 19 => ⟨S1, .i32⟩
  | 20 => ⟨S_, .i32⟩
  | 21 => ⟨S1, .i32⟩
  | 22 => ⟨S4, .i32⟩
  | 23 => ⟨S4x1, .i32⟩
  | 24 => ⟨S8192x8192x4x64, .i32⟩
  | 25 => ⟨S8192x8192x4x64, .i32⟩
  | 26 => ⟨S8192x8192x4x64, .i1⟩
  | 27 => ⟨S1x1x4x1, .i32⟩
  | 28 => ⟨S8192x8192x4x64, .i32⟩
  | 29 => ⟨S8192x8192x4x64, .i32⟩
  | 30 => ⟨S8192x8192x4x64, .i1⟩
  | 31 => ⟨S8192x8192x4x64, .i1⟩
  | 32 => ⟨S_, .f32⟩
  | 33 => ⟨S_, .f32⟩
  | 34 => ⟨S8192x8192x4x64, .f32⟩
  | 35 => ⟨S8192x8192x4x64, .f32⟩
  | 36 => ⟨S8192x8192x4x64, .f32⟩
  | 37 => ⟨S_, .f32⟩
  | 38 => ⟨S8192x4x64, .f32⟩
  | 39 => ⟨S8192, .i32⟩
  | 40 => ⟨S8192, .f32⟩
  | 41 => ⟨S8192x1x1, .f32⟩
  | 42 => ⟨S_, .f32⟩
  | 43 => ⟨S8192x1x1, .f32⟩
  | 44 => ⟨S8192x1x1, .f32⟩
  | 45 => ⟨S4x1, .f32⟩
  | 46 => ⟨S1x4x1, .f32⟩
  | 47 => ⟨S8192x4x1, .f32⟩
  | 48 => ⟨S8192x4x1, .f32⟩
  | 49 => ⟨S8192x4x1, .f32⟩
  | 50 => ⟨S8192x4x64, .f32⟩
  | 51 => ⟨S8192x4x64, .f32⟩
  | 52 => ⟨S8192x4x64, .f32⟩
  | 53 => ⟨S4x64x8192, .f32⟩
  | 54 => ⟨S8192x4x64, .f32⟩
  | 55 => ⟨S8192x256, .f32⟩
  | 56 => ⟨S1x256, .f32⟩
  | 57 => ⟨S256, .f32⟩
  | 58 => ⟨S1x256, .f32⟩
  | 59 => ⟨S8192x256, .f32⟩
  | 60 => ⟨S8192x256, .f32⟩
  | 61 => ⟨S8192x256, .f32⟩
  | 62 => ⟨S8192x256, .f32⟩
  | 63 => ⟨S_, .f32⟩
  | 64 => ⟨S8192x256, .f32⟩
  | 65 => ⟨S8192x256, .f32⟩
  | 66 => ⟨S_, .f32⟩
  | 67 => ⟨S8192x256, .f32⟩
  | 68 => ⟨S8192x256, .f32⟩
  | 69 => ⟨S8192x256, .f32⟩
  | 70 => ⟨S8192x31x8192x256, .i32⟩
  | 71 => ⟨S8192x31x8192x256, .i32⟩
  | 72 => ⟨S8192x31x8192x256, .i32⟩
  | 73 => ⟨S_, .i32⟩
  | 74 => ⟨S8192x31x8192x256, .i32⟩
  | 75 => ⟨S8192x31x8192x256, .i32⟩
  | 76 => ⟨S8192x31x8192x256, .i32⟩
  | 77 => ⟨S8192x31x8192x256, .i1⟩
  | 78 => ⟨S_, .f32⟩
  | 79 => ⟨S_, .f32⟩
  | 80 => ⟨S8192x31x8192x256, .f32⟩
  | 81 => ⟨S8192x31x8192x256, .f32⟩
  | 82 => ⟨S8192x31x8192x256, .f32⟩
  | 83 => ⟨S_, .f32⟩
  | 84 => ⟨S8192x31x256, .f32⟩
  | 85 => ⟨S1x31x256, .f32⟩
  | 86 => ⟨S8192x31x256, .f32⟩
  | 87 => ⟨S8192x31x256, .f32⟩
  | 88 => ⟨S_, .f32⟩
  | 89 => ⟨S8192x256, .f32⟩
  | 90 => ⟨S1x256, .f32⟩
  | 91 => ⟨S256, .f32⟩
  | 92 => ⟨S1x256, .f32⟩
  | 93 => ⟨S8192x256, .f32⟩
  | 94 => ⟨S8192x256, .f32⟩
  | 95 => ⟨S_, .f32⟩
  | 96 => ⟨S8192, .f32⟩
  | 97 => ⟨S8192x1, .f32⟩
  | 98 => ⟨S_, .f32⟩
  | 99 => ⟨S8192x1, .f32⟩
  | 100 => ⟨S8192x1, .f32⟩
  | 101 => ⟨S8192x256, .f32⟩
  | 102 => ⟨S8192x256, .f32⟩
  | 103 => ⟨S8192x256, .f32⟩
  | 104 => ⟨S_, .f32⟩
  | 105 => ⟨S8192, .f32⟩
  | 106 => ⟨S8192x1, .f32⟩
  | 107 => ⟨S_, .f32⟩
  | 108 => ⟨S8192x1, .f32⟩
  | 109 => ⟨S8192x1, .f32⟩
  | 110 => ⟨S8192x256, .f32⟩
  | 111 => ⟨S8192x256, .f32⟩
  | 112 => ⟨S_, .f32⟩
  | 113 => ⟨S8192x1, .f32⟩
  | 114 => ⟨S8192x1, .f32⟩
  | 115 => ⟨S8192x1, .f32⟩
  | 116 => ⟨S8192x256, .f32⟩
  | 117 => ⟨S8192x256, .f32⟩
  | 118 => ⟨S1x256, .f32⟩
  | 119 => ⟨S256, .f32⟩
  | 120 => ⟨S1x256, .f32⟩
  | 121 => ⟨S8192x256, .f32⟩
  | 122 => ⟨S8192x256, .f32⟩
  | 123 => ⟨S1x256, .f32⟩
  | 124 => ⟨S256, .f32⟩
  | 125 => ⟨S1x256, .f32⟩
  | 126 => ⟨S8192x256, .f32⟩
  | 127 => ⟨S8192x256, .f32⟩
  | _ => ⟨S8192x2560, .f32⟩

abbrev hbmTy0_1 (i : Nat) : BufTy := match i % 128 with
  | 0 => ⟨S8192x256, .f32⟩
  | 1 => ⟨S8192x256, .f32⟩
  | 2 => ⟨S_, .f32⟩
  | 3 => ⟨S8192x256, .f32⟩
  | 4 => ⟨S8192x256, .f32⟩
  | 5 => ⟨S_, .f32⟩
  | 6 => ⟨S8192x256, .f32⟩
  | 7 => ⟨S8192x256, .f32⟩
  | 8 => ⟨S8192x256, .f32⟩
  | 9 => ⟨S8192x256, .f32⟩
  | 10 => ⟨S8192x256, .f32⟩
  | 11 => ⟨S8192x256, .f32⟩
  | 12 => ⟨S_, .f32⟩
  | 13 => ⟨S8192x256, .f32⟩
  | 14 => ⟨S8192x256, .f32⟩
  | 15 => ⟨S_, .f32⟩
  | 16 => ⟨S8192x256, .f32⟩
  | 17 => ⟨S8192x256, .f32⟩
  | 18 => ⟨S8192x256, .f32⟩
  | 19 => ⟨S8192x256, .f32⟩
  | 20 => ⟨S8192x256, .f32⟩
  | 21 => ⟨S8192x256, .f32⟩
  | 22 => ⟨S_, .f32⟩
  | 23 => ⟨S8192x256, .f32⟩
  | 24 => ⟨S8192x256, .f32⟩
  | 25 => ⟨S_, .f32⟩
  | 26 => ⟨S8192x256, .f32⟩
  | 27 => ⟨S8192x256, .f32⟩
  | 28 => ⟨S8192x256, .f32⟩
  | 29 => ⟨S8192x256, .f32⟩
  | 30 => ⟨S8192x512, .f32⟩
  | 31 => ⟨S8192x512, .bf16⟩
  | 32 => ⟨S8192x256, .f32⟩
  | 33 => ⟨S8192x256, .bf16⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_13 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_call2_v0 : Ref sig .tc := ⟨.hbm, 128, rfl⟩
abbrev main_call2_v1 : Ref sig .tc := ⟨.hbm, 129, rfl⟩
abbrev main_call2_cst : Ref sig .tc := ⟨.hbm, 130, rfl⟩
abbrev main_call2_v2 : Ref sig .tc := ⟨.hbm, 131, rfl⟩
abbrev main_call2_v3 : Ref sig .tc := ⟨.hbm, 132, rfl⟩
abbrev main_call2_cst_0 : Ref sig .tc := ⟨.hbm, 133, rfl⟩
abbrev main_call2_v4 : Ref sig .tc := ⟨.hbm, 134, rfl⟩
abbrev main_call2_v5 : Ref sig .tc := ⟨.hbm, 135, rfl⟩
abbrev main_v96 : Ref sig .tc := ⟨.hbm, 136, rfl⟩
abbrev main_v97 : Ref sig .tc := ⟨.hbm, 137, rfl⟩
abbrev main_call3_v0 : Ref sig .tc := ⟨.hbm, 138, rfl⟩
abbrev main_call3_v1 : Ref sig .tc := ⟨.hbm, 139, rfl⟩
abbrev main_call3_cst : Ref sig .tc := ⟨.hbm, 140, rfl⟩
abbrev main_call3_v2 : Ref sig .tc := ⟨.hbm, 141, rfl⟩
abbrev main_call3_v3 : Ref sig .tc := ⟨.hbm, 142, rfl⟩
abbrev main_call3_cst_0 : Ref sig .tc := ⟨.hbm, 143, rfl⟩
abbrev main_call3_v4 : Ref sig .tc := ⟨.hbm, 144, rfl⟩
abbrev main_call3_v5 : Ref sig .tc := ⟨.hbm, 145, rfl⟩
abbrev main_v98 : Ref sig .tc := ⟨.hbm, 146, rfl⟩
abbrev main_v99 : Ref sig .tc := ⟨.hbm, 147, rfl⟩
abbrev main_call4_v0 : Ref sig .tc := ⟨.hbm, 148, rfl⟩
abbrev main_call4_v1 : Ref sig .tc := ⟨.hbm, 149, rfl⟩
abbrev main_call4_cst : Ref sig .tc := ⟨.hbm, 150, rfl⟩
abbrev main_call4_v2 : Ref sig .tc := ⟨.hbm, 151, rfl⟩
abbrev main_call4_v3 : Ref sig .tc := ⟨.hbm, 152, rfl⟩
abbrev main_call4_cst_0 : Ref sig .tc := ⟨.hbm, 153, rfl⟩
abbrev main_call4_v4 : Ref sig .tc := ⟨.hbm, 154, rfl⟩
abbrev main_call4_v5 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩

abbrev nD : Nat := 1
abbrev τ : Topo := Topo.v7x

variable {F : FTy → Type} [FloatOps F]
-- ==== InProj.lean ====
abbrev S8192x1024 : Shape := ⟨2, ![8192, 1024]⟩
abbrev S2x1024 : Shape := ⟨2, ![2, 1024]⟩
abbrev S1024x2560 : Shape := ⟨2, ![1024, 2560]⟩
abbrev S2x1x1024 : Shape := ⟨3, ![2, 1, 1024]⟩
abbrev S2560x1024 : Shape := ⟨2, ![2560, 1024]⟩
abbrev S8192x2560 : Shape := ⟨2, ![8192, 2560]⟩
abbrev S512x1024 : Shape := ⟨2, ![512, 1024]⟩
abbrev S1x1x1024 : Shape := ⟨3, ![1, 1, 1024]⟩
abbrev S512x2560 : Shape := ⟨2, ![512, 2560]⟩
abbrev S512 : Shape := ⟨1, ![512]⟩
abbrev S512x1 : Shape := ⟨2, ![512, 1]⟩
abbrev S1x1024 : Shape := ⟨2, ![1, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1024x2560, .f32⟩
  | .hbm, ⟨3, _⟩ => ⟨S2x1x1024, .f32⟩
  | .hbm, ⟨4, _⟩ => ⟨S2560x1024, .f32⟩
  | .hbm, ⟨5, _⟩ => ⟨S2560x1024, .bf16⟩
  | .hbm, ⟨6, _⟩ => ⟨S8192x2560, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S2560x1024, .bf16⟩
  | .local _ .vmem, ⟨4, _⟩ => ⟨S512x2560, .f32⟩
  | .local _ .vmem, ⟨5, _⟩ => ⟨S512x2560, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjRefIdeal.lean ====
abbrev S8192x1024 : Shape := ⟨2, ![8192, 1024]⟩
abbrev S2x1024 : Shape := ⟨2, ![2, 1024]⟩
abbrev S1024x2560 : Shape := ⟨2, ![1024, 2560]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1024x2560, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2560, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OutInProj.lean ====
abbrev S8192x1024 : Shape := ⟨2, ![8192, 1024]⟩
abbrev S8192x512 : Shape := ⟨2, ![8192, 512]⟩
abbrev S1024x1024 : Shape := ⟨2, ![1024, 1024]⟩
abbrev S2x1024 : Shape := ⟨2, ![2, 1024]⟩
abbrev S1024x2560 : Shape := ⟨2, ![1024, 2560]⟩
abbrev S2x1x1024 : Shape := ⟨3, ![2, 1, 1024]⟩
abbrev S2560x1024 : Shape := ⟨2, ![2560, 1024]⟩
abbrev S8192x2560 : Shape := ⟨2, ![8192, 2560]⟩
abbrev S512x1024 : Shape := ⟨2, ![512, 1024]⟩
abbrev S512x512 : Shape := ⟨2, ![512, 512]⟩
abbrev S1x1x1024 : Shape := ⟨3, ![1, 1, 1024]⟩
abbrev S512x2560 : Shape := ⟨2, ![512, 2560]⟩
abbrev S512 : Shape := ⟨1, ![512]⟩
abbrev S512x1 : Shape := ⟨2, ![512, 1]⟩
abbrev S1x1024 : Shape := ⟨2, ![1, 1024]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .f32⟩
  | .hbm, ⟨4, _⟩ => ⟨S2x1024, .f32⟩
  | .hbm, ⟨5, _⟩ => ⟨S1024x2560, .f32⟩
  | .hbm, ⟨6, _⟩ => ⟨S1024x1024, .bf16⟩
  | .hbm, ⟨7, _⟩ => ⟨S2x1x1024, .f32⟩
  | .hbm, ⟨8, _⟩ => ⟨S2560x1024, .f32⟩
  | .hbm, ⟨9, _⟩ => ⟨S2560x1024, .bf16⟩
  | .hbm, ⟨10, _⟩ => ⟨S8192x1024, .f32⟩
  | .hbm, ⟨11, _⟩ => ⟨S8192x2560, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1x1024, .f32⟩
  | .local _ .vmem, ⟨8, _⟩ => ⟨S2560x1024, .bf16⟩
  | .local _ .vmem, ⟨9, _⟩ => ⟨S512x1024, .f32⟩
  | .local _ .vmem, ⟨10, _⟩ => ⟨S512x1024, .f32⟩
  | .local _ .vmem, ⟨11, _⟩ => ⟨S512x2560, .f32⟩
  | .local _ .vmem, ⟨12, _⟩ => ⟨S512x2560, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutInProjRefIdeal.lean ====
abbrev S8192x1024 : Shape := ⟨2, ![8192, 1024]⟩
abbrev S8192x512 : Shape := ⟨2, ![8192, 512]⟩
abbrev S1024x1024 : Shape := ⟨2, ![1024, 1024]⟩
abbrev S2x1024 : Shape := ⟨2, ![2, 1024]⟩
abbrev S1024x2560 : Shape := ⟨2, ![1024, 2560]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .f32⟩
  | .hbm, ⟨4, _⟩ => ⟨S2x1024, .f32⟩
  | .hbm, ⟨5, _⟩ => ⟨S1024x2560, .f32⟩
  | .hbm, ⟨6, _⟩ => ⟨S8192x512, .f32⟩
  | .hbm, ⟨7, _⟩ => ⟨S8192x512, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x2560, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== OutBwd.lean ====
abbrev S8192x1024 : Shape := ⟨2, ![8192, 1024]⟩
abbrev S8192x512 : Shape := ⟨2, ![8192, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .f32⟩
  | .hbm, ⟨4, _⟩ => ⟨S1024x1024, .bf16⟩
  | .hbm, ⟨5, _⟩ => ⟨S8192x1024, .f32⟩
  | .hbm, ⟨6, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | .local _ .vmem, ⟨10, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v18 : BitVec 1 := Scalar.cmpi .eq arg0 c15_i32
  let v19 : BitVec 32 := Scalar.extui v18
  let c0_i32_15 : BitVec 32 := 0#32
  let v20 : BitVec 1 := Scalar.cmpi .ne v19 c0_i32_15
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== OutBwdRefIdeal.lean ====
abbrev S8192x1024 : Shape := ⟨2, ![8192, 1024]⟩
abbrev S8192x512 : Shape := ⟨2, ![8192, 512]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S8192x1024, .f32⟩
  | .hbm, ⟨11, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== AdamW.lean ====
abbrev S8x128x1024 : Shape := ⟨3, ![8, 128, 1024]⟩
abbrev S2x128x1024 : Shape := ⟨3, ![2, 128, 1024]⟩
abbrev S8x64x1024 : Shape := ⟨3, ![8, 64, 1024]⟩
abbrev S2x64x1024 : Shape := ⟨3, ![2, 64, 1024]⟩
abbrev S1x64x1024 : Shape := ⟨3, ![1, 64, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S8x64x1024, .bf16⟩
  | .local _ .vmem, ⟨3, _⟩ => ⟨S8x64x1024, .bf16⟩
  | .local _ .vmem, ⟨4, _⟩ => ⟨S2x64x1024, .f32⟩
  | .local _ .vmem, ⟨5, _⟩ => ⟨S2x64x1024, .f32⟩
  | .local _ .vmem, ⟨6, _⟩ => ⟨S2x64x1024, .f32⟩
  | .local _ .vmem, ⟨7, _⟩ => ⟨S2x64x1024, .f32⟩
  | .local _ .vmem, ⟨8, _⟩ => ⟨S2x64x1024, .f32⟩
  | .local _ .vmem, ⟨9, _⟩ => ⟨S2x64x1024, .f32⟩
  | .local _ .vmem, ⟨10, _⟩ => ⟨S2x64x1024, .f32⟩
  | .local _ .vmem, ⟨11, _⟩ => ⟨S2x64x1024, .f32⟩
  | .local _ .vmem, ⟨12, _⟩ => ⟨S2x64x1024, .f32⟩
  | .local _ .vmem, ⟨13, _⟩ => ⟨S2x64x1024, .f32⟩
  | .local _ .vmem, ⟨14, _⟩ => ⟨S2x64x1024, .f32⟩
  | .local _ .vmem, ⟨15, _⟩ => ⟨S2x64x1024, .f32⟩
  | .local _ .vmem, ⟨16, _⟩ => ⟨S2x64x1024, .f32⟩
  | .local _ .vmem, ⟨17, _⟩ => ⟨S2x64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamWRefIdeal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.RealLift.lean ====
/-
  Extended reals that are real numbers: the arithmetic the value claims are proved in.

  Over the extended reals neither subtraction nor distribution behaves as over the reals. The claims that need them
  assume finite arguments, read every intermediate value as the cast of a real number, and finish in `ℝ`.
-/
module

public import Idealize.ShloMosaic.Lib.Pointwise
public import Idealize.ShloMosaic.PureOps.Ideal.Laws

@[expose] public section

noncomputable section

namespace Cert.RealLift

open Idealize.ShloMosaic

/-- A finite sum of casts is the cast of the sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Division of two casts by a nonzero real. -/
theorem div_coe_coe {y : ℝ} (h : y ≠ 0) (x : ℝ) : Ideal.div (x : EReal) (y : EReal) = ((x / y : ℝ) : EReal) := by
  rw [Ideal.div_coe h, ← EReal.coe_mul]; congr 1; ring

/-- The reciprocal square root of a positive real. -/
theorem rsqrt_coe_pos {x : ℝ} (h : 0 < x) : Ideal.rsqrt (x : EReal) = (((Real.sqrt x)⁻¹ : ℝ) : EReal) := by
  rw [Ideal.rsqrt_coe, if_neg (not_lt.2 h.le), if_neg h.ne']

/-- A value below infinity in absolute value is the cast of a real. -/
theorem coe_toReal_of_abs_lt {φ : FTy} (x : Ideal φ) (b : BitVec φ.bits) (hb : Ideal.ofBits φ b = ⊤)
    (h : FloatOps.cmpf .olt (FloatOps.absf x) (FloatOps.ofBits φ b) = 1#1) : x = ((EReal.toReal x : ℝ) : EReal) := by
  rw [Ideal.cmpf_def, Ideal.absf_def, Ideal.ofBits_def, hb] at h
  have h' : max x (-x) < ⊤ := by
    by_contra hn
    simp [Ideal.cmp, hn] at h
  refine (EReal.coe_toReal ?_ ?_).symm
  · rintro rfl; simp at h'
  · rintro rfl; simp at h'

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

end Cert.RealLift

end
-- ==== Proof.LossModel.lean ====
/-
  The loss head of one token over the reals: residual row, RMS normalisation, squared error, gradient.
-/
module

public import proofs.«01_k».proof.Proof.RealLift

@[expose] public section

noncomputable section

namespace Cert.LossModel

open Idealize.ShloMosaic Cert.RealLift

/-- The real number the normalisation adds to the mean square: the single-precision number nearest `1e-6`. -/
def eps : ℝ := 8796093 / 2 ^ 43

theorem eps_pos : 0 < eps := by unfold eps; positivity

theorem ofBits_eps : Ideal.ofBits .f32 0x358637BD#32 = ((eps : ℝ) : EReal) := by
  simp [Ideal.ofBits, Ideal.ieee, eps, -EReal.coe_mul]; norm_num

theorem ofBits_1024 : Ideal.ofBits .f32 0x44800000#32 = ((1024 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The residual row: the layer's input plus the product of the two halves of the mixed row with the projection. -/
def resid (x : Fin 1024 → ℝ) (yp ya : Fin 512 → ℝ) (w : Fin 1024 → Fin 1024 → ℝ) (d : Fin 1024) : ℝ :=
  x d + (∑ e : Fin 512, yp e * w ⟨e.val, by omega⟩ d + ∑ e : Fin 512, ya e * w ⟨512 + e.val, by omega⟩ d)

/-- The mean square of a row plus `eps`. -/
def ms (z : Fin 1024 → ℝ) : ℝ := (∑ k, z k * z k) / 1024 + eps

theorem ms_pos (z : Fin 1024 → ℝ) : 0 < ms z :=
  add_pos_of_nonneg_of_pos (div_nonneg (Finset.sum_nonneg fun k _ => mul_self_nonneg _) (by norm_num)) eps_pos

/-- The reciprocal root mean square of a row. -/
def inv (z : Fin 1024 → ℝ) : ℝ := (Real.sqrt (ms z))⁻¹

theorem rsqrt_ms (z : Fin 1024 → ℝ) : Ideal.rsqrt ((ms z : ℝ) : EReal) = ((inv z : ℝ) : EReal) := rsqrt_coe_pos (ms_pos z)

/-- The inverse square of the root mean square. -/
theorem inv_sq (z : Fin 1024 → ℝ) : inv z * inv z * ms z = 1 := by
  unfold inv
  rw [← mul_inv, Real.mul_self_sqrt (ms_pos z).le]
  exact inv_mul_cancel₀ (ms_pos z).ne'

/-- The error of the normalised, scaled row against the target. -/
def err (z g t : Fin 1024 → ℝ) (d : Fin 1024) : ℝ := z d * inv z * g d - t d

/-- The error over the row length, times the scale: the cotangent of the normalised row. -/
def cot (z g t : Fin 1024 → ℝ) (d : Fin 1024) : ℝ := err z g t d * (1 / 1024) * g d

/-- The gradient by the normalisation's input, as a tile computes it. -/
def grad (z g t : Fin 1024 → ℝ) (d : Fin 1024) : ℝ :=
  inv z * (cot z g t d - z d * inv z * ((∑ k, cot z g t k * (z k * inv z)) / 1024))

/-- The same gradient as the chain rule through the reciprocal square root spells it. -/
theorem grad_chain (z g t : Fin 1024 → ℝ) (d : Fin 1024) :
    cot z g t d * inv z
      + z d * ((∑ k, z k * cot z g t k) * (-(1 / 2) * (inv z / ms z)) / 1024)
      + ((∑ k, z k * cot z g t k) * (-(1 / 2) * (inv z / ms z)) / 1024) * z d = grad z g t d := by
  have h : inv z / ms z = inv z * inv z * inv z := by
    rw [div_eq_iff (ms_pos z).ne']
    linear_combination (-inv z) * inv_sq z
  rw [h]
  unfold grad
  have hs : (∑ k, cot z g t k * (z k * inv z)) = (∑ k, z k * cot z g t k) * inv z := by
    rw [Finset.sum_mul]; exact Finset.sum_congr rfl fun k _ => by ring
  rw [hs]; ring

end Cert.LossModel

end
-- ==== Proof.LossKernel.lean ====
/-
  The loss head's kernel: what one grid point computes, read at an index, on finite arguments.
-/
module

public import proofs.«01_k».proof.Proof.LossModel
public import proofs.«01_k».proof.Proof.Gen.LossHeadIdeal.Skeleton

@[expose] public section

set_option maxRecDepth 16384

noncomputable section

namespace Cert.LossHeadIdeal.Value

open Cert.LossHeadIdeal Cert.LossHeadIdeal.Gen Idealize.ShloMosaic Idealize.ShloMosaic.TcCoe Idealize.SL.Sem
open Cert.RealLift Cert.LossModel

variable (P A : S512x512.Idx → ℝ) (X T : S512x1024.Idx → ℝ) (W : S1024x1024.Idx → ℝ) (G : S1x1024.Idx → ℝ)

/-- The residual row `p` of a block. -/
def rowZ (p : Fin 512) : Fin 1024 → ℝ :=
  resid (fun d => X (ix2 p d)) (fun e => P (ix2 p e)) (fun e => A (ix2 p e)) (fun e d => W (ix2 e d))

theorem pay5_at (p : Fin 512) (d : Fin 1024) :
    k0_pay5 (F := Ideal) (fun i => (P i : EReal)) (fun i => (A i : EReal)) (fun i => (X i : EReal)) (fun i => (W i : EReal)) (ix2 p d)
      = ((rowZ P A X W p d : ℝ) : EReal) := by
  pointwise [k0_pay5]
  simp only [← EReal.coe_mul, coe_sum, ← EReal.coe_add]
  rfl

theorem pay7_at (p : Fin 512) (l : Fin 1) :
    k0_pay7 (F := Ideal) (fun i => (P i : EReal)) (fun i => (A i : EReal)) (fun i => (X i : EReal)) (fun i => (W i : EReal)) (ix2 p l)
      = ((inv (rowZ P A X W p) : ℝ) : EReal) := by
  pointwise [k0_pay7]
  simp only [pay5_at, ofBits_1024, ofBits_eps, ← EReal.coe_mul, coe_sum]
  rw [div_coe_coe (by norm_num), ← EReal.coe_add]
  exact rsqrt_ms _

/-- The normalised row. -/
theorem pay8_at (p : Fin 512) (d : Fin 1024) :
    k0_pay8 (F := Ideal) (fun i => (P i : EReal)) (fun i => (A i : EReal)) (fun i => (X i : EReal)) (fun i => (W i : EReal)) (ix2 p d)
      = ((rowZ P A X W p d * inv (rowZ P A X W p) : ℝ) : EReal) := by
  pointwise [k0_pay8]
  rw [pay5_at, pay7_at, EReal.coe_mul]

/-- The error row. -/
theorem pay9_at (p : Fin 512) (d : Fin 1024) :
    k0_pay9 (F := Ideal) (fun i => (P i : EReal)) (fun i => (A i : EReal)) (fun i => (X i : EReal)) (fun i => (W i : EReal))
        (fun i => (G i : EReal)) (fun i => (T i : EReal)) (ix2 p d)
      = ((err (rowZ P A X W p) (fun d => G (ix2 0 d)) (fun d => T (ix2 p d)) d : ℝ) : EReal) := by
  pointwise [k0_pay9, k0_pay6]
  rw [pay8_at, ← EReal.coe_mul, ← EReal.coe_sub]
  rfl

theorem pay10_at (p : Fin 512) (d : Fin 1024) :
    k0_pay10 (F := Ideal) (fun i => (P i : EReal)) (fun i => (A i : EReal)) (fun i => (X i : EReal)) (fun i => (W i : EReal))
        (fun i => (G i : EReal)) (fun i => (T i : EReal)) (ix2 p d)
      = ((err (rowZ P A X W p) (fun d => G (ix2 0 d)) (fun d => T (ix2 p d)) d * (1 / 1024) : ℝ) : EReal) := by
  pointwise [k0_pay10]
  rw [pay9_at, ofBits_inv1024, ← EReal.coe_mul]

/-- The gradient rows a point stores. -/
theorem pay11_at (p : Fin 512) (d : Fin 1024) :
    k0_pay11 (F := Ideal) (fun i => (P i : EReal)) (fun i => (A i : EReal)) (fun i => (X i : EReal)) (fun i => (W i : EReal))
        (fun i => (G i : EReal)) (fun i => (T i : EReal)) (ix2 p d)
      = ((grad (rowZ P A X W p) (fun d => G (ix2 0 d)) (fun d => T (ix2 p d)) d : ℝ) : EReal) := by
  pointwise [k0_pay11, k0_pay6]
  simp only [pay10_at, pay8_at, pay7_at, ofBits_1024, ← EReal.coe_mul, coe_sum]
  rw [div_coe_coe (by norm_num)]
  simp only [← EReal.coe_mul, ← EReal.coe_sub]
  rfl

/-- The squared error a point adds to every lane of the loss row. -/
theorem pay3_at (acc : FVec Ideal S1x128 .f32) (p : Fin 1) (l : Fin 128) :
    k0_pay3 (F := Ideal) (k0_pay9 (F := Ideal) (fun i => (P i : EReal)) (fun i => (A i : EReal)) (fun i => (X i : EReal)) (fun i => (W i : EReal))
        (fun i => (G i : EReal)) (fun i => (T i : EReal))) acc (ix2 p l)
      = acc (ix2 p l) + ∑ q : Fin 512, ∑ d : Fin 1024,
          ((err (rowZ P A X W q) (fun d => G (ix2 0 d)) (fun d => T (ix2 q d)) d
            * err (rowZ P A X W q) (fun d => G (ix2 0 d)) (fun d => T (ix2 q d)) d : ℝ) : EReal) := by
  pointwise [k0_pay3]
  simp only [pay9_at, ← EReal.coe_mul]

/-- What a point adds to the gradient of the scale. -/
theorem pay4_at (acc : FVec Ideal S1x1024 .f32) (p : Fin 1) (d : Fin 1024) :
    k0_pay4 (F := Ideal) (k0_pay8 (F := Ideal) (fun i => (P i : EReal)) (fun i => (A i : EReal)) (fun i => (X i : EReal)) (fun i => (W i : EReal)))
        (k0_pay10 (F := Ideal) (fun i => (P i : EReal)) (fun i => (A i : EReal)) (fun i => (X i : EReal)) (fun i => (W i : EReal))
        (fun i => (G i : EReal)) (fun i => (T i : EReal))) acc (ix2 p d)
      = acc (ix2 p d) + ∑ q : Fin 512,
          ((err (rowZ P A X W q) (fun d => G (ix2 0 d)) (fun d => T (ix2 q d)) d * (1 / 1024)
            * (rowZ P A X W q d * inv (rowZ P A X W q)) : ℝ) : EReal) := by
  pointwise [k0_pay4]
  simp only [pay10_at, pay8_at, ← EReal.coe_mul]

theorem zero_lane (j) : k0_pay1 (F := Ideal) j = 0 := by pointwise [k0_pay1]

theorem zero_row (j) : k0_pay2 (F := Ideal) j = 0 := by pointwise [k0_pay2]

end Cert.LossHeadIdeal.Value

end
-- ==== Proof.LossRef.lean ====
/-
  The loss head's reference, one operation at a time, on finite arguments.
-/
module

public import proofs.«01_k».proof.Proof.LossModel
public import proofs.«01_k».proof.Proof.Gen.LossHeadRefIdeal.Read

@[expose] public section

set_option maxRecDepth 16384

noncomputable section

namespace Cert.LossHeadRefIdeal.Value

open Cert.LossHeadRefIdeal Cert.LossHeadRefIdeal.Gen Cert.LossHeadRefIdeal.Read Idealize.ShloMosaic Idealize.ShloMosaic.TcCoe Idealize.SL.Sem
open Cert.RealLift Cert.LossModel

variable (X T : S8192x1024.Idx → ℝ) (P A : S8192x512.Idx → ℝ) (W : S1024x1024.Idx → ℝ) (G : S1024.Idx → ℝ)

/-- The residual row of token `s`. -/
def rowZ (s : Fin 8192) : Fin 1024 → ℝ :=
  resid (fun d => X (ix2 s d)) (fun e => P (ix2 s e)) (fun e => A (ix2 s e)) (fun e d => W (ix2 e d))

/-- The error row of token `s`. -/
def rowE (s : Fin 8192) : Fin 1024 → ℝ := err (rowZ X P A W s) (fun d => G (ix1 d)) (fun d => T (ix2 s d))

theorem v4_at (s : Fin 8192) (d : Fin 1024) :
    val_main_v4 (F := Ideal) (fun i => (X i : EReal)) (fun i => (P i : EReal)) (fun i => (A i : EReal)) (fun i => (W i : EReal)) (ix2 s d) = ((rowZ X P A W s d : ℝ) : EReal) := by
  pointwise [val_main_v4, val_main_v3, val_main_v2, val_main_v1, val_main_v0]
  simp only [← EReal.coe_mul, coe_sum, ← EReal.coe_add]
  rfl

theorem v11_at (s : Fin 8192) (l : Fin 1) :
    val_main_v11 (F := Ideal) (fun i => (X i : EReal)) (fun i => (P i : EReal)) (fun i => (A i : EReal)) (fun i => (W i : EReal)) (ix2 s l) = ((ms (rowZ X P A W s) : ℝ) : EReal) := by
  pointwise [val_main_v11, val_main_v10, val_main_v9, val_main_v8, val_main_v7, val_main_v6, val_main_v5, val_main_cst, val_main_cst_0, val_main_cst_1]
  simp only [v4_at, ofBits_1024, ofBits_eps, ← EReal.coe_mul, coe_sum, zero_add]
  rw [div_coe_coe (by norm_num), ← EReal.coe_add]
  rfl

theorem v12_at (s : Fin 8192) (l : Fin 1) :
    val_main_v12 (F := Ideal) (fun i => (X i : EReal)) (fun i => (P i : EReal)) (fun i => (A i : EReal)) (fun i => (W i : EReal)) (ix2 s l) = ((inv (rowZ X P A W s) : ℝ) : EReal) := by
  pointwise [val_main_v12]
  rw [v11_at]
  exact rsqrt_ms _

theorem v15_at (s : Fin 8192) (l : Fin 1) :
    val_main_v15 (F := Ideal) (fun i => (X i : EReal)) (fun i => (P i : EReal)) (fun i => (A i : EReal)) (fun i => (W i : EReal)) (ix2 s l)
      = ((-(1 / 2) * (inv (rowZ X P A W s) / ms (rowZ X P A W s)) : ℝ) : EReal) := by
  pointwise [val_main_v15, val_main_v14, val_main_v13, val_main_cst_2]
  rw [v12_at, v11_at, ofBits_neg_half, div_coe_coe (ms_pos _).ne', ← EReal.coe_mul]

theorem v17_at (s : Fin 8192) (d : Fin 1024) :
    val_main_v17 (F := Ideal) (fun i => (X i : EReal)) (fun i => (P i : EReal)) (fun i => (A i : EReal)) (fun i => (W i : EReal)) (ix2 s d) = ((rowZ X P A W s d * inv (rowZ X P A W s) : ℝ) : EReal) := by
  pointwise [val_main_v17, val_main_v16]
  rw [v4_at, v12_at, EReal.coe_mul]

theorem v21_at (s : Fin 8192) (d : Fin 1024) :
    val_main_v21 (F := Ideal) (fun i => (X i : EReal)) (fun i => (P i : EReal)) (fun i => (A i : EReal)) (fun i => (W i : EReal)) (fun i => (T i : EReal)) (fun i => (G i : EReal)) (ix2 s d) = ((rowE X T P A W G s d : ℝ) : EReal) := by
  pointwise [val_main_v21, val_main_v20, val_main_v19, val_main_v18]
  rw [v17_at, ← EReal.coe_mul, ← EReal.coe_sub]
  rfl

theorem v35_at (s : Fin 8192) (d : Fin 1024) :
    val_main_v35 (F := Ideal) (fun i => (X i : EReal)) (fun i => (P i : EReal)) (fun i => (A i : EReal)) (fun i => (W i : EReal)) (fun i => (T i : EReal)) (fun i => (G i : EReal)) (ix2 s d) = ((rowE X T P A W G s d * (1 / 1024) : ℝ) : EReal) := by
  pointwise [val_main_v35, val_main_v34, val_main_v33, val_main_v32, val_main_v31, val_main_v30, val_main_v24, val_main_v23,
    val_main_cst_3, val_main_cst_8, val_main_cst_9, val_main_cst_10]
  simp only [v21_at, ofBits_half, ofBits_two, ofBits_1024, mul_one]
  rw [div_coe_coe (by norm_num), ← EReal.coe_mul, ← EReal.coe_mul]
  congr 1; ring

theorem v40_at (s : Fin 8192) (d : Fin 1024) :
    val_main_v40 (F := Ideal) (fun i => (X i : EReal)) (fun i => (P i : EReal)) (fun i => (A i : EReal)) (fun i => (W i : EReal)) (fun i => (T i : EReal)) (fun i => (G i : EReal)) (ix2 s d)
      = ((cot (rowZ X P A W s) (fun d => G (ix1 d)) (fun d => T (ix2 s d)) d : ℝ) : EReal) := by
  pointwise [val_main_v40, val_main_v39, val_main_v18]
  rw [v35_at, ← EReal.coe_mul]
  rfl

theorem v50_at (s : Fin 8192) :
    val_main_v50 (F := Ideal) (fun i => (X i : EReal)) (fun i => (P i : EReal)) (fun i => (A i : EReal)) (fun i => (W i : EReal)) (fun i => (T i : EReal)) (fun i => (G i : EReal)) (ix1 s)
      = (((∑ k, rowZ X P A W s k * cot (rowZ X P A W s) (fun d => G (ix1 d)) (fun d => T (ix2 s d)) k)
          * (-(1 / 2) * (inv (rowZ X P A W s) / ms (rowZ X P A W s))) / 1024 : ℝ) : EReal) := by
  pointwise [val_main_v50, val_main_v49, val_main_v48, val_main_v47, val_main_v44, val_main_v43, val_main_v42,
    val_main_cst_13, val_main_cst_14, val_main_cst_15]
  simp only [v40_at, v15_at, v4_at, ofBits_1024, ← EReal.coe_mul, coe_sum, zero_add]
  rw [div_coe_coe (by norm_num)]
  simp

/-- The gradient by the residual row. -/
theorem v55_at (s : Fin 8192) (d : Fin 1024) :
    val_main_v55 (F := Ideal) (fun i => (X i : EReal)) (fun i => (P i : EReal)) (fun i => (A i : EReal)) (fun i => (W i : EReal)) (fun i => (T i : EReal)) (fun i => (G i : EReal)) (ix2 s d)
      = ((grad (rowZ X P A W s) (fun d => G (ix1 d)) (fun d => T (ix2 s d)) d : ℝ) : EReal) := by
  pointwise [val_main_v55, val_main_v54, val_main_v53, val_main_v52, val_main_v51, val_main_v46, val_main_v45]
  simp only [v50_at, v40_at, v12_at, v4_at, ← EReal.coe_mul, ← EReal.coe_add]
  rw [grad_chain]

/-- The gradient by the scale. -/
theorem v75_at (l : Fin 1) (d : Fin 1024) :
    val_main_v75 (F := Ideal) (fun i => (X i : EReal)) (fun i => (P i : EReal)) (fun i => (A i : EReal)) (fun i => (W i : EReal)) (fun i => (T i : EReal)) (fun i => (G i : EReal)) (ix2 l d)
      = ∑ s : Fin 8192, ((rowE X T P A W G s d * (1 / 1024) * (rowZ X P A W s d * inv (rowZ X P A W s)) : ℝ) : EReal) := by
  pointwise [val_main_v75, val_main_v41, val_main_v38, val_main_v37, val_main_v36, val_main_cst_11, val_main_cst_12]
  simp only [v35_at, v17_at, ← EReal.coe_mul, zero_add]
  simp [mul_comm]

theorem v4_v57 : val_main_v57 (F := Ideal) (fun i => (X i : EReal)) (fun i => (P i : EReal)) (fun i => (A i : EReal)) (fun i => (W i : EReal)) = val_main_v4 (F := Ideal) (fun i => (X i : EReal)) (fun i => (P i : EReal)) (fun i => (A i : EReal)) (fun i => (W i : EReal)) := rfl

theorem v21_v71 : val_main_v71 (F := Ideal) (fun i => (X i : EReal)) (fun i => (P i : EReal)) (fun i => (A i : EReal)) (fun i => (W i : EReal)) (fun i => (T i : EReal)) (fun i => (G i : EReal)) = val_main_v21 (F := Ideal) (fun i => (X i : EReal)) (fun i => (P i : EReal)) (fun i => (A i : EReal)) (fun i => (W i : EReal)) (fun i => (T i : EReal)) (fun i => (G i : EReal)) := rfl

/-- The squared error summed over all tokens and features, on every lane. -/
theorem v74_at (l : Fin 1) (d : Fin 128) :
    val_main_v74 (F := Ideal) (fun i => (X i : EReal)) (fun i => (P i : EReal)) (fun i => (A i : EReal)) (fun i => (W i : EReal)) (fun i => (T i : EReal)) (fun i => (G i : EReal)) (ix2 l d)
      = ∑ s : Fin 8192, ∑ k : Fin 1024, ((rowE X T P A W G s k * rowE X T P A W G s k : ℝ) : EReal) := by
  pointwise [val_main_v74, val_main_v73, val_main_v72, val_main_cst_19]
  simp only [v21_v71, v21_at, ← EReal.coe_mul, zero_add]

end Cert.LossHeadRefIdeal.Value

end
-- ==== Proof.LossFinal.lean ====
/-
  The loss head's kernel: its three result arrays after the run, on finite arguments.
-/
module

public import proofs.«01_k».proof.Proof.LossKernel
public import proofs.«01_k».proof.Proof.LossRef
public import proofs.«01_k».proof.Proof.Gen.LossHeadIdeal.Value
public import Idealize.ShloMosaic.Lib.Pipeline.ValueKit

@[expose] public section

set_option maxRecDepth 16384

noncomputable section

namespace Cert.LossHeadIdeal.Value

open Cert.LossHeadIdeal Cert.LossHeadIdeal.Gen Idealize.ShloMosaic Idealize.ShloMosaic.TcCoe Idealize.SL.Sem
open Idealize.ShloMosaic.Pipeline (Dat)
open Cert.RealLift Cert.LossModel

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![0, 0]
    ∧ win0_7.index t = ![0, 0] ∧ win0_8.index t = ![t.val, 0] :=
  (by decide +kernel : ∀ t : Fin grid0.N, _)

variable (m : (ℓ : Loc nD τ sig) → Buf (Elt Ideal) ℓ)

/-- The argument arrays of device `c` are casts of real arrays. -/
structure Finite (c : Dev nD) (X T : S8192x1024.Idx → ℝ) (P A : S8192x512.Idx → ℝ) (W : S1024x1024.Idx → ℝ) (G : S1024.Idx → ℝ) : Prop where
  x : m ((c : Thread nD τ).loc main_arg0) = fun i => (X i : EReal)
  p : m ((c : Thread nD τ).loc main_arg1) = fun i => (P i : EReal)
  a : m ((c : Thread nD τ).loc main_arg2) = fun i => (A i : EReal)
  w : m ((c : Thread nD τ).loc main_arg3) = fun i => (W i : EReal)
  t : m ((c : Thread nD τ).loc main_arg4) = fun i => (T i : EReal)
  g : m ((c : Thread nD τ).loc main_arg5) = fun i => (G i : EReal)

variable {m}
variable {X T : S8192x1024.Idx → ℝ} {P A : S8192x512.Idx → ℝ} {W : S1024x1024.Idx → ℝ} {G : S1024.Idx → ℝ} {c : Dev nD}

/-- Row `p` of point `t`'s block, as a row of the array. -/
def row (t : Fin cfg0.N) (p : Fin 512) : Fin 8192 := ⟨t.val * 512 + p.val, by have : t.val < 16 := lt_of_lt_of_eq t.isLt N_0; omega⟩

theorem blk0 (h : Finite m c X T P A W G) (t : Fin cfg0.N) :
    iblk m c 0 t = fun y : S512x1024.Idx => ((X (ix2 (row t (y 0)) (y 1)) : ℝ) : EReal) := by
  funext y
  have := congrFun h.x (ix2 (row t (y 0)) (y 1))
  rw [← this]
  blk_ext [iblk, V, idx t, row]

theorem blk1 (h : Finite m c X T P A W G) (t : Fin cfg0.N) :
    iblk m c 1 t = fun y : S512x512.Idx => ((P (ix2 (row t (y 0)) (y 1)) : ℝ) : EReal) := by
  funext y
  have := congrFun h.p (ix2 (row t (y 0)) (y 1))
  rw [← this]
  blk_ext [iblk, V, idx t, row]

theorem blk2 (h : Finite m c X T P A W G) (t : Fin cfg0.N) :
    iblk m c 2 t = fun y : S512x512.Idx => ((A (ix2 (row t (y 0)) (y 1)) : ℝ) : EReal) := by
  funext y
  have := congrFun h.a (ix2 (row t (y 0)) (y 1))
  rw [← this]
  blk_ext [iblk, V, idx t, row]

theorem blk3 (h : Finite m c X T P A W G) (t : Fin cfg0.N) :
    iblk m c 3 t = fun y : S1024x1024.Idx => ((W (ix2 (y 0) (y 1)) : ℝ) : EReal) := by
  funext y
  have := congrFun h.w (ix2 (y 0) (y 1))
  rw [← this]
  blk_simp [iblk, idx t]
  entry_read
  pointwise
  blk_ext [idx t]

theorem blk4 (h : Finite m c X T P A W G) (t : Fin cfg0.N) :
    iblk m c 4 t = fun y : S512x1024.Idx => ((T (ix2 (row t (y 0)) (y 1)) : ℝ) : EReal) := by
  funext y
  have := congrFun h.t (ix2 (row t (y 0)) (y 1))
  rw [← this]
  blk_ext [iblk, V, idx t, row]

theorem blk5 (h : Finite m c X T P A W G) (t : Fin cfg0.N) :
    iblk m c 5 t = fun y : S1x1024.Idx => ((G (ix1 (y 1)) : ℝ) : EReal) := by
  funext y
  have := congrFun h.g (ix1 (y 1))
  rw [← this]
  blk_simp [iblk, idx t]
  entry_read
  pointwise
  blk_ext [idx t]

/-- A row of a point's block is the row of the array the reference computes with. -/
theorem rowZ_blk (t : Fin cfg0.N) (p : Fin 512) :
    rowZ (fun y => P (ix2 (row t (y 0)) (y 1))) (fun y => A (ix2 (row t (y 0)) (y 1))) (fun y => X (ix2 (row t (y 0)) (y 1)))
      (fun y => W (ix2 (y 0) (y 1))) p = Cert.LossHeadRefIdeal.Value.rowZ X P A W (row t p) := rfl

/-- Where entry `y` of point `t`'s block of gradient rows sits in the array. -/
theorem emb8 (t : Fin cfg0.N) (y : S512x1024.Idx) :
    ((View.whole main_v2_2).slice (win0_8.rect t)).emb y = (ix2 (row t (y 0)) (y 1) : S8192x1024.Idx) := by
  blk_ext [idx t, row]

/-- What a point leaves in its block of gradient rows is the reference's entry of the array. -/
theorem point8 (t : Fin cfg0.N) (y : S512x1024.Idx) :
    k0_pay11 (F := Ideal) (fun y => ((P (ix2 (row t (y 0)) (y 1)) : ℝ) : EReal)) (fun y => ((A (ix2 (row t (y 0)) (y 1)) : ℝ) : EReal))
      (fun y => ((X (ix2 (row t (y 0)) (y 1)) : ℝ) : EReal)) (fun y => ((W (ix2 (y 0) (y 1)) : ℝ) : EReal))
      (fun y => ((G (ix1 (y 1)) : ℝ) : EReal)) (fun y => ((T (ix2 (row t (y 0)) (y 1)) : ℝ) : EReal)) y
    = Cert.LossHeadRefIdeal.Read.val_main_v55 (F := Ideal) (fun i => (X i : EReal)) (fun i => (P i : EReal)) (fun i => (A i : EReal))
        (fun i => (W i : EReal)) (fun i => (T i : EReal)) (fun i => (G i : EReal)) (((View.whole main_v2_2).slice (win0_8.rect t)).emb y) := by
  rw [emb8]
  idx_vars y
  rw [Cert.LossHeadRefIdeal.Value.v55_at, pay11_at]
  rfl

/-- The gradient rows after the run are the reference's. -/
theorem final8 (h : Finite m c X T P A W G) : (dats m 0 c).arrAt 8 (cfgs 0).N
    = Cert.LossHeadRefIdeal.Read.val_main_v55 (F := Ideal) (fun i => (X i : EReal)) (fun i => (P i : EReal)) (fun i => (A i : EReal))
        (fun i => (W i : EReal)) (fun i => (T i : EReal)) (fun i => (G i : EReal)) := by
  refine (dats m 0 c).arrAt_eq_of_covers 8 _ (by decide +kernel) fun t hf y => ?_
  blk_simp
  rw [after0_8]
  by_cases h0 : t.val % 16 = 0
  · rw [outsAt0_A m c t h0]; frame_out
    rw [blk0 h, blk1 h, blk2 h, blk3 h, blk4 h, blk5 h]
    exact point8 t y
  · rw [outsAt0_B m c t h0]; frame_out
    rw [blk0 h, blk1 h, blk2 h, blk3 h, blk4 h, blk5 h]
    exact point8 t y

/-- The loss row after the run is the reference's. -/
theorem final6 (h : Finite m c X T P A W G) : (dats m 0 c).arrAt 6 (cfgs 0).N
    = Cert.LossHeadRefIdeal.Read.val_main_v74 (F := Ideal) (fun i => (X i : EReal)) (fun i => (P i : EReal)) (fun i => (A i : EReal))
        (fun i => (W i : EReal)) (fun i => (T i : EReal)) (fun i => (G i : EReal)) := by
  refine (dats m 0 c).arrAt_eq_of_after_last 6 t0_15 (by decide +kernel) _ fun j => ?_
  blk_simp
  rw [after0_6, Pipeline.eq_sum_fin_of_reset_step_apply_last (fun n h => (outsAt0 m c n h).1) 16 (fun _ => 0)
    (fun t j => ∑ q : Fin 512, ∑ d : Fin 1024, ((Cert.LossHeadRefIdeal.Value.rowE X T P A W G (row t q) d
      * Cert.LossHeadRefIdeal.Value.rowE X T P A W G (row t q) d : ℝ) : EReal))
    (fun t h0 j => by
      rw [outsAt0_A m c t h0]; frame_out
      rw [blk0 h, blk1 h, blk2 h, blk3 h, blk4 h, blk5 h]
      idx_vars j
      rw [pay3_at, zero_lane]
      rfl)
    (fun t h0 j => by
      rw [outsAt0_B m c t h0]; frame_out
      rw [blk0 h, blk1 h, blk2 h, blk3 h, blk4 h, blk5 h]
      idx_vars j
      rw [pay3_at]
      rfl)
    (le_of_eq N_0) t0_15 rfl j, zero_add]
  idx_vars j
  rw [Cert.LossHeadRefIdeal.Value.v74_at]
  exact Fin.sum_mul_add_congr fun s k hl => rfl

/-- The gradient of the scale after the run is the reference's. -/
theorem final7 (h : Finite m c X T P A W G) : (dats m 0 c).arrAt 7 (cfgs 0).N
    = Cert.LossHeadRefIdeal.Read.val_main_v75 (F := Ideal) (fun i => (X i : EReal)) (fun i => (P i : EReal)) (fun i => (A i : EReal))
        (fun i => (W i : EReal)) (fun i => (T i : EReal)) (fun i => (G i : EReal)) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0)
    (fun t (j : S1x1024.Idx) => ∑ q : Fin 512, ((Cert.LossHeadRefIdeal.Value.rowE X T P A W G (row t q) (j 1) * (1 / 1024)
      * (Cert.LossHeadRefIdeal.Value.rowZ X P A W (row t q) (j 1) * inv (Cert.LossHeadRefIdeal.Value.rowZ X P A W (row t q))) : ℝ) : EReal))
    (fun t h0 j => by
      rw [outsAt0_A m c t h0]; frame_out
      rw [blk0 h, blk1 h, blk2 h, blk3 h, blk4 h, blk5 h]
      idx_vars j
      rw [pay4_at, zero_row]
      rfl)
    (fun t h0 j => by
      rw [outsAt0_B m c t h0]; frame_out
      rw [blk0 h, blk1 h, blk2 h, blk3 h, blk4 h, blk5 h]
      idx_vars j
      rw [pay4_at]
      rfl)
    (le_of_eq N_0) t0_15 rfl j, zero_add]
  idx_vars j
  rw [Cert.LossHeadRefIdeal.Value.v75_at]
  exact Fin.sum_mul_add_congr fun s k hl => rfl

end Cert.LossHeadIdeal.Value

end
-- ==== Proof.LossClaim.lean ====
/-
  The loss head: from the claim's precondition to real arrays, and the two runs side by side.
-/
module

public import proofs.«01_k».proof.Defs
public import proofs.«01_k».proof.Proof.LossFinal
public import proofs.«01_k».proof.Proof.Gen.Pre_loss_head_finite
public import proofs.«01_k».proof.Proof.Gen.LossHeadRefIdeal.Run
public import proofs.«01_k».proof.Proof.Gen.LossHeadRefIdeal.Read
public import Idealize.ShloMosaic.Lib.Claim

@[expose] public section

set_option maxRecDepth 16384

noncomputable section

namespace Cert.LossHeadIdeal.Value

open Cert.LossHeadIdeal Cert.LossHeadIdeal.Gen Idealize.ShloMosaic Idealize.ShloMosaic.TcCoe Idealize.SL.Sem
open Cert.RealLift

/-- Arguments that pass the precondition are casts of real arrays. -/
theorem finite_of_pre (m : (ℓ : Loc nD τ sig) → Buf (Elt Ideal) ℓ)
    (h : Cert.Pre_LossHeadIdeal_loss_head_finite m) (c : Dev nD) :
    Finite m c (fun i => EReal.toReal (m ((c : Thread nD τ).loc main_arg0) i)) (fun i => EReal.toReal (m ((c : Thread nD τ).loc main_arg4) i))
      (fun i => EReal.toReal (m ((c : Thread nD τ).loc main_arg1) i)) (fun i => EReal.toReal (m ((c : Thread nD τ).loc main_arg2) i))
      (fun i => EReal.toReal (m ((c : Thread nD τ).loc main_arg3) i)) (fun i => EReal.toReal (m ((c : Thread nD τ).loc main_arg5) i)) := by
  obtain ⟨h0, h1, h2, h3, h4, h5⟩ := h c
  exact
    { x := funext fun i => coe_toReal_of_abs_lt (φ := .f32) _ _ inf_f32 (congrFun h0 i)
      p := funext fun i => coe_toReal_of_abs_lt (φ := .bf16) _ _ inf_bf16 (congrFun h1 i)
      a := funext fun i => coe_toReal_of_abs_lt (φ := .bf16) _ _ inf_bf16 (congrFun h2 i)
      w := funext fun i => coe_toReal_of_abs_lt (φ := .f32) _ _ inf_f32 (congrFun h3 i)
      t := funext fun i => coe_toReal_of_abs_lt (φ := .f32) _ _ inf_f32 (congrFun h4 i)
      g := funext fun i => coe_toReal_of_abs_lt (φ := .f32) _ _ inf_f32 (congrFun h5 i) }

/-- On finite arguments the kernel's loss row, gradient of the scale and gradient rows are the reference's. -/
theorem algebraic : Cert.algebraic_LossHeadIdeal_LossHeadRefIdeal_pre_loss_head_finite := by
  pair_intro
  · run_from (run_blocks m g)
  · refine (θ_run Cert.LossHeadRefIdeal.defs _ _).mono (fun r h c => ?_) (Cert.LossHeadRefIdeal.Value.run (F := Ideal) m' g')
    obtain ⟨h74, h75, h55, k⟩ := h c
    obtain ⟨a0, a1, a2, a3, a4, a5⟩ := hagree c
    have f := finite_of_pre m hpre c
    refine ⟨h74.trans ?_, h75.trans ?_, h55.trans ?_, k⟩
    · refine (Cert.LossHeadRefIdeal.Read.val_main_v74_eq _ _ _ _ _ _).trans ?_
      rw [a0, a1, a2, a3, a4, a5]
      refine Eq.trans ?_ (final6 f).symm
      rw [← f.x, ← f.p, ← f.a, ← f.w, ← f.t, ← f.g]
    · refine (Cert.LossHeadRefIdeal.Read.val_main_v75_eq _ _).trans ?_
      rw [a0, a1, a2, a3, a4, a5]
      refine Eq.trans ?_ (final7 f).symm
      rw [← f.x, ← f.p, ← f.a, ← f.w, ← f.t, ← f.g]
    · refine (Cert.LossHeadRefIdeal.Read.val_main_v55_eq _ _).trans ?_
      rw [a0, a1, a2, a3, a4, a5]
      refine Eq.trans ?_ (final8 f).symm
      rw [← f.x, ← f.p, ← f.a, ← f.w, ← f.t, ← f.g]

end Cert.LossHeadIdeal.Value

end
-- ==== Proof.AttnStage.lean ====
/-
  The stages of the attention gradient on one block of 128 queries, as vectors: two heads that share their keys and
  values are stacked by rows, two more side by side by columns.
-/
module

public import proofs.«01_k».proof.Proof.Gen.AttnBwdIdeal

@[expose] public section

set_option maxRecDepth 16384

noncomputable section

namespace Cert.AttnBwdIdeal.Value

open Cert.AttnBwdIdeal Cert.AttnBwdIdeal.Gen Idealize.ShloMosaic

variable {F : FTy → Type} [FloatOps F]

/-- The previous block's keys and values above this block's. -/
def kvOf (a b : FVec F S128x256 .f32) : FVec F S256x256 .f32 :=
  concatenate S256x256 0 [⟨S128x256, a⟩, ⟨S128x256, b⟩] concatenates_S128x256_S128x256_S256x256_d0
def keysOf (a b : FVec F S128x256 .f32) : FVec F S256x128 .f32 :=
  extractStridedSlice S256x128 ![0, 0] (kvOf a b) slices_S256x256_o0_0_S256x128
def valsOf (a b : FVec F S128x256 .f32) : FVec F S256x128 .f32 :=
  extractStridedSlice S256x128 ![0, 128] (kvOf a b) slices_S256x256_o0_128_S256x128
/-- The two heads' lanes exchanged. -/
def swapLanes (x : FVec F S256x128 .f32) : FVec F S256x128 .f32 := dynamicRotate 1 64#32 none x rotates_S256x128_d1
def lowLanes : IVec S256x128 1 :=
  broadcastTo S256x128 (shapeCast S1x128 (cmpi .slt (iota .tc S1x128 32 [1] iota_S1x128_d1_w32) (broadcast S1x128 64#32))
    shapeCasts_S1x128_S1x128) broadcasts_S1x128_S256x128
/-- The block matrix of a pair: `x` in its low lanes above, `y` in its high lanes below, zero elsewhere. -/
def pairMat (x y : FVec F S256x128 .f32) : FVec F S512x128 .bf16 :=
  truncf .bf16 (concatenate S512x128 0
    [⟨S256x128, select lowLanes x (broadcast S256x128 (Scalar.ofBits .f32 0x00000000#32))⟩,
     ⟨S256x128, select lowLanes (broadcast S256x128 (Scalar.ofBits .f32 0x00000000#32)) y⟩]
    concatenates_S256x128_S256x128_S512x128_d0) bitsLt_bf16_f32
/-- The first two pairs of heads stacked by rows. -/
def stackLo (q : FVec F S128x512 .f32) : FVec F S256x128 .f32 :=
  concatenate S256x128 0 [⟨S128x128, extractStridedSlice S128x128 ![0, 0] q slices_S128x512_o0_0_S128x128⟩,
    ⟨S128x128, extractStridedSlice S128x128 ![0, 128] q slices_S128x512_o0_128_S128x128⟩] concatenates_S128x128_S128x128_S256x128_d0
/-- The last two pairs of heads stacked by rows. -/
def stackHi (q : FVec F S128x512 .f32) : FVec F S256x128 .f32 :=
  concatenate S256x128 0 [⟨S128x128, extractStridedSlice S128x128 ![0, 256] q slices_S128x512_o0_256_S128x128⟩,
    ⟨S128x128, extractStridedSlice S128x128 ![0, 384] q slices_S128x512_o0_384_S128x128⟩] concatenates_S128x128_S128x128_S256x128_d0
def scaled (q : FVec F S256x128 .f32) : FVec F S256x128 .bf16 :=
  truncf .bf16 (mulf q (broadcast S256x128 (Scalar.ofBits .f32 0x3E000000#32))) bitsLt_bf16_f32
/-- Rows of `a` against rows of a pair's block matrix. -/
def against (a : FVec F S256x128 .bf16) (k : FVec F S512x128 .bf16) : FVec F S256x512 .f32 :=
  matmul dot_S256x128_S512x128_S256x512_1_1_0_0_n_n none a k (constant S256x512 .f32 0x00000000#32)
def scoresOf (q : FVec F S256x128 .f32) (k : FVec F S512x128 .bf16) (b : FVec F S1x1x256x512 .f32) : FVec F S256x512 .f32 :=
  addf (against (scaled q) k) (shapeCast S256x512 b shapeCasts_S1x1x256x512_S256x512)
def leftHalf (x : FVec F S256x512 .f32) : FVec F S256x256 .f32 := extractStridedSlice S256x256 ![0, 0] x slices_S256x512_o0_0_S256x256
def rightHalf (x : FVec F S256x512 .f32) : FVec F S256x256 .f32 := extractStridedSlice S256x256 ![0, 256] x slices_S256x512_o0_256_S256x256
/-- The sinks of the two stacked heads, one per row. -/
def sinkCol (s t : F .f32) : FVec F S256x1 .f32 :=
  select (cmpi .slt (iota .tc S256x1 32 [0] iota_S256x1_d0_w32) (broadcast S256x1 128#32)) (broadcast S256x1 s) (broadcast S256x1 t)
def rowMax (s : FVec F S256x256 .f32) (c : FVec F S256x1 .f32) : FVec F S256x1 .f32 :=
  maximumf (shapeCast S256x1 (multiReduction .maximumf [1] S256 s 0xFF800000#32 reduces_S256x256_S256 (.inl rfl) rfl) shapeCasts_S256_S256x1) c
def expScores (s : FVec F S256x256 .f32) (c : FVec F S256x1 .f32) : FVec F S256x256 .f32 :=
  exp (subf s (broadcastTo S256x256 (rowMax s c) broadcasts_S256x1_S256x256))
def expSink (s : FVec F S256x256 .f32) (c : FVec F S256x1 .f32) : FVec F S256x1 .f32 := exp (subf c (rowMax s c))
def recipSum (s : FVec F S256x256 .f32) (c : FVec F S256x1 .f32) : FVec F S256x1 .f32 :=
  divf (broadcast S256x1 (Scalar.ofBits .f32 0x3F800000#32))
    (addf (shapeCast S256x1 (multiReduction .add [1] S256 (expScores s c) 0x00000000#32 reduces_S256x256_S256 (.inl rfl) rfl) shapeCasts_S256_S256x1) (expSink s c))
/-- The softmax of one half's rows, the sink among the weights. -/
def probOf (s : FVec F S256x256 .f32) (c : FVec F S256x1 .f32) : FVec F S256x256 .f32 :=
  mulf (expScores s c) (broadcastTo S256x256 (recipSum s c) broadcasts_S256x1_S256x256)
def probSinkOf (s : FVec F S256x256 .f32) (c : FVec F S256x1 .f32) : FVec F S256x1 .f32 := mulf (expSink s c) (recipSum s c)
def sideBySide (l r : FVec F S256x256 .f32) : FVec F S256x512 .f32 :=
  concatenate S256x512 1 [⟨S256x256, l⟩, ⟨S256x256, r⟩] concatenates_S256x256_S256x256_S256x512_d1
/-- The softmax of a pair's scores: the two halves' probabilities. -/
def probsOf (s : FVec F S256x512 .f32) (c d : FVec F S256x1 .f32) : FVec F S256x512 .f32 :=
  sideBySide (probOf (leftHalf s) c) (probOf (rightHalf s) d)
/-- The row sums of probability times its gradient. -/
def deltaOf (p dp : FVec F S256x256 .f32) : FVec F S256x1 .f32 :=
  shapeCast S256x1 (multiReduction .add [1] S256 (mulf p dp) 0x00000000#32 reduces_S256x256_S256 (.inl rfl) rfl) shapeCasts_S256_S256x1
def dscoreOf (p dp : FVec F S256x256 .f32) : FVec F S256x256 .f32 :=
  mulf p (subf dp (broadcastTo S256x256 (deltaOf p dp) broadcasts_S256x1_S256x256))
def dscoresOf (p dp : FVec F S256x512 .f32) : FVec F S256x512 .f32 :=
  sideBySide (dscoreOf (leftHalf p) (leftHalf dp)) (dscoreOf (rightHalf p) (rightHalf dp))
/-- The gradient of a sink, row by row, and its sums over the two stacked heads' rows. -/
def dsinkRows (ps : FVec F S256x1 .f32) (p dp : FVec F S256x256 .f32) : FVec F S256x1 .f32 :=
  mulf (subf (broadcast S256x1 (Scalar.ofBits .f32 0x00000000#32)) ps) (deltaOf p dp)
def sumTop (x : FVec F S256x1 .f32) : FVec F S1x1 .f32 :=
  shapeCast S1x1 (multiReduction .add [0] S1 (extractStridedSlice S128x1 ![0, 0] x slices_S256x1_o0_0_S128x1) 0x00000000#32
    reduces_S128x1_S1 (.inl rfl) rfl) shapeCasts_S1_S1x1
def sumBottom (x : FVec F S256x1 .f32) : FVec F S1x1 .f32 :=
  shapeCast S1x1 (multiReduction .add [0] S1 (extractStridedSlice S128x1 ![128, 0] x slices_S256x1_o128_0_S128x1) 0x00000000#32
    reduces_S128x1_S1 (.inl rfl) rfl) shapeCasts_S1_S1x1
def dqueryOf (ds : FVec F S256x512 .f32) (k : FVec F S512x128 .bf16) : FVec F S256x128 .f32 :=
  mulf (matmul dot_S256x512_S512x128_S256x128_1_0_0_1_n_n none (truncf .bf16 ds bitsLt_bf16_f32) k (constant S256x128 .f32 0x00000000#32))
    (broadcast S256x128 (Scalar.ofBits .f32 0x3E000000#32))
/-- The pair's blocks of `aᵀ b` that belong together, added. -/
def foldOf (a : FVec F S256x128 .bf16) (b : FVec F S256x512 .f32) : FVec F S64x256 .f32 :=
  have y : FVec F S128x512 .f32 := matmul dot_S256x128_S256x512_S128x512_0_0_1_1_n_n none a (truncf .bf16 b bitsLt_bf16_f32) (constant S128x512 .f32 0x00000000#32)
  addf (extractStridedSlice S64x256 ![0, 0] y slices_S128x512_o0_0_S64x256) (extractStridedSlice S64x256 ![64, 256] y slices_S128x512_o64_256_S64x256)
def stackT (l h : FVec F S64x256 .f32) : FVec F S256x128 .f32 :=
  transpose S256x128 [1, 0] (concatenate S128x256 0 [⟨S64x256, l⟩, ⟨S64x256, h⟩] concatenates_S64x256_S64x256_S128x256_d0) transposes_S128x256_p1_0_S256x128
/-- The logistic function as the kernel spells it. -/
def sigOf (g : FVec F S128x512 .f32) : FVec F S128x512 .f32 :=
  divf (broadcast S128x512 (Scalar.ofBits .f32 0x3F800000#32))
    (addf (broadcast S128x512 (Scalar.ofBits .f32 0x3F800000#32)) (exp (subf (broadcast S128x512 (Scalar.ofBits .f32 0x00000000#32)) g)))
/-- The gradient of the attention's output from the gradient of the gated output. -/
def doutOf (g dy : FVec F S128x512 .f32) : FVec F S128x512 .f32 := mulf dy (mulf g (sigOf g))
/-- The gradient of the gate. -/
def dgateOf (g dy ya : FVec F S128x512 .f32) : FVec F S128x512 .f32 :=
  mulf (mulf dy (shapeCast S128x512 ya shapeCasts_S128x512_S128x512))
    (mulf (sigOf g) (addf (broadcast S128x512 (Scalar.ofBits .f32 0x3F800000#32))
      (mulf g (subf (broadcast S128x512 (Scalar.ofBits .f32 0x3F800000#32)) (sigOf g)))))
/-- A block's rows of the output. -/
def rowsOf (dq0 dq1 : FVec F S256x128 .f32) (dk dv : FVec F S256x128 .f32) (dg : FVec F S128x512 .f32) : FVec F S128x1536 .f32 :=
  concatenate S128x1536 1 [⟨S128x512, concatenate S128x512 1
      [⟨S128x128, extractStridedSlice S128x128 ![0, 0] dq0 slices_S256x128_o0_0_S128x128⟩,
       ⟨S128x128, extractStridedSlice S128x128 ![128, 0] dq0 slices_S256x128_o128_0_S128x128⟩,
       ⟨S128x128, extractStridedSlice S128x128 ![0, 0] dq1 slices_S256x128_o0_0_S128x128⟩,
       ⟨S128x128, extractStridedSlice S128x128 ![128, 0] dq1 slices_S256x128_o128_0_S128x128⟩]
      concatenates_S128x128_S128x128_S128x128_S128x128_S128x512_d1⟩,
    ⟨S128x128, extractStridedSlice S128x128 ![128, 0] dk slices_S256x128_o128_0_S128x128⟩,
    ⟨S128x128, extractStridedSlice S128x128 ![128, 0] dv slices_S256x128_o128_0_S128x128⟩,
    ⟨S128x128, extractStridedSlice S128x128 ![0, 0] dk slices_S256x128_o0_0_S128x128⟩,
    ⟨S128x128, extractStridedSlice S128x128 ![0, 0] dv slices_S256x128_o0_0_S128x128⟩,
    ⟨S128x512, dg⟩] concatenates_S128x512_S128x128_S128x128_S128x128_S128x128_S128x512_S128x1536_d1

/-- One pair's stages together: `q`, `o` the stacked queries and output gradients, `k`, `v` the block matrices, `b` the
    bias, `c`, `d` the sink columns of the two halves. -/
structure Pair (F : FTy → Type) where
  q : FVec F S256x128 .f32
  o : FVec F S256x128 .f32
  k : FVec F S512x128 .bf16
  v : FVec F S512x128 .bf16
  b : FVec F S1x1x256x512 .f32
  c : FVec F S256x1 .f32
  d : FVec F S256x1 .f32

namespace Pair
variable (P : Pair F)
def s : FVec F S256x512 .f32 := scoresOf P.q P.k P.b
def p : FVec F S256x512 .f32 := probsOf P.s P.c P.d
def dp : FVec F S256x512 .f32 := against (truncf .bf16 P.o bitsLt_bf16_f32) P.v
def ds : FVec F S256x512 .f32 := dscoresOf P.p P.dp
def dq : FVec F S256x128 .f32 := dqueryOf P.ds P.k
def dk : FVec F S64x256 .f32 := foldOf (scaled P.q) P.ds
def dv : FVec F S64x256 .f32 := foldOf (truncf .bf16 P.o bitsLt_bf16_f32) P.p
def sinkL : FVec F S256x1 .f32 := dsinkRows (probSinkOf (leftHalf P.s) P.c) (leftHalf P.p) (leftHalf P.dp)
def sinkR : FVec F S256x1 .f32 := dsinkRows (probSinkOf (rightHalf P.s) P.d) (rightHalf P.p) (rightHalf P.dp)
end Pair

/-- A block's arguments: the previous and the present keys and values, the queries, the gate, the gradient and the
    saved output, the bias of the two pairs, the sinks. -/
structure Blk (F : FTy → Type) where
  kp : FVec F S128x256 .f32
  kc : FVec F S128x256 .f32
  q : FVec F S128x512 .f32
  g : FVec F S128x512 .f32
  dy : FVec F S128x512 .f32
  ya : FVec F S128x512 .f32
  b0 : FVec F S1x1x256x512 .f32
  b1 : FVec F S1x1x256x512 .f32
  sk : Fin 8 → F .f32

namespace Blk
variable (B : Blk F)
def pair0 : Pair F :=
  { q := stackLo B.q, o := stackLo (doutOf B.g B.dy),
    k := pairMat (keysOf B.kp B.kc) (swapLanes (keysOf B.kp B.kc)), v := pairMat (valsOf B.kp B.kc) (swapLanes (valsOf B.kp B.kc)),
    b := B.b0, c := sinkCol (B.sk 0) (B.sk 2), d := sinkCol (B.sk 1) (B.sk 3) }
def pair1 : Pair F :=
  { q := stackHi B.q, o := stackHi (doutOf B.g B.dy),
    k := pairMat (swapLanes (keysOf B.kp B.kc)) (keysOf B.kp B.kc), v := pairMat (swapLanes (valsOf B.kp B.kc)) (valsOf B.kp B.kc),
    b := B.b1, c := sinkCol (B.sk 4) (B.sk 6), d := sinkCol (B.sk 5) (B.sk 7) }
/-- The block's rows of the gradients' array. -/
def rows : FVec F S128x1536 .f32 :=
  rowsOf B.pair0.dq B.pair1.dq (stackT B.pair0.dk B.pair1.dk) (stackT B.pair0.dv B.pair1.dv) (dgateOf B.g B.dy B.ya)
/-- The block's part of a sink's gradient. -/
def sink (h : Fin 8) : FVec F S1x1 .f32 := match h with
  | 0 => sumTop B.pair0.sinkL
  | 1 => sumTop B.pair0.sinkR
  | 2 => sumBottom B.pair0.sinkL
  | 3 => sumBottom B.pair0.sinkR
  | 4 => sumTop B.pair1.sinkL
  | 5 => sumTop B.pair1.sinkR
  | 6 => sumBottom B.pair1.sinkL
  | 7 => sumBottom B.pair1.sinkR
end Blk

end Cert.AttnBwdIdeal.Value

end
-- ==== Proof.AttnPoint.lean ====
/-
  A point's reads: its four blocks of 128 queries, and what the point writes from them.
-/
module

public import proofs.«01_k».proof.Proof.AttnStage
public import proofs.«01_k».proof.Proof.Gen.AttnBwdIdeal.Value
public import Idealize.ShloMosaic.Lib.Pipeline.ValueKit
public import Idealize.ShloMosaic.Lib.Pipeline.ReadBack

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Idealize.ShloMosaic.Pipeline (Dat)

variable {F : FTy → Type} [FloatOps F]

/-- What a point's kernel run reads: its windows' blocks and the bias the scratch holds. -/
structure Pt (F : FTy → Type) where
  x : Vec F S512x1280 .f32
  kv : Vec F S128x256 .f32
  ya : Vec F S512x512 .f32
  dy : Vec F S512x512 .f32
  sk : Vec F S8 .f32
  bias : Vec F S2x2x256x512 .f32

/-- The eight sinks. -/
def skOf (x : Vec F S8 .f32) : Fin 8 → F .f32
  | 0 => View.ld x (Rect.unit (s := S8) ![0] ![1] (by decide)) (Shape.Idx.first (by decide))
  | 1 => View.ld x (Rect.unit (s := S8) ![1] ![1] (by decide)) (Shape.Idx.first (by decide))
  | 2 => View.ld x (Rect.unit (s := S8) ![2] ![1] (by decide)) (Shape.Idx.first (by decide))
  | 3 => View.ld x (Rect.unit (s := S8) ![3] ![1] (by decide)) (Shape.Idx.first (by decide))
  | 4 => View.ld x (Rect.unit (s := S8) ![4] ![1] (by decide)) (Shape.Idx.first (by decide))
  | 5 => View.ld x (Rect.unit (s := S8) ![5] ![1] (by decide)) (Shape.Idx.first (by decide))
  | 6 => View.ld x (Rect.unit (s := S8) ![6] ![1] (by decide)) (Shape.Idx.first (by decide))
  | 7 => View.ld x (Rect.unit (s := S8) ![7] ![1] (by decide)) (Shape.Idx.first (by decide))

/-- A block's place among the 512 rows. -/
theorem placed {n k r o : Nat} (hr : r + 128 ≤ 512) (ho : o + k ≤ n) :
    ∀ a : Fin 2, (![r, o] : Fin 2 → Nat) a + (![128, k] : Fin 2 → Nat) a ≤ (![512, n] : Fin 2 → Nat) a := by
  intro a; fin_cases a
  · exact hr
  · exact ho
/-- The 128 rows from `r` on, `k` columns from `o` on. -/
def rowsAt {n : Nat} {φ : EltTy} (X : Vec F (⟨2, ![512, n]⟩ : Shape) φ) (r o k : Nat) (hr : r + 128 ≤ 512) (ho : o + k ≤ n) : Vec F (⟨2, ![128, k]⟩ : Shape) φ :=
  View.ld X (Rect.unit (s := (⟨2, ![512, n]⟩ : Shape)) ![r, o] (![128, k] : Fin 2 → Nat) (placed hr ho))

variable (P : Pt F) (i : grid0.Coords)

/-- The block at row `r`, with the previous keys and values and the two pairs' bias given. -/
def blkAt (kp : FVec F S128x256 .f32) (b0 b1 : FVec F S1x1x256x512 .f32) (r : Nat) (hr : r + 128 ≤ 512) : Blk F :=
  { kp := kp
    kc := rowsAt P.x r 512 256 hr (by decide)
    q := rowsAt P.x r 0 512 hr (by decide)
    g := rowsAt P.x r 768 512 hr (by decide)
    dy := rowsAt P.dy r 0 512 hr (by decide)
    ya := rowsAt P.ya r 0 512 hr (by decide)
    b0 := b0
    b1 := b1
    sk := skOf P.sk }
/-- The first block: the previous keys come from the row of blocks above; the first point takes the other bias. -/
def blk0 : Blk F :=
  blkAt P (View.ld P.kv (Rect.unit (s := S128x256) ![0, 0] S128x256.size inb_S128x256_S128x256_0_0))
    (View.ld P.bias (Rect.unit (s := S2x2x256x512) (k0_off1 i) S1x1x256x512.size (k0_off1_inb i)))
    (View.ld P.bias (Rect.unit (s := S2x2x256x512) (k0_off2 i) S1x1x256x512.size (k0_off2_inb i))) 0 (by decide)
/-- A later block: the previous keys are those of the block above, at row `r'`. -/
def blkIn (r' r : Nat) (hr' : r' + 128 ≤ 512) (hr : r + 128 ≤ 512) : Blk F :=
  blkAt P (rowsAt P.x r' 512 256 hr' (by decide))
    (View.ld P.bias (Rect.unit (s := S2x2x256x512) ![1, 0, 0, 0] S1x1x256x512.size inb_S2x2x256x512_S1x1x256x512_1_0_0_0))
    (View.ld P.bias (Rect.unit (s := S2x2x256x512) ![1, 1, 0, 0] S1x1x256x512.size inb_S2x2x256x512_S1x1x256x512_1_1_0_0)) r hr
def blk1 : Blk F := blkIn P 0 128 (by decide) (by decide)
def blk2 : Blk F := blkIn P 128 256 (by decide) (by decide)
def blk3 : Blk F := blkIn P 256 384 (by decide) (by decide)

/-- A point's part of a sink's gradient: its four blocks' parts in order. -/
def sinkSum (h : Fin 8) : FVec F S1x1 .f32 :=
  addf (addf (addf ((blk0 P i).sink h) ((blk1 P).sink h)) ((blk2 P).sink h)) ((blk3 P).sink h)
/-- The sinks' gradients one below the other, in every lane. -/
def sinkRows : FVec F S8x128 .f32 :=
  broadcastTo S8x128 (shapeCast S8x1 (concatenate S8x1 0 [⟨S1x1, sinkSum P i 0⟩, ⟨S1x1, sinkSum P i 1⟩, ⟨S1x1, sinkSum P i 2⟩, ⟨S1x1, sinkSum P i 3⟩,
    ⟨S1x1, sinkSum P i 4⟩, ⟨S1x1, sinkSum P i 5⟩, ⟨S1x1, sinkSum P i 6⟩, ⟨S1x1, sinkSum P i 7⟩]
    concatenates_S1x1_S1x1_S1x1_S1x1_S1x1_S1x1_S1x1_S1x1_S8x1_d0) shapeCasts_S8x1_S8x1) broadcasts_S8x1_S8x128

/-- Four blocks' rows, one below the other. -/
def tiled (B0 B1 B2 B3 : FVec F S128x1536 .f32) : Vec F S512x1536 .f32 :=
  View.canon (Val := Elt F) [⟨Rect.unit (s := S512x1536) ![384, 0] S128x1536.size inb_S512x1536_S128x1536_384_0, B3⟩,
    ⟨Rect.unit (s := S512x1536) ![256, 0] S128x1536.size inb_S512x1536_S128x1536_256_0, B2⟩,
    ⟨Rect.unit (s := S512x1536) ![128, 0] S128x1536.size inb_S512x1536_S128x1536_128_0, B1⟩,
    ⟨Rect.unit (s := S512x1536) ![0, 0] S128x1536.size inb_S512x1536_S128x1536_0_0, B0⟩]

/-- The four blocks' rows, one below the other. -/
def pointRows : Vec F S512x1536 .f32 := tiled (blk0 P i).rows (blk1 P).rows (blk2 P).rows (blk3 P).rows

variable [Named F] (m : (ℓ : Loc nD τ sig) → Buf (Elt F) ℓ) (c : Dev nD) (t : Fin cfg0.N)

/-- Point `t`'s reads, over the bias `b`. -/
def ptOf (b : Vec F S2x2x256x512 .f32) : Pt F := ⟨iblk m c 0 t, iblk m c 1 t, iblk m c 2 t, iblk m c 3 t, iblk m c 4 t, b⟩

/-- The bias after the first point's fill. -/
def filled : Vec F S2x2x256x512 .f32 :=
  View.canon (Val := Elt F) [⟨Rect.unit (s := S2x2x256x512) ![1, 1, 0, 0] S1x1x256x512.size inb_S2x2x256x512_S1x1x256x512_1_1_0_0,
        k0_pay13 (iota Kind.tc S256x512 32 [0] iota_S256x512_d0_w32) k0_pay4 k0_pay5 k0_pay6⟩,
      ⟨Rect.unit (s := S2x2x256x512) ![0, 1, 0, 0] S1x1x256x512.size inb_S2x2x256x512_S1x1x256x512_0_1_0_0,
        k0_pay12 (iota Kind.tc S256x512 32 [0] iota_S256x512_d0_w32) k0_pay2 k0_pay4 k0_pay5 k0_pay6⟩,
      ⟨Rect.unit (s := S2x2x256x512) ![1, 0, 0, 0] S1x1x256x512.size inb_S2x2x256x512_S1x1x256x512_1_0_0_0, k0_pay10 k0_pay9⟩,
      ⟨Rect.unit (s := S2x2x256x512) ![0, 0, 0, 0] S1x1x256x512.size inb_S2x2x256x512_S1x1x256x512_0_0_0_0, k0_pay8⟩]

/-- What the point before left. -/
def before : Vec F S512x1536 .f32 × Vec F S8x128 .f32 × Vec F S2x2x256x512 .f32 := outsAt0 m c (t.val - 1) (Nat.lt_of_le_of_lt (Nat.sub_le _ _) t.isLt)

theorem filled_first (h0 : t.val % 16 = 0) : (outsAt0 m c t.val t.isLt).2.2 = filled := by
  rw [outsAt0_A m c t h0]; frame_out
theorem filled_later (h0 : ¬ t.val % 16 = 0) : (outsAt0 m c t.val t.isLt).2.2 = (before m c t).2.2 := by
  rw [outsAt0_B m c t h0]; frame_out; rfl

end Cert.AttnBwdIdeal.Value
end
-- ==== Proof.AttnRows.lean ====
/-
  A point writes its blocks' rows.
-/
module

public import proofs.«01_k».proof.Proof.AttnPoint

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Idealize.ShloMosaic.Pipeline (Dat)

variable {F : FTy → Type} [FloatOps F] [Named F] (m : (ℓ : Loc nD τ sig) → Buf (Elt F) ℓ) (c : Dev nD) (t : Fin cfg0.N)

set_option maxHeartbeats 4000000 in
theorem rows_first (h0 : t.val % 16 = 0) : (outsAt0 m c t.val t.isLt).1 = pointRows (ptOf m c t filled) (grid0.coords t) := by
  rw [outsAt0_A m c t h0]; frame_out
  rw [(hs0_0 t).read_unread, (hs0_1 t).read_unread, (hs0_2 t).read_unread, (hs0_3 t).read_unread, (hs0_4 t).read_unread, View.read_writes_junk_eq_canon, View.readCov_eq_canon', View.readCov_eq_canon']
  sl_kernel_rfl

set_option maxHeartbeats 4000000 in
theorem rows_later (h0 : ¬ t.val % 16 = 0) : (outsAt0 m c t.val t.isLt).1 = pointRows (ptOf m c t (before m c t).2.2) (grid0.coords t) := by
  rw [outsAt0_B m c t h0]; frame_out
  rw [read_unread_whole, (hs0_0 t).read_unread, (hs0_1 t).read_unread, (hs0_2 t).read_unread, (hs0_3 t).read_unread, (hs0_4 t).read_unread]
  sl_kernel_rfl

end Cert.AttnBwdIdeal.Value
end
-- ==== Proof.AttnSinks.lean ====
/-
  A point adds its blocks' parts to the sinks' gradients.
-/
module

public import proofs.«01_k».proof.Proof.AttnPoint

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Idealize.ShloMosaic.Pipeline (Dat)

variable {F : FTy → Type} [FloatOps F] [Named F] (m : (ℓ : Loc nD τ sig) → Buf (Elt F) ℓ) (c : Dev nD) (t : Fin cfg0.N)

theorem sinks_first (h0 : t.val % 16 = 0) : (outsAt0 m c t.val t.isLt).2.1
    = k0_pay1 (k0_pay353 k0_pay14) (sinkRows (ptOf m c t filled) (grid0.coords t)) := by
  rw [outsAt0_A m c t h0]; frame_out
  rw [(hs0_0 t).read_unread, (hs0_1 t).read_unread, (hs0_3 t).read_unread, (hs0_4 t).read_unread, View.read_writes_junk_eq_canon, View.readCov_eq_canon', View.readCov_eq_canon']
  sl_kernel_rfl

theorem sinks_later (h0 : ¬ t.val % 16 = 0) : (outsAt0 m c t.val t.isLt).2.1
    = k0_pay1 (k0_pay353 (before m c t).2.1) (sinkRows (ptOf m c t (before m c t).2.2) (grid0.coords t)) := by
  rw [outsAt0_B m c t h0]; frame_out
  rw [read_unread_whole, (hs0_0 t).read_unread, (hs0_1 t).read_unread, (hs0_3 t).read_unread, (hs0_4 t).read_unread]
  sl_kernel_rfl

end Cert.AttnBwdIdeal.Value
end
-- ==== Proof.AttnModel.lean ====
/-
  One attention head over one block of 128 queries and its 256 keys, over the reals, and the gradients of its
  output; and the extended-real softmax that both programs compute, read as the real one.
-/
module

public import proofs.«01_k».proof.Proof.RealLift

@[expose] public section

noncomputable section

namespace Cert.AttnModel

open Idealize.ShloMosaic Cert.RealLift

variable (q : Fin 128 → Fin 64 → ℝ) (k v : Fin 256 → Fin 64 → ℝ) (o : Fin 128 → Fin 64 → ℝ)
  (bias : Fin 128 → Fin 256 → ℝ) (ok : Fin 128 → Fin 256 → Prop) (sink : ℝ)

open Classical in
/-- The unnormalised weight of key `j` for query `i`: zero where the mask excludes the key. -/
def e (i : Fin 128) (j : Fin 256) : ℝ := if ok i j then Real.exp ((∑ d, q i d * (1 / 8) * k j d) + bias i j) else 0
/-- The softmax's denominator: the weights and the sink's. -/
def den (i : Fin 128) : ℝ := (∑ j, e q k bias ok i j) + Real.exp sink
def p (i : Fin 128) (j : Fin 256) : ℝ := e q k bias ok i j / den q k bias ok sink i
/-- The sink's probability. -/
def ps (i : Fin 128) : ℝ := Real.exp sink / den q k bias ok sink i
/-- The output. -/
def out (i : Fin 128) (d : Fin 64) : ℝ := ∑ j, p q k bias ok sink i j * v j d
/-- The gradient of a probability, from the gradient `o` of the output. -/
def dp (i : Fin 128) (j : Fin 256) : ℝ := ∑ d, o i d * v j d
def delta (i : Fin 128) : ℝ := ∑ j, p q k bias ok sink i j * dp v o i j
/-- The gradient of a score. -/
def ds (i : Fin 128) (j : Fin 256) : ℝ := p q k bias ok sink i j * (dp v o i j - delta q k v o bias ok sink i)
def dq (i : Fin 128) (d : Fin 64) : ℝ := (∑ j, ds q k v o bias ok sink i j * k j d) * (1 / 8)
def dk (j : Fin 256) (d : Fin 64) : ℝ := ∑ i, q i d * (1 / 8) * ds q k v o bias ok sink i j
def dv (j : Fin 256) (d : Fin 64) : ℝ := ∑ i, o i d * p q k bias ok sink i j
def dsink : ℝ := ∑ i, -(ps q k bias ok sink i * delta q k v o bias ok sink i)

theorem e_nonneg (i : Fin 128) (j : Fin 256) : 0 ≤ e q k bias ok i j := by
  unfold e; split
  · exact (Real.exp_pos _).le
  · exact le_rfl

theorem den_pos (i : Fin 128) : 0 < den q k bias ok sink i :=
  add_pos_of_nonneg_of_pos (Finset.sum_nonneg fun j _ => e_nonneg q k bias ok i j) (Real.exp_pos _)

variable {q k v o bias ok sink}

/-- Keys and values that agree where the mask admits them give the same weights and gradients. -/
theorem e_congr {k' : Fin 256 → Fin 64 → ℝ} (h : ∀ i j, ok i j → ∀ d, k j d = k' j d) : e q k bias ok = e q k' bias ok := by
  funext i j; unfold e
  split
  next hk => rw [Finset.sum_congr rfl fun d _ => by rw [h i j hk d]]
  next => rfl

theorem p_zero {i : Fin 128} {j : Fin 256} (h : ¬ ok i j) : p q k bias ok sink i j = 0 := by
  unfold p e; rw [if_neg h, zero_div]

section Congr
variable {k' v' : Fin 256 → Fin 64 → ℝ} (hk : ∀ i j, ok i j → ∀ d, k j d = k' j d) (hv : ∀ i j, ok i j → ∀ d, v j d = v' j d)
include hk

theorem p_congr : p q k bias ok sink = p q k' bias ok sink := by
  unfold p den; rw [e_congr hk]

theorem ps_congr : ps q k bias ok sink = ps q k' bias ok sink := by
  unfold ps den; rw [e_congr hk]

include hv

theorem p_mul_dp (i : Fin 128) (j : Fin 256) :
    p q k bias ok sink i j * dp v o i j = p q k' bias ok sink i j * dp v' o i j := by
  rw [p_congr hk]
  by_cases h : ok i j
  · unfold dp; rw [Finset.sum_congr rfl fun d _ => by rw [hv i j h d]]
  · rw [p_zero h, zero_mul, zero_mul]

theorem delta_congr : delta q k v o bias ok sink = delta q k' v' o bias ok sink := by
  funext i; unfold delta; exact Finset.sum_congr rfl fun j _ => p_mul_dp hk hv i j

theorem ds_congr : ds q k v o bias ok sink = ds q k' v' o bias ok sink := by
  funext i j; unfold ds
  rw [mul_sub, mul_sub, p_mul_dp hk hv, p_congr hk, delta_congr hk hv]

theorem dq_congr : dq q k v o bias ok sink = dq q k' v' o bias ok sink := by
  funext i d; unfold dq; rw [ds_congr hk hv]
  congr 1
  refine Finset.sum_congr rfl fun j _ => ?_
  by_cases h : ok i j
  · rw [hk i j h d]
  · unfold ds; rw [p_zero h, zero_mul, zero_mul, zero_mul]

theorem dk_congr : dk q k v o bias ok sink = dk q k' v' o bias ok sink := by
  unfold dk; rw [ds_congr hk hv]

omit hv in
theorem dv_congr : dv q k o bias ok sink = dv q k' o bias ok sink := by
  unfold dv; rw [p_congr hk]

theorem dsink_congr : dsink q k v o bias ok sink = dsink q k' v' o bias ok sink := by
  unfold dsink; rw [ps_congr hk, delta_congr hk hv]

end Congr

/-! ## The softmax over the extended reals -/

open Classical in
/-- A score as both programs hold it: minus infinity where the mask excludes the key. -/
def sc (q : Fin 128 → Fin 64 → ℝ) (k : Fin 256 → Fin 64 → ℝ) (bias : Fin 128 → Fin 256 → ℝ) (ok : Fin 128 → Fin 256 → Prop)
    (i : Fin 128) (j : Fin 256) : EReal :=
  if ok i j then (((∑ d, q i d * (1 / 8) * k j d) + bias i j : ℝ) : EReal) else ⊥

/-- The shifted exponential of a score is the weight times the shift's. -/
theorem exp_sc (M : ℝ) (i : Fin 128) (j : Fin 256) :
    Ideal.exp (sc q k bias ok i j - (M : EReal)) = ((e q k bias ok i j * Real.exp (-M) : ℝ) : EReal) := by
  unfold sc e
  split
  · rw [← EReal.coe_sub, Ideal.exp_coe, sub_eq_add_neg, Real.exp_add]
  · rw [show (⊥ : EReal) - (M : EReal) = ⊥ from by simp, Ideal.exp_bot, zero_mul, EReal.coe_zero]

theorem exp_sink (M : ℝ) : Ideal.exp ((sink : EReal) - (M : EReal)) = ((Real.exp sink * Real.exp (-M) : ℝ) : EReal) := by
  rw [← EReal.coe_sub, Ideal.exp_coe, sub_eq_add_neg, Real.exp_add]

/-- The shifted denominator. -/
theorem sum_exp (M : ℝ) (i : Fin 128) :
    (∑ j, Ideal.exp (sc q k bias ok i j - (M : EReal))) + Ideal.exp ((sink : EReal) - (M : EReal))
      = ((den q k bias ok sink i * Real.exp (-M) : ℝ) : EReal) := by
  simp only [exp_sc, exp_sink, coe_sum, ← EReal.coe_add]
  rw [den, add_mul, Finset.sum_mul]

theorem shift_ne (M : ℝ) (i : Fin 128) : den q k bias ok sink i * Real.exp (-M) ≠ 0 :=
  (mul_pos (den_pos q k bias ok sink i) (Real.exp_pos _)).ne'

/-- A maximum of scores that takes in the sink is a real number. -/
theorem max_real (f : Fin 256 → EReal) (hf : ∀ j, f j ≠ ⊤) (s : ℝ) :
    ∃ M : ℝ, max (Finset.univ.fold max ⊥ f) (s : EReal) = (M : EReal) := by
  have h1 : max (Finset.univ.fold max ⊥ f) (s : EReal) ≠ ⊤ := by
    intro h
    have : Finset.univ.fold max (⊥ : EReal) f < ⊤ := (Finset.fold_max_lt (⊤ : EReal)).2 ⟨bot_lt_top, fun j _ => lt_top_iff_ne_top.2 (hf j)⟩
    exact absurd h (max_lt this (EReal.coe_lt_top s)).ne
  have h2 : max (Finset.univ.fold max ⊥ f) (s : EReal) ≠ ⊥ := by
    intro h
    have : (s : EReal) ≤ ⊥ := h ▸ le_max_right _ _
    exact absurd (le_bot_iff.1 this) (EReal.coe_ne_bot s)
  exact ⟨_, (EReal.coe_toReal h1 h2).symm⟩

theorem sc_ne_top (i : Fin 128) (j : Fin 256) : sc q k bias ok i j ≠ ⊤ := by
  unfold sc; split
  · exact EReal.coe_ne_top _
  · exact bot_ne_top

end Cert.AttnModel

end
-- ==== Proof.AttnHeads.lean ====
/-
  The eight heads of one block of 128 queries, over the reals: two heads' worth of keys and values, four query heads
  over each.
-/
module

public import proofs.«01_k».proof.Proof.AttnModel

@[expose] public section

noncomputable section

namespace Cert.AttnModel

open Idealize.ShloMosaic Cert.RealLift

/-- The lane of a query head's feature, and of a key head's. -/
def qlane (h : Fin 2) (g : Fin 4) (d : Fin 64) : Fin 512 := ⟨256 * h + 64 * g + d, by omega⟩
def klane (h : Fin 2) (d : Fin 64) : Fin 128 := ⟨64 * h + d, by omega⟩

/-- A block's operands: keys and values, queries, the output's gradient, bias, mask and sinks. -/
structure Heads where
  k : Fin 256 → Fin 128 → ℝ
  v : Fin 256 → Fin 128 → ℝ
  q : Fin 128 → Fin 512 → ℝ
  o : Fin 128 → Fin 512 → ℝ
  bias : Fin 2 → Fin 4 → Fin 128 → Fin 256 → ℝ
  ok : Fin 128 → Fin 256 → Prop
  S : Fin 2 → Fin 4 → ℝ

namespace Heads
variable (H : Heads) (h : Fin 2) (g : Fin 4)
def K : Fin 256 → Fin 64 → ℝ := fun y d => H.k y (klane h d)
def V : Fin 256 → Fin 64 → ℝ := fun y d => H.v y (klane h d)
def Q : Fin 128 → Fin 64 → ℝ := fun i d => H.q i (qlane h g d)
def O : Fin 128 → Fin 64 → ℝ := fun i d => H.o i (qlane h g d)
/-- The output and the gradients: of the queries, of the keys and values (over the four query heads), of the sink. -/
def OUT : Fin 128 → Fin 64 → ℝ := out (H.Q h g) (H.K h) (H.V h) (H.bias h g) H.ok (H.S h g)
def DQ : Fin 128 → Fin 64 → ℝ := dq (H.Q h g) (H.K h) (H.V h) (H.O h g) (H.bias h g) H.ok (H.S h g)
def DK : Fin 256 → Fin 64 → ℝ := fun y d => ∑ g, dk (H.Q h g) (H.K h) (H.V h) (H.O h g) (H.bias h g) H.ok (H.S h g) y d
def DV : Fin 256 → Fin 64 → ℝ := fun y d => ∑ g, dv (H.Q h g) (H.K h) (H.O h g) (H.bias h g) H.ok (H.S h g) y d
def DS : ℝ := dsink (H.Q h g) (H.K h) (H.V h) (H.O h g) (H.bias h g) H.ok (H.S h g)

section Congr
variable {H} {k' v' : Fin 256 → Fin 128 → ℝ} (hk : ∀ i j, H.ok i j → ∀ l, H.k j l = k' j l) (hv : ∀ i j, H.ok i j → ∀ l, H.v j l = v' j l)
include hk hv

/-- Keys and values that agree where the mask admits them give the same gradients. -/
theorem DQ_congr : H.DQ h g = ({ H with k := k', v := v' } : Heads).DQ h g :=
  dq_congr (fun i j ho d => hk i j ho _) (fun i j ho d => hv i j ho _)
theorem DK_congr : H.DK h = ({ H with k := k', v := v' } : Heads).DK h := by
  funext y d
  exact Finset.sum_congr rfl fun g _ => congrFun (congrFun (dk_congr (fun i j ho d => hk i j ho _) (fun i j ho d => hv i j ho _)) y) d
theorem DV_congr : H.DV h = ({ H with k := k', v := v' } : Heads).DV h := by
  funext y d
  exact Finset.sum_congr rfl fun g _ => congrFun (congrFun (dv_congr (fun i j ho d => hk i j ho _)) y) d
theorem DS_congr : H.DS h g = ({ H with k := k', v := v' } : Heads).DS h g :=
  dsink_congr (fun i j ho d => hk i j ho _) (fun i j ho d => hv i j ho _)
end Congr

end Heads

/-! ## The blocks of a sequence of 8192 tokens -/

/-- Token `i` of block `n`. -/
def tok (n : Fin 64) (i : Fin 128) : Fin 8192 := ⟨128 * n + i, by omega⟩
/-- Which keys block `n` admits: the window of 128, and none before the sequence. -/
def admits (n : Fin 64) (i : Fin 128) (y : Fin 256) : Prop := (i : ℕ) < y ∧ (y : ℕ) ≤ 128 + i ∧ ((n : ℕ) = 0 → 128 ≤ (y : ℕ))
def slope (h : Fin 2) (g : Fin 4) : ℝ := 1 / 2 ^ (4 * (h : ℕ) + g + 1)
def alibi (h : Fin 2) (g : Fin 4) (i : Fin 128) (y : Fin 256) : ℝ := -slope h g * (128 + (i : ℕ) - (y : ℕ) : ℝ)
/-- Key row `y` of block `n`: the previous block's rows, then its own; zero before the sequence. -/
def byBlock {m : ℕ} (X : Fin 8192 → Fin m → ℝ) (n : Fin 64) (y : Fin 256) (l : Fin m) : ℝ :=
  if hy : (y : ℕ) < 128 then if (n : ℕ) = 0 then 0 else X (tok (n - 1) ⟨y, hy⟩) l else X (tok n ⟨y - 128, by omega⟩) l
def logis (z : ℝ) : ℝ := 1 / (1 + Real.exp (-z))

/-- Block `n`'s heads over the projections `X` (columns 1280–1791 queries, 1792–1919 keys, 1920–2047 values, 2048 on
    gates), the gradient `D` (columns 512 on) and the sinks. -/
def headsOf (X : Fin 8192 → Fin 2560 → ℝ) (D : Fin 8192 → Fin 1024 → ℝ) (s : Fin 8 → ℝ) (n : Fin 64) : Heads where
  k := byBlock (fun r l => X r ⟨1792 + (l : Fin 128), by omega⟩) n
  v := byBlock (fun r l => X r ⟨1920 + (l : Fin 128), by omega⟩) n
  q i l := X (tok n i) ⟨1280 + l, by omega⟩
  o i l := D (tok n i) ⟨512 + l, by omega⟩ * (X (tok n i) ⟨2048 + l, by omega⟩ * logis (X (tok n i) ⟨2048 + l, by omega⟩))
  bias := alibi
  ok := admits n
  S h g := s ⟨4 * h + g, by omega⟩

/-- The gate's gradient. -/
def dgate (z d y : ℝ) : ℝ := d * y * (logis z * (1 + z * (1 - logis z)))

end Cert.AttnModel

end
-- ==== Proof.AttnPair.lean ====
/-
  The pair stages read at an index on real operands: each of the four heads of a pair is one head of the model.
-/
module

public import proofs.«01_k».proof.Proof.AttnModel
public import proofs.«01_k».proof.Proof.AttnStage
public import Idealize.ShloMosaic.Lib.Pointwise
public import Idealize.ShloMosaic.Lib.WordCmp

@[expose] public section

set_option maxRecDepth 16384

noncomputable section

namespace Cert.AttnBwdIdeal.Value

open Cert.AttnBwdIdeal Cert.AttnBwdIdeal.Gen Idealize.ShloMosaic Cert.RealLift Cert.AttnModel

/-- Row `i` of the stacked head `j`; lane `d` of the side-by-side head `a`; its column for key `y`. -/
def row (j : Fin 2) (i : Fin 128) : Fin 256 := ⟨128 * j + i, by omega⟩
def lane (a : Fin 2) (d : Fin 64) : Fin 128 := ⟨64 * a + d, by omega⟩
def col (a : Fin 2) (y : Fin 256) : Fin 512 := ⟨256 * a + y, by omega⟩

theorem sum_row {M : Type} [AddCommMonoid M] (f : Fin 256 → M) : ∑ r, f r = ∑ j, ∑ i, f (row j i) :=
  (Fin.sum_univ_tiles 2 128 rfl f).trans (Finset.sum_congr rfl fun j _ => Finset.sum_congr rfl fun i _ =>
    congrArg f (Fin.ext (by simp only [row]; omega)))
theorem sum_lane {M : Type} [AddCommMonoid M] (f : Fin 128 → M) : ∑ l, f l = ∑ a, ∑ d, f (lane a d) :=
  (Fin.sum_univ_tiles 2 64 rfl f).trans (Finset.sum_congr rfl fun j _ => Finset.sum_congr rfl fun i _ =>
    congrArg f (Fin.ext (by simp only [lane]; omega)))
theorem sum_col {M : Type} [AddCommMonoid M] (f : Fin 512 → M) : ∑ c, f c = ∑ a, ∑ y, f (col a y) :=
  (Fin.sum_univ_tiles 2 256 rfl f).trans (Finset.sum_congr rfl fun j _ => Finset.sum_congr rfl fun i _ =>
    congrArg f (Fin.ext (by simp only [col]; omega)))

theorem ofBits_eighth : Ideal.ofBits .f32 0x3E000000#32 = ((1 / 8 : ℝ) : EReal) := by
  simp [Ideal.ofBits, Ideal.ieee, -EReal.coe_mul]; norm_num
theorem ofBits_ninf : Ideal.ofBits .f32 0xFF800000#32 = ⊥ := by simp [Ideal.ofBits, Ideal.ieee]

theorem lowLanes_at (r : Fin 256) (l : Fin 128) : lowLanes (ix2 r l) = if (l : ℕ) < 64 then 1#1 else 0#1 := by
  pointwise [lowLanes, hlo_ix]
  have hl := l.isLt
  by_cases h : (l : ℕ) < 64
  · rw [if_pos h]; exact (WordCmp.cmpi_slt_ofNat_eq_one_iff (by omega) (by omega)).2 h
  · rw [if_neg h]; exact (WordCmp.cmpi_slt_ofNat_eq_zero_iff (by omega) (by omega)).2 h

/-- The block matrix of a pair holds the keys of each head in that head's lanes, zero in the other's. -/
theorem pairMat_at (x y : FVec Ideal S256x128 .f32) (K : Fin 256 → Fin 64 → ℝ)
    (hx : ∀ r d, x (ix2 r (lane 0 d)) = ((K r d : ℝ) : EReal)) (hy : ∀ r d, y (ix2 r (lane 1 d)) = ((K r d : ℝ) : EReal))
    (a a' : Fin 2) (r : Fin 256) (d : Fin 64) :
    pairMat x y (ix2 (col a r) (lane a' d)) = (((if a = a' then K r d else 0 : ℝ)) : EReal) := by
  fin_cases a <;> fin_cases a'
  all_goals pointwise [pairMat, lowLanes_at, col, lane]
  · exact (congrArg x (congrArg (ix2 r) (Fin.ext (by simp [lane])))).trans (hx r d)
  · exact EReal.coe_zero.symm
  · exact EReal.coe_zero.symm
  · exact hy r d

/-- The model's head `(j, a)` among the stacked rows. -/
def headOf (Q : Fin 2 → Fin 128 → Fin 128 → ℝ) (j a : Fin 2) : Fin 128 → Fin 64 → ℝ := fun i d => Q j i (lane a d)

/-- A sum over lanes against a pair's block matrix keeps one head's lanes. -/
theorem sum_pair (f : Fin 128 → ℝ) (K : Fin 64 → ℝ) (a : Fin 2) :
    (∑ a', ∑ d, f (lane a' d) * (if a = a' then K d else 0)) = ∑ d, f (lane a d) * K d := by
  rw [Finset.sum_eq_single a (fun b _ hb => by simp [Ne.symm hb]) (by simp)]
  simp

theorem against_at (q : FVec Ideal S256x128 .bf16) (k : FVec Ideal S512x128 .bf16) (r : Fin 256) (Q : Fin 128 → ℝ) (K : Fin 256 → Fin 64 → ℝ)
    (hq : ∀ l, q (ix2 r l) = ((Q l : ℝ) : EReal))
    (hk : ∀ a a' r d, k (ix2 (col a r) (lane a' d)) = (((if a = a' then K r d else 0 : ℝ)) : EReal)) (a : Fin 2) (y : Fin 256) :
    against q k (ix2 r (col a y)) = ((∑ d, Q (lane a d) * K y d : ℝ) : EReal) := by
  pointwise [against]
  rw [sum_lane]
  simp only [hq, hk, ← EReal.coe_mul, coe_sum]
  rw [sum_pair Q (K y) a]

theorem scaled_at (q : FVec Ideal S256x128 .f32) (r : Fin 256) (l : Fin 128) (w : ℝ) (hq : q (ix2 r l) = ((w : ℝ) : EReal)) :
    scaled q (ix2 r l) = ((w * (1 / 8) : ℝ) : EReal) := by
  pointwise [scaled]
  rw [hq, ofBits_eighth, EReal.coe_mul]

section Softmax
variable (s : FVec Ideal S256x256 .f32) (c : FVec Ideal S256x1 .f32) (r : Fin 256) (i : Fin 128)
  (q : Fin 128 → Fin 64 → ℝ) (K : Fin 256 → Fin 64 → ℝ) (bias : Fin 128 → Fin 256 → ℝ) (ok : Fin 128 → Fin 256 → Prop) (sink : ℝ)
  (hs : ∀ y, s (ix2 r y) = sc q K bias ok i y) (hc : c (ix2 r 0) = ((sink : ℝ) : EReal))
include hs hc

theorem rowMax_at : ∃ M : ℝ, rowMax s c (ix2 r 0) = ((M : ℝ) : EReal) := by
  obtain ⟨M, hM⟩ := max_real (fun y => sc q K bias ok i y) (fun y => sc_ne_top i y) sink
  refine ⟨M, ?_⟩
  pointwise [rowMax]
  simp only [hs, hc, ofBits_ninf]
  exact hM

theorem expScores_at (M : ℝ) (hM : rowMax s c (ix2 r 0) = ((M : ℝ) : EReal)) (y : Fin 256) :
    expScores s c (ix2 r y) = ((e q K bias ok i y * Real.exp (-M) : ℝ) : EReal) := by
  pointwise [expScores]
  rw [hs, hM]
  exact exp_sc M i y

theorem expSink_at (M : ℝ) (hM : rowMax s c (ix2 r 0) = ((M : ℝ) : EReal)) :
    expSink s c (ix2 r 0) = ((Real.exp sink * Real.exp (-M) : ℝ) : EReal) := by
  pointwise [expSink]
  rw [hc, hM]
  exact exp_sink M

theorem recipSum_at (M : ℝ) (hM : rowMax s c (ix2 r 0) = ((M : ℝ) : EReal)) :
    recipSum s c (ix2 r 0) = ((1 / (den q K bias ok sink i * Real.exp (-M)) : ℝ) : EReal) := by
  pointwise [recipSum]
  simp only [expScores_at s c r i q K bias ok sink hs hc M hM, expSink_at s c r i q K bias ok sink hs hc M hM, coe_sum, ← EReal.coe_add]
  rw [← Finset.sum_mul, ← add_mul]
  rw [← EReal.coe_one]
  exact div_coe_coe (shift_ne M i) 1

/-- A half's probabilities are the head's. -/
theorem probOf_at (y : Fin 256) : probOf s c (ix2 r y) = ((p q K bias ok sink i y : ℝ) : EReal) := by
  obtain ⟨M, hM⟩ := rowMax_at s c r i q K bias ok sink hs hc
  pointwise [probOf]
  rw [expScores_at s c r i q K bias ok sink hs hc M hM, recipSum_at s c r i q K bias ok sink hs hc M hM, ← EReal.coe_mul]
  refine congrArg Real.toEReal ?_
  have h1 := (den_pos q K bias ok sink i).ne'
  have h2 := (Real.exp_pos (-M)).ne'
  unfold p; field_simp

theorem probSinkOf_at : probSinkOf s c (ix2 r 0) = ((ps q K bias ok sink i : ℝ) : EReal) := by
  obtain ⟨M, hM⟩ := rowMax_at s c r i q K bias ok sink hs hc
  pointwise [probSinkOf]
  rw [expSink_at s c r i q K bias ok sink hs hc M hM, recipSum_at s c r i q K bias ok sink hs hc M hM, ← EReal.coe_mul]
  refine congrArg Real.toEReal ?_
  have h1 := (den_pos q K bias ok sink i).ne'
  have h2 := (Real.exp_pos (-M)).ne'
  unfold ps; field_simp

end Softmax

section Grad
variable (P D : FVec Ideal S256x256 .f32) (r : Fin 256) (f g : Fin 256 → ℝ)
  (hP : ∀ y, P (ix2 r y) = ((f y : ℝ) : EReal)) (hD : ∀ y, D (ix2 r y) = ((g y : ℝ) : EReal))
include hP hD

theorem deltaOf_at : deltaOf P D (ix2 r 0) = ((∑ y, f y * g y : ℝ) : EReal) := by
  pointwise [deltaOf]
  simp only [hP, hD, ← EReal.coe_mul, coe_sum]

theorem dscoreOf_at (y : Fin 256) : dscoreOf P D (ix2 r y) = ((f y * (g y - ∑ z, f z * g z) : ℝ) : EReal) := by
  pointwise [dscoreOf]
  rw [deltaOf_at P D r f g hP hD, hP, hD, ← EReal.coe_sub, ← EReal.coe_mul]

theorem dsinkRows_at (S : FVec Ideal S256x1 .f32) (w : ℝ) (hS : S (ix2 r 0) = ((w : ℝ) : EReal)) :
    dsinkRows S P D (ix2 r 0) = ((-(w * ∑ z, f z * g z) : ℝ) : EReal) := by
  pointwise [dsinkRows]
  rw [deltaOf_at P D r f g hP hD, hS, ← EReal.coe_zero, ← EReal.coe_sub, ← EReal.coe_mul]
  exact congrArg Real.toEReal (by ring)

end Grad

theorem sinkCol_at (s : Fin 2 → ℝ) (j : Fin 2) (i : Fin 128) :
    sinkCol (F := Ideal) ((s 0 : ℝ) : EReal) ((s 1 : ℝ) : EReal) (ix2 (row j i) 0) = ((s j : ℝ) : EReal) := by
  fin_cases j <;> pointwise [sinkCol, row, hlo_ix]
  · have hi := i.isLt
    rw [(WordCmp.cmpi_slt_ofNat_eq_one_iff (by omega) (by omega)).2 hi]; rfl
  · have hi := i.isLt
    rw [(WordCmp.cmpi_slt_ofNat_eq_zero_iff (by omega) (by omega)).2 (by omega)]; rfl

theorem leftHalf_at (x : FVec Ideal S256x512 .f32) (r y : Fin 256) : leftHalf x (ix2 r y) = x (ix2 r (col 0 y)) := by
  pointwise [leftHalf]
  exact congrArg x (congrArg (ix2 r) (Fin.ext (by simp [col])))
theorem rightHalf_at (x : FVec Ideal S256x512 .f32) (r y : Fin 256) : rightHalf x (ix2 r y) = x (ix2 r (col 1 y)) := by
  pointwise [rightHalf]
  exact congrArg x (congrArg (ix2 r) (Fin.ext (by simp [col])))
theorem sideBySide_at (l h : FVec Ideal S256x256 .f32) (r y : Fin 256) (a : Fin 2) :
    sideBySide l h (ix2 r (col a y)) = if a = 0 then l (ix2 r y) else h (ix2 r y) := by
  fin_cases a <;> pointwise [sideBySide, col]
theorem sumTop_at (x : FVec Ideal S256x1 .f32) : sumTop x (ix2 0 0) = ∑ i, x (ix2 (row 0 i) 0) := by
  pointwise [sumTop]
  exact Finset.sum_congr rfl fun i _ => congrArg (fun r => x (ix2 r 0)) (Fin.ext (by simp [row]))
theorem sumBottom_at (x : FVec Ideal S256x1 .f32) : sumBottom x (ix2 0 0) = ∑ i, x (ix2 (row 1 i) 0) := by
  pointwise [sumBottom]
  exact Finset.sum_congr rfl fun i _ => congrArg (fun r => x (ix2 r 0)) (Fin.ext (by simp [row]))

theorem dqueryOf_at (s : FVec Ideal S256x512 .f32) (k : FVec Ideal S512x128 .bf16) (G : Fin 2 → Fin 256 → ℝ) (K : Fin 256 → Fin 64 → ℝ) (r : Fin 256)
    (hs : ∀ a y, s (ix2 r (col a y)) = ((G a y : ℝ) : EReal))
    (hk : ∀ a a' r d, k (ix2 (col a r) (lane a' d)) = (((if a = a' then K r d else 0 : ℝ)) : EReal)) (a : Fin 2) (d : Fin 64) :
    dqueryOf s k (ix2 r (lane a d)) = (((∑ y, G a y * K y d) * (1 / 8) : ℝ) : EReal) := by
  pointwise [dqueryOf]
  rw [sum_col]
  simp only [hs, hk, ← EReal.coe_mul, coe_sum, ofBits_eighth]
  rw [Finset.sum_eq_single a (fun b _ hb => by simp [hb]) (by simp)]
  simp

theorem foldOf_at (x : FVec Ideal S256x128 .bf16) (s : FVec Ideal S256x512 .f32) (Q : Fin 2 → Fin 128 → Fin 128 → ℝ) (G : Fin 2 → Fin 2 → Fin 128 → Fin 256 → ℝ)
    (hx : ∀ j i l, x (ix2 (row j i) l) = ((Q j i l : ℝ) : EReal)) (hs : ∀ j i a y, s (ix2 (row j i) (col a y)) = ((G j a i y : ℝ) : EReal)) (d : Fin 64) (y : Fin 256) :
    foldOf x s (ix2 d y) = ((∑ a, ∑ j, ∑ i, Q j i (lane a d) * G j a i y : ℝ) : EReal) := by
  have h (a : Fin 2) : (∑ r, x (ix2 r (lane a d)) * s (ix2 r (col a y))) = ((∑ j, ∑ i, Q j i (lane a d) * G j a i y : ℝ) : EReal) := by
    rw [sum_row]
    simp only [hx, hs, ← EReal.coe_mul, coe_sum]
  rw [Fin.sum_univ_two, EReal.coe_add, ← h, ← h]
  pointwise [foldOf]
  refine congrArg₂ (· + ·) (Finset.sum_congr rfl fun r _ => ?_) rfl
  exact congrArg₂ (· * ·) (congrArg x (congrArg (ix2 r) (Fin.ext (by simp [lane])))) (congrArg s (congrArg (ix2 r) (Fin.ext (by simp [col]))))

/-! ## A pair's stages over real operands -/

/-- The pair's operands are those of the model's four heads `(j, a)`: stacked rows `j`, side `a`. -/
structure PairAt (P : Pair Ideal) (Q O : Fin 2 → Fin 128 → Fin 128 → ℝ) (K V : Fin 256 → Fin 64 → ℝ)
    (bias : Fin 2 → Fin 2 → Fin 128 → Fin 256 → ℝ) (ok : Fin 128 → Fin 256 → Prop) (S : Fin 2 → Fin 2 → ℝ) : Prop where
  q : ∀ j i l, P.q (ix2 (row j i) l) = ((Q j i l : ℝ) : EReal)
  o : ∀ j i l, P.o (ix2 (row j i) l) = ((O j i l : ℝ) : EReal)
  k : ∀ a a' r d, P.k (ix2 (col a r) (lane a' d)) = (((if a = a' then K r d else 0 : ℝ)) : EReal)
  v : ∀ a a' r d, P.v (ix2 (col a r) (lane a' d)) = (((if a = a' then V r d else 0 : ℝ)) : EReal)
  b_ok : ∀ j i a y, ok i y → P.b (ix4 0 0 (row j i) (col a y)) = ((bias j a i y : ℝ) : EReal)
  b_no : ∀ j i a y, ¬ ok i y → P.b (ix4 0 0 (row j i) (col a y)) = ⊥
  c : ∀ j i, P.c (ix2 (row j i) 0) = ((S j 0 : ℝ) : EReal)
  d : ∀ j i, P.d (ix2 (row j i) 0) = ((S j 1 : ℝ) : EReal)

namespace PairAt
variable {P : Pair Ideal} {Q O : Fin 2 → Fin 128 → Fin 128 → ℝ} {K V : Fin 256 → Fin 64 → ℝ}
    {bias : Fin 2 → Fin 2 → Fin 128 → Fin 256 → ℝ} {ok : Fin 128 → Fin 256 → Prop} {S : Fin 2 → Fin 2 → ℝ}
    (h : PairAt P Q O K V bias ok S)
include h

theorem s_at (j : Fin 2) (i : Fin 128) (a : Fin 2) (y : Fin 256) :
    P.s (ix2 (row j i) (col a y)) = sc (headOf Q j a) K (bias j a) ok i y := by
  have hk := against_at (scaled P.q) P.k (row j i) (fun l => Q j i l * (1 / 8)) K (fun l => scaled_at _ _ _ _ (h.q j i l)) h.k a y
  unfold Pair.s
  pointwise [scoresOf]
  rw [hk]
  unfold sc
  split
  next ho => rw [h.b_ok j i a y ho, EReal.coe_add]; rfl
  next ho => rw [h.b_no j i a y ho]; rfl

theorem left_at (j : Fin 2) (i : Fin 128) (y : Fin 256) : leftHalf P.s (ix2 (row j i) y) = sc (headOf Q j 0) K (bias j 0) ok i y := by
  rw [leftHalf_at, h.s_at]
theorem right_at (j : Fin 2) (i : Fin 128) (y : Fin 256) : rightHalf P.s (ix2 (row j i) y) = sc (headOf Q j 1) K (bias j 1) ok i y := by
  rw [rightHalf_at, h.s_at]

theorem p_at (j : Fin 2) (i : Fin 128) (a : Fin 2) (y : Fin 256) :
    P.p (ix2 (row j i) (col a y)) = ((p (headOf Q j a) K (bias j a) ok (S j a) i y : ℝ) : EReal) := by
  unfold Pair.p probsOf
  rw [sideBySide_at]
  split
  next ha => subst ha; exact probOf_at _ _ _ i _ _ _ _ _ (fun y => h.left_at j i y) (h.c j i) y
  next ha =>
    obtain rfl : a = 1 := by omega
    exact probOf_at _ _ _ i _ _ _ _ _ (fun y => h.right_at j i y) (h.d j i) y

theorem dp_at (j : Fin 2) (i : Fin 128) (a : Fin 2) (y : Fin 256) :
    P.dp (ix2 (row j i) (col a y)) = ((dp V (headOf O j a) i y : ℝ) : EReal) :=
  against_at _ _ (row j i) (fun l => O j i l) V (fun l => h.o j i l) h.v a y

theorem pl_at (j : Fin 2) (i : Fin 128) (y : Fin 256) : leftHalf P.p (ix2 (row j i) y) = ((p (headOf Q j 0) K (bias j 0) ok (S j 0) i y : ℝ) : EReal) := by
  rw [leftHalf_at, h.p_at]
theorem pr_at (j : Fin 2) (i : Fin 128) (y : Fin 256) : rightHalf P.p (ix2 (row j i) y) = ((p (headOf Q j 1) K (bias j 1) ok (S j 1) i y : ℝ) : EReal) := by
  rw [rightHalf_at, h.p_at]
theorem dpl_at (j : Fin 2) (i : Fin 128) (y : Fin 256) : leftHalf P.dp (ix2 (row j i) y) = ((dp V (headOf O j 0) i y : ℝ) : EReal) := by
  rw [leftHalf_at, h.dp_at]
theorem dpr_at (j : Fin 2) (i : Fin 128) (y : Fin 256) : rightHalf P.dp (ix2 (row j i) y) = ((dp V (headOf O j 1) i y : ℝ) : EReal) := by
  rw [rightHalf_at, h.dp_at]

theorem ds_at (j : Fin 2) (i : Fin 128) (a : Fin 2) (y : Fin 256) :
    P.ds (ix2 (row j i) (col a y)) = ((ds (headOf Q j a) K V (headOf O j a) (bias j a) ok (S j a) i y : ℝ) : EReal) := by
  unfold Pair.ds dscoresOf
  rw [sideBySide_at]
  split
  next ha => subst ha; exact dscoreOf_at _ _ _ _ _ (h.pl_at j i) (h.dpl_at j i) y
  next ha =>
    obtain rfl : a = 1 := by omega
    exact dscoreOf_at _ _ _ _ _ (h.pr_at j i) (h.dpr_at j i) y

/-- The queries' gradient. -/
theorem dq_at (j : Fin 2) (i : Fin 128) (a : Fin 2) (d : Fin 64) :
    P.dq (ix2 (row j i) (lane a d)) = ((dq (headOf Q j a) K V (headOf O j a) (bias j a) ok (S j a) i d : ℝ) : EReal) :=
  dqueryOf_at _ _ (fun a y => ds (headOf Q j a) K V (headOf O j a) (bias j a) ok (S j a) i y) K (row j i) (fun a y => h.ds_at j i a y) h.k a d

/-- The keys' gradient: the sum over the four heads. -/
theorem dk_at (d : Fin 64) (y : Fin 256) :
    P.dk (ix2 d y) = ((∑ a, ∑ j, dk (headOf Q j a) K V (headOf O j a) (bias j a) ok (S j a) y d : ℝ) : EReal) :=
  foldOf_at _ _ (fun j i l => Q j i l * (1 / 8)) _ (fun j i l => scaled_at _ _ _ _ (h.q j i l)) (fun j i a y => h.ds_at j i a y) d y

/-- The values' gradient. -/
theorem dv_at (d : Fin 64) (y : Fin 256) :
    P.dv (ix2 d y) = ((∑ a, ∑ j, dv (headOf Q j a) K (headOf O j a) (bias j a) ok (S j a) y d : ℝ) : EReal) :=
  foldOf_at _ _ O _ (fun j i l => h.o j i l) (fun j i a y => h.p_at j i a y) d y

theorem sinkL_at (j : Fin 2) (i : Fin 128) : P.sinkL (ix2 (row j i) 0)
    = ((-(ps (headOf Q j 0) K (bias j 0) ok (S j 0) i * delta (headOf Q j 0) K V (headOf O j 0) (bias j 0) ok (S j 0) i) : ℝ) : EReal) :=
  dsinkRows_at _ _ _ _ _ (h.pl_at j i) (h.dpl_at j i) _ _ (probSinkOf_at _ _ _ i _ _ _ _ _ (fun y => h.left_at j i y) (h.c j i))
theorem sinkR_at (j : Fin 2) (i : Fin 128) : P.sinkR (ix2 (row j i) 0)
    = ((-(ps (headOf Q j 1) K (bias j 1) ok (S j 1) i * delta (headOf Q j 1) K V (headOf O j 1) (bias j 1) ok (S j 1) i) : ℝ) : EReal) :=
  dsinkRows_at _ _ _ _ _ (h.pr_at j i) (h.dpr_at j i) _ _ (probSinkOf_at _ _ _ i _ _ _ _ _ (fun y => h.right_at j i y) (h.d j i))

theorem topL : sumTop P.sinkL (ix2 0 0) = ((dsink (headOf Q 0 0) K V (headOf O 0 0) (bias 0 0) ok (S 0 0) : ℝ) : EReal) := by
  rw [sumTop_at]; simp only [h.sinkL_at, coe_sum]; rfl
theorem topR : sumTop P.sinkR (ix2 0 0) = ((dsink (headOf Q 0 1) K V (headOf O 0 1) (bias 0 1) ok (S 0 1) : ℝ) : EReal) := by
  rw [sumTop_at]; simp only [h.sinkR_at, coe_sum]; rfl
theorem bottomL : sumBottom P.sinkL (ix2 0 0) = ((dsink (headOf Q 1 0) K V (headOf O 1 0) (bias 1 0) ok (S 1 0) : ℝ) : EReal) := by
  rw [sumBottom_at]; simp only [h.sinkL_at, coe_sum]; rfl
theorem bottomR : sumBottom P.sinkR (ix2 0 0) = ((dsink (headOf Q 1 1) K V (headOf O 1 1) (bias 1 1) ok (S 1 1) : ℝ) : EReal) := by
  rw [sumBottom_at]; simp only [h.sinkR_at, coe_sum]; rfl

end PairAt

end Cert.AttnBwdIdeal.Value

end
-- ==== Proof.AttnBlock.lean ====
/-
  A block's stages over real operands: its rows and its parts of the sinks' gradients are the model's.
-/
module

public import proofs.«01_k».proof.Proof.AttnHeads
public import proofs.«01_k».proof.Proof.AttnPair

@[expose] public section

set_option maxRecDepth 16384

noncomputable section

namespace Cert.AttnBwdIdeal.Value

open Cert.AttnBwdIdeal Cert.AttnBwdIdeal.Gen Idealize.ShloMosaic Cert.RealLift Cert.AttnModel

/-- The query head of stacked row `j`, side `a`. -/
def qhead (j a : Fin 2) : Fin 4 := ⟨2 * j + a, by omega⟩

theorem sum_qhead {M : Type} [AddCommMonoid M] (f : Fin 4 → M) : ∑ a, ∑ j, f (qhead j a) = ∑ g, f g := by
  simp only [Fin.sum_univ_two, Fin.sum_univ_four, qhead]
  exact add_add_add_comm _ _ _ _ |>.trans (by simp only [← add_assoc]; rfl)

theorem swapLanes_at (x : FVec Ideal S256x128 .f32) (r : Fin 256) (d : Fin 64) :
    swapLanes x (ix2 r (lane 1 d)) = x (ix2 r (lane 0 d)) ∧ swapLanes x (ix2 r (lane 0 d)) = x (ix2 r (lane 1 d)) := by
  constructor
  all_goals
    pointwise [swapLanes, lane]
    exact congrArg x (congrArg (ix2 r) (Fin.ext (by simp; omega)))

theorem stackLo_at (x : FVec Ideal S128x512 .f32) (j : Fin 2) (i l : Fin 128) :
    stackLo x (ix2 (row j i) l) = x (ix2 i ⟨128 * j + l, by omega⟩) := by
  fin_cases j
  all_goals
    pointwise [stackLo, row]
theorem stackHi_at (x : FVec Ideal S128x512 .f32) (j : Fin 2) (i l : Fin 128) :
    stackHi x (ix2 (row j i) l) = x (ix2 i ⟨256 + 128 * j + l, by omega⟩) := by
  fin_cases j
  all_goals
    pointwise [stackHi, row]

/-- The block's operands are the model's. -/
structure BlkAt (B : Blk Ideal) (H : Heads) : Prop where
  keys : ∀ r l, keysOf B.kp B.kc (ix2 r l) = ((H.k r l : ℝ) : EReal)
  vals : ∀ r l, valsOf B.kp B.kc (ix2 r l) = ((H.v r l : ℝ) : EReal)
  q : ∀ i l, B.q (ix2 i l) = ((H.q i l : ℝ) : EReal)
  o : ∀ i l, doutOf B.g B.dy (ix2 i l) = ((H.o i l : ℝ) : EReal)
  b0_ok : ∀ j i a y, H.ok i y → B.b0 (ix4 0 0 (row j i) (col a y)) = ((H.bias 0 (qhead j a) i y : ℝ) : EReal)
  b0_no : ∀ j i a y, ¬ H.ok i y → B.b0 (ix4 0 0 (row j i) (col a y)) = ⊥
  b1_ok : ∀ j i a y, H.ok i y → B.b1 (ix4 0 0 (row j i) (col a y)) = ((H.bias 1 (qhead j a) i y : ℝ) : EReal)
  b1_no : ∀ j i a y, ¬ H.ok i y → B.b1 (ix4 0 0 (row j i) (col a y)) = ⊥
  s : ∀ (h : Fin 2) (g : Fin 4) (e : Fin 8), (e : ℕ) = 4 * h + g → B.sk e = ((H.S h g : ℝ) : EReal)

/-- The stacked operands of the pair `h`. -/
def stacked (x : Fin 128 → Fin 512 → ℝ) (h : Fin 2) : Fin 2 → Fin 128 → Fin 128 → ℝ := fun j i l => x i ⟨256 * h + 128 * j + l, by omega⟩

namespace BlkAt
variable {B : Blk Ideal} {H : Heads} (hB : BlkAt B H)
include hB

theorem head_q (h j a : Fin 2) : headOf (stacked H.q h) j a = H.Q h (qhead j a) := by
  funext i d; exact congrArg (H.q i) (Fin.ext (by simp only [lane, qhead, qlane]; omega))
theorem head_o (h j a : Fin 2) : headOf (stacked H.o h) j a = H.O h (qhead j a) := by
  funext i d; exact congrArg (H.o i) (Fin.ext (by simp only [lane, qhead, qlane]; omega))

theorem low (x : FVec Ideal S256x128 .f32) (f : Fin 256 → Fin 128 → ℝ) (hx : ∀ r l, x (ix2 r l) = ((f r l : ℝ) : EReal)) (h : Fin 2) (r : Fin 256) (d : Fin 64) :
    x (ix2 r (lane h d)) = ((f r (klane h d) : ℝ) : EReal) := hx r _

theorem pairAt0 : PairAt B.pair0 (stacked H.q 0) (stacked H.o 0) (H.K 0) (H.V 0) (fun j a => H.bias 0 (qhead j a)) H.ok (fun j a => H.S 0 (qhead j a)) where
  q j i l := (stackLo_at B.q j i l).trans ((hB.q _ _).trans (congrArg (fun c => ((H.q i c : ℝ) : EReal)) (Fin.ext (by simp))))
  o j i l := (stackLo_at _ j i l).trans ((hB.o _ _).trans (congrArg (fun c => ((H.o i c : ℝ) : EReal)) (Fin.ext (by simp))))
  k := pairMat_at _ _ (H.K 0) (fun r d => hB.keys r _) (fun r d => (swapLanes_at _ r d).1.trans (hB.keys r _))
  v := pairMat_at _ _ (H.V 0) (fun r d => hB.vals r _) (fun r d => (swapLanes_at _ r d).1.trans (hB.vals r _))
  b_ok := hB.b0_ok
  b_no := hB.b0_no
  c j i := by
    have h := sinkCol_at (fun j => H.S 0 (qhead j 0)) j i
    rw [← hB.s 0 (qhead 0 0) 0 rfl, ← hB.s 0 (qhead 1 0) 2 rfl] at h
    exact h
  d j i := by
    have h := sinkCol_at (fun j => H.S 0 (qhead j 1)) j i
    rw [← hB.s 0 (qhead 0 1) 1 rfl, ← hB.s 0 (qhead 1 1) 3 rfl] at h
    exact h

theorem pairAt1 : PairAt B.pair1 (stacked H.q 1) (stacked H.o 1) (H.K 1) (H.V 1) (fun j a => H.bias 1 (qhead j a)) H.ok (fun j a => H.S 1 (qhead j a)) where
  q j i l := (stackHi_at B.q j i l).trans (hB.q _ _)
  o j i l := (stackHi_at _ j i l).trans (hB.o _ _)
  k := pairMat_at _ _ (H.K 1) (fun r d => (swapLanes_at _ r d).2.trans (hB.keys r _)) (fun r d => hB.keys r _)
  v := pairMat_at _ _ (H.V 1) (fun r d => (swapLanes_at _ r d).2.trans (hB.vals r _)) (fun r d => hB.vals r _)
  b_ok := hB.b1_ok
  b_no := hB.b1_no
  c j i := by
    have h := sinkCol_at (fun j => H.S 1 (qhead j 0)) j i
    rw [← hB.s 1 (qhead 0 0) 4 rfl, ← hB.s 1 (qhead 1 0) 6 rfl] at h
    exact h
  d j i := by
    have h := sinkCol_at (fun j => H.S 1 (qhead j 1)) j i
    rw [← hB.s 1 (qhead 0 1) 5 rfl, ← hB.s 1 (qhead 1 1) 7 rfl] at h
    exact h

/-- The pair of key head `h`. -/
def pairOf (B : Blk Ideal) (h : Fin 2) : Pair Ideal := if h = 0 then B.pair0 else B.pair1
theorem pairAt (h : Fin 2) : PairAt (pairOf B h) (stacked H.q h) (stacked H.o h) (H.K h) (H.V h) (fun j a => H.bias h (qhead j a)) H.ok (fun j a => H.S h (qhead j a)) := by
  fin_cases h
  · exact hB.pairAt0
  · exact hB.pairAt1

theorem dq_at (h j a : Fin 2) (i : Fin 128) (d : Fin 64) : (pairOf B h).dq (ix2 (row j i) (lane a d)) = ((H.DQ h (qhead j a) i d : ℝ) : EReal) := by
  rw [(hB.pairAt h).dq_at, hB.head_q, hB.head_o]; rfl
theorem dk_at (h : Fin 2) (y : Fin 256) (d : Fin 64) : (pairOf B h).dk (ix2 d y) = ((H.DK h y d : ℝ) : EReal) := by
  rw [(hB.pairAt h).dk_at]
  simp only [hB.head_q, hB.head_o]
  exact congrArg Real.toEReal (sum_qhead fun g => dk (H.Q h g) (H.K h) (H.V h) (H.O h g) (H.bias h g) H.ok (H.S h g) y d)
theorem dv_at (h : Fin 2) (y : Fin 256) (d : Fin 64) : (pairOf B h).dv (ix2 d y) = ((H.DV h y d : ℝ) : EReal) := by
  rw [(hB.pairAt h).dv_at]
  simp only [hB.head_q, hB.head_o]
  exact congrArg Real.toEReal (sum_qhead fun g => dv (H.Q h g) (H.K h) (H.O h g) (H.bias h g) H.ok (H.S h g) y d)

omit hB in
theorem stackT_at (x : Fin 2 → FVec Ideal S64x256 .f32) (h : Fin 2) (y : Fin 256) (d : Fin 64) : stackT (x 0) (x 1) (ix2 y (klane h d)) = x h (ix2 d y) := by
  fin_cases h
  all_goals pointwise [stackT, klane]

theorem keys_at (h : Fin 2) (y : Fin 256) (d : Fin 64) : stackT B.pair0.dk B.pair1.dk (ix2 y (klane h d)) = ((H.DK h y d : ℝ) : EReal) :=
  (stackT_at (fun h => (pairOf B h).dk) h y d).trans (hB.dk_at h y d)
theorem vals_at (h : Fin 2) (y : Fin 256) (d : Fin 64) : stackT B.pair0.dv B.pair1.dv (ix2 y (klane h d)) = ((H.DV h y d : ℝ) : EReal) :=
  (stackT_at (fun h => (pairOf B h).dv) h y d).trans (hB.dv_at h y d)

/-- The block's rows, column range by column range. -/
theorem rows_q (h : Fin 2) (g : Fin 4) (i : Fin 128) (d : Fin 64) (c : Fin 1536) (hc : (c : ℕ) = 256 * h + 64 * g + d) :
    B.rows (ix2 i c) = ((H.DQ h g i d : ℝ) : EReal) := by
  obtain ⟨j, a, rfl⟩ : ∃ j a, g = qhead j a := ⟨⟨g / 2, by omega⟩, ⟨g % 2, by omega⟩, Fin.ext (by simp only [qhead]; omega)⟩
  rw [← hB.dq_at]
  have hl : (c : ℕ) = 256 * h + 128 * j + lane a d := by simp only [hc, qhead, lane]; omega
  have hb := (lane a d).isLt
  obtain rfl | rfl : h = 0 ∨ h = 1 := by omega
  all_goals obtain rfl | rfl : j = 0 ∨ j = 1 := by omega
  all_goals
    simp only [Fin.val_zero, Fin.val_one] at hl
    pointwise [Blk.rows, rowsOf]
    refine (dif_pos (by omega)).trans ?_
  · exact (dif_pos (by omega)).trans (congrArg₂ (fun r l => B.pair0.dq (ix2 r l)) (Fin.ext (by simp [row])) (Fin.ext (by simp only; omega)))
  · refine (dif_neg (by omega)).trans ?_
    exact (dif_pos (by omega)).trans (congrArg₂ (fun r l => B.pair0.dq (ix2 r l)) (Fin.ext (by simp [row])) (Fin.ext (by simp only; omega)))
  · iterate 2 refine (dif_neg (by omega)).trans ?_
    exact (dif_pos (by omega)).trans (congrArg₂ (fun r l => B.pair1.dq (ix2 r l)) (Fin.ext (by simp [row])) (Fin.ext (by simp only; omega)))
  · iterate 3 refine (dif_neg (by omega)).trans ?_
    exact congrArg₂ (fun r l => B.pair1.dq (ix2 r l)) (Fin.ext (by simp [row])) (Fin.ext (by simp only; omega))

theorem rows_dk (h : Fin 2) (i : Fin 128) (d : Fin 64) (c : Fin 1536) (hc : (c : ℕ) = 512 + (64 * h + d)) :
    B.rows (ix2 i c) = ((H.DK h ⟨128 + i, by omega⟩ d : ℝ) : EReal) := by
  rw [← hB.keys_at]
  rw [show c = ⟨512 + (klane h d), by omega⟩ from Fin.ext hc]
  have hl := (klane h d).isLt
  pointwise [Blk.rows, rowsOf]
theorem rows_dv (h : Fin 2) (i : Fin 128) (d : Fin 64) (c : Fin 1536) (hc : (c : ℕ) = 640 + (64 * h + d)) :
    B.rows (ix2 i c) = ((H.DV h ⟨128 + i, by omega⟩ d : ℝ) : EReal) := by
  rw [← hB.vals_at]
  rw [show c = ⟨640 + (klane h d), by omega⟩ from Fin.ext hc]
  have hl := (klane h d).isLt
  pointwise [Blk.rows, rowsOf]
  refine (dif_neg (by omega)).trans ?_
  refine (dif_neg (by omega)).trans ?_
  exact (dif_pos (by omega)).trans (congrArg (fun l => stackT B.pair0.dv B.pair1.dv (ix2 _ l)) (Fin.ext (by simp only; omega)))
theorem rows_dkp (h : Fin 2) (i : Fin 128) (d : Fin 64) (c : Fin 1536) (hc : (c : ℕ) = 768 + (64 * h + d)) :
    B.rows (ix2 i c) = ((H.DK h ⟨i, by omega⟩ d : ℝ) : EReal) := by
  rw [← hB.keys_at]
  rw [show c = ⟨768 + (klane h d), by omega⟩ from Fin.ext hc]
  have hl := (klane h d).isLt
  pointwise [Blk.rows, rowsOf]
  refine (dif_neg (by omega)).trans ?_
  refine (dif_neg (by omega)).trans ?_
  refine (dif_neg (by omega)).trans ?_
  exact (dif_pos (by omega)).trans (congrArg (fun l => stackT B.pair0.dk B.pair1.dk (ix2 _ l)) (Fin.ext (by simp only; omega)))
theorem rows_dvp (h : Fin 2) (i : Fin 128) (d : Fin 64) (c : Fin 1536) (hc : (c : ℕ) = 896 + (64 * h + d)) :
    B.rows (ix2 i c) = ((H.DV h ⟨i, by omega⟩ d : ℝ) : EReal) := by
  rw [← hB.vals_at]
  rw [show c = ⟨896 + (klane h d), by omega⟩ from Fin.ext hc]
  have hl := (klane h d).isLt
  pointwise [Blk.rows, rowsOf]
  refine (dif_neg (by omega)).trans ?_
  refine (dif_neg (by omega)).trans ?_
  refine (dif_neg (by omega)).trans ?_
  refine (dif_neg (by omega)).trans ?_
  exact (dif_pos (by omega)).trans (congrArg (fun l => stackT B.pair0.dv B.pair1.dv (ix2 _ l)) (Fin.ext (by simp only; omega)))

/-- The block's part of a sink's gradient. -/
theorem sink_at (h : Fin 2) (g : Fin 4) (e : Fin 8) (he : (e : ℕ) = 4 * h + g) : B.sink e (ix2 0 0) = ((H.DS h g : ℝ) : EReal) := by
  rw [show e = ⟨4 * h + g, by omega⟩ from Fin.ext he]
  have h0 := hB.pairAt0
  have h1 := hB.pairAt1
  fin_cases h <;> fin_cases g
  · exact h0.topL.trans (by rw [hB.head_q, hB.head_o]; rfl)
  · exact h0.topR.trans (by rw [hB.head_q, hB.head_o]; rfl)
  · exact h0.bottomL.trans (by rw [hB.head_q, hB.head_o]; rfl)
  · exact h0.bottomR.trans (by rw [hB.head_q, hB.head_o]; rfl)
  · exact h1.topL.trans (by rw [hB.head_q, hB.head_o]; rfl)
  · exact h1.topR.trans (by rw [hB.head_q, hB.head_o]; rfl)
  · exact h1.bottomL.trans (by rw [hB.head_q, hB.head_o]; rfl)
  · exact h1.bottomR.trans (by rw [hB.head_q, hB.head_o]; rfl)

end BlkAt

theorem sigOf_at (g : FVec Ideal S128x512 .f32) (i : Fin 128) (l : Fin 512) (z : ℝ) (hz : g (ix2 i l) = ((z : ℝ) : EReal)) :
    sigOf g (ix2 i l) = ((logis z : ℝ) : EReal) := by
  pointwise [sigOf]
  rw [hz, ← EReal.coe_zero, ← EReal.coe_sub, Ideal.exp_coe, ← EReal.coe_one, ← EReal.coe_add, div_coe_coe (by positivity)]
  exact congrArg Real.toEReal (by rw [logis, zero_sub])
theorem doutOf_at (g dy : FVec Ideal S128x512 .f32) (i : Fin 128) (l : Fin 512) (z d : ℝ) (hz : g (ix2 i l) = ((z : ℝ) : EReal)) (hd : dy (ix2 i l) = ((d : ℝ) : EReal)) :
    doutOf g dy (ix2 i l) = ((d * (z * logis z) : ℝ) : EReal) := by
  pointwise [doutOf]
  rw [sigOf_at g i l z hz, hz, hd]; simp only [← EReal.coe_mul]
/-- The gate's gradient among the block's rows. -/
theorem rows_gate (B : Blk Ideal) (i : Fin 128) (l : Fin 512) (z d w : ℝ) (hz : B.g (ix2 i l) = ((z : ℝ) : EReal)) (hd : B.dy (ix2 i l) = ((d : ℝ) : EReal))
    (hy : B.ya (ix2 i l) = ((w : ℝ) : EReal)) (c : Fin 1536) (hc : (c : ℕ) = 1024 + l) :
    B.rows (ix2 i c) = ((dgate z d w : ℝ) : EReal) := by
  rw [show c = ⟨1024 + l, by omega⟩ from Fin.ext hc]
  pointwise [Blk.rows, rowsOf]
  iterate 5 refine (dif_neg (by omega)).trans ?_
  refine (congrArg (fun l => dgateOf B.g B.dy B.ya (ix2 i l)) (Fin.ext (by simp only; omega) : _ = l)).trans ?_
  pointwise [dgateOf]
  rw [sigOf_at B.g i l z hz, hz, hd, hy, ← EReal.coe_one]
  simp only [← EReal.coe_mul, ← EReal.coe_sub, ← EReal.coe_add]
  rfl

end Cert.AttnBwdIdeal.Value

end
-- ==== Proof.AttnBits.lean ====
/-
  The window mask's integer arithmetic: the distance of a query to a key, and its comparisons.
-/
module

public import proofs.«01_k».proof.Proof.AttnHeads
public import Idealize.ShloMosaic.Lib.Pointwise
public import Idealize.ShloMosaic.Lib.WordCmp

@[expose] public section

noncomputable section

namespace Cert.AttnModel

open Idealize.ShloMosaic Cert.RealLift

/-- The distance word of query `i` and key `y`. -/
def distW (i : Fin 128) (y : Fin 256) : BitVec 32 := BitVec.ofNat 32 (128 + i) - BitVec.ofNat 32 y

theorem distW_toInt (i : Fin 128) (y : Fin 256) : (distW i y).toInt = 128 + (i : ℤ) - (y : ℤ) := by
  have hi := i.isLt
  have hy := y.isLt
  unfold distW
  rw [BitVec.toInt_sub, WordCmp.toInt_ofNat_of_lt (by omega), WordCmp.toInt_ofNat_of_lt (by omega)]
  rw [Int.bmod_def]
  omega

theorem ofNat_and (w k a b : ℕ) (hk : k ≤ w) (ha : a = a / 2 ^ k * 2 ^ k + b) (hb : b < 2 ^ k) (hw : a < 2 ^ w) (hw' : 2 ^ k - 1 < 2 ^ w) :
    BitVec.ofNat w a &&& BitVec.ofNat w (2 ^ k - 1) = BitVec.ofNat w b := by
  apply BitVec.eq_of_toNat_eq
  rw [BitVec.toNat_and, BitVec.toNat_ofNat, BitVec.toNat_ofNat, BitVec.toNat_ofNat, Nat.mod_eq_of_lt hw, Nat.mod_eq_of_lt hw',
    Nat.and_two_pow_sub_one_eq_mod, Nat.mod_eq_of_lt (lt_of_lt_of_le hb (Nat.pow_le_pow_right (by decide) hk))]
  have h1 := Nat.div_add_mod a (2 ^ k)
  have h2 : a / 2 ^ k * 2 ^ k = 2 ^ k * (a / 2 ^ k) := Nat.mul_comm _ _
  omega

/-- The window's two comparisons. -/
theorem band_at (i : Fin 128) (y : Fin 256) :
    IntOp.andi (IntOp.cmpi .sge (distW i y) 0#32) (IntOp.cmpi .slt (distW i y) 128#32)
      = BitVec.ofBool (decide ((i : ℕ) < y ∧ (y : ℕ) ≤ 128 + i)) := by
  rw [WordCmp.cmpi_sge_eq, WordCmp.cmpi_slt_eq, distW_toInt]
  rw [show ((0#32).toInt) = 0 from rfl, show ((128#32).toInt) = 128 from rfl]
  by_cases h1 : (i : ℕ) < y
  · by_cases h2 : (y : ℕ) ≤ 128 + i
    · rw [decide_eq_true (show (0 : ℤ) ≤ 128 + (i : ℤ) - (y : ℤ) by omega), decide_eq_true (show 128 + (i : ℤ) - (y : ℤ) < 128 by omega),
        decide_eq_true ⟨h1, h2⟩]; rfl
    · rw [decide_eq_false (show ¬ (0 : ℤ) ≤ 128 + (i : ℤ) - (y : ℤ) by omega), decide_eq_true (show 128 + (i : ℤ) - (y : ℤ) < 128 by omega),
        decide_eq_false (fun h => h2 h.2)]; rfl
  · rw [decide_eq_true (show (0 : ℤ) ≤ 128 + (i : ℤ) - (y : ℤ) by omega), decide_eq_false (show ¬ 128 + (i : ℤ) - (y : ℤ) < 128 by omega),
      decide_eq_false (fun h => h1 h.1)]; rfl

/-- The distance as a number. -/
theorem dist_at (i : Fin 128) (y : Fin 256) :
    (FloatOps.sitofp .f32 (distW i y) : Ideal .f32) = ((128 + (i : ℕ) - (y : ℕ) : ℝ) : EReal) := by
  show (((distW i y).toInt : ℝ) : EReal) = _
  rw [distW_toInt]
  push_cast
  rfl

theorem bits_half : Ideal.ofBits .f32 0x3F000000#32 = ((1 / 2 : ℝ) : EReal) := by simp [Ideal.ofBits, Ideal.ieee, -EReal.coe_mul]; norm_num
theorem bits_4 : Ideal.ofBits .f32 0x3E800000#32 = ((1 / 4 : ℝ) : EReal) := by simp [Ideal.ofBits, Ideal.ieee, -EReal.coe_mul]; norm_num
theorem bits_8 : Ideal.ofBits .f32 0x3E000000#32 = ((1 / 8 : ℝ) : EReal) := by simp [Ideal.ofBits, Ideal.ieee, -EReal.coe_mul]; norm_num
theorem bits_16 : Ideal.ofBits .f32 0x3D800000#32 = ((1 / 16 : ℝ) : EReal) := by simp [Ideal.ofBits, Ideal.ieee, -EReal.coe_mul]; norm_num
theorem bits_32 : Ideal.ofBits .f32 0x3D000000#32 = ((1 / 32 : ℝ) : EReal) := by simp [Ideal.ofBits, Ideal.ieee, -EReal.coe_mul]; norm_num
theorem bits_64 : Ideal.ofBits .f32 0x3C800000#32 = ((1 / 64 : ℝ) : EReal) := by simp [Ideal.ofBits, Ideal.ieee, -EReal.coe_mul]; norm_num
theorem bits_128 : Ideal.ofBits .f32 0x3C000000#32 = ((1 / 128 : ℝ) : EReal) := by simp [Ideal.ofBits, Ideal.ieee, -EReal.coe_mul]; norm_num
theorem bits_256 : Ideal.ofBits .f32 0x3B800000#32 = ((1 / 256 : ℝ) : EReal) := by simp [Ideal.ofBits, Ideal.ieee, -EReal.coe_mul]; norm_num
theorem bits_ninf : Ideal.ofBits .f32 0xFF800000#32 = ⊥ := by simp [Ideal.ofBits, Ideal.ieee]

theorem slope_vals : slope 0 0 = 1 / 2 ∧ slope 0 1 = 1 / 4 ∧ slope 0 2 = 1 / 8 ∧ slope 0 3 = 1 / 16
    ∧ slope 1 0 = 1 / 32 ∧ slope 1 1 = 1 / 64 ∧ slope 1 2 = 1 / 128 ∧ slope 1 3 = 1 / 256 := by
  unfold slope
  refine ⟨?_, ?_, ?_, ?_, ?_, ?_, ?_, ?_⟩ <;> norm_num

end Cert.AttnModel

end
-- ==== Proof.AttnBias.lean ====
/-
  The scratch the first point fills: the bias of the two pairs of stacked heads, masked, for the first block of the
  sequence and for the others.
-/
module

public import proofs.«01_k».proof.Proof.AttnPoint
public import proofs.«01_k».proof.Proof.AttnBlock
public import proofs.«01_k».proof.Proof.AttnBits

@[expose] public section

set_option maxRecDepth 16384

noncomputable section

namespace Cert.AttnBwdIdeal.Value

open Cert.AttnBwdIdeal Cert.AttnBwdIdeal.Gen Idealize.ShloMosaic Cert.RealLift Cert.AttnModel

variable (j : Fin 2) (i : Fin 128) (a : Fin 2) (y : Fin 256)

theorem keyWord_at : k0_pay2 (ix2 (row j i) (col a y)) = BitVec.ofNat 32 y := by
  pointwise [k0_pay2]
  exact ofNat_and 32 8 _ _ (by decide) (by simp only [col]; omega) (by omega) (by simp only [col]; omega) (by decide)

theorem dist_word : k0_pay3 (ix2 (row j i) (col a y)) = distW i y := by
  pointwise [k0_pay3]
  rw [keyWord_at]
  have h : IntOp.andi (BitVec.ofNat 32 (row j i)) 127#32 = BitVec.ofNat 32 i :=
    ofNat_and 32 7 _ _ (by decide) (by simp only [row]; omega) (by omega) (by simp only [row]; omega) (by decide)
  rw [h]
  unfold distW IntOp.subi IntOp.addi
  rw [BitVec.ofNat_add]

theorem band_word : k0_pay4 (ix2 (row j i) (col a y)) = BitVec.ofBool (decide ((i : ℕ) < y ∧ (y : ℕ) ≤ 128 + i)) := by
  pointwise [k0_pay4]
  rw [dist_word, band_at]

theorem right_word : k0_pay6 (ix2 (row j i) (col a y)) = BitVec.ofBool (decide (a = 1)) := by
  pointwise [k0_pay6]
  rw [WordCmp.cmpi_sge_ofNat (by simp only [col]; omega) (by omega)]
  exact congrArg BitVec.ofBool (decide_eq_decide.2 (by simp only [col]; omega))
theorem top_word : IntOp.cmpi .slt (BitVec.ofNat 32 (row j i)) 128#32 = BitVec.ofBool (decide (j = 0)) := by
  rw [WordCmp.cmpi_slt_ofNat (by simp only [row]; omega) (by omega)]
  exact congrArg BitVec.ofBool (decide_eq_decide.2 (by simp only [row]; omega))

theorem slope_step (e : ℝ) (h : Fin 2) (g : Fin 4) (hs : slope h g = e) :
    (((0 : ℝ) : EReal) - ((e : ℝ) : EReal)) * ((128 + (i : ℕ) - (y : ℕ) : ℝ) : EReal) = ((alibi h g i y : ℝ) : EReal) := by
  rw [← EReal.coe_sub, ← EReal.coe_mul, alibi, hs, zero_sub]

theorem slopes0_at : k0_pay7 (F := Ideal) (ix2 (row j i) (col a y)) = ((alibi 0 (qhead j a) i y : ℝ) : EReal) := by
  obtain ⟨s0, s1, s2, s3, -⟩ := slope_vals
  pointwise [k0_pay7, k0_pay5]
  rw [right_word, top_word, dist_word, dist_at, bits_half, bits_4, bits_8, bits_16, ← EReal.coe_zero]
  obtain rfl | rfl : j = 0 ∨ j = 1 := by omega
  all_goals obtain rfl | rfl : a = 0 ∨ a = 1 := by omega
  · exact slope_step i y (1 / 2) _ _ s0
  · exact slope_step i y (1 / 4) _ _ s1
  · exact slope_step i y (1 / 8) _ _ s2
  · exact slope_step i y (1 / 16) _ _ s3

theorem slopes1_at : k0_pay11 (F := Ideal) (iota .tc S256x512 32 [0] iota_S256x512_d0_w32) k0_pay5 k0_pay6 (ix2 (row j i) (col a y))
    = ((alibi 1 (qhead j a) i y : ℝ) : EReal) := by
  obtain ⟨-, -, -, -, s0, s1, s2, s3⟩ := slope_vals
  pointwise [k0_pay11, k0_pay5]
  rw [right_word, top_word, dist_word, dist_at, bits_32, bits_64, bits_128, bits_256, ← EReal.coe_zero]
  obtain rfl | rfl : j = 0 ∨ j = 1 := by omega
  all_goals obtain rfl | rfl : a = 0 ∨ a = 1 := by omega
  · exact slope_step i y (1 / 32) _ _ s0
  · exact slope_step i y (1 / 64) _ _ s1
  · exact slope_step i y (1 / 128) _ _ s2
  · exact slope_step i y (1 / 256) _ _ s3

theorem mask_val : (Named.named κ "mask" 0xF149F2CA#32 : Ideal .f32) = ⊥ := IdealRules.named_const.ideal_named_scalar _ _ _ _ rfl

open Classical in
/-- The bias of pair `h`: with `first`, as the sequence's first block sees it. -/
def maskedBias (first : Prop) (h : Fin 2) : EReal :=
  if ((i : ℕ) < y ∧ (y : ℕ) ≤ 128 + i) ∧ (first → 128 ≤ (y : ℕ)) then ((alibi h (qhead j a) i y : ℝ) : EReal) else ⊥

theorem select_ofBool {α : Type} (p : Prop) [Decidable p] (x z : α) : Scalar.select (BitVec.ofBool (decide p)) x z = if p then x else z := by
  by_cases h : p
  · rw [decide_eq_true h, if_pos h]; rfl
  · rw [decide_eq_false h, if_neg h]; rfl

theorem later_key : IntOp.cmpi .sge (k0_pay2 (ix2 (row j i) (col a y))) 128#32 = BitVec.ofBool (decide (128 ≤ (y : ℕ))) := by
  rw [keyWord_at, WordCmp.cmpi_sge_ofNat (by omega) (by omega)]
theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem fill00 : k0_pay8 (F := Ideal) (ix4 0 0 (row j i) (col a y)) = maskedBias j i a y True 0 := by
  pointwise [k0_pay8]
  rw [band_word, later_key, slopes0_at, mask_val, andi_ofBool, select_ofBool, maskedBias]
  simp only [true_imp_iff]
theorem fill10 : k0_pay10 (F := Ideal) k0_pay9 (ix4 0 0 (row j i) (col a y)) = maskedBias j i a y False 0 := by
  pointwise [k0_pay10, k0_pay9]
  rw [band_word, slopes0_at, mask_val, select_ofBool, maskedBias]
  simp only [false_imp_iff, and_true]
theorem fill01 : k0_pay12 (F := Ideal) (iota .tc S256x512 32 [0] iota_S256x512_d0_w32) k0_pay2 k0_pay4 k0_pay5 k0_pay6 (ix4 0 0 (row j i) (col a y))
    = maskedBias j i a y True 1 := by
  pointwise [k0_pay12]
  rw [band_word, later_key, slopes1_at, mask_val, andi_ofBool, select_ofBool, maskedBias]
  simp only [true_imp_iff]
theorem fill11 : k0_pay13 (F := Ideal) (iota .tc S256x512 32 [0] iota_S256x512_d0_w32) k0_pay4 k0_pay5 k0_pay6 (ix4 0 0 (row j i) (col a y))
    = maskedBias j i a y False 1 := by
  pointwise [k0_pay13]
  rw [band_word, slopes1_at, mask_val, select_ofBool, maskedBias]
  simp only [false_imp_iff, and_true]

theorem place_eq (x : S1x1x256x512.Idx) (r : Fin 256) (l : Fin 512) (h2 : (r : ℕ) = x 2) (h3 : (l : ℕ) = x 3) : x = ix4 0 0 r l := by
  have h0 := (x 0).isLt
  have h1 := (x 1).isLt
  funext b
  fin_cases b
  · exact Fin.ext (Nat.lt_one_iff.1 h0)
  · exact Fin.ext (Nat.lt_one_iff.1 h1)
  · exact Fin.ext h2.symm
  · exact Fin.ext h3.symm

/-- The filled scratch: variant `v`, pair `h`. -/
theorem filled_at (v h : Fin 2) : filled (F := Ideal) (ix4 v h (row j i) (col a y)) = maskedBias j i a y (v = 0) h := by
  unfold filled
  canon_tiles x hx
  all_goals
    rw [place_eq x (row j i) (col a y) hx2 hx3]
    have hv : (v : ℕ) = _ := hx0
    have hh : (h : ℕ) = _ := hx1
  · obtain rfl : v = 1 := by omega
    obtain rfl : h = 1 := by omega
    simpa using fill11 j i a y
  · obtain rfl : v = 0 := by omega
    obtain rfl : h = 1 := by omega
    simpa using fill01 j i a y
  · obtain rfl : v = 1 := by omega
    obtain rfl : h = 0 := by omega
    simpa using fill10 j i a y
  · obtain rfl : v = 0 := by omega
    obtain rfl : h = 0 := by omega
    simpa using fill00 j i a y

end Cert.AttnBwdIdeal.Value

end
-- ==== Proof.AttnEntry.lean ====
/-
  The attention backward kernel: what its points read, on finite arguments.
-/
module
public import proofs.«01_k».proof.Proof.AttnRows
public import proofs.«01_k».proof.Proof.AttnSinks
public import proofs.«01_k».proof.Proof.AttnBias
public import proofs.«01_k».proof.Proof.AttnBlock
public import proofs.«01_k».proof.Proof.Gen.AttnBwdIdeal.Value
public import Idealize.ShloMosaic.Lib.Pipeline.ValueKit
@[expose] public section
set_option maxRecDepth 16384
noncomputable section
namespace Cert.AttnBwdIdeal.Value
open Cert.AttnBwdIdeal Cert.AttnBwdIdeal.Gen Idealize.ShloMosaic Idealize.ShloMosaic.TcCoe Idealize.SL.Sem
open Idealize.ShloMosaic.Pipeline (Dat)
open Cert.RealLift Cert.AttnModel

theorem idx : ∀ t : Fin cfg0.N, win0_0.index t = ![t.val, 1] ∧ win0_1.index t = ![4 * t.val - 1, 7] ∧ win0_2.index t = ![t.val, 0]
    ∧ win0_3.index t = ![t.val, 1] ∧ win0_4.index t = ![0] ∧ win0_5.index t = ![t.val, 0] ∧ win0_6.index t = ![0, 0] :=
  (by decide +kernel : ∀ t : Fin grid0.N, _)

variable (m : (ℓ : Loc nD τ sig) → Buf (Elt Ideal) ℓ) (c : Dev nD)

/-- The scratch holds the filled bias after every point. -/
theorem bias_at : ∀ (n : ℕ) (hn : n < cfg0.N), (outsAt0 m c n hn).2.2 = filled
  | 0, hn => filled_first m c ⟨0, hn⟩ rfl
  | n + 1, hn => by
    have hN : n + 1 < 16 := lt_of_lt_of_eq hn N_0
    exact (filled_later m c ⟨n + 1, hn⟩ (by show ¬ (n + 1) % 16 = 0; omega)).trans (bias_at n _)

variable (t : Fin cfg0.N)
/-- Point `t`'s reads, over the filled bias. -/
def pt : Pt Ideal := ptOf m c t filled

theorem rows_at : (outsAt0 m c t.val t.isLt).1 = pointRows (pt m c t) (grid0.coords t) := by
  by_cases h0 : t.val % 16 = 0
  · exact rows_first m c t h0
  · rw [rows_later m c t h0, show (before m c t).2.2 = filled from bias_at m c _ _]; rfl

variable {m c}
/-- The argument arrays of device `c` are casts of real arrays. -/
structure Finite (m : (ℓ : Loc nD τ sig) → Buf (Elt Ideal) ℓ) (c : Dev nD) (X : Fin 8192 → Fin 2560 → ℝ) (D : Fin 8192 → Fin 1024 → ℝ) (s : Fin 8 → ℝ) : Prop where
  x : m ((c : Thread nD τ).loc main_arg0) = fun i => ((X (i 0) (i 1) : ℝ) : EReal)
  d : m ((c : Thread nD τ).loc main_arg1) = fun i => ((D (i 0) (i 1) : ℝ) : EReal)
  s : m ((c : Thread nD τ).loc main_arg2) = fun i => ((s (i 0) : ℝ) : EReal)

variable {X : Fin 8192 → Fin 2560 → ℝ} {D : Fin 8192 → Fin 1024 → ℝ} {s : Fin 8 → ℝ}
/-- Row `p` of point `t`'s block, as a row of the array. -/
def trow (t : Fin cfg0.N) (p : Fin 512) : Fin 8192 := ⟨t.val * 512 + p.val, by have : t.val < 16 := lt_of_lt_of_eq t.isLt N_0; omega⟩

theorem blk0_at (h : Finite m c X D s) (p : Fin 512) (l : Fin 1280) :
    iblk m c 0 t (ix2 p l) = ((X (trow t p) ⟨1280 + l, by omega⟩ : ℝ) : EReal) := by
  have := congrFun h.x (ix2 (trow t p) ⟨1280 + l, by omega⟩)
  refine Eq.trans ?_ this
  blk_ext [iblk, V, idx t, trow]

theorem blk1_at (h : Finite m c X D s) (p : Fin 128) (l : Fin 256) (r : Fin 8192) (hr : (r : ℕ) = (4 * t.val - 1) * 128 + p) :
    iblk m c 1 t (ix2 p l) = ((X r ⟨1792 + l, by omega⟩ : ℝ) : EReal) := by
  have := congrFun h.x (ix2 r ⟨1792 + l, by omega⟩)
  refine Eq.trans ?_ this
  blk_ext [iblk, V, idx t, hr]

theorem blk3_at (h : Finite m c X D s) (p : Fin 512) (l : Fin 512) :
    iblk m c 3 t (ix2 p l) = ((D (trow t p) ⟨512 + l, by omega⟩ : ℝ) : EReal) := by
  have := congrFun h.d (ix2 (trow t p) ⟨512 + l, by omega⟩)
  refine Eq.trans ?_ this
  blk_ext [iblk, V, idx t, trow]

theorem blk4_at (h : Finite m c X D s) (e : Fin 8) : iblk m c 4 t (ix1 e) = ((s e : ℝ) : EReal) := by
  have := congrFun h.s (ix1 e)
  refine Eq.trans ?_ this
  blk_ext [iblk, V, idx t]

theorem blk2_at (p : Fin 512) (l : Fin 512) :
    iblk m c 2 t (ix2 p l) = V m c main_v87 (ix2 (trow t p) l) := by
  blk_ext [iblk, idx t, trow]

end Cert.AttnBwdIdeal.Value
end
-- ==== Proof.AttnRefScore.lean ====
/-
  The attention's reference, forward: its scores, weights and output on finite arguments are the model's.
-/
module

public import proofs.«01_k».proof.Proof.AttnBias
public import proofs.«01_k».proof.Proof.AttnHeads
public import proofs.«01_k».proof.Proof.Gen.AttnBwdRefIdeal.Run
public import proofs.«01_k».proof.Proof.Gen.AttnBwdRefIdeal.Read
public import Idealize.ShloMosaic.Lib.Pointwise

@[expose] public section

set_option maxRecDepth 16384

noncomputable section

namespace Cert.AttnBwdRefIdeal.Value

open Cert.AttnBwdRefIdeal Cert.AttnBwdRefIdeal.Gen Idealize.ShloMosaic Idealize.ShloMosaic.TcCoe Idealize.SL.Sem
open Cert.RealLift Cert.AttnModel Cert.AttnBwdRefIdeal.Read
open Cert.AttnBwdIdeal.Value (select_ofBool andi_ofBool)

/-- Arrays of casts: the projections, the gradient, the sinks. -/
def castX (X : Fin 8192 → Fin 2560 → ℝ) : (⟨S8192x2560, .f32⟩ : BufTy).Contents (Elt Ideal) := fun i => ((X (i 0) (i 1) : ℝ) : EReal)
def castD (D : Fin 8192 → Fin 1024 → ℝ) : (⟨S8192x1024, .f32⟩ : BufTy).Contents (Elt Ideal) := fun i => ((D (i 0) (i 1) : ℝ) : EReal)
def castS (s : Fin 8 → ℝ) : (⟨S8, .f32⟩ : BufTy).Contents (Elt Ideal) := fun i => ((s (i 0) : ℝ) : EReal)

variable (X : Fin 8192 → Fin 2560 → ℝ) (D : Fin 8192 → Fin 1024 → ℝ) (s : Fin 8 → ℝ)
variable (n : Fin 64) (i : Fin 128) (h : Fin 2) (g : Fin 4) (y : Fin 256) (d : Fin 64)

theorem word_zero : (FloatOps.sitofp .f32 0#32 : Ideal .f32) = ((0 : ℝ) : EReal) := by
  show (((0#32).toInt : ℝ) : EReal) = _
  norm_num

/-- The padded rows, cut in two and joined, are the rows by block. -/
theorem padded (P : Fin 8192 → Fin 128 → ℝ) :
    (if h1 : (y : ℕ) < 128 then
      if h2 : (1 ≤ (n : ℕ) ∧ (n : ℕ) - 1 < 64) ∧ (y : ℕ) < 128 then ((P ⟨((n : ℕ) - 1) * 128 + y, by omega⟩ ⟨h * 64 + d, by omega⟩ : ℝ) : EReal)
      else FloatOps.sitofp (F := Ideal) .f32 0#32
    else
      if h2 : (y : ℕ) - 128 < 128 then ((P ⟨(n : ℕ) * 128 + (y - 128), by omega⟩ ⟨h * 64 + d, by omega⟩ : ℝ) : EReal)
      else FloatOps.sitofp (F := Ideal) .f32 0#32) = ((byBlock P n y (klane h d) : ℝ) : EReal) := by
  have hl : (⟨h * 64 + d, by omega⟩ : Fin 128) = klane h d := Fin.ext (by simp only [klane]; omega)
  unfold byBlock
  by_cases hy : (y : ℕ) < 128
  · rw [dif_pos hy, dif_pos hy]
    by_cases hn : (n : ℕ) = 0
    · rw [dif_neg (by omega), if_pos hn, word_zero]
    · have hn1 : ((n - 1 : Fin 64) : ℕ) = (n : ℕ) - 1 := by
        rw [Fin.coe_sub_one, if_neg (fun e => hn (by rw [e]; rfl))]
      rw [dif_pos ⟨⟨by omega, by omega⟩, hy⟩, if_neg hn, hl,
        show (⟨((n : ℕ) - 1) * 128 + y, by omega⟩ : Fin 8192) = tok (n - 1) ⟨y, hy⟩ from Fin.ext (by simp only [tok]; omega)]
  · rw [dif_neg hy, dif_neg hy, dif_pos (by omega), hl,
      show (⟨(n : ℕ) * 128 + (y - 128), by omega⟩ : Fin 8192) = tok n ⟨y - 128, by omega⟩ from Fin.ext (by simp only [tok]; omega)]

theorem keys_at : val_main_v8 (castX X) (ix4 n y h d) = (((headsOf X D s n).K h y d : ℝ) : EReal) := by
  pointwise [val_main_v8, val_main_v6, val_main_v7, val_main_v5, val_main_call0_v0, val_main_c, val_main_v4, val_main_v1, castX]
  exact padded n h y d fun r l => X r ⟨1792 + (l : Fin 128), by omega⟩
theorem vals_at : val_main_v13 (castX X) (ix4 n y h d) = (((headsOf X D s n).V h y d : ℝ) : EReal) := by
  pointwise [val_main_v13, val_main_v11, val_main_v12, val_main_v10, val_main_call1_v0, val_main_c_0, val_main_v9, val_main_v2, castX]
  exact padded n h y d fun r l => X r ⟨1920 + (l : Fin 128), by omega⟩

/-- The scaled queries. -/
theorem q_at : val_main_v16 (castX X) (ix5 n i h g d) = (((headsOf X D s n).Q h g i d * (1 / 8) : ℝ) : EReal) := by
  pointwise [val_main_v16, val_main_v14, val_main_v15, val_main_v0, val_main_cst, castX]
  rw [bits_8, ← EReal.coe_mul]
  refine congrArg (fun r : ℝ => ((r * (1 / 8) : ℝ) : EReal)) ?_
  exact congrArg₂ X (Fin.ext (by simp only [tok]; omega)) (Fin.ext (by simp only [qlane]; omega))

theorem score_at : val_main_v18 (castX X) (ix5 n h g i y) = (((∑ d, (headsOf X D s n).Q h g i d * (1 / 8) * (headsOf X D s n).K h y d) : ℝ) : EReal) := by
  pointwise [val_main_v18, val_main_v17]
  simp only [keys_at X D s, q_at X D s, ← EReal.coe_mul, coe_sum]
  exact congrArg Real.toEReal (Finset.sum_congr rfl fun d _ => by ring)

theorem dist_word : IntOp.subi (IntOp.addi 128#32 (BitVec.ofNat 32 i)) (BitVec.ofNat 32 y) = distW i y := by
  unfold distW
  rw [BitVec.ofNat_add]
  rfl

open Classical in
theorem valid_at : val_main_v47 (F := Ideal) (ix3 n i y) = BitVec.ofBool (decide (admits n i y)) := by
  pointwise [val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20, val_main_v19,
    val_main_c_1, val_main_c_2, val_main_c_3, val_main_c_4, val_main_c_5]
  rw [dist_word, band_at, WordCmp.cmpi_eq_ofNat (by omega) (by omega), WordCmp.cmpi_slt_ofNat (by omega) (by omega), andi_ofBool]
  have hnot : ∀ p : Prop, ∀ _ : Decidable p, ~~~BitVec.ofBool (decide p) = BitVec.ofBool (decide (¬p)) := by
    intro p hp; by_cases h : p <;> simp [h]
  rw [hnot, andi_ofBool]
  refine congrArg BitVec.ofBool (decide_eq_decide.2 ?_)
  unfold admits
  omega

theorem slopes_at (e : Fin 8) : val_main_v56 (F := Ideal) (ix1 e) = ((1 / 2 ^ ((e : ℕ) + 1) : ℝ) : EReal) := by
  fin_cases e <;> pointwise [val_main_v56, val_main_v48, val_main_v49, val_main_v50, val_main_v51, val_main_v52, val_main_v53, val_main_v54, val_main_v55,
    val_main_cst_6, val_main_cst_7, val_main_cst_8, val_main_cst_9, val_main_cst_10, val_main_cst_11, val_main_cst_12, val_main_cst_13]
  · exact bits_half.trans (congrArg Real.toEReal (by norm_num))
  · exact bits_4.trans (congrArg Real.toEReal (by norm_num))
  · exact bits_8.trans (congrArg Real.toEReal (by norm_num))
  · exact bits_16.trans (congrArg Real.toEReal (by norm_num))
  · exact bits_32.trans (congrArg Real.toEReal (by norm_num))
  · exact bits_64.trans (congrArg Real.toEReal (by norm_num))
  · exact bits_128.trans (congrArg Real.toEReal (by norm_num))
  · exact bits_256.trans (congrArg Real.toEReal (by norm_num))

theorem bias_at : val_main_v67 (F := Ideal) (ix5 n h g i y) = ((alibi h g i y : ℝ) : EReal) := by
  pointwise [val_main_v67, val_main_v66, val_main_v64, val_main_v63, val_main_v62, val_main_v61, val_main_v60, val_main_v59, val_main_v58, val_main_v57,
    val_main_v27, val_main_v26, val_main_v25, val_main_v24, val_main_v23, val_main_v22, val_main_v21, val_main_v20, val_main_v19, val_main_c_1]
  rw [dist_word, dist_at, slopes_at, ← EReal.coe_neg, ← EReal.coe_mul, alibi, Cert.AttnModel.slope]
  refine congrArg Real.toEReal ?_
  rw [show (h : ℕ) * 4 + g + 1 = 4 * h + g + 1 by omega]

open Classical in
/-- The masked scores. -/
theorem masked_at : val_main_v69_0 (castX X) (ix5 n h g i y)
    = sc ((headsOf X D s n).Q h g) ((headsOf X D s n).K h) ((headsOf X D s n).bias h g) (headsOf X D s n).ok i y := by
  pointwise [val_main_v69_0, val_main_v69_1, val_main_v68, val_main_v65, val_main_call2_v2, val_main_call2_v0, val_main_cst_14]
  rw [valid_at, score_at X D s, bias_at, select_ofBool, ← EReal.coe_add]
  unfold sc
  exact congrArg (fun z => if admits n i y then _ else z) bits_ninf

theorem all_scores_at (z : Fin 257) : val_main_v73 (castX X) (castS s) (ix5 n h g i z)
    = if hz : (z : ℕ) < 256 then val_main_v69_0 (castX X) (ix5 n h g i ⟨z, hz⟩) else (((headsOf X D s n).S h g : ℝ) : EReal) := by
  pointwise [val_main_v73, val_main_v72, val_main_v71, val_main_v70, castS]
  split
  · rfl
  · exact congrArg (fun e => ((s e : ℝ) : EReal)) (Fin.ext (by simp only; omega))

/-- A maximum over finitely many, one of them real and none plus infinity, is real. -/
theorem fold_real (f : Fin 257 → EReal) (hf : ∀ j, f j ≠ ⊤) (r : ℝ) (j : Fin 257) (hj : f j = (r : EReal)) :
    ∃ M : ℝ, max ⊥ (Finset.univ.fold max ⊥ f) = (M : EReal) := by
  have h1 : max ⊥ (Finset.univ.fold max ⊥ f) ≠ ⊤ := (max_lt bot_lt_top ((Finset.fold_max_lt (⊤ : EReal)).2 ⟨bot_lt_top, fun j _ => lt_top_iff_ne_top.2 (hf j)⟩)).ne
  have h2 : max ⊥ (Finset.univ.fold max ⊥ f) ≠ ⊥ := by
    intro e
    have : f j ≤ max ⊥ (Finset.univ.fold max ⊥ f) := le_max_of_le_right ((Finset.le_fold_max (f j)).2 (Or.inr ⟨j, Finset.mem_univ _, le_rfl⟩))
    rw [e, hj] at this
    exact absurd (le_bot_iff.1 this) (EReal.coe_ne_bot r)
  exact ⟨_, (EReal.coe_toReal h1 h2).symm⟩

section Rows
variable (Y : FVec Ideal S64x2x4x128x257 .f32) (Z : FVec Ideal S64x2x4x128 .f32) (z : Fin 257)

/-- The maximum along the last of five axes is the fold over that axis. -/
theorem max_last {n0 n1 n2 n3 n4 : ℕ} {u : Shape} (A : FVec Ideal (⟨5, ![n0, n1, n2, n3, n4]⟩ : Shape) .f32) (init : FVec Ideal u .f32)
    (hr : (⟨5, ![n0, n1, n2, n3, n4]⟩ : Shape).ReducesTo [4] (⟨4, ![n0, n1, n2, n3]⟩ : Shape)) (hu : 0 < u.numel)
    (a : Fin n0) (b : Fin n1) (c : Fin n2) (e : Fin n3) :
    Host.reduce (FloatOps.maximumf : Ideal .f32 → Ideal .f32 → Ideal .f32) A init hr hu (ix4 a b c e)
      = Finset.univ.fold max (init (Shape.Idx.first hu)) fun z : Fin n4 => A (ix5 a b c e z) := by
  rw [Ideal.maximumf_eq_max]
  exact (Host.reduce_eq_fold _ A init hr hu _).trans (hr.fold_fiber_r5_a4 _ max _ A)

theorem maximumf_at (A B : FVec Ideal S64x2x4x128 .f32) (j : S64x2x4x128.Idx) : maximumf A B j = max (A j) (B j) := rfl
theorem init_at (j : S_.Idx) : val_main_cst_15 (F := Ideal) j = ⊥ := bits_ninf
theorem floor_at : val_main_v80 (F := Ideal) (ix4 n h g i) = ⊥ := by
  pointwise [val_main_v80, val_main_cst_17]
  exact bits_ninf

/-- A row's maximum, its shifted exponentials, their sum and the quotients, over any scores and shifts. -/
theorem max_row : maximumf (val_main_v80 (F := Ideal) : FVec Ideal S64x2x4x128 .f32) (Host.reduce FloatOps.maximumf Y (val_main_cst_15 (F := Ideal))
    reducesTo_S64x2x4x128x257_S64x2x4x128_d4 h_S_) (ix4 n h g i) = max ⊥ (Finset.univ.fold max ⊥ fun z => Y (ix5 n h g i z)) := by
  rw [maximumf_at, max_last, floor_at, init_at]
theorem exp_row : Host.exp (subf Y (broadcastInDim S64x2x4x128x257 ![0, 1, 2, 3, 4] bcast_S64x2x4x128x1_S64x2x4x128x257_0_1_2_3_4
    (broadcastInDim S64x2x4x128x1 ![0, 1, 2, 3] bcast_S64x2x4x128_S64x2x4x128x1_0_1_2_3 Z))) (ix5 n h g i z)
      = Ideal.exp (Y (ix5 n h g i z) - Z (ix4 n h g i)) := by pointwise
theorem sum_row : Host.reduceAdd Y (val_main_cst_23 (F := Ideal)) reducesTo_S64x2x4x128x257_S64x2x4x128_d4 h_S_ (ix4 n h g i)
    = ∑ z : Fin 257, Y (ix5 n h g i z) := by pointwise [val_main_cst_23]
theorem div_row : Host.divf Y (broadcastInDim S64x2x4x128x257 ![0, 1, 2, 3, 4] bcast_S64x2x4x128x1_S64x2x4x128x257_0_1_2_3_4
    (broadcastInDim S64x2x4x128x1 ![0, 1, 2, 3] bcast_S64x2x4x128_S64x2x4x128x1_0_1_2_3 Z)) (ix5 n h g i z)
      = Ideal.div (Y (ix5 n h g i z)) (Z (ix4 n h g i)) := by pointwise
theorem cut_row : extractStridedSlice S64x2x4x128x256 ![0, 0, 0, 0, 0] Y slices_S64x2x4x128x257_S64x2x4x128x256_0_0_0_0_0 (ix5 n h g i y)
    = Y (ix5 n h g i ⟨y, by omega⟩) := by pointwise
end Rows

include D in
theorem shift_at : ∃ M : ℝ, val_main_v81 (castX X) (castS s) (ix4 n h g i) = (M : EReal) := by
  have key : val_main_v81 (castX X) (castS s) (ix4 n h g i)
      = max ⊥ (Finset.univ.fold max ⊥ fun z => val_main_v73 (castX X) (castS s) (ix5 n h g i z)) := by
    unfold val_main_v81 val_main_v74
    exact max_row n i h g _
  rw [key]
  refine fold_real _ (fun z => ?_) ((headsOf X D s n).S h g) ⟨256, by omega⟩ ?_
  · rw [all_scores_at X D s]
    split
    · rw [masked_at X D s]; exact sc_ne_top _ _
    · exact EReal.coe_ne_top _
  · rw [all_scores_at X D s, dif_neg (by simp)]

/-- A row's shifted exponentials and their sum, over the shift `M`. -/
structure Soft (M : ℝ) : Prop where
  e : ∀ y : Fin 256, val_main_v94 (castX X) (castS s) (ix5 n h g i ⟨y, by omega⟩)
    = ((Cert.AttnModel.e ((headsOf X D s n).Q h g) ((headsOf X D s n).K h) ((headsOf X D s n).bias h g) (headsOf X D s n).ok i y * Real.exp (-M) : ℝ) : EReal)
  last : val_main_v94 (castX X) (castS s) (ix5 n h g i ⟨256, by omega⟩) = ((Real.exp ((headsOf X D s n).S h g) * Real.exp (-M) : ℝ) : EReal)
  den : val_main_v95 (castX X) (castS s) (ix4 n h g i)
    = ((Cert.AttnModel.den ((headsOf X D s n).Q h g) ((headsOf X D s n).K h) ((headsOf X D s n).bias h g) (headsOf X D s n).ok ((headsOf X D s n).S h g) i * Real.exp (-M) : ℝ) : EReal)

theorem soft : ∃ M : ℝ, Soft X D s n i h g M := by
  obtain ⟨M, hM⟩ := shift_at X D s n i h g
  have he : ∀ y : Fin 256, val_main_v94 (castX X) (castS s) (ix5 n h g i ⟨y, by omega⟩)
      = ((Cert.AttnModel.e ((headsOf X D s n).Q h g) ((headsOf X D s n).K h) ((headsOf X D s n).bias h g) (headsOf X D s n).ok i y * Real.exp (-M) : ℝ) : EReal) := by
    intro y
    rw [← exp_sc, ← masked_at X D s, ← hM]
    unfold val_main_v94 val_main_v93 val_main_v92 val_main_v91
    rw [exp_row, all_scores_at X D s, dif_pos y.isLt]
  have hl : val_main_v94 (castX X) (castS s) (ix5 n h g i ⟨256, by omega⟩) = ((Real.exp ((headsOf X D s n).S h g) * Real.exp (-M) : ℝ) : EReal) := by
    rw [← exp_sink, ← hM]
    unfold val_main_v94 val_main_v93 val_main_v92 val_main_v91
    rw [exp_row, all_scores_at X D s, dif_neg (by simp)]
  refine ⟨M, he, hl, ?_⟩
  have hs : val_main_v95 (castX X) (castS s) (ix4 n h g i) = ∑ z : Fin 257, val_main_v94 (castX X) (castS s) (ix5 n h g i z) := by
    unfold val_main_v95
    exact sum_row n i h g _
  rw [hs, Fin.sum_univ_castSucc]
  refine (congrArg₂ (· + ·) (Finset.sum_congr rfl fun y _ => he y) hl).trans ?_
  rw [coe_sum, ← EReal.coe_add]
  refine congrArg Real.toEReal ?_
  rw [Cert.AttnModel.den, add_mul, Finset.sum_mul]

/-- The probabilities. -/
theorem probs_at : val_main_v102 (castX X) (castS s) (ix5 n h g i y)
    = ((p ((headsOf X D s n).Q h g) ((headsOf X D s n).K h) ((headsOf X D s n).bias h g) (headsOf X D s n).ok ((headsOf X D s n).S h g) i y : ℝ) : EReal) := by
  obtain ⟨M, hM⟩ := soft X D s n i h g
  have h1 : val_main_v102 (castX X) (castS s) (ix5 n h g i y)
      = Ideal.div (val_main_v94 (castX X) (castS s) (ix5 n h g i ⟨y, by omega⟩)) (val_main_v95 (castX X) (castS s) (ix4 n h g i)) := by
    unfold val_main_v102 val_main_v98 val_main_v97 val_main_v96
    rw [cut_row, div_row]
  rw [h1, hM.e, hM.den, div_coe_coe (shift_ne _ _), p, mul_div_mul_right _ _ (Real.exp_pos _).ne']

/-- The attention's output. -/
theorem out_at : val_main_v104 (castX X) (castS s) (ix5 n i h g d) = (((headsOf X D s n).OUT h g i d : ℝ) : EReal) := by
  pointwise [val_main_v104, val_main_v103]
  simp only [vals_at X D s, probs_at X D s, ← EReal.coe_mul, coe_sum]
  exact congrArg Real.toEReal (Finset.sum_congr rfl fun y _ => mul_comm _ _)

/-- Coordinates of a token's number, and of a lane's. -/
theorem tok_div {P} : (⟨(tok n i : ℕ) / 128, P⟩ : Fin 64) = n := Fin.ext (by simp only [tok]; omega)
theorem tok_mod {P} : (⟨(tok n i : ℕ) % 128, P⟩ : Fin 128) = i := Fin.ext (by simp only [tok]; omega)
theorem qlane_head {P} : (⟨(qlane h g d : ℕ) / 256, P⟩ : Fin 2) = h := Fin.ext (by simp only [qlane]; omega)
theorem qlane_query {P} : (⟨(qlane h g d : ℕ) / 64 % 4, P⟩ : Fin 4) = g := Fin.ext (by simp only [qlane]; omega)
theorem qlane_feature {P} : (⟨(qlane h g d : ℕ) % 64, P⟩ : Fin 64) = d := Fin.ext (by simp only [qlane]; omega)
theorem klane_head {P} : (⟨(klane h d : ℕ) / 64, P⟩ : Fin 2) = h := Fin.ext (by simp only [klane]; omega)
theorem klane_feature {P} : (⟨(klane h d : ℕ) % 64, P⟩ : Fin 64) = d := Fin.ext (by simp only [klane]; omega)

/-- The output as rows of the array. -/
theorem out_row : val_main_v105 (castX X) (castS s) (ix2 (tok n i) (qlane h g d)) = (((headsOf X D s n).OUT h g i d : ℝ) : EReal) := by
  pointwise [val_main_v105]
  simp only [tok_div, tok_mod, qlane_head, qlane_query, qlane_feature]
  exact out_at X D s n i h g d

end Cert.AttnBwdRefIdeal.Value

end
-- ==== Proof.AttnSaved.lean ====
module
public import proofs.«01_k».proof.Proof.AttnRefScore
public import proofs.«01_k».proof.Proof.Gen.AttnBwdIdeal.Value
public import Idealize.ShloMosaic.Lib.Claim
public import Idealize.ShloMosaic.Lib.StableHlo.RunClose

/-! The array the kernel's host lines prepare, the attention's output before the gate, is the one the reference computes on its way to
    the gradient: both are the same lines of the forward pass over the same two arguments. -/

@[expose] public section
set_option maxRecDepth 16384
noncomputable section
namespace Cert.AttnBwdIdeal.Value
open Cert.AttnBwdIdeal Cert.AttnBwdIdeal.Gen Idealize.ShloMosaic Idealize.ShloMosaic.TcCoe Idealize.SL.Sem Idealize.ShloMosaic.StableHlo
variable (m : (ℓ : Loc nD τ sig) → Buf (Elt Ideal) ℓ) (c : Dev nD)
set_option maxHeartbeats 4000000 in
/-- The third operand of the kernel's call is the reference's own attention output. -/
theorem saved : V m c main_v87 = Cert.AttnBwdRefIdeal.Read.val_main_v105 (F := Ideal) (m ((c : Thread nD τ).loc main_arg0)) (m ((c : Thread nD τ).loc main_arg2)) := by
  entry_read
  simp only [hostOps0, hostOps0_1, hostOps0_2, hostOps0_3, hostOps0_4, hostOps0_5, hostOps0_6, List.flatten_cons, List.flatten_nil, List.cons_append, List.nil_append, List.append_nil, TRef.binary, TRef.unary, TRef.ternary, TRef.toBuf, TRef.ofBuf, cast_eq]
  after_results_simp
  rfl
end Cert.AttnBwdIdeal.Value
end
-- ==== Proof.AttnTarget.lean ====
/-
  What the attention's backward pass returns for each token, column range by column range, over the reals.
-/
module

public import proofs.«01_k».proof.Proof.AttnHeads

@[expose] public section

noncomputable section

namespace Cert.AttnModel

open Idealize.ShloMosaic

variable (X : Fin 8192 → Fin 2560 → ℝ) (D : Fin 8192 → Fin 1024 → ℝ) (s : Fin 8 → ℝ)

/-- The rows of the gradient: the queries' gradient; the keys' and the values' from the token's own block; the keys' and the values'
    of the block before, as its queries' window reaches them; the gate's. -/
structure RowsAre (A : Fin 8192 → Fin 1536 → EReal) : Prop where
  q : ∀ n i (h : Fin 2) (g : Fin 4) (d : Fin 64) (c : Fin 1536), (c : ℕ) = 256 * h + 64 * g + d → A (tok n i) c = (((headsOf X D s n).DQ h g i d : ℝ) : EReal)
  dk : ∀ n (i : Fin 128) (h : Fin 2) (d : Fin 64) (c : Fin 1536), (c : ℕ) = 512 + (64 * h + d) →
    A (tok n i) c = (((headsOf X D s n).DK h ⟨128 + i, by omega⟩ d : ℝ) : EReal)
  dv : ∀ n (i : Fin 128) (h : Fin 2) (d : Fin 64) (c : Fin 1536), (c : ℕ) = 640 + (64 * h + d) →
    A (tok n i) c = (((headsOf X D s n).DV h ⟨128 + i, by omega⟩ d : ℝ) : EReal)
  dkp : ∀ n (i : Fin 128) (h : Fin 2) (d : Fin 64) (c : Fin 1536), (c : ℕ) = 768 + (64 * h + d) →
    A (tok n i) c = (((headsOf X D s n).DK h ⟨i, by omega⟩ d : ℝ) : EReal)
  dvp : ∀ n (i : Fin 128) (h : Fin 2) (d : Fin 64) (c : Fin 1536), (c : ℕ) = 896 + (64 * h + d) →
    A (tok n i) c = (((headsOf X D s n).DV h ⟨i, by omega⟩ d : ℝ) : EReal)
  gate : ∀ n i (h : Fin 2) (g : Fin 4) (d : Fin 64) (c : Fin 1536), (c : ℕ) = 1024 + (256 * h + 64 * g + d) →
    A (tok n i) c = ((dgate (X (tok n i) ⟨2048 + qlane h g d, by omega⟩) (D (tok n i) ⟨512 + qlane h g d, by omega⟩) ((headsOf X D s n).OUT h g i d) : ℝ) : EReal)

variable {X D s}

/-- The rows determine the array. -/
theorem RowsAre.unique {A B : Fin 8192 → Fin 1536 → EReal} (hA : RowsAre X D s A) (hB : RowsAre X D s B) : A = B := by
  funext r c
  obtain ⟨n, i, rfl⟩ : ∃ n i, r = tok n i := ⟨⟨r / 128, by omega⟩, ⟨r % 128, by omega⟩, Fin.ext (by simp only [tok]; omega)⟩
  have head (k : ℕ) (hk : k < 512) : ∃ (h : Fin 2) (g : Fin 4) (d : Fin 64), k = 256 * h + 64 * g + d :=
    ⟨⟨k / 256, by omega⟩, ⟨k / 64 % 4, by omega⟩, ⟨k % 64, by omega⟩, by simp only; omega⟩
  have pair (k : ℕ) (hk : k < 128) : ∃ (h : Fin 2) (d : Fin 64), k = 64 * h + d := ⟨⟨k / 64, by omega⟩, ⟨k % 64, by omega⟩, by simp only; omega⟩
  by_cases h1 : (c : ℕ) < 512
  · obtain ⟨h, g, d, hc⟩ := head c h1
    exact (hA.q n i h g d c hc).trans (hB.q n i h g d c hc).symm
  by_cases h2 : (c : ℕ) < 640
  · obtain ⟨h, d, hc⟩ := pair (c - 512) (by omega)
    exact (hA.dk n i h d c (by omega)).trans (hB.dk n i h d c (by omega)).symm
  by_cases h3 : (c : ℕ) < 768
  · obtain ⟨h, d, hc⟩ := pair (c - 640) (by omega)
    exact (hA.dv n i h d c (by omega)).trans (hB.dv n i h d c (by omega)).symm
  by_cases h4 : (c : ℕ) < 896
  · obtain ⟨h, d, hc⟩ := pair (c - 768) (by omega)
    exact (hA.dkp n i h d c (by omega)).trans (hB.dkp n i h d c (by omega)).symm
  by_cases h5 : (c : ℕ) < 1024
  · obtain ⟨h, d, hc⟩ := pair (c - 896) (by omega)
    exact (hA.dvp n i h d c (by omega)).trans (hB.dvp n i h d c (by omega)).symm
  · obtain ⟨h, g, d, hc⟩ := head (c - 1024) (by omega)
    exact (hA.gate n i h g d c (by omega)).trans (hB.gate n i h g d c (by omega)).symm

end Cert.AttnModel

end
-- ==== Proof.AttnBlocks.lean ====
/-
  The attention backward kernel: the four blocks of a point are the model's blocks, and the point's rows and sinks follow.
-/
module

public import proofs.«01_k».proof.Proof.AttnEntry
public import proofs.«01_k».proof.Proof.AttnSaved
public import proofs.«01_k».proof.Proof.AttnTarget

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Cert.RealLift Cert.AttnModel

variable (X : Fin 8192 → Fin 2560 → ℝ) (D : Fin 8192 → Fin 1024 → ℝ) (s : Fin 8 → ℝ) (n : Fin 64)

/-- Row `p` above block `n`, as the kernel reads it: for the first block, which has none above, a row of its own. -/
def above (n : Fin 64) (p : Fin 128) : Fin 8192 := ⟨128 * ((n : ℕ) - 1) + p, by omega⟩

/-- The keys or values a block reads. -/
def readBy {m : ℕ} (W : Fin 8192 → Fin m → ℝ) (n : Fin 64) (y : Fin 256) (l : Fin m) : ℝ :=
  if hy : (y : ℕ) < 128 then W (above n ⟨y, hy⟩) l else W (tok n ⟨y - 128, by omega⟩) l

/-- Where the mask admits a key, what is read is the model's. -/
theorem readBy_eq {m : ℕ} (W : Fin 8192 → Fin m → ℝ) (i : Fin 128) (y : Fin 256) (h : admits n i y) (l : Fin m) : byBlock W n y l = readBy W n y l := by
  obtain ⟨_, _, h0⟩ := h
  unfold byBlock readBy
  by_cases hy : (y : ℕ) < 128
  · rw [dif_pos hy, dif_pos hy, if_neg (fun e => by have := h0 e; omega)]
    refine congrArg (fun r => W r l) (Fin.ext ?_)
    have : ((n - 1 : Fin 64) : ℕ) = n - 1 := Fin.val_sub_one_of_ne_zero (fun e => by have := h0 (by rw [e]; rfl); omega)
    simp only [tok, above, this]
  · rw [dif_neg hy, dif_neg hy]

/-- The heads over what the kernel reads. -/
def readHeads : Heads :=
  { headsOf X D s n with
    k := readBy (fun r l => X r ⟨1792 + (l : Fin 128), by omega⟩) n
    v := readBy (fun r l => X r ⟨1920 + (l : Fin 128), by omega⟩) n }

theorem keys_agree (i : Fin 128) (y : Fin 256) (h : (headsOf X D s n).ok i y) (l : Fin 128) : (headsOf X D s n).k y l = (readHeads X D s n).k y l :=
  readBy_eq n (fun r l => X r ⟨1792 + (l : Fin 128), by omega⟩) i y h l
theorem vals_agree (i : Fin 128) (y : Fin 256) (h : (headsOf X D s n).ok i y) (l : Fin 128) : (headsOf X D s n).v y l = (readHeads X D s n).v y l :=
  readBy_eq n (fun r l => X r ⟨1920 + (l : Fin 128), by omega⟩) i y h l
theorem read_dq (h : Fin 2) (g : Fin 4) : (readHeads X D s n).DQ h g = (headsOf X D s n).DQ h g :=
  ((headsOf X D s n).DQ_congr h g (keys_agree X D s n) (vals_agree X D s n)).symm
theorem read_dk (h : Fin 2) : (readHeads X D s n).DK h = (headsOf X D s n).DK h :=
  ((headsOf X D s n).DK_congr h (keys_agree X D s n) (vals_agree X D s n)).symm
theorem read_dv (h : Fin 2) : (readHeads X D s n).DV h = (headsOf X D s n).DV h :=
  ((headsOf X D s n).DV_congr h (keys_agree X D s n) (vals_agree X D s n)).symm
theorem read_ds (h : Fin 2) (g : Fin 4) : (readHeads X D s n).DS h g = (headsOf X D s n).DS h g :=
  ((headsOf X D s n).DS_congr h g (keys_agree X D s n) (vals_agree X D s n)).symm

/-- Row `p` of the block at row `r` of a point. -/
def inPoint (r : ℕ) (hr : r + 128 ≤ 512) (p : Fin 128) : Fin 512 := ⟨r + p, by omega⟩

theorem rowsAt_at {m : ℕ} (A : Vec Ideal (⟨2, ![512, m]⟩ : Shape) .f32) (r o k : ℕ) (hr : r + 128 ≤ 512) (ho : o + k ≤ m) (p : Fin 128) (l : Fin k) (l' : Fin m)
    (hl : (l' : ℕ) = o + l) : rowsAt A r o k hr ho (ix2 p l) = A (ix2 (inPoint r hr p) l') :=
  congrArg A (funext fun a => by fin_cases a <;> exact Fin.ext (by simp [Rect.unit, Rect.emb, inPoint, hl]))

/-- The place of pair `h`'s bias in the scratch, variant `v`. -/
theorem bias_ld (b : Vec Ideal S2x2x256x512 .f32) (v h : Fin 2) (off : Fin 4 → ℕ) (hoff : off = ![(v : ℕ), (h : ℕ), 0, 0]) (hin) (x : Fin 256) (y : Fin 512) :
    View.ld b (Rect.unit (s := S2x2x256x512) off S1x1x256x512.size hin) (ix4 0 0 x y) = b (ix4 v h x y) := by
  subst hoff
  exact congrArg b (funext fun a => by fin_cases a <;> exact Fin.ext (by simp [Rect.unit, Rect.emb]))

theorem skOf_at (A : Vec Ideal S8 .f32) (e : Fin 8) : skOf A e = A (ix1 e) := by
  fin_cases e <;> exact congrArg A (funext fun a => by fin_cases a; rfl)

theorem masked_eq {p q : Prop} (h : p ↔ q) (j : Fin 2) (i : Fin 128) (a : Fin 2) (y : Fin 256) (e : Fin 2) : maskedBias j i a y p e = maskedBias j i a y q e :=
  congrArg (fun p => maskedBias j i a y p e) (propext h)

/-- The keys and values of the block above, then the block's own. -/
theorem kv_at (kp kc : FVec Ideal S128x256 .f32) (hp : ∀ p l, kp (ix2 p l) = ((X (above n p) ⟨1792 + (l : Fin 256), by omega⟩ : ℝ) : EReal))
    (hc : ∀ p l, kc (ix2 p l) = ((X (tok n p) ⟨1792 + (l : Fin 256), by omega⟩ : ℝ) : EReal)) (y l : Fin 256) :
    kvOf kp kc (ix2 y l) = ((readBy (fun r l => X r ⟨1792 + (l : Fin 256), by omega⟩) n y l : ℝ) : EReal) := by
  unfold readBy
  pointwise [kvOf]
  by_cases hy : (y : ℕ) < 128
  · rw [dif_pos hy, dif_pos hy]; exact hp _ _
  · rw [dif_neg hy, dif_neg hy]; exact hc _ _

/-- A block of a point whose operands are the arrays' is the model's block. -/
theorem blkAt_is (P : Pt Ideal) (kp : FVec Ideal S128x256 .f32) (b0 b1 : FVec Ideal S1x1x256x512 .f32) (r : ℕ) (hr : r + 128 ≤ 512)
    (hkp : ∀ p l, kp (ix2 p l) = ((X (above n p) ⟨1792 + (l : Fin 256), by omega⟩ : ℝ) : EReal))
    (hx : ∀ p l, P.x (ix2 (inPoint r hr p) l) = ((X (tok n p) ⟨1280 + (l : Fin 1280), by omega⟩ : ℝ) : EReal))
    (hd : ∀ p l, P.dy (ix2 (inPoint r hr p) l) = ((D (tok n p) ⟨512 + (l : Fin 512), by omega⟩ : ℝ) : EReal))
    (hb0 : ∀ j i a y, b0 (ix4 0 0 (row j i) (col a y)) = maskedBias j i a y ((n : ℕ) = 0) 0)
    (hb1 : ∀ j i a y, b1 (ix4 0 0 (row j i) (col a y)) = maskedBias j i a y ((n : ℕ) = 0) 1)
    (hs : ∀ e, skOf P.sk e = ((s e : ℝ) : EReal)) : BlkAt (blkAt P kp b0 b1 r hr) (readHeads X D s n) where
  keys y l := by
    have h := kv_at X n kp (rowsAt P.x r 512 256 hr (by decide)) hkp
      (fun p l => (rowsAt_at P.x r 512 256 hr (by decide) p l ⟨512 + l, by omega⟩ rfl).trans ((hx p _).trans
        (congrArg (fun e => ((X (tok n p) e : ℝ) : EReal)) (Fin.ext (by simp only; omega))))) y ⟨l, by omega⟩
    refine Eq.trans ?_ h
    pointwise [keysOf, blkAt]
  vals y l := by
    have h := kv_at X n kp (rowsAt P.x r 512 256 hr (by decide)) hkp
      (fun p l => (rowsAt_at P.x r 512 256 hr (by decide) p l ⟨512 + l, by omega⟩ rfl).trans ((hx p _).trans
        (congrArg (fun e => ((X (tok n p) e : ℝ) : EReal)) (Fin.ext (by simp only; omega))))) y ⟨128 + l, by omega⟩
    refine Eq.trans ?_ (h.trans ?_)
    · pointwise [valsOf, blkAt]
    · refine congrArg Real.toEReal ?_
      unfold readHeads readBy
      by_cases hy : (y : ℕ) < 128
      · simp only [dif_pos hy]; exact congrArg (X _) (Fin.ext (by simp only; omega))
      · simp only [dif_neg hy]; exact congrArg (X _) (Fin.ext (by simp only; omega))
  q i l := (rowsAt_at P.x r 0 512 hr (by decide) i l ⟨l, by omega⟩ (by simp only; omega)).trans (hx i _)
  o i l := doutOf_at _ _ i l _ _ ((rowsAt_at P.x r 768 512 hr (by decide) i l ⟨768 + l, by omega⟩ rfl).trans ((hx i _).trans (congrArg (fun e => ((X (tok n i) e : ℝ) : EReal)) (Fin.ext (by simp only; omega)))))
    ((rowsAt_at P.dy r 0 512 hr (by decide) i l l (by omega)).trans (hd i l))
  b0_ok j i a y ho := (hb0 j i a y).trans (if_pos ⟨⟨ho.1, ho.2.1⟩, ho.2.2⟩)
  b0_no j i a y ho := (hb0 j i a y).trans (if_neg fun e => ho ⟨e.1.1, e.1.2, e.2⟩)
  b1_ok j i a y ho := (hb1 j i a y).trans (if_pos ⟨⟨ho.1, ho.2.1⟩, ho.2.2⟩)
  b1_no j i a y ho := (hb1 j i a y).trans (if_neg fun e => ho ⟨e.1.1, e.1.2, e.2⟩)
  s h g e he := (hs e).trans (congrArg (fun e => ((s e : ℝ) : EReal)) (Fin.ext he))

end Cert.AttnBwdIdeal.Value
end
-- ==== Proof.AttnTiles.lean ====
/-
  Attention: the four blocks of a point that reads finite arrays are the model's blocks.
-/
module

public import proofs.«01_k».proof.Proof.AttnBlocks
public import proofs.«01_k».proof.Proof.AttnPoint
public import proofs.«01_k».proof.Proof.AttnBias

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Cert.RealLift Cert.AttnModel

/-- Block `b` of point `t`, in the sequence. -/
def blockOf (t : Fin 16) (b : Fin 4) : Fin 64 := ⟨4 * t + b, by omega⟩
/-- Row `p` of point `t`'s block, as a row of the array. -/
def rowOf (t : Fin 16) (p : Fin 512) : Fin 8192 := ⟨t * 512 + p, by omega⟩
/-- The four blocks of a point. -/
def blkOf (P : Pt Ideal) (i : grid0.Coords) : Fin 4 → Blk Ideal
  | 0 => blk0 P i
  | 1 => blk1 P
  | 2 => blk2 P
  | 3 => blk3 P

variable (X : Fin 8192 → Fin 2560 → ℝ) (D : Fin 8192 → Fin 1024 → ℝ) (s : Fin 8 → ℝ)

/-- What point `t` at coordinates `i` reads, in terms of the real arrays. -/
structure PtAt (P : Pt Ideal) (i : grid0.Coords) (t : Fin 16) : Prop where
  x : ∀ (p : Fin 512) (l : Fin 1280), P.x (ix2 p l) = ((X (rowOf t p) ⟨1280 + l, by omega⟩ : ℝ) : EReal)
  kv : ∀ (p : Fin 128) (l : Fin 256) (r : Fin 8192), (r : ℕ) = (4 * t - 1) * 128 + p → P.kv (ix2 p l) = ((X r ⟨1792 + l, by omega⟩ : ℝ) : EReal)
  dy : ∀ (p : Fin 512) (l : Fin 512), P.dy (ix2 p l) = ((D (rowOf t p) ⟨512 + l, by omega⟩ : ℝ) : EReal)
  sk : ∀ e, P.sk (ix1 e) = ((s e : ℝ) : EReal)
  bias : P.bias = filled
  off1 : k0_off1 i = ![if (t : ℕ) = 0 then 0 else 1, 0, 0, 0]
  off2 : k0_off2 i = ![if (t : ℕ) = 0 then 0 else 1, 1, 0, 0]

theorem row_at (t : Fin 16) (b : Fin 4) (r : ℕ) (hr : r + 128 ≤ 512) (hb : r = 128 * b) (p : Fin 128) : rowOf t (inPoint r hr p) = tok (blockOf t b) p :=
  Fin.ext (by simp only [rowOf, inPoint, tok, blockOf, hb]; omega)
theorem variant (t : Fin 16) : ∃ v : Fin 2, (v = 0 ↔ (blockOf t 0 : ℕ) = 0) ∧ (if (t : ℕ) = 0 then 0 else 1) = (v : ℕ) := by
  by_cases h0 : (t : ℕ) = 0
  · exact ⟨0, ⟨fun _ => by show 4 * (t : ℕ) + 0 = 0; omega, fun _ => rfl⟩, if_pos h0⟩
  · exact ⟨1, ⟨fun e => absurd e (by decide), fun e => absurd (show 4 * (t : ℕ) + 0 = 0 from e) (by omega)⟩, if_neg h0⟩
/-- The bias a block takes from the scratch: variant 0 for the sequence's first block. -/
theorem bias_of (n : Fin 64) (v e : Fin 2) (hv : v = 0 ↔ (n : ℕ) = 0) (off : Fin 4 → ℕ) (ho : off = ![(v : ℕ), (e : ℕ), 0, 0]) (hin) (j : Fin 2) (i : Fin 128) (a : Fin 2)
    (y : Fin 256) : View.ld (filled (F := Ideal)) (Rect.unit (s := S2x2x256x512) off S1x1x256x512.size hin) (ix4 0 0 (row j i) (col a y)) = maskedBias j i a y ((n : ℕ) = 0) e :=
  (bias_ld filled v e off ho hin (row j i) (col a y)).trans ((filled_at j i a y v e).trans (masked_eq hv j i a y e))

namespace PtAt
variable {X D s} {P : Pt Ideal} {i : grid0.Coords} {t : Fin 16} (h : PtAt X D s P i t)
include h

theorem x_at (b : Fin 4) (r : ℕ) (hr : r + 128 ≤ 512) (hb : r = 128 * b) (p : Fin 128) (l : Fin 1280) :
    P.x (ix2 (inPoint r hr p) l) = ((X (tok (blockOf t b) p) ⟨1280 + l, by omega⟩ : ℝ) : EReal) := by
  rw [← row_at t b r hr hb p]; exact h.x _ l
theorem d_at (b : Fin 4) (r : ℕ) (hr : r + 128 ≤ 512) (hb : r = 128 * b) (p : Fin 128) (l : Fin 512) :
    P.dy (ix2 (inPoint r hr p) l) = ((D (tok (blockOf t b) p) ⟨512 + l, by omega⟩ : ℝ) : EReal) := by
  rw [← row_at t b r hr hb p]; exact h.dy _ l
theorem s_at (e : Fin 8) : skOf P.sk e = ((s e : ℝ) : EReal) := (skOf_at _ e).trans (h.sk e)
theorem bias_at (n : Fin 64) (v e : Fin 2) (hv : v = 0 ↔ (n : ℕ) = 0) (off : Fin 4 → ℕ) (ho : off = ![(v : ℕ), (e : ℕ), 0, 0]) (hin) (j : Fin 2) (k : Fin 128) (a : Fin 2)
    (y : Fin 256) : View.ld P.bias (Rect.unit (s := S2x2x256x512) off S1x1x256x512.size hin) (ix4 0 0 (row j k) (col a y)) = maskedBias j k a y ((n : ℕ) = 0) e := by
  rw [h.bias]; exact bias_of n v e hv off ho hin j k a y

theorem isBlk0 : BlkAt (blk0 P i) (readHeads X D s (blockOf t 0)) := by
  obtain ⟨v, hv, hw⟩ := variant t
  have o1 := h.off1
  have o2 := h.off2
  rw [hw] at o1 o2
  refine blkAt_is X D s (blockOf t 0) P _ _ _ 0 (by decide) (fun p l => ?_) (h.x_at 0 0 (by decide) rfl) (h.d_at 0 0 (by decide) rfl)
    (fun j i a y => h.bias_at _ v 0 hv _ o1 _ j i a y) (fun j i a y => h.bias_at _ v 1 hv _ o2 _ j i a y) h.s_at
  refine Eq.trans ?_ (h.kv p l (above (blockOf t 0) p) (by simp only [above, blockOf, Fin.val_zero]; omega))
  exact congrArg P.kv (funext fun a => by fin_cases a <;> exact Fin.ext (by simp [Rect.unit, Rect.emb]))

theorem isBlkIn (b b' : Fin 4) (hbb : (b : ℕ) = b' + 1) (r' r : ℕ) (hr' : r' + 128 ≤ 512) (hr : r + 128 ≤ 512) (hb' : r' = 128 * b') (hb : r = 128 * b) :
    BlkAt (blkIn P r' r hr' hr) (readHeads X D s (blockOf t b)) := by
  have hv : (1 : Fin 2) = 0 ↔ (blockOf t b : ℕ) = 0 := ⟨fun e => absurd e (by decide), fun e => absurd e (by simp only [blockOf]; omega)⟩
  refine blkAt_is X D s (blockOf t b) P _ _ _ r hr (fun p l => ?_) (h.x_at b r hr hb) (h.d_at b r hr hb)
    (fun j i a y => h.bias_at _ 1 0 hv _ rfl _ j i a y) (fun j i a y => h.bias_at _ 1 1 hv _ rfl _ j i a y) h.s_at
  refine (rowsAt_at P.x r' 512 256 hr' (by decide) p l ⟨512 + l, by omega⟩ rfl).trans ((h.x_at b' r' hr' hb' p _).trans ?_)
  have e1 : tok (blockOf t b') p = above (blockOf t b) p := Fin.ext (by simp only [tok, above, blockOf]; omega)
  rw [e1]
  exact congrArg (fun e => ((X (above (blockOf t b) p) e : ℝ) : EReal)) (Fin.ext (by simp only; omega))

/-- Every block of the point is the model's. -/
theorem isBlk : ∀ b : Fin 4, BlkAt (blkOf P i b) (readHeads X D s (blockOf t b))
  | 0 => h.isBlk0
  | 1 => h.isBlkIn 1 0 rfl 0 128 _ _ rfl rfl
  | 2 => h.isBlkIn 2 1 rfl 128 256 _ _ rfl rfl
  | 3 => h.isBlkIn 3 2 rfl 256 384 _ _ rfl rfl

/-- A block's gate. -/
theorem gate_at (b : Fin 4) (r : ℕ) (hr : r + 128 ≤ 512) (hb : r = 128 * b) (p : Fin 128) (l : Fin 512) :
    rowsAt P.x r 768 512 hr (by decide) (ix2 p l) = ((X (tok (blockOf t b) p) ⟨2048 + l, by omega⟩ : ℝ) : EReal) := by
  rw [rowsAt_at P.x r 768 512 hr (by decide) p l ⟨768 + l, by omega⟩ rfl, h.x_at b r hr hb p _]
  exact congrArg (fun e => ((X (tok (blockOf t b) p) e : ℝ) : EReal)) (Fin.ext (by simp only; omega))

end PtAt

end Cert.AttnBwdIdeal.Value
end
-- ==== Proof.AttnFinal.lean ====
/-
  The attention backward kernel: its two arrays after the run, on finite arguments.
-/
module

public import proofs.«01_k».proof.Proof.AttnTiles
public import proofs.«01_k».proof.Proof.AttnBlocks

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Idealize.ShloMosaic.Pipeline (Dat)
open Cert.RealLift Cert.AttnModel

/-- Block `b` of point `t`, in the sequence. -/
def bno (t : Fin cfg0.N) (b : Fin 4) : Fin 64 := ⟨4 * t.val + b, by have : t.val < 16 := lt_of_lt_of_eq t.isLt N_0; omega⟩

theorem offs : ∀ t : Fin cfg0.N, k0_off1 (grid0.coords t) = ![if t.val = 0 then 0 else 1, 0, 0, 0] ∧ k0_off2 (grid0.coords t) = ![if t.val = 0 then 0 else 1, 1, 0, 0] :=
  (by decide +kernel : ∀ t : Fin grid0.N, _)

variable {m : (ℓ : Loc nD τ sig) → Buf (Elt Ideal) ℓ} {c : Dev nD} {X : Fin 8192 → Fin 2560 → ℝ} {D : Fin 8192 → Fin 1024 → ℝ} {s : Fin 8 → ℝ}
variable (h : Finite m c X D s) (t : Fin cfg0.N)
include h

/-- A point as one of the sixteen. -/
def tile (t : Fin cfg0.N) : Fin 16 := ⟨t, lt_of_lt_of_eq t.isLt N_0⟩
theorem pt_x (p : Fin 512) (l : Fin 1280) : (pt m c t).x (ix2 p l) = ((X (rowOf (tile t) p) ⟨1280 + l, by omega⟩ : ℝ) : EReal) := blk0_at t h p l
theorem pt_kv (p : Fin 128) (l : Fin 256) (r : Fin 8192) (hr : (r : ℕ) = (4 * (tile t : ℕ) - 1) * 128 + p) :
    (pt m c t).kv (ix2 p l) = ((X r ⟨1792 + l, by omega⟩ : ℝ) : EReal) := blk1_at t h p l r hr
theorem pt_dy (p : Fin 512) (l : Fin 512) : (pt m c t).dy (ix2 p l) = ((D (rowOf (tile t) p) ⟨512 + l, by omega⟩ : ℝ) : EReal) := blk3_at t h p l
theorem pt_sk (e : Fin 8) : (pt m c t).sk (ix1 e) = ((s e : ℝ) : EReal) := blk4_at t h e
omit h in
theorem pt_bias : (pt m c t).bias = filled := rfl
/-- What a point reads. -/
theorem ptAt : PtAt X D s (pt m c t) (grid0.coords t) (tile t) :=
  PtAt.mk (pt_x h t) (pt_kv h t) (pt_dy h t) (pt_sk h t) (pt_bias t) (offs t).1 (offs t).2

theorem ya_at (b : Fin 4) (r : ℕ) (hr : r + 128 ≤ 512) (hb : r = 128 * b) (p : Fin 128) (e : Fin 2) (g : Fin 4) (d : Fin 64) :
    (pt m c t).ya (ix2 (inPoint r hr p) (qlane e g d)) = (((headsOf X D s (bno t b)).OUT e g p d : ℝ) : EReal) := by
  refine (blk2_at t _ _).trans ?_
  rw [show trow t (inPoint r hr p) = tok (bno t b) p from row_at (tile t) b r hr hb p, saved, h.x, h.s]
  exact Cert.AttnBwdRefIdeal.Value.out_row X D s (bno t b) p e g d

/-- Every block of every point is the model's. -/
theorem isBlk (b : Fin 4) : BlkAt (blkOf (pt m c t) (grid0.coords t) b) (readHeads X D s (bno t b)) := (ptAt h t).isBlk b

omit h in
theorem tiled_at (B : Fin 4 → FVec Ideal S128x1536 .f32) (b : Fin 4) (p : Fin 128) (c : Fin 1536) (q : Fin 512) (hq : (q : ℕ) = 128 * b + p) :
    tiled (B 0) (B 1) (B 2) (B 3) (ix2 q c) = B b (ix2 p c) := by
  unfold tiled
  canon_tiles x hx
  all_goals
    have h0 : (q : ℕ) = _ := hx0
    have h1 : (c : ℕ) = x 1 := hx1
    rw [show x = ix2 p c from funext fun a => by
      fin_cases a
      · exact Fin.ext (by show (x 0 : ℕ) = p; omega)
      · exact Fin.ext h1.symm]
  · obtain rfl : b = 3 := by omega
    rfl
  · obtain rfl : b = 2 := by omega
    rfl
  · obtain rfl : b = 1 := by omega
    rfl
  · obtain rfl : b = 0 := by omega
    rfl

/-- A block's gate, gradient and saved output, as the arrays hold them. -/
structure GateAt (B : Blk Ideal) (n : Fin 64) : Prop where
  g : ∀ i l, B.g (ix2 i l) = ((X (tok n i) ⟨2048 + (l : Fin 512), by omega⟩ : ℝ) : EReal)
  dy : ∀ i l, B.dy (ix2 i l) = ((D (tok n i) ⟨512 + (l : Fin 512), by omega⟩ : ℝ) : EReal)
  ya : ∀ i h g d, B.ya (ix2 i (qlane h g d)) = (((headsOf X D s n).OUT h g i d : ℝ) : EReal)

theorem gate_dy (b : Fin 4) (r : ℕ) (hr : r + 128 ≤ 512) (hb : r = 128 * b) (i : Fin 128) (l : Fin 512) :
    rowsAt (pt m c t).dy r 0 512 hr (by decide) (ix2 i l) = ((D (tok (bno t b) i) ⟨512 + l, by omega⟩ : ℝ) : EReal) := by
  rw [rowsAt_at (pt m c t).dy r 0 512 hr (by decide) i l l (Nat.zero_add _).symm]; exact (ptAt h t).d_at b r hr hb i l
theorem gate_ya (b : Fin 4) (r : ℕ) (hr : r + 128 ≤ 512) (hb : r = 128 * b) (i : Fin 128) (e : Fin 2) (g : Fin 4) (d : Fin 64) :
    rowsAt (pt m c t).ya r 0 512 hr (by decide) (ix2 i (qlane e g d)) = (((headsOf X D s (bno t b)).OUT e g i d : ℝ) : EReal) := by
  rw [rowsAt_at (pt m c t).ya r 0 512 hr (by decide) i (qlane e g d) (qlane e g d) (Nat.zero_add _).symm, ya_at h t b r hr hb i e g d]
omit h in
theorem gateAt_of (P : Pt Ideal) (n : Fin 64) (r : ℕ) (hr : r + 128 ≤ 512) (kp : FVec Ideal S128x256 .f32) (b0 b1 : FVec Ideal S1x1x256x512 .f32)
    (hg : ∀ i l, rowsAt P.x r 768 512 hr (by decide) (ix2 i l) = ((X (tok n i) ⟨2048 + (l : Fin 512), by omega⟩ : ℝ) : EReal))
    (hd : ∀ i l, rowsAt P.dy r 0 512 hr (by decide) (ix2 i l) = ((D (tok n i) ⟨512 + (l : Fin 512), by omega⟩ : ℝ) : EReal))
    (hy : ∀ i e g d, rowsAt P.ya r 0 512 hr (by decide) (ix2 i (qlane e g d)) = (((headsOf X D s n).OUT e g i d : ℝ) : EReal)) :
    GateAt (X := X) (D := D) (s := s) (blkAt P kp b0 b1 r hr) n := by
  constructor
  · exact hg
  · exact hd
  · exact hy
theorem gateAt (b : Fin 4) (r : ℕ) (hr : r + 128 ≤ 512) (hb : r = 128 * b) (kp : FVec Ideal S128x256 .f32) (b0 b1 : FVec Ideal S1x1x256x512 .f32) :
    GateAt (X := X) (D := D) (s := s) (blkAt (pt m c t) kp b0 b1 r hr) (bno t b) := by
  apply gateAt_of
  · exact (ptAt h t).gate_at b r hr hb
  · exact gate_dy h t b r hr hb
  · exact gate_ya h t b r hr hb

theorem isGate : ∀ b : Fin 4, GateAt (X := X) (D := D) (s := s) (blkOf (pt m c t) (grid0.coords t) b) (bno t b)
  | 0 => gateAt h t 0 0 _ rfl _ _ _
  | 1 => gateAt h t 1 128 _ rfl _ _ _
  | 2 => gateAt h t 2 256 _ rfl _ _ _
  | 3 => gateAt h t 3 384 _ rfl _ _ _

end Cert.AttnBwdIdeal.Value
end
-- ==== Proof.AttnRefGrad.lean ====
/-
  The attention's reference, backward: the gradients it computes on finite arguments are the model's.
-/
module

public import proofs.«01_k».proof.Proof.AttnRefScore

@[expose] public section

set_option maxRecDepth 16384

noncomputable section

namespace Cert.AttnBwdRefIdeal.Value

open Cert.AttnBwdRefIdeal Cert.AttnBwdRefIdeal.Gen Idealize.ShloMosaic Idealize.ShloMosaic.TcCoe Idealize.SL.Sem
open Cert.RealLift Cert.AttnModel Cert.AttnBwdRefIdeal.Read

variable (X : Fin 8192 → Fin 2560 → ℝ) (D : Fin 8192 → Fin 1024 → ℝ) (s : Fin 8 → ℝ)
variable (n : Fin 64) (i : Fin 128) (h : Fin 2) (g : Fin 4) (y : Fin 256) (d : Fin 64)

/-- The logistic function as the reference writes it. -/
theorem logis_at (z : ℝ) : Ideal.div 1 (1 + Ideal.exp (-(z : EReal))) = ((logis z : ℝ) : EReal) := by
  rw [← EReal.coe_neg, Ideal.exp_coe, ← EReal.coe_one, ← EReal.coe_add, div_coe_coe (by positivity)]
  rfl

/-- The gradient of the attention's output. -/
theorem dout_at : val_main_v113 (castX X) (castD D) (ix5 n h d g i) = (((headsOf X D s n).O h g i d : ℝ) : EReal) := by
  have hr : (⟨(n : ℕ) * 128 + i, by omega⟩ : Fin 8192) = tok n i := Fin.ext (by simp only [tok]; omega)
  have hc : (⟨(h : ℕ) * 256 + g * 64 + d, by omega⟩ : Fin 512) = qlane h g d := Fin.ext (by simp only [qlane]; omega)
  have hrow : val_main_v113 (castX X) (castD D) (ix5 n h d g i) = val_main_v110 (castX X) (castD D) (ix2 (tok n i) (qlane h g d)) := by
    rw [← hr, ← hc]
    pointwise [val_main_v113, val_main_v112]
  rw [hrow]
  pointwise [val_main_v110, val_main_v108, val_main_v106_0, val_main_v106_2, val_main_v3, val_main_call3_v0, val_main_call3_v1, val_main_call3_v2,
    val_main_call3_v3, val_main_call3_v4, val_main_call3_cst, val_main_call3_cst_0, castX, castD]
  rw [logis_at, ← EReal.coe_mul, ← EReal.coe_mul]
  rfl

theorem dprob_at : val_main_v114 (castX X) (castD D) (ix5 n h g i y) = ((dp ((headsOf X D s n).V h) ((headsOf X D s n).O h g) i y : ℝ) : EReal) := by
  pointwise [val_main_v114]
  simp only [dout_at X D s, vals_at X D s, ← EReal.coe_mul, coe_sum]
  rfl

/-- The padded gradient of the weights: zero for the sink. -/
theorem pad_at (z : Fin 257) : val_main_v117 (castX X) (castD D) (ix5 n h g i z)
    = if hz : (z : ℕ) < 256 then ((dp ((headsOf X D s n).V h) ((headsOf X D s n).O h g) i ⟨z, hz⟩ : ℝ) : EReal) else ((0 : ℝ) : EReal) := by
  simp only [← dprob_at]
  pointwise [val_main_v117, val_main_cst_25]
  rw [EReal.coe_zero]

/-- What the softmax's gradient subtracts from a row. -/
theorem shift_row (M : ℝ) (hM : Soft X D s n i h g M) (z : Fin 257) : val_main_v127 (castX X) (castD D) (castS s) (ix5 n h g i z)
    = ((-(∑ y, dp ((headsOf X D s n).V h) ((headsOf X D s n).O h g) i y
        * (1 / ((Cert.AttnModel.den ((headsOf X D s n).Q h g) ((headsOf X D s n).K h) ((headsOf X D s n).bias h g) (headsOf X D s n).ok ((headsOf X D s n).S h g) i * Real.exp (-M))
          * (Cert.AttnModel.den ((headsOf X D s n).Q h g) ((headsOf X D s n).K h) ((headsOf X D s n).bias h g) (headsOf X D s n).ok ((headsOf X D s n).S h g) i * Real.exp (-M))))
        * (Cert.AttnModel.e ((headsOf X D s n).Q h g) ((headsOf X D s n).K h) ((headsOf X D s n).bias h g) (headsOf X D s n).ok i y * Real.exp (-M))) : ℝ) : EReal) := by
  have hz : ∀ z : Fin 257, val_main_v119 (castX X) (castD D) (castS s) (ix5 n h g i z)
      = val_main_v117 (castX X) (castD D) (ix5 n h g i z) * Ideal.div 1 (val_main_v95 (castX X) (castS s) (ix4 n h g i) * val_main_v95 (castX X) (castS s) (ix4 n h g i)) := by
    intro z
    pointwise [val_main_v119, val_main_v118, val_main_v101, val_main_v100, val_main_v99, val_main_v96, val_main_cst_24]
  have hd := shift_ne (q := (headsOf X D s n).Q h g) (k := (headsOf X D s n).K h) (bias := (headsOf X D s n).bias h g) (ok := (headsOf X D s n).ok) (sink := (headsOf X D s n).S h g) M i
  pointwise [val_main_v127, val_main_v126, val_main_cst_27, val_main_v123, val_main_v122, val_main_v121, val_main_v120, val_main_cst_26]
  rw [Fin.sum_univ_one, Fin.sum_univ_castSucc]
  have hlast : val_main_v119 (castX X) (castD D) (castS s) (ix5 n h g i (Fin.last 256)) * val_main_v94 (castX X) (castS s) (ix5 n h g i (Fin.last 256)) = ((0 : ℝ) : EReal) := by
    rw [hz, pad_at X D s, dif_neg (by simp), hM.den, show Fin.last 256 = ⟨256, by omega⟩ from rfl, hM.last, ← EReal.coe_mul, ← EReal.coe_one,
      div_coe_coe (mul_ne_zero hd hd), ← EReal.coe_mul, ← EReal.coe_mul, zero_mul, zero_mul]
  have hrest : ∀ y : Fin 256, val_main_v119 (castX X) (castD D) (castS s) (ix5 n h g i (Fin.castSucc y)) * val_main_v94 (castX X) (castS s) (ix5 n h g i (Fin.castSucc y))
      = ((dp ((headsOf X D s n).V h) ((headsOf X D s n).O h g) i y
          * (1 / ((Cert.AttnModel.den ((headsOf X D s n).Q h g) ((headsOf X D s n).K h) ((headsOf X D s n).bias h g) (headsOf X D s n).ok ((headsOf X D s n).S h g) i * Real.exp (-M))
            * (Cert.AttnModel.den ((headsOf X D s n).Q h g) ((headsOf X D s n).K h) ((headsOf X D s n).bias h g) (headsOf X D s n).ok ((headsOf X D s n).S h g) i * Real.exp (-M))))
          * (Cert.AttnModel.e ((headsOf X D s n).Q h g) ((headsOf X D s n).K h) ((headsOf X D s n).bias h g) (headsOf X D s n).ok i y * Real.exp (-M)) : ℝ) : EReal) := by
    intro y
    rw [show Fin.castSucc y = (⟨y, by omega⟩ : Fin 257) from rfl, hz, pad_at X D s, dif_pos (show ((⟨y, by omega⟩ : Fin 257) : ℕ) < 256 from y.isLt), hM.den, hM.e, ← EReal.coe_mul, ← EReal.coe_one,
      div_coe_coe (mul_ne_zero hd hd), ← EReal.coe_mul, ← EReal.coe_mul]
  rw [Finset.sum_congr rfl fun y _ => hrest y, hlast, coe_sum, ← EReal.coe_add, ← EReal.coe_neg, add_zero]

theorem grad_row (z : Fin 257) : val_main_v129 (castX X) (castD D) (castS s) (ix5 n h g i z)
    = (Ideal.div (val_main_v117 (castX X) (castD D) (ix5 n h g i z)) (val_main_v95 (castX X) (castS s) (ix4 n h g i))
        + val_main_v127 (castX X) (castD D) (castS s) (ix5 n h g i z)) * val_main_v94 (castX X) (castS s) (ix5 n h g i z) := by
  pointwise [val_main_v129, val_main_v128, val_main_v125, val_main_v124, val_main_v96]

/-- The gradient of a score, as the softmax's derivative gives it. -/
theorem soft_grad {ι : Type} [Fintype ι] (w q : ι → ℝ) (den x a b : ℝ) (hd : den ≠ 0) (hx : x ≠ 0) :
    (a / (den * x) + -∑ y, q y * (1 / ((den * x) * (den * x))) * (w y * x)) * (b * x) = b / den * (a - ∑ y, w y / den * q y) := by
  have : ∑ y, q y * (1 / ((den * x) * (den * x))) * (w y * x) = (∑ y, w y / den * q y) / (den * x) := by
    rw [Finset.sum_div]
    refine Finset.sum_congr rfl fun y _ => ?_
    field_simp
  rw [this]
  generalize (∑ y, w y / den * q y) = T
  field_simp
  ring

theorem ds_at : val_main_v129 (castX X) (castD D) (castS s) (ix5 n h g i ⟨y, by omega⟩)
    = ((ds ((headsOf X D s n).Q h g) ((headsOf X D s n).K h) ((headsOf X D s n).V h) ((headsOf X D s n).O h g) ((headsOf X D s n).bias h g)
        (headsOf X D s n).ok ((headsOf X D s n).S h g) i y : ℝ) : EReal) := by
  obtain ⟨M, hM⟩ := soft X D s n i h g
  rw [grad_row, shift_row X D s n i h g M hM, pad_at X D s, dif_pos (show ((⟨y, by omega⟩ : Fin 257) : ℕ) < 256 from y.isLt), hM.den, hM.e,
    div_coe_coe (shift_ne _ _), ← EReal.coe_add, ← EReal.coe_mul, soft_grad _ _ _ _ _ _ (den_pos _ _ _ _ _ _).ne' (Real.exp_pos _).ne']
  rfl

theorem dsink_at : val_main_v129 (castX X) (castD D) (castS s) (ix5 n h g i ⟨256, by omega⟩)
    = ((-(ps ((headsOf X D s n).Q h g) ((headsOf X D s n).K h) ((headsOf X D s n).bias h g) (headsOf X D s n).ok ((headsOf X D s n).S h g) i
        * delta ((headsOf X D s n).Q h g) ((headsOf X D s n).K h) ((headsOf X D s n).V h) ((headsOf X D s n).O h g) ((headsOf X D s n).bias h g)
        (headsOf X D s n).ok ((headsOf X D s n).S h g) i) : ℝ) : EReal) := by
  obtain ⟨M, hM⟩ := soft X D s n i h g
  rw [grad_row, shift_row X D s n i h g M hM, pad_at X D s, dif_neg (by simp), hM.den, hM.last,
    div_coe_coe (shift_ne _ _), ← EReal.coe_add, ← EReal.coe_mul, soft_grad _ _ _ _ _ _ (den_pos _ _ _ _ _ _).ne' (Real.exp_pos _).ne']
  refine congrArg Real.toEReal ?_
  rw [zero_sub, mul_neg]
  rfl

theorem ds_masked_at : val_main_v136 (castX X) (castD D) (castS s) (ix5 n h g i y)
    = ((ds ((headsOf X D s n).Q h g) ((headsOf X D s n).K h) ((headsOf X D s n).V h) ((headsOf X D s n).O h g) ((headsOf X D s n).bias h g)
        (headsOf X D s n).ok ((headsOf X D s n).S h g) i y : ℝ) : EReal) := by
  classical
  pointwise [val_main_v136, val_main_v130, val_main_v69_1, val_main_v65, val_main_call5_v0, val_main_call5_cst]
  rw [valid_at, ds_at X D s, Cert.AttnBwdIdeal.Value.select_ofBool]
  split
  · rfl
  next ho =>
    rw [ds, p_zero (show ¬ (headsOf X D s n).ok i y from ho), zero_mul, EReal.coe_zero]

theorem dq_at : val_main_v143 (castX X) (castD D) (castS s) (ix5 n i h g d) = (((headsOf X D s n).DQ h g i d : ℝ) : EReal) := by
  pointwise [val_main_v143, val_main_v142, val_main_cst_30, val_main_v139, val_main_v138, val_main_v137]
  simp only [ds_masked_at X D s, keys_at X D s, ← EReal.coe_mul, coe_sum]
  rw [bits_8, ← EReal.coe_mul]
  rfl

theorem dk_at : val_main_v141 (castX X) (castD D) (castS s) (ix4 n y h d) = (((headsOf X D s n).DK h y d : ℝ) : EReal) := by
  pointwise [val_main_v141, val_main_v140, val_main_v137]
  simp only [ds_masked_at X D s, q_at X D s, ← EReal.coe_mul, coe_sum]
  refine congrArg Real.toEReal ?_
  rw [Finset.sum_comm]
  exact Finset.sum_congr rfl fun g _ => Finset.sum_congr rfl fun i _ => mul_comm _ _

theorem dv_at : val_main_v116 (castX X) (castD D) (castS s) (ix4 n y h d) = (((headsOf X D s n).DV h y d : ℝ) : EReal) := by
  pointwise [val_main_v116, val_main_v115]
  simp only [dout_at X D s, probs_at X D s, ← EReal.coe_mul, coe_sum]
  rfl

/-- The sum over the first, fourth and fifth of five axes, the fifth of one entry. -/
theorem sum_034 {n0 n1 n2 n3 : ℕ} (A : (⟨5, ![n0, n1, n2, n3, 1]⟩ : Shape).Idx → EReal)
    (hr : (⟨5, ![n0, n1, n2, n3, 1]⟩ : Shape).ReducesTo [0, 3, 4] (⟨2, ![n1, n2]⟩ : Shape)) (b : Fin n1) (c : Fin n2) :
    Ideal.hostReduceAdd hr A 0 (ix2 b c) = ∑ a : Fin n0, ∑ e : Fin n3, A (ix5 a b c e 0) := by
  unfold Ideal.hostReduceAdd
  rw [zero_add, ← Fintype.sum_prod_type' fun a e => A (ix5 a b c e 0)]
  refine Finset.sum_nbij' (fun j => (j 0, j 3)) (fun p => ix5 p.1 b c p.2 0) (fun _ _ => Finset.mem_univ _) (fun p _ => ?_) (fun j hj => ?_)
    (fun _ _ => rfl) (fun j hj => ?_)
  · refine Finset.mem_filter.2 ⟨Finset.mem_univ _, ?_⟩
    funext x
    match x with
    | ⟨0, _⟩ => rfl
    | ⟨1, _⟩ => rfl
  all_goals
    have hj' := (Finset.mem_filter.1 hj).2
    have h1 : j 1 = b := Fin.ext (congrArg Fin.val (congrFun hj' 0))
    have h2 : j 2 = c := Fin.ext (congrArg Fin.val (congrFun hj' 1))
    have h4 : j 4 = (0 : Fin 1) := Subsingleton.elim (α := Fin 1) _ _
    have he : (ix5 (j 0) b c (j 3) (0 : Fin 1) : (⟨5, ![n0, n1, n2, n3, 1]⟩ : Shape).Idx) = j := by
      funext x
      match x with
      | ⟨0, _⟩ => rfl
      | ⟨1, _⟩ => exact h1.symm
      | ⟨2, _⟩ => exact h2.symm
      | ⟨3, _⟩ => rfl
      | ⟨4, _⟩ => exact h4.symm
  · exact he
  · exact congrArg A he.symm

/-- The sinks' gradients, over the whole sequence. -/
theorem sinks_at (e : Fin 8) (l : Fin 128) (he : (e : ℕ) = 4 * h + g) :
    val_main_v155 (castX X) (castD D) (castS s) (ix2 e l) = ((∑ n, (headsOf X D s n).DS h g : ℝ) : EReal) := by
  have h2 : val_main_v132 (castX X) (castD D) (castS s) (ix2 h g) = ((∑ n, (headsOf X D s n).DS h g : ℝ) : EReal) := by
    pointwise [val_main_v132, val_main_cst_28]
    rw [sum_034]
    have hl : ∀ (n : Fin 64) (i : Fin 128), val_main_v131 (castX X) (castD D) (castS s) (ix5 n h g i 0)
      = ((-(ps ((headsOf X D s n).Q h g) ((headsOf X D s n).K h) ((headsOf X D s n).bias h g) (headsOf X D s n).ok ((headsOf X D s n).S h g) i
          * delta ((headsOf X D s n).Q h g) ((headsOf X D s n).K h) ((headsOf X D s n).V h) ((headsOf X D s n).O h g) ((headsOf X D s n).bias h g)
          (headsOf X D s n).ok ((headsOf X D s n).S h g) i) : ℝ) : EReal) := by
      intro n i
      pointwise [val_main_v131]
      exact dsink_at X D s n i h g
    simp only [hl, coe_sum]
    rfl
  pointwise [val_main_v155, val_main_v154, val_main_v135]
  rw [show (⟨(e : ℕ) / 4, by omega⟩ : Fin 2) = h from Fin.ext (by simp only; omega),
    show (⟨(e : ℕ) % 4, by omega⟩ : Fin 4) = g from Fin.ext (by simp only; omega)]
  pointwise [val_main_v134, val_main_cst_29]
  rw [sum_034, Fin.sum_univ_one, Fin.sum_univ_one, ← h2]
  pointwise [val_main_v133]

end Cert.AttnBwdRefIdeal.Value

end
-- ==== Proof.AttnRefRows.lean ====
/-
  The attention backward reference: its first result's rows.
-/
module

public import proofs.«01_k».proof.Proof.AttnRefGrad
public import proofs.«01_k».proof.Proof.AttnTarget

@[expose] public section

set_option maxRecDepth 16384

noncomputable section

namespace Cert.AttnBwdRefIdeal.Value

open Cert.AttnBwdRefIdeal Cert.AttnBwdRefIdeal.Read Cert.AttnBwdRefIdeal.Gen Idealize.ShloMosaic Cert.RealLift Cert.AttnModel

variable (X : Fin 8192 → Fin 2560 → ℝ) (D : Fin 8192 → Fin 1024 → ℝ) (s : Fin 8 → ℝ) (n : Fin 64) (i : Fin 128)

/-- Entries at equal places are equal. -/
theorem at4 (A : FVec Ideal S64x256x2x64 .f32) {a a' : Fin 64} {b b' : Fin 256} {e e' : Fin 2} {d d' : Fin 64} (ha : a = a') (hb : (b : ℕ) = b') (he : e = e') (hd : d = d') :
    A (ix4 a b e d) = A (ix4 a' b' e' d') := by
  subst ha; subst he; subst hd; rw [Fin.ext hb]

theorem mod_tok : (tok n i : ℕ) % 128 = i := by simp only [tok]; omega

theorem row_q (h : Fin 2) (g : Fin 4) (d : Fin 64) :
    val_main_v144 (F := Ideal) (castX X) (castD D) (castS s) (ix2 (tok n i) (qlane h g d)) = (((headsOf X D s n).DQ h g i d : ℝ) : EReal) := by
  rw [← dq_at]
  unfold val_main_v144
  generalize val_main_v143 (F := Ideal) (castX X) (castD D) (castS s) = A
  pointwise []
  rw [tok_div, tok_mod, qlane_head, qlane_query, qlane_feature]

/-- The second half of a block's keys are its own; the first half, those of the block before. -/
theorem own_rows (A : FVec Ideal S64x256x2x64 .f32) (h : Fin 2) (d : Fin 64) :
    shapeCast S8192x128 (extractStridedSlice S64x128x2x64 ![0, 128, 0, 0] A slices_S64x256x2x64_S64x128x2x64_0_128_0_0) shapeCasts_S64x128x2x64_S8192x128
      (ix2 (tok n i) (klane h d)) = A (ix4 n ⟨128 + i, by omega⟩ h d) := by
  pointwise []
  exact at4 A (tok_div _ _) (congrArg (128 + ·) (mod_tok n i)) (klane_head _ _) (klane_feature _ _)
theorem before_rows (A : FVec Ideal S64x256x2x64 .f32) (h : Fin 2) (d : Fin 64) :
    shapeCast S8192x128 (extractStridedSlice S64x128x2x64 ![0, 0, 0, 0] A slices_S64x256x2x64_S64x128x2x64_0_0_0_0) shapeCasts_S64x128x2x64_S8192x128
      (ix2 (tok n i) (klane h d)) = A (ix4 n ⟨i, by omega⟩ h d) := by
  pointwise []
  exact at4 A (tok_div _ _) (mod_tok n i) (klane_head _ _) (klane_feature _ _)

/-- The gate's gradient, where the attention's output is `w`. -/
theorem gate_lane (l : Fin 512) (w : ℝ) (ho : val_main_v105 (F := Ideal) (castX X) (castS s) (ix2 (tok n i) l) = ((w : ℝ) : EReal)) :
    val_main_v111 (F := Ideal) (castX X) (castD D) (castS s) (ix2 (tok n i) l)
      = ((dgate (X (tok n i) ⟨2048 + l, by omega⟩) (D (tok n i) ⟨512 + l, by omega⟩) w : ℝ) : EReal) := by
  unfold val_main_v111 val_main_call4_v1 val_main_call4_v2 val_main_call4_v0 val_main_v109
  generalize val_main_v105 (F := Ideal) (castX X) (castS s) = Y at *
  pointwise [val_main_v106_1, val_main_v106_2, val_main_call3_v7, val_main_call3_v6, val_main_call3_cst_1, val_main_v108, val_main_v3,
    val_main_call3_v0, val_main_call3_v1, val_main_call3_v2, val_main_call3_v3, val_main_call3_v4, val_main_call3_cst, val_main_call3_cst_0, castX, castD]
  rw [ho, logis_at]
  unfold dgate
  simp only [← EReal.coe_mul, ← EReal.coe_one, ← EReal.coe_sub, ← EReal.coe_add]
  exact congrArg Real.toEReal (by ring)

/-- The six arrays side by side, at a column of each. -/
theorem beside (A : FVec Ideal S8192x512 .f32) (B0 B1 B2 B3 : FVec Ideal S8192x128 .f32) (C : FVec Ideal S8192x512 .f32) (r : Fin 8192) :
    let W := concatenate S8192x1536 1 [⟨S8192x512, A⟩, ⟨S8192x128, B0⟩, ⟨S8192x128, B1⟩, ⟨S8192x128, B2⟩, ⟨S8192x128, B3⟩, ⟨S8192x512, C⟩]
      concatenates_S8192x512_S8192x128_S8192x128_S8192x128_S8192x128_S8192x512_S8192x1536_d1
    (∀ (l : Fin 512) (c : Fin 1536), (c : ℕ) = l → W (ix2 r c) = A (ix2 r l)) ∧ (∀ (l : Fin 128) (c : Fin 1536), (c : ℕ) = 512 + l → W (ix2 r c) = B0 (ix2 r l))
      ∧ (∀ (l : Fin 128) (c : Fin 1536), (c : ℕ) = 640 + l → W (ix2 r c) = B1 (ix2 r l)) ∧ (∀ (l : Fin 128) (c : Fin 1536), (c : ℕ) = 768 + l → W (ix2 r c) = B2 (ix2 r l))
      ∧ (∀ (l : Fin 128) (c : Fin 1536), (c : ℕ) = 896 + l → W (ix2 r c) = B3 (ix2 r l)) ∧ (∀ (l : Fin 512) (c : Fin 1536), (c : ℕ) = 1024 + l → W (ix2 r c) = C (ix2 r l)) := by
  intro W
  refine ⟨fun l c hc => ?_, fun l c hc => ?_, fun l c hc => ?_, fun l c hc => ?_, fun l c hc => ?_, fun l c hc => ?_⟩
  all_goals
    have hl := l.isLt
    pointwise [W]
  · exact (dif_pos (by omega)).trans (congrArg (fun x => A (ix2 r x)) (Fin.ext (by simp only; omega)))
  · iterate 1 refine (dif_neg (by omega)).trans ?_
    exact (dif_pos (by omega)).trans (congrArg (fun x => B0 (ix2 r x)) (Fin.ext (by simp only; omega)))
  · iterate 2 refine (dif_neg (by omega)).trans ?_
    exact (dif_pos (by omega)).trans (congrArg (fun x => B1 (ix2 r x)) (Fin.ext (by simp only; omega)))
  · iterate 3 refine (dif_neg (by omega)).trans ?_
    exact (dif_pos (by omega)).trans (congrArg (fun x => B2 (ix2 r x)) (Fin.ext (by simp only; omega)))
  · iterate 4 refine (dif_neg (by omega)).trans ?_
    exact (dif_pos (by omega)).trans (congrArg (fun x => B3 (ix2 r x)) (Fin.ext (by simp only; omega)))
  · iterate 5 refine (dif_neg (by omega)).trans ?_
    exact congrArg (fun x => C (ix2 r x)) (Fin.ext (by simp only; omega))

/-- The reference's first result, over finite arguments. -/
theorem rows : RowsAre X D s fun r c => val_main_v153 (F := Ideal) (castX X) (castD D) (castS s) (ix2 r c) where
  q n i h g d c hc := ((beside _ _ _ _ _ _ _).1 (qlane h g d) c hc).trans (row_q X D s n i h g d)
  dk n i h d c hc := ((beside _ _ _ _ _ _ _).2.1 (klane h d) c hc).trans ((own_rows n i _ h d).trans (dk_at X D s n h _ d))
  dv n i h d c hc := ((beside _ _ _ _ _ _ _).2.2.1 (klane h d) c hc).trans ((own_rows n i _ h d).trans (dv_at X D s n h _ d))
  dkp n i h d c hc := ((beside _ _ _ _ _ _ _).2.2.2.1 (klane h d) c hc).trans ((before_rows n i _ h d).trans (dk_at X D s n h _ d))
  dvp n i h d c hc := ((beside _ _ _ _ _ _ _).2.2.2.2.1 (klane h d) c hc).trans ((before_rows n i _ h d).trans (dv_at X D s n h _ d))
  gate n i h g d c hc := ((beside _ _ _ _ _ _ _).2.2.2.2.2 (qlane h g d) c hc).trans (gate_lane X D s n i _ _ (out_row X D s n i h g d))

end Cert.AttnBwdRefIdeal.Value

end
-- ==== Proof.AttnArrays.lean ====
/-
  The attention backward kernel: its two arrays after the run are the reference's, on finite arguments.
-/
module

public import proofs.«01_k».proof.Proof.AttnFinal
public import proofs.«01_k».proof.Proof.AttnRefRows

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Idealize.ShloMosaic.Pipeline (Dat)
open Cert.RealLift Cert.AttnModel
open Cert.AttnBwdRefIdeal.Value (castX castD castS)

variable {m : (ℓ : Loc nD τ sig) → Buf (Elt Ideal) ℓ} {c : Dev nD} {X : Fin 8192 → Fin 2560 → ℝ} {D : Fin 8192 → Fin 1024 → ℝ} {s : Fin 8 → ℝ}

/-- The point of row `r`, and the row's place in it. -/
def pointOf (r : Fin 8192) : Fin cfg0.N := ⟨r / 512, lt_of_lt_of_eq (by omega : (r : ℕ) / 512 < 16) N_0.symm⟩
def placeOf (r : Fin 8192) : Fin 512 := ⟨r % 512, by omega⟩

/-- The array the points' rows form. -/
def whole (m : (ℓ : Loc nD τ sig) → Buf (Elt Ideal) ℓ) (c : Dev nD) (r : Fin 8192) (k : Fin 1536) : EReal :=
  pointRows (pt m c (pointOf r)) (grid0.coords (pointOf r)) (ix2 (placeOf r) k)

theorem whole_eq (t : Fin cfg0.N) (b : Fin 4) (i : Fin 128) (k : Fin 1536) :
    whole m c (tok (bno t b) i) k = (blkOf (pt m c t) (grid0.coords t) b).rows (ix2 i k) := by
  have ht : pointOf (tok (bno t b) i) = t := Fin.ext (by simp only [bno, pointOf, tok]; omega)
  unfold whole
  rw [ht]
  exact tiled_at (fun b => (blkOf (pt m c t) (grid0.coords t) b).rows) b i k _ (by simp only [placeOf, bno, tok]; omega)

/-- Its row at token `i` of block `n` is a row of the model's block. -/
theorem whole_at (h : Finite m c X D s) (n : Fin 64) (i : Fin 128) : ∃ B : Blk Ideal, BlkAt B (readHeads X D s n) ∧ GateAt (X := X) (D := D) (s := s) B n
    ∧ ∀ k, whole m c (tok n i) k = B.rows (ix2 i k) := by
  obtain ⟨t, b, rfl⟩ : ∃ t b, n = bno t b :=
    ⟨⟨n / 4, lt_of_lt_of_eq (by omega : (n : ℕ) / 4 < 16) N_0.symm⟩, ⟨n % 4, by omega⟩, Fin.ext (by simp only [bno]; omega)⟩
  exact ⟨_, isBlk h t b, isGate h t b, fun k => whole_eq t b i k⟩

theorem whole_rows (h : Finite m c X D s) : RowsAre X D s (whole m c) where
  q n i e g d k hk := by
    obtain ⟨B, hB, _, hw⟩ := whole_at h n i
    rw [hw, hB.rows_q e g i d k hk, read_dq]
  dk n i e d k hk := by
    obtain ⟨B, hB, _, hw⟩ := whole_at h n i
    rw [hw, hB.rows_dk e i d k hk, read_dk]
  dv n i e d k hk := by
    obtain ⟨B, hB, _, hw⟩ := whole_at h n i
    rw [hw, hB.rows_dv e i d k hk, read_dv]
  dkp n i e d k hk := by
    obtain ⟨B, hB, _, hw⟩ := whole_at h n i
    rw [hw, hB.rows_dkp e i d k hk, read_dk]
  dvp n i e d k hk := by
    obtain ⟨B, hB, _, hw⟩ := whole_at h n i
    rw [hw, hB.rows_dvp e i d k hk, read_dv]
  gate n i e g d k hk := by
    obtain ⟨B, _, hG, hw⟩ := whole_at h n i
    rw [hw]
    exact rows_gate B i (qlane e g d) _ _ _ (hG.g i _) (hG.dy i _) (hG.ya i e g d) k hk

/-- Where entry `y` of point `t`'s block of rows sits in the array. -/
theorem emb5 (t : Fin cfg0.N) (y : S512x1536.Idx) :
    ((View.whole main_v88_0).slice (win0_5.rect t)).emb y = (ix2 (trow t (y 0)) (y 1) : S8192x1536.Idx) := by
  blk_ext [idx t, trow]

/-- A point's entry of its block of rows is the whole array's. -/
theorem point5 (t : Fin cfg0.N) (y : S512x1536.Idx) :
    pointRows (pt m c t) (grid0.coords t) y = (fun i : S8192x1536.Idx => whole m c (i 0) (i 1)) (((View.whole main_v88_0).slice (win0_5.rect t)).emb y) := by
  rw [emb5]
  have h0 : (y 0 : ℕ) < 512 := (y 0).isLt
  have ht : pointOf (trow t (y 0)) = t := Fin.ext (by simp only [pointOf, trow]; omega)
  have hp : placeOf (trow t (y 0)) = y 0 := Fin.ext (by simp only [placeOf, trow]; omega)
  show _ = whole m c (trow t (y 0)) (y 1)
  unfold whole
  rw [ht, hp]
  exact congrArg _ (funext fun a => by fin_cases a <;> rfl)

/-- The gradient's rows after the run are the reference's. -/
theorem rows_final (h : Finite m c X D s) : (dats m 0 c).arrAt 5 (cfgs 0).N
    = Cert.AttnBwdRefIdeal.Read.val_main_v153 (F := Ideal) (castX X) (castD D) (castS s) := by
  have e : (dats m 0 c).arrAt 5 (cfgs 0).N = fun i : S8192x1536.Idx => whole m c (i 0) (i 1) := by
    refine (dats m 0 c).arrAt_eq_of_covers 5 _ (by decide +kernel) fun t hf y => ?_
    blk_simp
    rw [after0_5, rows_at]
    exact point5 t y
  refine e.trans (funext fun i => ?_)
  exact (congrFun (congrFun ((whole_rows h).unique (Cert.AttnBwdRefIdeal.Value.rows X D s)) (i 0)) (i 1)).trans
    (congrArg _ (funext fun a => by fin_cases a <;> rfl))

/-- Block `n`'s part of the gradient of sink `e`. -/
def partOf (X : Fin 8192 → Fin 2560 → ℝ) (D : Fin 8192 → Fin 1024 → ℝ) (s : Fin 8 → ℝ) (e : Fin 8) (n : Fin 64) : ℝ :=
  (headsOf X D s n).DS ⟨e / 4, by omega⟩ ⟨e % 4, by omega⟩

/-- A sink's gradient, in every lane, summed over a point's blocks. -/
theorem sinkRows_at (h : Finite m c X D s) (t : Fin cfg0.N) (e : Fin 8) (l : Fin 128) :
    sinkRows (pt m c t) (grid0.coords t) (ix2 e l) = ∑ b : Fin 4, ((partOf X D s e (bno t b) : ℝ) : EReal) := by
  have hs (e : Fin 8) : sinkSum (pt m c t) (grid0.coords t) e (ix2 0 0)
      = ∑ b : Fin 4, ((partOf X D s e (bno t b) : ℝ) : EReal) := by
    have hb (b : Fin 4) := (isBlk h t b).sink_at ⟨e / 4, by omega⟩ ⟨e % 4, by omega⟩ e (by simp only; omega)
    simp only [read_ds] at hb
    unfold partOf
    rw [Fin.sum_univ_four, ← hb 0, ← hb 1, ← hb 2, ← hb 3]
    rfl
  rw [← hs]
  unfold sinkRows
  fin_cases e
  all_goals
    pointwise []

theorem added_at (a b : FVec Ideal S8x128 .f32) (e : Fin 8) (l : Fin 128) : k0_pay1 (k0_pay353 a) b (ix2 e l) = a (ix2 e l) + b (ix2 e l) := by
  pointwise [k0_pay1, k0_pay353]
theorem part_head (e : Fin 8) : (e : ℕ) = 4 * ((⟨e / 4, by omega⟩ : Fin 2) : ℕ) + ((⟨e % 4, by omega⟩ : Fin 4) : ℕ) := by simp only; omega
theorem zero_lane (e : Fin 8) (l : Fin 128) : k0_pay14 (F := Ideal) (ix2 e l) = 0 := by
  pointwise [k0_pay14]

/-- The sinks' gradients after the run are the reference's. -/
theorem sinks_final (h : Finite m c X D s) : (dats m 0 c).arrAt 6 (cfgs 0).N
    = Cert.AttnBwdRefIdeal.Read.val_main_v155 (F := Ideal) (castX X) (castD D) (castS s) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0)
    (fun t (j : S8x128.Idx) => ∑ b : Fin 4, ((partOf X D s (j 0) (bno t b) : ℝ) : EReal))
    (fun t h0 j => by
      rw [sinks_first m c t h0]
      idx_vars j
      rw [added_at, zero_lane]
      exact congrArg (0 + ·) (sinkRows_at h t _ _))
    (fun t h0 j => by
      rw [sinks_later m c t h0, show (before m c t).2.2 = filled from bias_at m c _ _]
      idx_vars j
      rw [added_at]
      exact congrArg ((before m c t).2.1 _ + ·) (sinkRows_at h t _ _))
    (le_of_eq N_0) t0_15 rfl j, zero_add]
  idx_vars j
  rw [Cert.AttnBwdRefIdeal.Value.sinks_at X D s _ _ _ _ (part_head _), ← coe_sum]
  exact Fin.sum_mul_add_congr fun t k hl => by
    rw [show bno t k = ⟨t.val * 4 + k.val, hl⟩ from Fin.ext (by simp only [bno]; omega)]
    rfl

end Cert.AttnBwdIdeal.Value
end
-- ==== Proof.AttnClaim.lean ====
/-
  The attention's backward pass: from the claim's precondition to real arrays, and the two runs side by side.
-/
module

public import proofs.«01_k».proof.Defs
public import proofs.«01_k».proof.Proof.AttnArrays
public import proofs.«01_k».proof.Proof.Gen.Pre_attn_bwd_finite
public import proofs.«01_k».proof.Proof.Gen.AttnBwdRefIdeal.Run
public import proofs.«01_k».proof.Proof.Gen.AttnBwdRefIdeal.Read
public import Idealize.ShloMosaic.Lib.Claim

@[expose] public section

set_option maxRecDepth 16384

noncomputable section

namespace Cert.AttnBwdIdeal.Value

open Cert.AttnBwdIdeal Cert.AttnBwdIdeal.Gen Idealize.ShloMosaic Idealize.ShloMosaic.TcCoe Idealize.SL.Sem
open Cert.RealLift

/-- Arguments that pass the precondition are casts of real arrays. -/
theorem finite_of_pre (m : (ℓ : Loc nD τ sig) → Buf (Elt Ideal) ℓ)
    (h : Cert.Pre_AttnBwdIdeal_attn_bwd_finite m) (c : Dev nD) :
    Finite m c (fun r l => EReal.toReal (m ((c : Thread nD τ).loc main_arg0) (ix2 r l))) (fun r l => EReal.toReal (m ((c : Thread nD τ).loc main_arg1) (ix2 r l)))
      (fun e => EReal.toReal (m ((c : Thread nD τ).loc main_arg2) (ix1 e))) := by
  obtain ⟨h0, h1, h2⟩ := h c
  exact
    { x := funext fun i => (coe_toReal_of_abs_lt (φ := .f32) _ _ inf_f32 (congrFun h0 i)).trans
        (congrArg (fun i => ((EReal.toReal (m ((c : Thread nD τ).loc main_arg0) i) : ℝ) : EReal)) (funext fun a => by fin_cases a <;> rfl))
      d := funext fun i => (coe_toReal_of_abs_lt (φ := .f32) _ _ inf_f32 (congrFun h1 i)).trans
        (congrArg (fun i => ((EReal.toReal (m ((c : Thread nD τ).loc main_arg1) i) : ℝ) : EReal)) (funext fun a => by fin_cases a <;> rfl))
      s := funext fun i => (coe_toReal_of_abs_lt (φ := .f32) _ _ inf_f32 (congrFun h2 i)).trans
        (congrArg (fun i => ((EReal.toReal (m ((c : Thread nD τ).loc main_arg2) i) : ℝ) : EReal)) (funext fun a => by fin_cases a; rfl)) }

/-- On finite arguments the kernel's rows of the gradient and its sinks' gradients are the reference's. -/
theorem algebraic : Cert.algebraic_AttnBwdIdeal_AttnBwdRefIdeal_pre_attn_bwd_finite := by
  pair_intro
  · run_from (run_blocks m g)
  · refine (θ_run Cert.AttnBwdRefIdeal.defs _ _).mono (fun r h c => ?_) (Cert.AttnBwdRefIdeal.Value.run (F := Ideal) m' g')
    obtain ⟨h153, h155, k⟩ := h c
    obtain ⟨a0, a1, a2⟩ := hagree c
    have f := finite_of_pre m hpre c
    refine ⟨h153.trans ?_, h155.trans ?_, k⟩
    · refine (Cert.AttnBwdRefIdeal.Read.val_main_v153_eq _).trans ((congr (congr (congrArg Cert.AttnBwdRefIdeal.Read.val_main_v153 a0) a1) a2).trans ?_)
      refine Eq.trans ?_ (rows_final f).symm
      rw [f.x, f.d, f.s]; rfl
    · refine (Cert.AttnBwdRefIdeal.Read.val_main_v155_eq _).trans ((congr (congr (congrArg Cert.AttnBwdRefIdeal.Read.val_main_v155 a0) a1) a2).trans ?_)
      refine Eq.trans ?_ (sinks_final f).symm
      rw [f.x, f.d, f.s]; rfl

end Cert.AttnBwdIdeal.Value

end
-- ==== Proof.InModel.lean ====
/-
  The backward of one token's normalised input projection over the reals.
-/
module

public import proofs.«01_k».proof.Proof.LossModel

@[expose] public section

noncomputable section

namespace Cert.InModel

open Cert.RealLift Cert.LossModel

/-- Entries at places of equal number are equal. -/
theorem at_val {n k a b c d : ℕ} (M : Fin n → Fin k → ℝ) {ha : a < n} {hb : b < n} {hc : c < k} {hd : d < k} (h : a = b) (h' : c = d) :
    ((M ⟨a, ha⟩ ⟨c, hc⟩ : ℝ) : EReal) = ((M ⟨b, hb⟩ ⟨d, hd⟩ : ℝ) : EReal) := by
  subst h; subst h'; rfl

/-- Entries at equal places are equal. -/
theorem at2 {n k : ℕ} (M : Fin n → Fin k → ℝ) {r r' : Fin n} {c c' : Fin k} (hr : (r : ℕ) = r') (hc : (c : ℕ) = c') :
    ((M r c : ℝ) : EReal) = ((M r' c' : ℝ) : EReal) := by
  rw [Fin.ext hr, Fin.ext hc]

variable (A : Fin 8192 → Fin 1280 → ℝ) (T : Fin 8192 → Fin 1536 → ℝ)

/-- What a token's keys and values, copied to the next block of 128 tokens as its "block before", bring back from there. -/
def back (s : Fin 8192) (c : Fin 1536) : ℝ := if h : s.val + 128 < 8192 then T ⟨s.val + 128, h⟩ c else 0

theorem back_of_lt {s : Fin 8192} (c : Fin 1536) (h : s.val + 128 < 8192) : back T s c = T ⟨s.val + 128, h⟩ c := dif_pos h
theorem back_of_not_lt {s : Fin 8192} (c : Fin 1536) (h : ¬s.val + 128 < 8192) : back T s c = 0 := dif_neg h

/-- The cotangent of a token's projected row: the mixing gradients, the queries', the keys' and values' with what the next
block brings back, and the gate's. -/
def proj (s : Fin 8192) (e : Fin 2560) : ℝ :=
  if h : e.val < 1280 then A s ⟨e, h⟩
  else if h : e.val < 1792 then T s ⟨e - 1280, by omega⟩
  else if h : e.val < 2048 then T s ⟨e - 1280, by omega⟩ + back T s ⟨e - 1024, by omega⟩
  else T s ⟨e - 1024, by omega⟩

variable (W : Fin 1024 → Fin 2560 → ℝ)

/-- The cotangent of a token's normalised, scaled row. -/
def hid (s : Fin 8192) (d : Fin 1024) : ℝ := ∑ e, proj A T s e * W d e

/-- The gradient by the normalisation's input, from the cotangent `w` of the normalised row, as a tile computes it. -/
def normGrad (z w : Fin 1024 → ℝ) (d : Fin 1024) : ℝ := inv z * (w d - z d * inv z * ((∑ k, w k * (z k * inv z)) / 1024))

/-- The same gradient as the chain rule through the reciprocal square root spells it. -/
theorem normGrad_chain (z w : Fin 1024 → ℝ) (d : Fin 1024) :
    w d * inv z + z d * ((∑ k, z k * w k) * (-(1 / 2) * (inv z / ms z)) / 1024)
      + ((∑ k, z k * w k) * (-(1 / 2) * (inv z / ms z)) / 1024) * z d = normGrad z w d := by
  have h : inv z / ms z = inv z * inv z * inv z := by
    rw [div_eq_iff (ms_pos z).ne']
    linear_combination (-inv z) * inv_sq z
  rw [h]
  unfold normGrad
  rw [show (∑ k, w k * (z k * inv z)) = (∑ k, z k * w k) * inv z by
    rw [Finset.sum_mul]; exact Finset.sum_congr rfl fun k _ => by ring]
  ring

end Cert.InModel

end
-- ==== Proof.InKernel.lean ====
/-
  The in-projection's backward kernel: what one grid point computes, read at an index, on finite blocks.
-/
module

public import proofs.«01_k».proof.Proof.InModel
public import proofs.«01_k».proof.Proof.Gen.InBwdIdeal.Skeleton
public import Idealize.ShloMosaic.Lib.WordCmp

@[expose] public section

set_option maxRecDepth 16384

noncomputable section

namespace Cert.InBwdIdeal.Value

open Cert.InBwdIdeal Cert.InBwdIdeal.Gen Idealize.ShloMosaic Idealize.ShloMosaic.TcCoe Idealize.SL.Sem
open Cert.RealLift Cert.LossModel Cert.InModel

/-- Row `p` of tile `t`, as a row of the array. -/
def trow (t : Fin 16) (p : Fin 512) : Fin 8192 := ⟨t * 512 + p, by omega⟩

/-- The blocks point `i` reads are those of tile `t` of finite arrays. -/
structure Blocks (A : Fin 8192 → Fin 1280 → ℝ) (T : Fin 8192 → Fin 1536 → ℝ) (t : Fin 16) (i : grid0.Coords)
    (v0 : FVec Ideal S512x1536 .f32) (v2 : FVec Ideal S128x256 .f32) (v9 : FVec Ideal S512x1280 .bf16) : Prop where
  i : (i 0).val = t.val
  v0 : ∀ p l, v0 (ix2 p l) = ((T (trow t p) l : ℝ) : EReal)
  v2 : ∀ (h : t.val < 15) (p : Fin 128) (l : Fin 256), v2 (ix2 p l) = ((T ⟨(t + 1) * 512 + p, by omega⟩ ⟨768 + l, by omega⟩ : ℝ) : EReal)
  v9 : ∀ p l, v9 (ix2 p l) = ((A (trow t p) l : ℝ) : EReal)

variable {A : Fin 8192 → Fin 1280 → ℝ} {T : Fin 8192 → Fin 1536 → ℝ} {t : Fin 16} {i : grid0.Coords}
variable {v0 : FVec Ideal S512x1536 .f32} {v2 : FVec Ideal S128x256 .f32} {v9 : FVec Ideal S512x1280 .bf16}

/-- The point's cotangent of the projected row. -/
theorem proj_at (b : Blocks A T t i v0 v2 v9) (p : Fin 512) (e : Fin 2560) :
    k0_pay7 (F := Ideal) i v0 v2 v9 (ix2 p e) = ((proj A T (trow t p) e : ℝ) : EReal) := by
  pointwise [k0_pay7]
  unfold proj
  by_cases h1 : e.val < 1280
  · rw [dif_pos h1, dif_pos h1]; exact b.v9 _ _
  rw [dif_neg h1, dif_neg h1]
  by_cases h2 : e.val < 1792
  · rw [dif_pos (by omega), dif_pos h2]; exact b.v0 _ _
  rw [dif_neg (by omega), dif_neg h2]
  by_cases h3 : e.val < 2048
  · rw [dif_pos (by omega), dif_pos h3, EReal.coe_add]
    refine congrArg₂ (· + ·) ((b.v0 _ _).trans (at2 T rfl (by simp only; omega))) ?_
    unfold back
    by_cases h4 : p.val < 384
    · rw [dif_pos h4, dif_pos (by simp only [trow]; omega)]
      exact (b.v0 _ _).trans (at2 T (by simp only [trow]; omega) (by simp only; omega))
    rw [dif_neg h4, b.i]
    by_cases h5 : t.val < 15
    · rw [show Scalar.cmpi CmpIPredicate.slt (BitVec.ofNat 32 t.val) 15#32 = 1#1 from
        (WordCmp.cmpi_slt_ofNat_eq_one_iff (by omega) (by omega)).2 h5, dif_pos (by simp only [trow]; omega)]
      exact (b.v2 h5 _ _).trans (at2 T (by simp only [trow]; omega) (by simp only; omega))
    · rw [show Scalar.cmpi CmpIPredicate.slt (BitVec.ofNat 32 t.val) 15#32 = 0#1 from
        (WordCmp.cmpi_slt_ofNat_eq_zero_iff (by omega) (by omega)).2 h5, dif_neg (by simp only [trow]; omega)]
      rfl
  · rw [dif_neg (by omega), dif_neg h3]
    exact (b.v0 _ _).trans (at2 T rfl (by simp only; omega))

variable {W : Fin 1024 → Fin 2560 → ℝ} {X : Fin 8192 → Fin 1024 → ℝ} {G : Fin 1024 → ℝ}
variable {v16 : FVec Ideal S2560x1024 .bf16} {v19 v34 : FVec Ideal S512x1024 .f32} {v20 : FVec Ideal S1x1x1024 .f32}

/-- The point's cotangent of the normalised, scaled row. -/
theorem hid_at (b : Blocks A T t i v0 v2 v9) (hw : ∀ e d, v16 (ix2 e d) = ((W d e : ℝ) : EReal)) (p : Fin 512) (d : Fin 1024) :
    k0_pay8 (F := Ideal) i v0 v2 v9 v16 (ix2 p d) = ((hid A T W (trow t p) d : ℝ) : EReal) := by
  unfold k0_pay8
  have hq := proj_at b
  generalize k0_pay7 (F := Ideal) i v0 v2 v9 = q at *
  pointwise []
  simp only [hq, hw, ← EReal.coe_mul, coe_sum]
  rfl

theorem inv_at (hx : ∀ p d, v19 (ix2 p d) = ((X (trow t p) d : ℝ) : EReal)) (p : Fin 512) (l : Fin 1) :
    k0_pay10 (F := Ideal) v19 (ix2 p l) = ((inv (X (trow t p)) : ℝ) : EReal) := by
  pointwise [k0_pay10]
  simp only [hx, ofBits_1024, ofBits_eps, ← EReal.coe_mul, coe_sum]
  rw [div_coe_coe (by norm_num), ← EReal.coe_add]
  exact rsqrt_ms _

theorem norm_at (hx : ∀ p d, v19 (ix2 p d) = ((X (trow t p) d : ℝ) : EReal)) (p : Fin 512) (d : Fin 1024) :
    k0_pay11 (F := Ideal) v19 (ix2 p d) = ((X (trow t p) d * inv (X (trow t p)) : ℝ) : EReal) := by
  pointwise [k0_pay11]
  rw [hx, inv_at hx, EReal.coe_mul]

theorem scaled_at (b : Blocks A T t i v0 v2 v9) (hw : ∀ e d, v16 (ix2 e d) = ((W d e : ℝ) : EReal))
    (hg : ∀ d, v20 (ix3 0 0 d) = ((G d : ℝ) : EReal)) (p : Fin 512) (d : Fin 1024) :
    k0_pay12 (F := Ideal) i v0 v2 v9 v16 v20 (ix2 p d) = ((hid A T W (trow t p) d * G d : ℝ) : EReal) := by
  pointwise [k0_pay12, k0_pay9]
  rw [hid_at b hw, hg, EReal.coe_mul]

theorem dot_at (b : Blocks A T t i v0 v2 v9) (hw : ∀ e d, v16 (ix2 e d) = ((W d e : ℝ) : EReal))
    (hg : ∀ d, v20 (ix3 0 0 d) = ((G d : ℝ) : EReal)) (hx : ∀ p d, v19 (ix2 p d) = ((X (trow t p) d : ℝ) : EReal)) (p : Fin 512) :
    k0_pay13 (F := Ideal) i v0 v2 v9 v16 v19 v20 (ix1 p)
      = ((∑ k, hid A T W (trow t p) k * G k * (X (trow t p) k * inv (X (trow t p))) : ℝ) : EReal) := by
  pointwise [k0_pay13]
  simp only [scaled_at b hw hg, norm_at hx, ← EReal.coe_mul, coe_sum]

/-- The gradient rows a point stores. -/
theorem rows_at (b : Blocks A T t i v0 v2 v9) (hw : ∀ e d, v16 (ix2 e d) = ((W d e : ℝ) : EReal))
    (hg : ∀ d, v20 (ix3 0 0 d) = ((G d : ℝ) : EReal)) (hx : ∀ p d, v19 (ix2 p d) = ((X (trow t p) d : ℝ) : EReal)) (p : Fin 512) (d : Fin 1024) :
    k0_pay1 (F := Ideal) (k0_pay10 v19) (k0_pay11 v19) (k0_pay12 i v0 v2 v9 v16 v20) v34 (k0_pay13 i v0 v2 v9 v16 v19 v20) (ix2 p d)
      = v34 (ix2 p d) + ((normGrad (X (trow t p)) (fun k => hid A T W (trow t p) k * G k) d : ℝ) : EReal) := by
  pointwise [k0_pay1]
  rw [inv_at hx, norm_at hx, scaled_at b hw hg, dot_at b hw hg hx, ofBits_1024, div_coe_coe (by norm_num)]
  simp only [← EReal.coe_mul, ← EReal.coe_sub]
  rfl

/-- What a point adds to the gradient of the scale. -/
theorem scale_at (b : Blocks A T t i v0 v2 v9) (hw : ∀ e d, v16 (ix2 e d) = ((W d e : ℝ) : EReal))
    (hx : ∀ p d, v19 (ix2 p d) = ((X (trow t p) d : ℝ) : EReal)) (acc : FVec Ideal S1x1024 .f32) (l : Fin 1) (d : Fin 1024) :
    k0_pay4 (F := Ideal) (k0_pay8 i v0 v2 v9 v16) (k0_pay11 v19) acc (ix2 l d)
      = acc (ix2 l d) + ∑ q : Fin 512, ((hid A T W (trow t q) d * (X (trow t q) d * inv (X (trow t q))) : ℝ) : EReal) := by
  pointwise [k0_pay4]
  simp only [hid_at b hw, norm_at hx, ← EReal.coe_mul]

theorem zero_row (j) : k0_pay2 (F := Ideal) j = 0 := by pointwise [k0_pay2]

end Cert.InBwdIdeal.Value

end
-- ==== Proof.InRef.lean ====
/-
  The in-projection's backward reference, one operation at a time, on finite arguments.
-/
module

public import proofs.«01_k».proof.Proof.InModel
public import proofs.«01_k».proof.Proof.Gen.InBwdRefIdeal.Read

@[expose] public section

set_option maxRecDepth 16384

noncomputable section

namespace Cert.InBwdRefIdeal.Value

open Cert.InBwdRefIdeal Cert.InBwdRefIdeal.Gen Cert.InBwdRefIdeal.Read Idealize.ShloMosaic Idealize.ShloMosaic.TcCoe Idealize.SL.Sem
open Cert.RealLift Cert.LossModel Cert.InModel

variable (A : Fin 8192 → Fin 1280 → ℝ) (T : Fin 8192 → Fin 1536 → ℝ) (W : Fin 1024 → Fin 2560 → ℝ) (X : Fin 8192 → Fin 1024 → ℝ)
  (G : Fin 2 → Fin 1024 → ℝ)

/-- A real matrix as an array. -/
def castA : S8192x1280.Idx → EReal := fun i => ((A (i 0) (i 1) : ℝ) : EReal)
def castT : S8192x1536.Idx → EReal := fun i => ((T (i 0) (i 1) : ℝ) : EReal)
def castX : S8192x1024.Idx → EReal := fun i => ((X (i 0) (i 1) : ℝ) : EReal)
def castG : S2x1024.Idx → EReal := fun i => ((G (i 0) (i 1) : ℝ) : EReal)
def castW : S1024x2560.Idx → EReal := fun i => ((W (i 0) (i 1) : ℝ) : EReal)

theorem castA_at (s : Fin 8192) (e : Fin 1280) : castA A (ix2 s e) = ((A s e : ℝ) : EReal) := rfl
theorem castT_at (s : Fin 8192) (e : Fin 1536) : castT T (ix2 s e) = ((T s e : ℝ) : EReal) := rfl
theorem castX_at (s : Fin 8192) (d : Fin 1024) : castX X (ix2 s d) = ((X s d : ℝ) : EReal) := rfl
theorem castG_at (n : Fin 2) (d : Fin 1024) : castG G (ix2 n d) = ((G n d : ℝ) : EReal) := rfl
theorem castW_at (d : Fin 1024) (e : Fin 2560) : castW W (ix2 d e) = ((W d e : ℝ) : EReal) := rfl

/-- The values' cotangents with what the next block brings back, at a column. -/
theorem values_at (s : Fin 8192) (e : Fin 128) :
    val_main_v58 (F := Ideal) (castT T) (ix2 s e) = ((T s ⟨640 + e, by omega⟩ : ℝ) : EReal) + ((back T s ⟨896 + e, by omega⟩ : ℝ) : EReal) := by
  pointwise [val_main_v58, val_main_v57, val_main_v56, val_main_v55, val_main_v53, val_main_v52, val_main_v47, val_main_v46, val_main_v45, val_main_v44, val_main_v43, val_main_cst_8]
  simp only [castT_at]
  refine congrArg (_ + ·) ?_
  by_cases h : s.val / 128 < 63
  · have hs : s.val / 128 < 63 ∧ s.val % 128 < 128 ∧ e.val / 64 < 2 ∧ e.val % 64 < 64 := by omega
    have hm : s.val % 128 < 128 := by omega
    have hb : s.val + 128 < 8192 := by omega
    refine (dif_pos hs).trans ((dif_pos hm).trans ?_)
    exact (at_val T (by omega) rfl).trans (congrArg Real.toEReal (back_of_lt T _ hb).symm)
  · have hs : ¬(s.val / 128 < 63 ∧ s.val % 128 < 128 ∧ e.val / 64 < 2 ∧ e.val % 64 < 64) := by omega
    have hb : ¬s.val + 128 < 8192 := by omega
    refine (dif_neg hs).trans ?_
    rw [back_of_not_lt T _ hb, EReal.coe_zero]

/-- The keys' cotangents likewise. -/
theorem keys_at (s : Fin 8192) (e : Fin 128) :
    val_main_v67 (F := Ideal) (castT T) (ix2 s e) = ((T s ⟨512 + e, by omega⟩ : ℝ) : EReal) + ((back T s ⟨768 + e, by omega⟩ : ℝ) : EReal) := by
  pointwise [val_main_v67, val_main_v66, val_main_v65, val_main_v64, val_main_v62, val_main_v61, val_main_v42, val_main_v41, val_main_v40, val_main_v39, val_main_v38, val_main_cst_10]
  simp only [castT_at]
  refine congrArg (_ + ·) ?_
  by_cases h : s.val / 128 < 63
  · have hs : s.val / 128 < 63 ∧ s.val % 128 < 128 ∧ e.val / 64 < 2 ∧ e.val % 64 < 64 := by omega
    have hm : s.val % 128 < 128 := by omega
    have hb : s.val + 128 < 8192 := by omega
    refine (dif_pos hs).trans ((dif_pos hm).trans ?_)
    exact (at_val T (by omega) rfl).trans (congrArg Real.toEReal (back_of_lt T _ hb).symm)
  · have hs : ¬(s.val / 128 < 63 ∧ s.val % 128 < 128 ∧ e.val / 64 < 2 ∧ e.val % 64 < 64) := by omega
    have hb : ¬s.val + 128 < 8192 := by omega
    refine (dif_neg hs).trans ?_
    rw [back_of_not_lt T _ hb, EReal.coe_zero]

/-- The cotangent of the projected row: five arrays, each zero outside its own columns. -/
theorem proj_at (s : Fin 8192) (e : Fin 2560) :
    val_main_v73 (F := Ideal) (castA A) (castT T) (ix2 s e) = ((proj A T s e : ℝ) : EReal) := by
  have hv := values_at T s
  have hk := keys_at T s
  unfold val_main_v73 val_main_v72 val_main_v71 val_main_v70 val_main_v69 val_main_v68 val_main_v60 val_main_v59 val_main_v51
  generalize val_main_v58 (F := Ideal) (castT T) = V at *
  generalize val_main_v67 (F := Ideal) (castT T) = K at *
  pointwise [val_main_v50, val_main_v49, val_main_v48, val_main_cst_7, val_main_cst_9, val_main_cst_11, val_main_cst_12, val_main_cst_13]
  simp only [castA_at, castT_at]
  unfold proj
  by_cases h1 : e.val < 1280
  · rw [dif_neg (by omega), dif_neg (by omega), dif_neg (by omega), dif_neg (by omega), dif_pos h1, dif_pos h1]
    simp only [zero_add]
  rw [dif_neg h1, dif_neg h1]
  by_cases h2 : e.val < 1792
  · rw [dif_neg (by omega), dif_neg (by omega), dif_neg (by omega), dif_pos (by omega), dif_pos h2]
    simp only [zero_add, add_zero]
  rw [dif_neg h2]
  by_cases h3 : e.val < 2048
  · rw [dif_pos h3, dif_neg (by omega)]
    by_cases h4 : e.val < 1920
    · rw [dif_neg (by omega), dif_pos (by omega), dif_neg (by omega), hk]
      simp only [zero_add, add_zero, EReal.coe_add]
      exact congrArg₂ (· + ·) (at2 T rfl (by simp only; omega)) (at2 (back T) rfl (by simp only; omega))
    · rw [dif_pos (by omega), dif_neg (by omega), dif_neg (by omega), hv]
      simp only [zero_add, add_zero, EReal.coe_add]
      exact congrArg₂ (· + ·) (at2 T rfl (by simp only; omega)) (at2 (back T) rfl (by simp only; omega))
  · rw [dif_neg h3, dif_pos (by omega), dif_neg (by omega), dif_neg (by omega), dif_neg (by omega)]
    simp only [add_zero]
    exact at2 T rfl (by simp only; omega)

theorem hid_at (s : Fin 8192) (d : Fin 1024) :
    val_main_v76 (F := Ideal) (castA A) (castT T) (castW W) (ix2 s d) = ((hid A T W s d : ℝ) : EReal) := by
  unfold val_main_v76
  have hq := proj_at A T
  generalize val_main_v73 (F := Ideal) (castA A) (castT T) = q at *
  pointwise []
  simp only [hq, castW_at, ← EReal.coe_mul, coe_sum]
  rfl

theorem ms_at (s : Fin 8192) (l : Fin 1) : val_main_v8 (F := Ideal) (castX X) (ix2 s l) = ((ms (X s) : ℝ) : EReal) := by
  pointwise [val_main_v8, val_main_v7, val_main_v6, val_main_v5, val_main_v4, val_main_v3, val_main_v2, val_main_cst, val_main_cst_0, val_main_cst_1]
  simp only [castX_at, ofBits_1024, ofBits_eps, ← EReal.coe_mul, coe_sum, zero_add]
  rw [div_coe_coe (by norm_num), ← EReal.coe_add]
  rfl

theorem inv_at (s : Fin 8192) (l : Fin 1) : val_main_v9 (F := Ideal) (castX X) (ix2 s l) = ((inv (X s) : ℝ) : EReal) := by
  pointwise [val_main_v9]
  rw [ms_at]
  exact rsqrt_ms _

theorem slope_at (s : Fin 8192) (l : Fin 1) :
    val_main_v12 (F := Ideal) (castX X) (ix2 s l) = ((-(1 / 2) * (inv (X s) / ms (X s)) : ℝ) : EReal) := by
  pointwise [val_main_v12, val_main_v11, val_main_v10, val_main_cst_2]
  rw [inv_at, ms_at, ofBits_neg_half, div_coe_coe (ms_pos _).ne', ← EReal.coe_mul]

theorem norm_at (s : Fin 8192) (d : Fin 1024) :
    val_main_v14 (F := Ideal) (castX X) (ix2 s d) = ((X s d * inv (X s) : ℝ) : EReal) := by
  pointwise [val_main_v14, val_main_v13]
  rw [inv_at, castX_at, EReal.coe_mul]

theorem scaled_at (s : Fin 8192) (d : Fin 1024) :
    val_main_v81 (F := Ideal) (castA A) (castT T) (castG G) (castW W) (ix2 s d) = ((hid A T W s d * G 1 d : ℝ) : EReal) := by
  pointwise [val_main_v81, val_main_v80, val_main_v15, val_main_v1, val_main_v0]
  rw [hid_at, castG_at, EReal.coe_mul]

theorem mean_at (s : Fin 8192) :
    val_main_v91 (F := Ideal) (castA A) (castT T) (castX X) (castG G) (castW W) (ix1 s)
      = (((∑ k, X s k * (hid A T W s k * G 1 k)) * (-(1 / 2) * (inv (X s) / ms (X s))) / 1024 : ℝ) : EReal) := by
  pointwise [val_main_v91, val_main_v90, val_main_v89, val_main_v88, val_main_v85, val_main_v84, val_main_v83, val_main_cst_16, val_main_cst_17, val_main_cst_18]
  simp only [scaled_at, slope_at, castX_at, ofBits_1024, ← EReal.coe_mul, coe_sum, zero_add]
  rw [div_coe_coe (by norm_num)]
  simp

/-- The gradient by the layer's input. -/
theorem rows_at (U : S8192x1024.Idx → EReal) (s : Fin 8192) (d : Fin 1024) :
    val_main_v97 (F := Ideal) (castA A) (castT T) (castX X) U (castG G) (castW W) (ix2 s d)
      = U (ix2 s d) + ((normGrad (X s) (fun k => hid A T W s k * G 1 k) d : ℝ) : EReal) := by
  pointwise [val_main_v97, val_main_v96, val_main_v95, val_main_v94, val_main_v93, val_main_v92, val_main_v87, val_main_v86]
  simp only [mean_at, scaled_at, inv_at, castX_at, ← EReal.coe_mul, ← EReal.coe_add]
  rw [normGrad_chain (X s) (fun k => hid A T W s k * G 1 k)]

/-- The gradient by the scale. -/
theorem scale_at (l : Fin 1) (d : Fin 1024) :
    val_main_v98 (F := Ideal) (castA A) (castT T) (castX X) (castW W) (ix2 l d)
      = ∑ s : Fin 8192, ((hid A T W s d * (X s d * inv (X s)) : ℝ) : EReal) := by
  pointwise [val_main_v98, val_main_v82, val_main_v79, val_main_v78, val_main_v77, val_main_cst_14, val_main_cst_15]
  simp only [hid_at, norm_at, ← EReal.coe_mul, zero_add]
  simp [mul_comm]

end Cert.InBwdRefIdeal.Value

end
-- ==== Proof.InFinal.lean ====
/-
  The in-projection's backward kernel: its two result arrays after the run, on finite arguments.
-/
module

public import proofs.«01_k».proof.Proof.InKernel
public import proofs.«01_k».proof.Proof.InRef
public import proofs.«01_k».proof.Proof.Gen.InBwdIdeal.Value
public import Idealize.ShloMosaic.Lib.Pipeline.ValueKit

@[expose] public section

set_option maxRecDepth 16384

noncomputable section

namespace Cert.InBwdIdeal.Value

open Cert.InBwdIdeal Cert.InBwdIdeal.Gen Idealize.ShloMosaic Idealize.ShloMosaic.TcCoe Idealize.SL.Sem
open Idealize.ShloMosaic.Pipeline (Dat)
open Cert.RealLift Cert.LossModel Cert.InModel

theorem idx : ∀ t : Fin cfg0.N, win0_0.index t = ![t.val, 0] ∧ win0_1.index t = ![t.val, 0] ∧ win0_2.index t = ![min ((t.val + 1) * 4) 63, 3]
    ∧ win0_3.index t = ![t.val, 0] ∧ win0_4.index t = ![t.val, 0] ∧ win0_5.index t = ![1, 0, 0] ∧ win0_6.index t = ![0, 0]
    ∧ win0_7.index t = ![t.val, 0] ∧ win0_8.index t = ![0, 0] :=
  (by decide +kernel : ∀ t : Fin grid0.N, _)

theorem coord : ∀ t : Fin cfg0.N, (grid0.coords t 0).val = t.val := (by decide +kernel : ∀ t : Fin grid0.N, _)

variable (m : (ℓ : Loc nD τ sig) → Buf (Elt Ideal) ℓ) (c : Dev nD)

/-- The argument arrays of device `c`, but for the one that is only added, are casts of real arrays. -/
structure Finite (A : Fin 8192 → Fin 1280 → ℝ) (T : Fin 8192 → Fin 1536 → ℝ) (X : Fin 8192 → Fin 1024 → ℝ) (G : Fin 2 → Fin 1024 → ℝ)
    (W : Fin 1024 → Fin 2560 → ℝ) : Prop where
  a : m ((c : Thread nD τ).loc main_arg0) = Cert.InBwdRefIdeal.Value.castA A
  t : m ((c : Thread nD τ).loc main_arg1) = Cert.InBwdRefIdeal.Value.castT T
  x : m ((c : Thread nD τ).loc main_arg2) = Cert.InBwdRefIdeal.Value.castX X
  g : m ((c : Thread nD τ).loc main_arg4) = Cert.InBwdRefIdeal.Value.castG G
  w : m ((c : Thread nD τ).loc main_arg5) = Cert.InBwdRefIdeal.Value.castW W

variable {m c}
variable {A : Fin 8192 → Fin 1280 → ℝ} {T : Fin 8192 → Fin 1536 → ℝ} {X : Fin 8192 → Fin 1024 → ℝ} {G : Fin 2 → Fin 1024 → ℝ}
  {W : Fin 1024 → Fin 2560 → ℝ}

/-- Point `t` as a tile number. -/
def tile (t : Fin cfg0.N) : Fin 16 := ⟨t, lt_of_lt_of_eq t.isLt N_0⟩

/-- The first four blocks of a point are those of its tile. -/
theorem blocks (h : Finite m c A T X G W) (t : Fin cfg0.N) :
    Blocks A T (tile t) (grid0.coords t) (iblk m c 1 t) (iblk m c 2 t) (iblk m c 0 t) where
  i := coord t
  v0 p l := by
    refine Eq.trans ?_ (congrFun h.t (ix2 (trow (tile t) p) l))
    blk_ext [iblk, V, idx t, trow, tile]
  v2 ht p l := by
    have ht' : t.val < 15 := ht
    refine Eq.trans ?_ (congrFun h.t (ix2 ⟨(t.val + 1) * 512 + p, by omega⟩ ⟨768 + l, by omega⟩))
    blk_ext [iblk, V, idx t]
  v9 p l := by
    refine Eq.trans ?_ (congrFun h.a (ix2 (trow (tile t) p) l))
    blk_ext [iblk, V, idx t, trow, tile]

theorem blk3 (h : Finite m c A T X G W) (t : Fin cfg0.N) (p : Fin 512) (d : Fin 1024) :
    iblk m c 3 t (ix2 p d) = ((X (trow (tile t) p) d : ℝ) : EReal) := by
  refine Eq.trans ?_ (congrFun h.x (ix2 (trow (tile t) p) d))
  blk_ext [iblk, V, idx t, trow, tile]

theorem blk4 (t : Fin cfg0.N) (p : Fin 512) (d : Fin 1024) :
    iblk m c 4 t (ix2 p d) = m ((c : Thread nD τ).loc main_arg3) (ix2 (trow (tile t) p) d) := by
  blk_ext [iblk, V, idx t, trow, tile]

theorem blk5 (h : Finite m c A T X G W) (t : Fin cfg0.N) (d : Fin 1024) :
    iblk m c 5 t (ix3 0 0 d) = ((G 1 d : ℝ) : EReal) := by
  refine Eq.trans ?_ (congrFun h.g (ix2 1 d))
  blk_simp [iblk, idx t]
  entry_read
  pointwise
  blk_ext [idx t]

theorem blk6 (h : Finite m c A T X G W) (t : Fin cfg0.N) (e : Fin 2560) (d : Fin 1024) :
    iblk m c 6 t (ix2 e d) = ((W d e : ℝ) : EReal) := by
  refine Eq.trans ?_ (congrFun h.w (ix2 d e))
  blk_simp [iblk, idx t]
  entry_read
  pointwise
  blk_ext [idx t]

/-- Where entry `y` of point `t`'s block of gradient rows sits in the array. -/
theorem emb7 (t : Fin cfg0.N) (y : S512x1024.Idx) :
    ((View.whole main_v3_0).slice (win0_7.rect t)).emb y = (ix2 (trow (tile t) (y 0)) (y 1) : S8192x1024.Idx) := by
  blk_ext [idx t, trow, tile]

/-- What a point leaves in its block of gradient rows is the reference's entry of the array. -/
theorem point7 (h : Finite m c A T X G W) (t : Fin cfg0.N) (y : S512x1024.Idx) :
    k0_pay1 (F := Ideal) (k0_pay10 (iblk m c 3 t)) (k0_pay11 (iblk m c 3 t))
      (k0_pay12 (grid0.coords t) (iblk m c 1 t) (iblk m c 2 t) (iblk m c 0 t) (iblk m c 6 t) (iblk m c 5 t)) (iblk m c 4 t)
      (k0_pay13 (grid0.coords t) (iblk m c 1 t) (iblk m c 2 t) (iblk m c 0 t) (iblk m c 6 t) (iblk m c 3 t) (iblk m c 5 t)) y
    = Cert.InBwdRefIdeal.Read.val_main_v97 (F := Ideal) (Cert.InBwdRefIdeal.Value.castA A) (Cert.InBwdRefIdeal.Value.castT T)
        (Cert.InBwdRefIdeal.Value.castX X) (m ((c : Thread nD τ).loc main_arg3)) (Cert.InBwdRefIdeal.Value.castG G) (Cert.InBwdRefIdeal.Value.castW W)
        (((View.whole main_v3_0).slice (win0_7.rect t)).emb y) := by
  rw [emb7]
  idx_vars y
  rw [rows_at (blocks h t) (blk6 h t) (blk5 h t) (blk3 h t), blk4]
  exact (Cert.InBwdRefIdeal.Value.rows_at A T W X G _ _ _).symm

/-- The gradient rows after the run are the reference's. -/
theorem final7 (h : Finite m c A T X G W) : (dats m 0 c).arrAt 7 (cfgs 0).N
    = Cert.InBwdRefIdeal.Read.val_main_v97 (F := Ideal) (Cert.InBwdRefIdeal.Value.castA A) (Cert.InBwdRefIdeal.Value.castT T)
        (Cert.InBwdRefIdeal.Value.castX X) (m ((c : Thread nD τ).loc main_arg3)) (Cert.InBwdRefIdeal.Value.castG G) (Cert.InBwdRefIdeal.Value.castW W) := by
  refine (dats m 0 c).arrAt_eq_of_covers 7 _ (by decide +kernel) fun t hf y => ?_
  blk_simp
  rw [after0_7]
  by_cases h0 : t.val % 16 = 0
  · rw [outsAt0_A m c t h0 (by omega)]; frame_out
    exact point7 h t y
  by_cases h1 : t.val % 16 = 15
  · rw [outsAt0_C m c t h0 h1]; frame_out
    exact point7 h t y
  · rw [outsAt0_B m c t h0 h1]; frame_out
    exact point7 h t y

/-- The gradient of the scale after the run is the reference's. -/
theorem final8 (h : Finite m c A T X G W) : (dats m 0 c).arrAt 8 (cfgs 0).N
    = Cert.InBwdRefIdeal.Read.val_main_v98 (F := Ideal) (Cert.InBwdRefIdeal.Value.castA A) (Cert.InBwdRefIdeal.Value.castT T)
        (Cert.InBwdRefIdeal.Value.castX X) (Cert.InBwdRefIdeal.Value.castW W) := by
  refine (dats m 0 c).arrAt_eq_of_after_last 8 t0_15 (by decide +kernel) _ fun j => ?_
  blk_simp
  rw [after0_8, Pipeline.eq_sum_fin_of_reset_step_apply_last (fun n h => (outsAt0 m c n h).2.1) 16 (fun _ => 0)
    (fun t (j : S1x1024.Idx) => ∑ q : Fin 512, ((hid A T W (trow (tile t) q) (j 1)
      * (X (trow (tile t) q) (j 1) * inv (X (trow (tile t) q))) : ℝ) : EReal))
    (fun t h0 j => by
      rw [outsAt0_A m c t h0 (by omega)]; frame_out
      idx_vars j
      rw [scale_at (blocks h t) (blk6 h t) (blk3 h t), zero_row])
    (fun t h0 j => by
      by_cases h1 : t.val % 16 = 15
      · rw [outsAt0_C m c t h0 h1]; frame_out
        idx_vars j
        exact scale_at (blocks h t) (blk6 h t) (blk3 h t) _ _ _
      · rw [outsAt0_B m c t h0 h1]; frame_out
        idx_vars j
        exact scale_at (blocks h t) (blk6 h t) (blk3 h t) _ _ _)
    (le_of_eq N_0) t0_15 rfl j, zero_add]
  idx_vars j
  rw [Cert.InBwdRefIdeal.Value.scale_at]
  exact Fin.sum_mul_add_congr fun s k hl => rfl

end Cert.InBwdIdeal.Value

end
-- ==== Proof.InClaim.lean ====
/-
  The in-projection's backward: from the claim's precondition to real arrays, and the two runs side by side.
-/
module

public import proofs.«01_k».proof.Defs
public import proofs.«01_k».proof.Proof.InFinal
public import proofs.«01_k».proof.Proof.Gen.Pre_in_bwd_finite
public import proofs.«01_k».proof.Proof.Gen.InBwdRefIdeal.Run
public import proofs.«01_k».proof.Proof.Gen.InBwdRefIdeal.Read
public import Idealize.ShloMosaic.Lib.Claim

@[expose] public section

set_option maxRecDepth 16384

noncomputable section

namespace Cert.InBwdIdeal.Value

open Cert.InBwdIdeal Cert.InBwdIdeal.Gen Idealize.ShloMosaic Idealize.ShloMosaic.TcCoe Idealize.SL.Sem
open Cert.RealLift

/-- Arguments that pass the precondition are casts of real arrays. -/
theorem finite_of_pre (m : (ℓ : Loc nD τ sig) → Buf (Elt Ideal) ℓ)
    (h : Cert.Pre_InBwdIdeal_in_bwd_finite m) (c : Dev nD) :
    Finite m c (fun r l => EReal.toReal (m ((c : Thread nD τ).loc main_arg0) (ix2 r l))) (fun r l => EReal.toReal (m ((c : Thread nD τ).loc main_arg1) (ix2 r l)))
      (fun r l => EReal.toReal (m ((c : Thread nD τ).loc main_arg2) (ix2 r l))) (fun r l => EReal.toReal (m ((c : Thread nD τ).loc main_arg4) (ix2 r l)))
      (fun r l => EReal.toReal (m ((c : Thread nD τ).loc main_arg5) (ix2 r l))) := by
  obtain ⟨h0, h1, h2, h3, h4⟩ := h c
  exact
    { a := funext fun i => (coe_toReal_of_abs_lt (φ := .bf16) _ _ inf_bf16 (congrFun h0 i)).trans
        (congrArg (fun i => ((EReal.toReal (m ((c : Thread nD τ).loc main_arg0) i) : ℝ) : EReal)) (funext fun a => by fin_cases a <;> rfl))
      t := funext fun i => (coe_toReal_of_abs_lt (φ := .f32) _ _ inf_f32 (congrFun h1 i)).trans
        (congrArg (fun i => ((EReal.toReal (m ((c : Thread nD τ).loc main_arg1) i) : ℝ) : EReal)) (funext fun a => by fin_cases a <;> rfl))
      x := funext fun i => (coe_toReal_of_abs_lt (φ := .f32) _ _ inf_f32 (congrFun h2 i)).trans
        (congrArg (fun i => ((EReal.toReal (m ((c : Thread nD τ).loc main_arg2) i) : ℝ) : EReal)) (funext fun a => by fin_cases a <;> rfl))
      g := funext fun i => (coe_toReal_of_abs_lt (φ := .f32) _ _ inf_f32 (congrFun h3 i)).trans
        (congrArg (fun i => ((EReal.toReal (m ((c : Thread nD τ).loc main_arg4) i) : ℝ) : EReal)) (funext fun a => by fin_cases a <;> rfl))
      w := funext fun i => (coe_toReal_of_abs_lt (φ := .f32) _ _ inf_f32 (congrFun h4 i)).trans
        (congrArg (fun i => ((EReal.toReal (m ((c : Thread nD τ).loc main_arg5) i) : ℝ) : EReal)) (funext fun a => by fin_cases a <;> rfl)) }

/-- On finite arguments the kernel's gradient rows and gradient of the scale are the reference's. -/
theorem algebraic : Cert.algebraic_InBwdIdeal_InBwdRefIdeal_pre_in_bwd_finite := by
  pair_intro
  · run_from (run_blocks m g)
  · refine (θ_run Cert.InBwdRefIdeal.defs _ _).mono (fun r h c => ?_) (Cert.InBwdRefIdeal.Value.run (F := Ideal) m' g')
    obtain ⟨h97, h98, k⟩ := h c
    obtain ⟨a0, a1, a2, a3, a4, a5⟩ := hagree c
    have f := finite_of_pre m hpre c
    refine ⟨h97.trans ?_, h98.trans ?_, k⟩
    · refine (Cert.InBwdRefIdeal.Read.val_main_v97_eq _ _).trans
        ((congr (congr (congr (congr (congr (congrArg Cert.InBwdRefIdeal.Read.val_main_v97 (a0.trans f.a)) (a1.trans f.t)) (a2.trans f.x)) a3) (a4.trans f.g)) (a5.trans f.w)).trans (final7 f).symm)
    · refine (Cert.InBwdRefIdeal.Read.val_main_v98_eq _ _).trans
        ((congr (congr (congr (congrArg Cert.InBwdRefIdeal.Read.val_main_v98 (a0.trans f.a)) (a1.trans f.t)) (a2.trans f.x)) (a5.trans f.w)).trans (final8 f).symm)

end Cert.InBwdIdeal.Value

end
-- ==== Proof.DxRef.lean ====
/-
  The first layer's in-projection: the backward reference, one operation at a time, on finite arguments.
-/
module

public import proofs.«01_k».proof.Proof.InRef
public import proofs.«01_k».proof.Proof.Gen.InDxRefIdeal.Read

@[expose] public section

set_option maxRecDepth 16384

noncomputable section

namespace Cert.InDxRefIdeal.Value

open Cert.InDxRefIdeal Cert.InDxRefIdeal.Gen Cert.InDxRefIdeal.Read Idealize.ShloMosaic Idealize.ShloMosaic.TcCoe Idealize.SL.Sem
open Cert.RealLift Cert.LossModel Cert.InModel
open Cert.InBwdRefIdeal.Value (castX castG castW castX_at castG_at castW_at)

variable (D : Fin 8192 → Fin 2560 → ℝ) (W : Fin 1024 → Fin 2560 → ℝ) (X : Fin 8192 → Fin 1024 → ℝ) (G : Fin 2 → Fin 1024 → ℝ)

/-- The cotangent of a token's normalised, scaled row, from the cotangent of its projected row. -/
def back (s : Fin 8192) (d : Fin 1024) : ℝ := ∑ e, D s e * W d e

/-- A real matrix as an array. -/
def castD : S8192x2560.Idx → EReal := fun i => ((D (i 0) (i 1) : ℝ) : EReal)
theorem castD_at (s : Fin 8192) (e : Fin 2560) : castD D (ix2 s e) = ((D s e : ℝ) : EReal) := rfl

theorem back_at (s : Fin 8192) (d : Fin 1024) : val_main_v22 (F := Ideal) (castD D) (castW W) (ix2 s d) = ((back D W s d : ℝ) : EReal) := by
  pointwise [val_main_v22, val_main_v19]
  simp only [castD_at, castW_at, ← EReal.coe_mul, coe_sum]
  rfl

/-! The normalisation's own lines are those of the other layer's reference. -/

theorem inv_at (s : Fin 8192) (l : Fin 1) : val_main_v9 (F := Ideal) (castX X) (ix2 s l) = ((inv (X s) : ℝ) : EReal) :=
  Cert.InBwdRefIdeal.Value.inv_at X s l
theorem slope_at (s : Fin 8192) (l : Fin 1) :
    val_main_v12 (F := Ideal) (castX X) (ix2 s l) = ((-(1 / 2) * (inv (X s) / ms (X s)) : ℝ) : EReal) :=
  Cert.InBwdRefIdeal.Value.slope_at X s l
theorem norm_at (s : Fin 8192) (d : Fin 1024) : val_main_v14 (F := Ideal) (castX X) (ix2 s d) = ((X s d * inv (X s) : ℝ) : EReal) :=
  Cert.InBwdRefIdeal.Value.norm_at X s d

theorem scaled_at (s : Fin 8192) (d : Fin 1024) :
    val_main_v27 (F := Ideal) (castD D) (castG G) (castW W) (ix2 s d) = ((back D W s d * G 0 d : ℝ) : EReal) := by
  pointwise [val_main_v27, val_main_v26, val_main_v15, val_main_v1, val_main_v0]
  rw [back_at, castG_at, EReal.coe_mul]

theorem mean_at (s : Fin 8192) :
    val_main_v37 (F := Ideal) (castD D) (castX X) (castG G) (castW W) (ix1 s)
      = (((∑ k, X s k * (back D W s k * G 0 k)) * (-(1 / 2) * (inv (X s) / ms (X s))) / 1024 : ℝ) : EReal) := by
  pointwise [val_main_v37, val_main_v36, val_main_v35, val_main_v34, val_main_v31, val_main_v30, val_main_v29, val_main_cst_5, val_main_cst_6, val_main_cst_7]
  simp only [scaled_at, slope_at, castX_at, ofBits_1024, ← EReal.coe_mul, coe_sum, zero_add]
  rw [div_coe_coe (by norm_num)]
  simp

/-- The gradient by the layer's input. -/
theorem rows_at (U : S8192x1024.Idx → EReal) (s : Fin 8192) (d : Fin 1024) :
    val_main_v43 (F := Ideal) (castD D) (castX X) U (castG G) (castW W) (ix2 s d)
      = U (ix2 s d) + ((normGrad (X s) (fun k => back D W s k * G 0 k) d : ℝ) : EReal) := by
  pointwise [val_main_v43, val_main_v42, val_main_v41, val_main_v40, val_main_v39, val_main_v38, val_main_v33, val_main_v32]
  simp only [mean_at, scaled_at, inv_at, castX_at, ← EReal.coe_mul, ← EReal.coe_add]
  rw [normGrad_chain (X s) (fun k => back D W s k * G 0 k)]

/-- The gradient by the scale. -/
theorem scale_at (l : Fin 1) (d : Fin 1024) :
    val_main_v44 (F := Ideal) (castD D) (castX X) (castW W) (ix2 l d)
      = ∑ s : Fin 8192, ((back D W s d * (X s d * inv (X s)) : ℝ) : EReal) := by
  pointwise [val_main_v44, val_main_v28, val_main_v25, val_main_v24, val_main_v23, val_main_cst_3, val_main_cst_4]
  simp only [back_at, norm_at, ← EReal.coe_mul, zero_add]
  simp [mul_comm]

end Cert.InDxRefIdeal.Value

end
-- ==== Proof.DxFinal.lean ====
/-
  The first layer's in-projection backward kernel: what a point computes, and its two result arrays after the run, on
  finite arguments.
-/
module

public import proofs.«01_k».proof.Proof.InKernel
public import proofs.«01_k».proof.Proof.DxRef
public import proofs.«01_k».proof.Proof.Gen.InDxIdeal.Value
public import Idealize.ShloMosaic.Lib.Pipeline.ValueKit

@[expose] public section

set_option maxRecDepth 16384

noncomputable section

namespace Cert.InDxIdeal.Value

open Cert.InDxIdeal Cert.InDxIdeal.Gen Idealize.ShloMosaic Idealize.ShloMosaic.TcCoe Idealize.SL.Sem
open Idealize.ShloMosaic.Pipeline (Dat)
open Cert.RealLift Cert.LossModel Cert.InModel
open Cert.InBwdIdeal.Value (trow)
open Cert.InDxRefIdeal.Value (back castD)
open Cert.InBwdRefIdeal.Value (castX castG castW)

variable {D : Fin 8192 → Fin 2560 → ℝ} {W : Fin 1024 → Fin 2560 → ℝ} {X : Fin 8192 → Fin 1024 → ℝ} {G : Fin 2 → Fin 1024 → ℝ}

section Point
variable {t : Fin 16} {v0 : FVec Ideal S512x2560 .bf16} {v1 : FVec Ideal S2560x1024 .bf16} {v4 v19 : FVec Ideal S512x1024 .f32}
  {v15 : FVec Ideal S1x1x1024 .f32}

theorem back_at (hd : ∀ p e, v0 (ix2 p e) = ((D (trow t p) e : ℝ) : EReal)) (hw : ∀ e d, v1 (ix2 e d) = ((W d e : ℝ) : EReal)) (p : Fin 512)
    (d : Fin 1024) : k0_pay2 (F := Ideal) v0 v1 (ix2 p d) = ((back D W (trow t p) d : ℝ) : EReal) := by
  pointwise [k0_pay2]
  simp only [hd, hw, ← EReal.coe_mul, coe_sum]
  rfl

theorem inv_at (hx : ∀ p d, v4 (ix2 p d) = ((X (trow t p) d : ℝ) : EReal)) (p : Fin 512) (l : Fin 1) :
    k0_pay3 (F := Ideal) v4 (ix2 p l) = ((inv (X (trow t p)) : ℝ) : EReal) := Cert.InBwdIdeal.Value.inv_at hx p l
theorem norm_at (hx : ∀ p d, v4 (ix2 p d) = ((X (trow t p) d : ℝ) : EReal)) (p : Fin 512) (d : Fin 1024) :
    k0_pay4 (F := Ideal) v4 (ix2 p d) = ((X (trow t p) d * inv (X (trow t p)) : ℝ) : EReal) := Cert.InBwdIdeal.Value.norm_at hx p d

/-- The gradient rows a point stores. -/
theorem rows_at (hd : ∀ p e, v0 (ix2 p e) = ((D (trow t p) e : ℝ) : EReal)) (hw : ∀ e d, v1 (ix2 e d) = ((W d e : ℝ) : EReal))
    (hx : ∀ p d, v4 (ix2 p d) = ((X (trow t p) d : ℝ) : EReal)) (hg : ∀ d, v15 (ix3 0 0 d) = ((G 0 d : ℝ) : EReal)) (p : Fin 512) (d : Fin 1024) :
    k0_pay5 (F := Ideal) v0 v1 v4 v15 v19 (ix2 p d)
      = v19 (ix2 p d) + ((normGrad (X (trow t p)) (fun k => back D W (trow t p) k * G 0 k) d : ℝ) : EReal) := by
  pointwise [k0_pay5]
  simp only [back_at hd hw, norm_at hx, hg, inv_at hx, ofBits_1024, ← EReal.coe_mul, coe_sum]
  rw [div_coe_coe (by norm_num)]
  simp only [← EReal.coe_mul, ← EReal.coe_sub]
  rfl

/-- What a point adds to the gradient of the scale. -/
theorem scale_at (hd : ∀ p e, v0 (ix2 p e) = ((D (trow t p) e : ℝ) : EReal)) (hw : ∀ e d, v1 (ix2 e d) = ((W d e : ℝ) : EReal))
    (hx : ∀ p d, v4 (ix2 p d) = ((X (trow t p) d : ℝ) : EReal)) (acc : FVec Ideal S1x1024 .f32) (l : Fin 1) (d : Fin 1024) :
    k0_pay1 (F := Ideal) (k0_pay2 v0 v1) (k0_pay4 v4) acc (ix2 l d)
      = acc (ix2 l d) + ∑ q : Fin 512, ((back D W (trow t q) d * (X (trow t q) d * inv (X (trow t q))) : ℝ) : EReal) := by
  pointwise [k0_pay1]
  simp only [back_at hd hw, norm_at hx, ← EReal.coe_mul]

theorem zero_row (j) : k0_pay6 (F := Ideal) j = 0 := by pointwise [k0_pay6]
end Point

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![t.val, 0] ∧ win0_6.index t = ![0, 0] :=
  (by decide +kernel : ∀ t : Fin grid0.N, _)

variable (m : (ℓ : Loc nD τ sig) → Buf (Elt Ideal) ℓ) (c : Dev nD)

/-- The argument arrays of device `c`, but for the one that is only added, are casts of real arrays. -/
structure Finite (D : Fin 8192 → Fin 2560 → ℝ) (X : Fin 8192 → Fin 1024 → ℝ) (G : Fin 2 → Fin 1024 → ℝ) (W : Fin 1024 → Fin 2560 → ℝ) : Prop where
  d : m ((c : Thread nD τ).loc main_arg0) = castD D
  x : m ((c : Thread nD τ).loc main_arg1) = castX X
  g : m ((c : Thread nD τ).loc main_arg3) = castG G
  w : m ((c : Thread nD τ).loc main_arg4) = castW W

variable {m c}

/-- Point `t` as a tile number. -/
def tile (t : Fin cfg0.N) : Fin 16 := ⟨t, lt_of_lt_of_eq t.isLt N_0⟩

theorem blk0 (h : Finite m c D X G W) (t : Fin cfg0.N) (p : Fin 512) (e : Fin 2560) :
    iblk m c 0 t (ix2 p e) = ((D (trow (tile t) p) e : ℝ) : EReal) := by
  refine Eq.trans ?_ (congrFun h.d (ix2 (trow (tile t) p) e))
  blk_ext [iblk, V, idx t, trow, tile]

theorem blk1 (h : Finite m c D X G W) (t : Fin cfg0.N) (p : Fin 512) (d : Fin 1024) :
    iblk m c 1 t (ix2 p d) = ((X (trow (tile t) p) d : ℝ) : EReal) := by
  refine Eq.trans ?_ (congrFun h.x (ix2 (trow (tile t) p) d))
  blk_ext [iblk, V, idx t, trow, tile]

theorem blk2 (t : Fin cfg0.N) (p : Fin 512) (d : Fin 1024) :
    iblk m c 2 t (ix2 p d) = m ((c : Thread nD τ).loc main_arg2) (ix2 (trow (tile t) p) d) := by
  blk_ext [iblk, V, idx t, trow, tile]

theorem blk3 (h : Finite m c D X G W) (t : Fin cfg0.N) (d : Fin 1024) : iblk m c 3 t (ix3 0 0 d) = ((G 0 d : ℝ) : EReal) := by
  refine Eq.trans ?_ (congrFun h.g (ix2 0 d))
  blk_simp [iblk, idx t]
  entry_read
  pointwise
  blk_ext [idx t]

theorem blk4 (h : Finite m c D X G W) (t : Fin cfg0.N) (e : Fin 2560) (d : Fin 1024) : iblk m c 4 t (ix2 e d) = ((W d e : ℝ) : EReal) := by
  refine Eq.trans ?_ (congrFun h.w (ix2 d e))
  blk_simp [iblk, idx t]
  entry_read
  pointwise
  blk_ext [idx t]

/-- Where entry `y` of point `t`'s block of gradient rows sits in the array. -/
theorem emb5 (t : Fin cfg0.N) (y : S512x1024.Idx) :
    ((View.whole main_v3_0).slice (win0_5.rect t)).emb y = (ix2 (trow (tile t) (y 0)) (y 1) : S8192x1024.Idx) := by
  blk_ext [idx t, trow, tile]

/-- What a point leaves in its block of gradient rows is the reference's entry of the array. -/
theorem point5 (h : Finite m c D X G W) (t : Fin cfg0.N) (y : S512x1024.Idx) :
    k0_pay5 (F := Ideal) (iblk m c 0 t) (iblk m c 4 t) (iblk m c 1 t) (iblk m c 3 t) (iblk m c 2 t) y
    = Cert.InDxRefIdeal.Read.val_main_v43 (F := Ideal) (castD D) (castX X) (m ((c : Thread nD τ).loc main_arg2)) (castG G) (castW W)
        (((View.whole main_v3_0).slice (win0_5.rect t)).emb y) := by
  rw [emb5]
  idx_vars y
  rw [rows_at (blk0 h t) (blk4 h t) (blk1 h t) (blk3 h t), blk2]
  exact (Cert.InDxRefIdeal.Value.rows_at D W X G _ _ _).symm

/-- The gradient rows after the run are the reference's. -/
theorem final5 (h : Finite m c D X G W) : (dats m 0 c).arrAt 5 (cfgs 0).N
    = Cert.InDxRefIdeal.Read.val_main_v43 (F := Ideal) (castD D) (castX X) (m ((c : Thread nD τ).loc main_arg2)) (castG G) (castW W) := by
  refine (dats m 0 c).arrAt_eq_of_covers 5 _ (by decide +kernel) fun t hf y => ?_
  blk_simp
  rw [after0_5]
  by_cases h0 : t.val % 16 = 0
  · rw [outsAt0_A m c t h0]; frame_out
    exact point5 h t y
  · rw [outsAt0_B m c t h0]; frame_out
    exact point5 h t y

/-- The gradient of the scale after the run is the reference's. -/
theorem final6 (h : Finite m c D X G W) : (dats m 0 c).arrAt 6 (cfgs 0).N
    = Cert.InDxRefIdeal.Read.val_main_v44 (F := Ideal) (castD D) (castX X) (castW W) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun t (j : S1x1024.Idx) => ∑ q : Fin 512, ((back D W (trow (tile t) q) (j 1)
      * (X (trow (tile t) q) (j 1) * inv (X (trow (tile t) q))) : ℝ) : EReal))
    (fun t h0 j => by
      rw [outsAt0_A m c t h0]; frame_out
      idx_vars j
      rw [scale_at (blk0 h t) (blk4 h t) (blk1 h t), zero_row])
    (fun t h0 j => by
      rw [outsAt0_B m c t h0]; frame_out
      idx_vars j
      exact scale_at (blk0 h t) (blk4 h t) (blk1 h t) _ _ _)
    (le_of_eq N_0) t0_15 rfl j, zero_add]
  idx_vars j
  rw [Cert.InDxRefIdeal.Value.scale_at]
  exact Fin.sum_mul_add_congr fun s k hl => rfl

end Cert.InDxIdeal.Value

end
-- ==== Proof.DxClaim.lean ====
/-
  The first layer's in-projection backward: from the claim's precondition to real arrays, and the two runs side by side.
-/
module

public import proofs.«01_k».proof.Defs
public import proofs.«01_k».proof.Proof.DxFinal
public import proofs.«01_k».proof.Proof.Gen.Pre_in_dx_finite
public import proofs.«01_k».proof.Proof.Gen.InDxRefIdeal.Run
public import Idealize.ShloMosaic.Lib.Claim

@[expose] public section

set_option maxRecDepth 16384

noncomputable section

namespace Cert.InDxIdeal.Value

open Cert.InDxIdeal Cert.InDxIdeal.Gen Idealize.ShloMosaic Idealize.ShloMosaic.TcCoe Idealize.SL.Sem
open Cert.RealLift

/-- Arguments that pass the precondition are casts of real arrays. -/
theorem finite_of_pre (m : (ℓ : Loc nD τ sig) → Buf (Elt Ideal) ℓ) (h : Cert.Pre_InDxIdeal_in_dx_finite m) (c : Dev nD) :
    ∃ D X G W, Finite m c D X G W := by
  obtain ⟨h0, h1, h2, h3⟩ := h c
  exact ⟨fun r l => EReal.toReal (m ((c : Thread nD τ).loc main_arg0) (ix2 r l)), fun r l => EReal.toReal (m ((c : Thread nD τ).loc main_arg1) (ix2 r l)),
    fun r l => EReal.toReal (m ((c : Thread nD τ).loc main_arg3) (ix2 r l)), fun r l => EReal.toReal (m ((c : Thread nD τ).loc main_arg4) (ix2 r l)),
    { d := funext fun i => (coe_toReal_of_abs_lt (φ := .bf16) _ _ inf_bf16 (congrFun h0 i)).trans
        (congrArg (fun i => ((EReal.toReal (m ((c : Thread nD τ).loc main_arg0) i) : ℝ) : EReal)) (funext fun a => by fin_cases a <;> rfl))
      x := funext fun i => (coe_toReal_of_abs_lt (φ := .f32) _ _ inf_f32 (congrFun h1 i)).trans
        (congrArg (fun i => ((EReal.toReal (m ((c : Thread nD τ).loc main_arg1) i) : ℝ) : EReal)) (funext fun a => by fin_cases a <;> rfl))
      g := funext fun i => (coe_toReal_of_abs_lt (φ := .f32) _ _ inf_f32 (congrFun h2 i)).trans
        (congrArg (fun i => ((EReal.toReal (m ((c : Thread nD τ).loc main_arg3) i) : ℝ) : EReal)) (funext fun a => by fin_cases a <;> rfl))
      w := funext fun i => (coe_toReal_of_abs_lt (φ := .f32) _ _ inf_f32 (congrFun h3 i)).trans
        (congrArg (fun i => ((EReal.toReal (m ((c : Thread nD τ).loc main_arg4) i) : ℝ) : EReal)) (funext fun a => by fin_cases a <;> rfl)) }⟩

/-- On finite arguments the kernel's gradient rows and gradient of the scale are the reference's. -/
theorem algebraic : Cert.algebraic_InDxIdeal_InDxRefIdeal_pre_in_dx_finite := by
  pair_intro
  · run_from (run_blocks m g)
  · refine (θ_run Cert.InDxRefIdeal.defs _ _).mono (fun r h c => ?_) (Cert.InDxRefIdeal.Value.run (F := Ideal) m' g')
    obtain ⟨h43, h44, k⟩ := h c
    obtain ⟨a0, a1, a2, a3, a4⟩ := hagree c
    obtain ⟨D, X, G, W, f⟩ := finite_of_pre m hpre c
    refine ⟨h43.trans ?_, h44.trans ?_, k⟩
    · refine (Cert.InDxRefIdeal.Read.val_main_v43_eq _ _).trans
        ((congr (congr (congr (congr (congrArg Cert.InDxRefIdeal.Read.val_main_v43 (a0.trans f.d)) (a1.trans f.x)) a2) (a3.trans f.g)) (a4.trans f.w)).trans (final5 f).symm)
    · refine (Cert.InDxRefIdeal.Read.val_main_v44_eq _ _ _).trans
        ((congr (congr (congrArg Cert.InDxRefIdeal.Read.val_main_v44 (a0.trans f.d)) (a1.trans f.x)) (a4.trans f.w)).trans (final6 f).symm)

end Cert.InDxIdeal.Value

end
-- ==== Proof.FwdStage.lean ====
/-
  The attention's forward pass on one block of 128 queries: the heads' outputs, and the outputs times their gate.
-/
module

public import proofs.«01_k».proof.Proof.AttnTiles

@[expose] public section

set_option maxRecDepth 16384

noncomputable section

namespace Cert.AttnBwdIdeal.Value

open Cert.AttnBwdIdeal Cert.AttnBwdIdeal.Gen Idealize.ShloMosaic Cert.RealLift Cert.AttnModel

section
variable {F : FTy → Type} [FloatOps F]

/-- A pair's probabilities against its values. -/
def outOf (p : FVec F S256x512 .f32) (v : FVec F S512x128 .bf16) : FVec F S256x128 .f32 :=
  matmul dot_S256x512_S512x128_S256x128_1_0_0_1_n_n none (truncf .bf16 p bitsLt_bf16_f32) v (constant S256x128 .f32 0x00000000#32)
/-- Two pairs' stacked rows side by side again. -/
def unstack (a b : FVec F S256x128 .f32) : FVec F S128x512 .f32 :=
  concatenate S128x512 1
    [⟨S128x128, extractStridedSlice S128x128 ![0, 0] a slices_S256x128_o0_0_S128x128⟩,
     ⟨S128x128, extractStridedSlice S128x128 ![128, 0] a slices_S256x128_o128_0_S128x128⟩,
     ⟨S128x128, extractStridedSlice S128x128 ![0, 0] b slices_S256x128_o0_0_S128x128⟩,
     ⟨S128x128, extractStridedSlice S128x128 ![128, 0] b slices_S256x128_o128_0_S128x128⟩]
    concatenates_S128x128_S128x128_S128x128_S128x128_S128x512_d1
def gatedOf (y g : FVec F S128x512 .f32) : FVec F S128x512 .bf16 := truncf .bf16 (mulf y (mulf g (sigOf g))) bitsLt_bf16_f32
/-- The block's outputs, and its gated outputs. -/
def Blk.plain (B : Blk F) : FVec F S128x512 .f32 := unstack (outOf B.pair0.p B.pair0.v) (outOf B.pair1.p B.pair1.v)
def Blk.gated (B : Blk F) : FVec F S128x512 .bf16 := gatedOf B.plain B.g
end

theorem outOf_at (p : FVec Ideal S256x512 .f32) (v : FVec Ideal S512x128 .bf16) (G : Fin 2 → Fin 256 → ℝ) (V : Fin 256 → Fin 64 → ℝ) (r : Fin 256)
    (hp : ∀ a y, p (ix2 r (col a y)) = ((G a y : ℝ) : EReal))
    (hv : ∀ a a' r d, v (ix2 (col a r) (lane a' d)) = (((if a = a' then V r d else 0 : ℝ)) : EReal)) (a : Fin 2) (d : Fin 64) :
    outOf p v (ix2 r (lane a d)) = ((∑ y, G a y * V y d : ℝ) : EReal) := by
  pointwise [outOf]
  rw [sum_col]
  simp only [hp, hv, ← EReal.coe_mul, coe_sum]
  rw [Finset.sum_eq_single a (fun b _ hb => by simp [hb]) (by simp)]
  simp

namespace BlkAt
variable {B : Blk Ideal} {H : Heads} (hB : BlkAt B H)
include hB

theorem out_at (h j a : Fin 2) (i : Fin 128) (d : Fin 64) :
    outOf (pairOf B h).p (pairOf B h).v (ix2 (row j i) (lane a d)) = ((H.OUT h (qhead j a) i d : ℝ) : EReal) := by
  refine (outOf_at _ _ (fun a y => p (headOf (stacked H.q h) j a) (H.K h) (H.bias h (qhead j a)) H.ok (H.S h (qhead j a)) i y) (H.V h) (row j i)
    (fun a y => (hB.pairAt h).p_at j i a y) (hB.pairAt h).v a d).trans ?_
  rw [hB.head_q]; rfl

/-- The block's outputs, head by head. -/
theorem plain_at (h : Fin 2) (g : Fin 4) (i : Fin 128) (d : Fin 64) : B.plain (ix2 i (qlane h g d)) = ((H.OUT h g i d : ℝ) : EReal) := by
  obtain ⟨j, a, rfl⟩ : ∃ j a, g = qhead j a := ⟨⟨g / 2, by omega⟩, ⟨g % 2, by omega⟩, Fin.ext (by simp only [qhead]; omega)⟩
  rw [← hB.out_at]
  have hl : ((qlane h (qhead j a) d : Fin 512) : ℕ) = 256 * h + 128 * j + lane a d := by simp only [qlane, qhead, lane]; omega
  have hb := (lane a d).isLt
  generalize qlane h (qhead j a) d = c at hl ⊢
  obtain rfl | rfl : h = 0 ∨ h = 1 := by omega
  all_goals obtain rfl | rfl : j = 0 ∨ j = 1 := by omega
  all_goals
    simp only [Fin.val_zero, Fin.val_one] at hl
    pointwise [Blk.plain, unstack]
  · exact (dif_pos (by omega)).trans (congrArg₂ (fun r l => outOf B.pair0.p B.pair0.v (ix2 r l)) (Fin.ext (by simp [row])) (Fin.ext (by simp only; omega)))
  · refine (dif_neg (by omega)).trans ?_
    exact (dif_pos (by omega)).trans (congrArg₂ (fun r l => outOf B.pair0.p B.pair0.v (ix2 r l)) (Fin.ext (by simp [row])) (Fin.ext (by simp only; omega)))
  · iterate 2 refine (dif_neg (by omega)).trans ?_
    exact (dif_pos (by omega)).trans (congrArg₂ (fun r l => outOf B.pair1.p B.pair1.v (ix2 r l)) (Fin.ext (by simp [row])) (Fin.ext (by simp only; omega)))
  · iterate 3 refine (dif_neg (by omega)).trans ?_
    exact congrArg₂ (fun r l => outOf B.pair1.p B.pair1.v (ix2 r l)) (Fin.ext (by simp [row])) (Fin.ext (by simp only; omega))

end BlkAt

theorem gatedOf_at (y g : FVec Ideal S128x512 .f32) (i : Fin 128) (l : Fin 512) (w z : ℝ) (hy : y (ix2 i l) = ((w : ℝ) : EReal)) (hz : g (ix2 i l) = ((z : ℝ) : EReal)) :
    gatedOf y g (ix2 i l) = ((w * (z * logis z) : ℝ) : EReal) := by
  pointwise [gatedOf]
  rw [sigOf_at g i l z hz, hz, hy]; simp only [← EReal.coe_mul]

variable (X : Fin 8192 → Fin 2560 → ℝ) (D : Fin 8192 → Fin 1024 → ℝ) (s : Fin 8 → ℝ)

/-- The outputs over what the kernel reads are the model's: keys the mask excludes have weight zero. -/
theorem read_out (n : Fin 64) (h : Fin 2) (g : Fin 4) : (readHeads X D s n).OUT h g = (headsOf X D s n).OUT h g := by
  funext i d
  have hp : p ((headsOf X D s n).Q h g) ((headsOf X D s n).K h) ((headsOf X D s n).bias h g) (headsOf X D s n).ok ((headsOf X D s n).S h g)
      = p ((headsOf X D s n).Q h g) ((readHeads X D s n).K h) ((headsOf X D s n).bias h g) (headsOf X D s n).ok ((headsOf X D s n).S h g) :=
    p_congr (fun i j ho d => keys_agree X D s n i j ho _)
  unfold Heads.OUT out
  refine Finset.sum_congr rfl fun j _ => ?_
  by_cases ho : (headsOf X D s n).ok i j
  · exact congrArg₂ (· * ·) (congrFun (congrFun hp i) j).symm (vals_agree X D s n i j ho _).symm
  · exact (mul_eq_zero_of_left (p_zero (q := (readHeads X D s n).Q h g) (k := (readHeads X D s n).K h) (ok := (readHeads X D s n).ok) ho) _).trans
      (mul_eq_zero_of_left (p_zero (q := (headsOf X D s n).Q h g) (k := (headsOf X D s n).K h) ho) _).symm

end Cert.AttnBwdIdeal.Value
end
-- ==== Proof.FwdPoint.lean ====
/-
  The attention forward kernel's points: what a point reads, and the rows it writes.
-/
module

public import proofs.«01_k».proof.Proof.FwdStage
public import proofs.«01_k».proof.Proof.Gen.AttnFwdIdeal.Value
public import Idealize.ShloMosaic.Lib.Pipeline.ValueKit
public import Idealize.ShloMosaic.Lib.Pipeline.ReadBack

@[expose] public section

set_option maxRecDepth 16384

noncomputable section

namespace Cert.AttnFwdIdeal.Value

open Cert.AttnFwdIdeal Cert.AttnFwdIdeal.Gen Idealize.ShloMosaic Idealize.ShloMosaic.TcCoe Idealize.SL.Sem
open Idealize.ShloMosaic.Pipeline (Dat)
open Cert.AttnBwdIdeal.Value (Pt Blk blk0 blk1 blk2 blk3 blkOf filled)

variable {F : FTy → Type} [FloatOps F]

/-- Four blocks' rows, one below the other. -/
def tiled {φ : EltTy} (B0 B1 B2 B3 : Vec F S128x512 φ) : Vec F S512x512 φ :=
  View.canon (Val := Elt F) [⟨Rect.unit (s := S512x512) ![384, 0] S128x512.size inb_S512x512_S128x512_384_0, B3⟩,
    ⟨Rect.unit (s := S512x512) ![256, 0] S128x512.size inb_S512x512_S128x512_256_0, B2⟩,
    ⟨Rect.unit (s := S512x512) ![128, 0] S128x512.size inb_S512x512_S128x512_128_0, B1⟩,
    ⟨Rect.unit (s := S512x512) ![0, 0] S128x512.size inb_S512x512_S128x512_0_0, B0⟩]

variable [Named F] (m : (ℓ : Loc nD τ sig) → Buf (Elt F) ℓ) (c : Dev nD) (t : Fin cfg0.N)

/-- Point `t`'s reads, over the bias `b`; a gradient and a saved output of zero stand where the forward pass has none. -/
def ptOf (b : Vec F S2x2x256x512 .f32) : Pt F :=
  ⟨iblk m c 0 t, iblk m c 1 t, constant S512x512 .f32 0x00000000#32, constant S512x512 .f32 0x00000000#32, iblk m c 2 t, b⟩

/-- The first block, its previous keys and values the whole of what the point reads above it. -/
def blkTop (P : Pt F) (i : grid0.Coords) : Blk F := { blk0 P i with kp := P.kv }
theorem blkTop_eq (P : Pt F) (i : grid0.Coords) : blkTop P i = blk0 P i :=
  congrArg (fun kp => ({ blk0 P i with kp := kp } : Blk F)) (congrArg P.kv.comp (funext fun j => funext fun a => by
    fin_cases a <;> exact Fin.ext (by simp [Rect.unit, Rect.emb])) : P.kv = View.ld P.kv (Rect.unit (s := S128x256) ![0, 0] S128x256.size inb_S128x256_S128x256_0_0))

/-- The rows a point writes: gated, and as they are. -/
def gatedRows (P : Pt F) (i : grid0.Coords) : Vec F S512x512 .bf16 := tiled (blkTop P i).gated (blk1 P).gated (blk2 P).gated (blk3 P).gated
def plainRows (P : Pt F) (i : grid0.Coords) : Vec F S512x512 .f32 := tiled (blkTop P i).plain (blk1 P).plain (blk2 P).plain (blk3 P).plain

/-- What the point before left. -/
def before : Vec F S512x512 .bf16 × Vec F S512x512 .f32 × Vec F S2x2x256x512 .f32 := outsAt0 m c (t.val - 1) (Nat.lt_of_le_of_lt (Nat.sub_le _ _) t.isLt)

theorem filled_first (h0 : t.val % 16 = 0) : (outsAt0 m c t.val t.isLt).2.2 = filled := by
  rw [outsAt0_A m c t h0]; frame_out; rfl
theorem filled_later (h0 : ¬ t.val % 16 = 0) : (outsAt0 m c t.val t.isLt).2.2 = (before m c t).2.2 := by
  rw [outsAt0_B m c t h0]; frame_out; rfl

set_option maxHeartbeats 4000000 in
theorem gated_first (h0 : t.val % 16 = 0) : (outsAt0 m c t.val t.isLt).1 = gatedRows (ptOf m c t filled) (grid0.coords t) := by
  rw [outsAt0_A m c t h0]; frame_out
  repeat rw [View.readCov_eq_canon']
  sl_kernel_rfl
set_option maxHeartbeats 4000000 in
theorem plain_first (h0 : t.val % 16 = 0) : (outsAt0 m c t.val t.isLt).2.1 = plainRows (ptOf m c t filled) (grid0.coords t) := by
  rw [outsAt0_A m c t h0]; frame_out
  repeat rw [View.readCov_eq_canon']
  sl_kernel_rfl
set_option maxHeartbeats 4000000 in
theorem gated_later (h0 : ¬ t.val % 16 = 0) : (outsAt0 m c t.val t.isLt).1 = gatedRows (ptOf m c t (before m c t).2.2) (grid0.coords t) := by
  rw [outsAt0_B m c t h0]; frame_out
  rw [read_unread_whole]
  sl_kernel_rfl
set_option maxHeartbeats 4000000 in
theorem plain_later (h0 : ¬ t.val % 16 = 0) : (outsAt0 m c t.val t.isLt).2.1 = plainRows (ptOf m c t (before m c t).2.2) (grid0.coords t) := by
  rw [outsAt0_B m c t h0]; frame_out
  rw [read_unread_whole]
  sl_kernel_rfl

end Cert.AttnFwdIdeal.Value
end
-- ==== Proof.FwdRef.lean ====
/-
  The attention forward reference over real arrays: its outputs are the model's, its gated outputs the model's times the
  gate.
-/
module

public import proofs.«01_k».proof.Proof.AttnRefGrad
public import proofs.«01_k».proof.Proof.Gen.AttnFwdRefIdeal.Read

@[expose] public section

set_option maxRecDepth 16384

noncomputable section

namespace Cert.AttnFwdRefIdeal.Value

open Cert.AttnFwdRefIdeal Cert.AttnFwdRefIdeal.Gen Idealize.ShloMosaic Idealize.ShloMosaic.TcCoe Idealize.SL.Sem
open Cert.RealLift Cert.AttnModel Cert.AttnFwdRefIdeal.Read
open Cert.AttnBwdRefIdeal.Value (castX castS logis_at)

variable (X : Fin 8192 → Fin 2560 → ℝ) (D : Fin 8192 → Fin 1024 → ℝ) (s : Fin 8 → ℝ) (n : Fin 64) (i : Fin 128) (h : Fin 2) (g : Fin 4) (d : Fin 64)

/-- The outputs are computed by the same lines as the backward reference's. -/
theorem same (A : (⟨S8192x2560, .f32⟩ : BufTy).Contents (Elt Ideal)) (B : (⟨S8, .f32⟩ : BufTy).Contents (Elt Ideal)) :
    val_main_v88 (F := Ideal) A B = Cert.AttnBwdRefIdeal.Read.val_main_v105 (F := Ideal) A B := rfl

theorem out_row : val_main_v88 (F := Ideal) (castX X) (castS s) (ix2 (tok n i) (qlane h g d)) = (((headsOf X D s n).OUT h g i d : ℝ) : EReal) :=
  (congrFun (same (castX X) (castS s)) _).trans (Cert.AttnBwdRefIdeal.Value.out_row X D s n i h g d)

theorem gate_row (r : Fin 8192) (l : Fin 512) : val_main_v89 (F := Ideal) (castX X) (ix2 r l)
    = ((X r ⟨2048 + l, by omega⟩ * logis (X r ⟨2048 + l, by omega⟩) : ℝ) : EReal) := by
  pointwise [val_main_v89, val_main_v3, val_main_call3_v0, val_main_call3_v1, val_main_call3_v2, val_main_call3_v3, val_main_call3_v4, val_main_call3_v5,
    val_main_call3_cst, val_main_call3_cst_0, castX]
  rw [logis_at, ← EReal.coe_mul]

theorem gated_row : val_main_v91 (F := Ideal) (castX X) (castS s) (ix2 (tok n i) (qlane h g d))
    = (((headsOf X D s n).OUT h g i d * (X (tok n i) ⟨2048 + (qlane h g d : Fin 512), by omega⟩ * logis (X (tok n i) ⟨2048 + (qlane h g d : Fin 512), by omega⟩)) : ℝ) : EReal) := by
  refine (val_main_v91_apply _ _ _).trans ((val_main_v90_apply _ _ _).trans ?_)
  rw [EReal.coe_mul]
  exact congrArg₂ (fun a b : EReal => a * b) (out_row X D s n i h g d) (gate_row X (tok n i) (qlane h g d))

end Cert.AttnFwdRefIdeal.Value
end
-- ==== Proof.FwdFinal.lean ====
/-
  The attention forward kernel: its two arrays after the run are the reference's, on finite arguments.
-/
module

public import proofs.«01_k».proof.Proof.FwdPoint
public import proofs.«01_k».proof.Proof.FwdRef

@[expose] public section

set_option maxRecDepth 16384

noncomputable section

namespace Cert.AttnFwdIdeal.Value

open Cert.AttnFwdIdeal Cert.AttnFwdIdeal.Gen Idealize.ShloMosaic Idealize.ShloMosaic.TcCoe Idealize.SL.Sem
open Idealize.ShloMosaic.Pipeline (Dat)
open Cert.RealLift Cert.AttnModel
open Cert.AttnBwdIdeal.Value (Pt PtAt Blk BlkAt blk0 blk1 blk2 blk3 blkOf filled blockOf rowOf inPoint rowsAt readHeads read_out gatedOf_at)
open Cert.AttnBwdRefIdeal.Value (castX castS)

theorem idx : ∀ t : Fin cfg0.N, win0_0.index t = ![t.val, 1] ∧ win0_1.index t = ![4 * t.val - 1, 7] ∧ win0_2.index t = ![0]
    ∧ win0_3.index t = ![t.val, 0] ∧ win0_4.index t = ![t.val, 0] :=
  (by decide +kernel : ∀ t : Fin grid0.N, _)
theorem offs : ∀ t : Fin cfg0.N, k0_off1 (grid0.coords t) = ![if t.val = 0 then 0 else 1, 0, 0, 0] ∧ k0_off2 (grid0.coords t) = ![if t.val = 0 then 0 else 1, 1, 0, 0] :=
  (by decide +kernel : ∀ t : Fin grid0.N, _)

variable (m : (ℓ : Loc nD τ sig) → Buf (Elt Ideal) ℓ) (c : Dev nD)

/-- The scratch holds the filled bias after every point. -/
theorem bias_at : ∀ (n : ℕ) (hn : n < cfg0.N), (outsAt0 m c n hn).2.2 = filled
  | 0, hn => filled_first m c ⟨0, hn⟩ rfl
  | n + 1, hn => by
    have hN : n + 1 < 16 := lt_of_lt_of_eq hn N_0
    exact (filled_later m c ⟨n + 1, hn⟩ (by show ¬ (n + 1) % 16 = 0; omega)).trans (bias_at n _)

variable (t : Fin cfg0.N)
/-- Point `t`'s reads, over the filled bias. -/
def pt : Pt Ideal := ptOf m c t filled

theorem gated_at : (outsAt0 m c t.val t.isLt).1 = gatedRows (pt m c t) (grid0.coords t) := by
  by_cases h0 : t.val % 16 = 0
  · exact gated_first m c t h0
  · rw [gated_later m c t h0, show (before m c t).2.2 = filled from bias_at m c _ _]; rfl
theorem plain_at : (outsAt0 m c t.val t.isLt).2.1 = plainRows (pt m c t) (grid0.coords t) := by
  by_cases h0 : t.val % 16 = 0
  · exact plain_first m c t h0
  · rw [plain_later m c t h0, show (before m c t).2.2 = filled from bias_at m c _ _]; rfl

variable {m c}
/-- The argument arrays of device `c` are casts of real arrays. -/
structure Finite (m : (ℓ : Loc nD τ sig) → Buf (Elt Ideal) ℓ) (c : Dev nD) (X : Fin 8192 → Fin 2560 → ℝ) (s : Fin 8 → ℝ) : Prop where
  x : m ((c : Thread nD τ).loc main_arg0) = castX X
  s : m ((c : Thread nD τ).loc main_arg1) = castS s

/-- A point as one of the sixteen. -/
def tile (t : Fin cfg0.N) : Fin 16 := ⟨t, lt_of_lt_of_eq t.isLt N_0⟩

variable {X : Fin 8192 → Fin 2560 → ℝ} {s : Fin 8 → ℝ} (h : Finite m c X s)
include h
theorem pt_x (p : Fin 512) (l : Fin 1280) : (pt m c t).x (ix2 p l) = ((X (rowOf (tile t) p) ⟨1280 + l, by omega⟩ : ℝ) : EReal) := by
  have := congrFun h.x (ix2 (rowOf (tile t) p) ⟨1280 + l, by omega⟩)
  refine Eq.trans ?_ this
  show iblk m c 0 t (ix2 p l) = _
  blk_ext [iblk, V, idx t, tile, rowOf]
theorem pt_kv (p : Fin 128) (l : Fin 256) (r : Fin 8192) (hr : (r : ℕ) = (4 * (tile t : ℕ) - 1) * 128 + p) :
    (pt m c t).kv (ix2 p l) = ((X r ⟨1792 + l, by omega⟩ : ℝ) : EReal) := by
  have := congrFun h.x (ix2 r ⟨1792 + l, by omega⟩)
  refine Eq.trans ?_ this
  have hr' : (r : ℕ) = (4 * t.val - 1) * 128 + p := hr
  show iblk m c 1 t (ix2 p l) = _
  blk_ext [iblk, V, idx t, hr']
theorem pt_sk (e : Fin 8) : (pt m c t).sk (ix1 e) = ((s e : ℝ) : EReal) := by
  have := congrFun h.s (ix1 e)
  refine Eq.trans ?_ this
  show iblk m c 2 t (ix1 e) = _
  blk_ext [iblk, V, idx t]
omit h in
theorem pt_dy (p l : Fin 512) : (pt m c t).dy (ix2 p l) = ((0 : ℝ) : EReal) := by
  show Ideal.ofBits .f32 0x00000000#32 = _
  simp [Ideal.ofBits, Ideal.ieee]
omit h in
theorem pt_bias : (pt m c t).bias = filled := rfl

/-- What a point reads. -/
theorem ptAt : PtAt X (fun _ _ => 0) s (pt m c t) (grid0.coords t) (tile t) :=
  PtAt.mk (pt_x t h) (pt_kv t h) (pt_dy t) (pt_sk t h) (pt_bias t) (offs t).1 (offs t).2

/-- A block's entries: its outputs and its gated outputs. -/
theorem isPlain (b : Fin 4) (e : Fin 2) (g : Fin 4) (i : Fin 128) (d : Fin 64) : (blkOf (pt m c t) (grid0.coords t) b).plain (ix2 i (qlane e g d))
    = (((headsOf X (fun _ _ => 0) s (blockOf (tile t) b)).OUT e g i d : ℝ) : EReal) := by
  rw [((ptAt t h).isBlk b).plain_at, read_out]
theorem isGate : ∀ (b : Fin 4) (i : Fin 128) (l : Fin 512),
    (blkOf (pt m c t) (grid0.coords t) b).g (ix2 i l) = ((X (tok (blockOf (tile t) b) i) ⟨2048 + l, by omega⟩ : ℝ) : EReal)
  | 0 => (ptAt t h).gate_at 0 0 (by decide) rfl
  | 1 => (ptAt t h).gate_at 1 128 (by decide) rfl
  | 2 => (ptAt t h).gate_at 2 256 (by decide) rfl
  | 3 => (ptAt t h).gate_at 3 384 (by decide) rfl
omit h

theorem tiled_at {φ : EltTy} (B : Fin 4 → Vec Ideal S128x512 φ) (b : Fin 4) (p : Fin 128) (c : Fin 512) (q : Fin 512) (hq : (q : ℕ) = 128 * b + p) :
    tiled (B 0) (B 1) (B 2) (B 3) (ix2 q c) = B b (ix2 p c) := by
  unfold tiled
  canon_tiles x hx
  all_goals
    have h0 : (q : ℕ) = _ := hx0
    have h1 : (c : ℕ) = x 1 := hx1
    rw [show x = ix2 p c from funext fun a => by
      fin_cases a
      · exact Fin.ext (by show (x 0 : ℕ) = p; omega)
      · exact Fin.ext h1.symm]
  · obtain rfl : b = 3 := by omega
    rfl
  · obtain rfl : b = 2 := by omega
    rfl
  · obtain rfl : b = 1 := by omega
    rfl
  · obtain rfl : b = 0 := by omega
    rfl

/-- Row `p` of point `t` is row `i` of its block `b`. -/
theorem split (t : Fin cfg0.N) (p : Fin 512) : ∃ (b : Fin 4) (i : Fin 128), (p : ℕ) = 128 * b + i ∧ rowOf (tile t) p = tok (blockOf (tile t) b) i :=
  ⟨⟨p / 128, by omega⟩, ⟨p % 128, by omega⟩, by simp only; omega, Fin.ext (by simp only [rowOf, tok, blockOf]; omega)⟩
theorem lanes (l : Fin 512) : ∃ (e : Fin 2) (g : Fin 4) (d : Fin 64), l = qlane e g d :=
  ⟨⟨l / 256, by omega⟩, ⟨l / 64 % 4, by omega⟩, ⟨l % 64, by omega⟩, Fin.ext (by simp only [qlane]; omega)⟩

theorem four_at {φ : EltTy} (B : Fin 4 → Vec Ideal S128x512 φ) {B0 B1 B2 B3 : Vec Ideal S128x512 φ} (h0 : B 0 = B0) (h1 : B 1 = B1) (h2 : B 2 = B2) (h3 : B 3 = B3)
    (b : Fin 4) (p : Fin 128) (c : Fin 512) (q : Fin 512) (hq : (q : ℕ) = 128 * b + p) : tiled B0 B1 B2 B3 (ix2 q c) = B b (ix2 p c) := by
  subst h0 h1 h2 h3; exact tiled_at B b p c q hq

/-- A point's rows, block by block. -/
theorem plain_block (P : Pt Ideal) (k : grid0.Coords) (b : Fin 4) (i : Fin 128) (p l : Fin 512) (hp : (p : ℕ) = 128 * b + i) :
    plainRows P k (ix2 p l) = (blkOf P k b).plain (ix2 i l) :=
  four_at (φ := .f32) (fun b => (blkOf P k b).plain) (congrArg Blk.plain (blkTop_eq P k).symm) rfl rfl rfl b i l p hp
theorem gated_block (P : Pt Ideal) (k : grid0.Coords) (b : Fin 4) (i : Fin 128) (p l : Fin 512) (hp : (p : ℕ) = 128 * b + i) :
    gatedRows P k (ix2 p l) = (blkOf P k b).gated (ix2 i l) :=
  four_at (φ := .bf16) (fun b => (blkOf P k b).gated) (congrArg Blk.gated (blkTop_eq P k).symm) rfl rfl rfl b i l p hp

/-- A block's entries are the reference's. -/
theorem plain_ref (h : Finite m c X s) (b : Fin 4) (i : Fin 128) (e : Fin 2) (g : Fin 4) (d : Fin 64) : (blkOf (pt m c t) (grid0.coords t) b).plain (ix2 i (qlane e g d))
    = Cert.AttnFwdRefIdeal.Read.val_main_v88 (F := Ideal) (castX X) (castS s) (ix2 (tok (blockOf (tile t) b) i) (qlane e g d)) :=
  (isPlain t h b e g i d).trans (Cert.AttnFwdRefIdeal.Value.out_row X (fun _ _ => 0) s (blockOf (tile t) b) i e g d).symm
theorem gated_ref (h : Finite m c X s) (b : Fin 4) (i : Fin 128) (e : Fin 2) (g : Fin 4) (d : Fin 64) : (blkOf (pt m c t) (grid0.coords t) b).gated (ix2 i (qlane e g d))
    = Cert.AttnFwdRefIdeal.Read.val_main_v91 (F := Ideal) (castX X) (castS s) (ix2 (tok (blockOf (tile t) b) i) (qlane e g d)) :=
  (gatedOf_at _ _ _ _ _ _ (isPlain t h b e g i d) (isGate t h b i (qlane e g d))).trans
    (Cert.AttnFwdRefIdeal.Value.gated_row X (fun _ _ => 0) s (blockOf (tile t) b) i e g d).symm

/-- A point's entries are the reference's. -/
theorem plain_point (h : Finite m c X s) (p l : Fin 512) : plainRows (pt m c t) (grid0.coords t) (ix2 p l)
    = Cert.AttnFwdRefIdeal.Read.val_main_v88 (F := Ideal) (castX X) (castS s) (ix2 (rowOf (tile t) p) l) := by
  obtain ⟨b, i, hp, hr⟩ := split t p
  obtain ⟨e, g, d, hl⟩ := lanes l
  rw [hr, plain_block (pt m c t) (grid0.coords t) b i p l hp, hl]
  exact plain_ref t h b i e g d
theorem gated_point (h : Finite m c X s) (p l : Fin 512) : gatedRows (pt m c t) (grid0.coords t) (ix2 p l)
    = Cert.AttnFwdRefIdeal.Read.val_main_v91 (F := Ideal) (castX X) (castS s) (ix2 (rowOf (tile t) p) l) := by
  obtain ⟨b, i, hp, hr⟩ := split t p
  obtain ⟨e, g, d, hl⟩ := lanes l
  rw [hr, gated_block (pt m c t) (grid0.coords t) b i p l hp, hl]
  exact gated_ref t h b i e g d

/-- Where entry `y` of point `t`'s block sits in the arrays. -/
theorem emb3 (y : S512x512.Idx) : ((View.whole main_v0_0).slice (win0_3.rect t)).emb y = (ix2 (rowOf (tile t) (y 0)) (y 1) : S8192x512.Idx) := by
  blk_ext [idx t, rowOf, tile]
theorem emb4 (y : S512x512.Idx) : ((View.whole main_v0_1).slice (win0_4.rect t)).emb y = (ix2 (rowOf (tile t) (y 0)) (y 1) : S8192x512.Idx) := by
  blk_ext [idx t, rowOf, tile]
theorem at3 (h : Finite m c X s) (y : S512x512.Idx) : gatedRows (pt m c t) (grid0.coords t) y
    = Cert.AttnFwdRefIdeal.Read.val_main_v91 (F := Ideal) (castX X) (castS s) (((View.whole main_v0_0).slice (win0_3.rect t)).emb y) := by
  rw [emb3]
  exact (congrArg (gatedRows (pt m c t) (grid0.coords t)) (funext fun a => by fin_cases a <;> rfl)).trans (gated_point t h (y 0) (y 1))
theorem at4 (h : Finite m c X s) (y : S512x512.Idx) : plainRows (pt m c t) (grid0.coords t) y
    = Cert.AttnFwdRefIdeal.Read.val_main_v88 (F := Ideal) (castX X) (castS s) (((View.whole main_v0_1).slice (win0_4.rect t)).emb y) := by
  rw [emb4]
  exact (congrArg (plainRows (pt m c t) (grid0.coords t)) (funext fun a => by fin_cases a <;> rfl)).trans (plain_point t h (y 0) (y 1))

/-- The gated outputs after the run, and the outputs, are the reference's. -/
theorem gated_final (h : Finite m c X s) : (dats m 0 c).arrAt 3 (cfgs 0).N = Cert.AttnFwdRefIdeal.Read.val_main_v91 (F := Ideal) (castX X) (castS s) := by
  refine (dats m 0 c).arrAt_eq_of_covers 3 _ (by decide +kernel) fun t hf y => ?_
  blk_simp
  rw [after0_3, gated_at]
  exact at3 t h y
theorem plain_final (h : Finite m c X s) : (dats m 0 c).arrAt 4 (cfgs 0).N = Cert.AttnFwdRefIdeal.Read.val_main_v88 (F := Ideal) (castX X) (castS s) := by
  refine (dats m 0 c).arrAt_eq_of_covers 4 _ (by decide +kernel) fun t hf y => ?_
  blk_simp
  rw [after0_4, plain_at]
  exact at4 t h y

end Cert.AttnFwdIdeal.Value
end
-- ==== Proof.FwdClaim.lean ====
/-
  The attention's forward pass: from the claim's precondition to real arrays, and the two runs side by side.
-/
module

public import proofs.«01_k».proof.Defs
public import proofs.«01_k».proof.Proof.FwdFinal
public import proofs.«01_k».proof.Proof.Gen.Pre_attn_fwd_finite
public import proofs.«01_k».proof.Proof.Gen.AttnFwdRefIdeal.Run
public import Idealize.ShloMosaic.Lib.Claim

@[expose] public section

set_option maxRecDepth 16384

noncomputable section

namespace Cert.AttnFwdIdeal.Value

open Cert.AttnFwdIdeal Cert.AttnFwdIdeal.Gen Idealize.ShloMosaic Idealize.ShloMosaic.TcCoe Idealize.SL.Sem
open Cert.RealLift

/-- Arguments that pass the precondition are casts of real arrays. -/
theorem finite_of_pre (m : (ℓ : Loc nD τ sig) → Buf (Elt Ideal) ℓ) (h : Cert.Pre_AttnFwdIdeal_attn_fwd_finite m) (c : Dev nD) : ∃ X s, Finite m c X s := by
  obtain ⟨h0, h1⟩ := h c
  exact ⟨fun r l => EReal.toReal (m ((c : Thread nD τ).loc main_arg0) (ix2 r l)), fun e => EReal.toReal (m ((c : Thread nD τ).loc main_arg1) (ix1 e)),
    { x := funext fun i => (coe_toReal_of_abs_lt (φ := .f32) _ _ inf_f32 (congrFun h0 i)).trans
        (congrArg (fun i => ((EReal.toReal (m ((c : Thread nD τ).loc main_arg0) i) : ℝ) : EReal)) (funext fun a => by fin_cases a <;> rfl))
      s := funext fun i => (coe_toReal_of_abs_lt (φ := .f32) _ _ inf_f32 (congrFun h1 i)).trans
        (congrArg (fun i => ((EReal.toReal (m ((c : Thread nD τ).loc main_arg1) i) : ℝ) : EReal)) (funext fun a => by fin_cases a; rfl)) }⟩

/-- On finite arguments the kernel's gated outputs and its outputs are the reference's. -/
theorem algebraic : Cert.algebraic_AttnFwdIdeal_AttnFwdRefIdeal_pre_attn_fwd_finite := by
  pair_intro
  · run_from (run_blocks m g)
  · refine (θ_run Cert.AttnFwdRefIdeal.defs _ _).mono (fun r h c => ?_) (Cert.AttnFwdRefIdeal.Value.run (F := Ideal) m' g')
    obtain ⟨h91, h88, k⟩ := h c
    obtain ⟨a0, a1⟩ := hagree c
    obtain ⟨X, s, f⟩ := finite_of_pre m hpre c
    refine ⟨h91.trans ?_, h88.trans ?_, k⟩
    · exact (Cert.AttnFwdRefIdeal.Read.val_main_v91_eq _ _).trans
        ((congr (congrArg Cert.AttnFwdRefIdeal.Read.val_main_v91 (a0.trans f.x)) (a1.trans f.s)).trans (gated_final f).symm)
    · exact (Cert.AttnFwdRefIdeal.Read.val_main_v88_eq _ _).trans
        ((congr (congrArg Cert.AttnFwdRefIdeal.Read.val_main_v88 (a0.trans f.x)) (a1.trans f.s)).trans (plain_final f).symm)

end Cert.AttnFwdIdeal.Value

end
-- ==== Proof.MixModel.lean ====
/-
  The mixers' forward: the vocabulary its kernel and its reference are read in — the value some tokens back, and the two sums
  over all tokens that the reference writes for a window and for a causal convolution.
-/
module

public import proofs.«01_k».proof.Proof.RealLift
public import Idealize.ShloMosaic.Lib.WordCmp

@[expose] public section

set_option maxRecDepth 16384

noncomputable section

namespace Cert.MixModel

open Idealize.ShloMosaic

/-- The value `j` tokens before token `s`, zero before the start. -/
def back (f : Fin 8192 → EReal) (s : Fin 8192) (j : ℕ) : EReal := if h : j ≤ s.val then f ⟨s - j, by omega⟩ else 0

theorem back_eq_sum (f : Fin 8192 → EReal) (s : Fin 8192) (j : ℕ) :
    back f s j = ∑ k : Fin 8192, if k.val + j = s.val then f k else 0 := by
  unfold back
  by_cases h : j ≤ s.val
  · rw [dif_pos h, Finset.sum_eq_single (⟨s - j, by omega⟩ : Fin 8192)]
    · rw [if_pos (by simp only; omega)]
    · exact fun k _ hk => if_neg fun e => hk (Fin.ext (by simp only; omega))
    · exact fun hk => absurd (Finset.mem_univ _) hk
  · rw [dif_neg h]
    exact (Finset.sum_eq_zero fun k _ => if_neg (by omega)).symm

/-- A window of `w` tokens ending at `s`. -/
theorem window_sum (f : Fin 8192 → EReal) (s : Fin 8192) (w : ℕ) :
    (∑ k : Fin 8192, if k.val ≤ s.val ∧ s.val < k.val + w then f k else 0) = ∑ j ∈ Finset.range w, back f s j := by
  simp only [back_eq_sum]
  rw [Finset.sum_comm]
  refine Finset.sum_congr rfl fun k _ => ?_
  by_cases h : k.val ≤ s.val ∧ s.val < k.val + w
  · rw [if_pos h, Finset.sum_eq_single (s.val - k.val)]
    · rw [if_pos (by omega)]
    · exact fun j _ hj => if_neg (by omega)
    · exact fun hj => absurd (Finset.mem_range.2 (by omega)) hj
  · rw [if_neg h]
    exact (Finset.sum_eq_zero fun j hj => if_neg (by have := Finset.mem_range.1 hj; omega)).symm

/-- The token a tap of the convolution reads. -/
theorem tap_sum (f : Fin 8192 → EReal) (s : Fin 8192) (i : Fin 31) :
    (∑ k : Fin 8192, if k.val + 30 = s.val + i.val then f k else 0) = back f s (30 - i) := by
  rw [back_eq_sum]
  refine Finset.sum_congr rfl fun k _ => ?_
  by_cases h : k.val + 30 = s.val + i.val
  · rw [if_pos h, if_pos (by omega)]
  · rw [if_neg h, if_neg (by omega)]

theorem back_congr {f g : Fin 8192 → EReal} (h : ∀ s, f s = g s) (s : Fin 8192) (j : ℕ) : back f s j = back g s j := by
  rw [show f = g from funext h]

/-- The weighted sum of the `31` tokens up to `s`. -/
def conv (f : Fin 8192 → EReal) (T : ℕ → EReal) (s : Fin 8192) : EReal := ∑ j ∈ Finset.range 31, T j * back f s (30 - j)

/-- The width of the window of group `g` of `64` lanes. -/
def width (g : ℕ) : ℕ := if g = 0 then 2 else if g = 1 then 4 else if g = 2 then 8 else 16

/-- The logistic function. -/
def sg (a : EReal) : EReal := Ideal.div 1 (1 + Ideal.exp (0 - a))

variable (x : Fin 8192 → Fin 2560 → EReal)

/-- The first mixer before its product: the mean over the window that ends at token `s`, less the token itself. -/
def diff (s : Fin 8192) (l : Fin 256) : EReal :=
  Ideal.div (∑ j ∈ Finset.range (width (l / 64)), back (fun k => x k ⟨l, by omega⟩) s j)
    (min (((s.val : ℝ) : EReal) + 1) ((width (l / 64) : ℝ) : EReal)) - x s ⟨l, by omega⟩

/-- The second mixer's gated rows. -/
def hid (l : Fin 256) (s : Fin 8192) : EReal := x s ⟨512 + l, by omega⟩ * sg (x s ⟨768 + l, by omega⟩)

/-- A row scaled by a gate's own swish. -/
def swish (a : EReal) : EReal := a * sg a

/-- Layer norm of a row of `256`. -/
def norm (q : Fin 256 → EReal) (g b : Fin 256 → EReal) (l : Fin 256) : EReal :=
  (q l - Ideal.div (∑ k, q k) (Ideal.ofBits .f32 1132462080#32))
    * Ideal.rsqrt (Ideal.div (∑ k, (q k - Ideal.div (∑ k, q k) (Ideal.ofBits .f32 1132462080#32)) * (q k - Ideal.div (∑ k, q k) (Ideal.ofBits .f32 1132462080#32)))
        (Ideal.ofBits .f32 1132462080#32) + Ideal.ofBits .f32 897988541#32) * g l + b l

theorem sitofp_ofNat (n : ℕ) (h : n < 2 ^ 31) : FloatOps.sitofp (F := Ideal) .f32 (BitVec.ofNat 32 n) = ((n : ℝ) : EReal) := by
  show ((((BitVec.ofNat 32 n).toInt : ℤ) : ℝ) : EReal) = _
  rw [WordCmp.toInt_ofNat_of_lt h, Int.cast_natCast]

theorem ofBits_2 : Ideal.ofBits .f32 1073741824#32 = (((2 : ℕ) : ℝ) : EReal) := by simp [Ideal.ofBits, Ideal.ieee, -EReal.coe_mul]; norm_num
theorem ofBits_4 : Ideal.ofBits .f32 1082130432#32 = (((4 : ℕ) : ℝ) : EReal) := by simp [Ideal.ofBits, Ideal.ieee, -EReal.coe_mul]; norm_num
theorem ofBits_8 : Ideal.ofBits .f32 1090519040#32 = (((8 : ℕ) : ℝ) : EReal) := by simp [Ideal.ofBits, Ideal.ieee, -EReal.coe_mul]; norm_num
theorem ofBits_16 : Ideal.ofBits .f32 1098907648#32 = (((16 : ℕ) : ℝ) : EReal) := by simp [Ideal.ofBits, Ideal.ieee, -EReal.coe_mul]; norm_num
theorem neg_eq (a : EReal) : -a = 0 - a := by rw [sub_eq_add_neg, zero_add]

/-- Row `p` of tile `t` as a token. -/
def token (t : Fin 16) (p : Fin 512) : Fin 8192 := ⟨512 * t + p, by omega⟩

/-- A sum over `256` lanes against weights that vanish off one group of `64` lanes is the sum over the group. -/
theorem group_sum (a w : Fin 256 → EReal) (g : Fin 4) (W : Fin 64 → EReal)
    (h : ∀ (e : Fin 4) (k : Fin 64), w ⟨64 * e + k, by omega⟩ = if e = g then W k else 0) :
    ∑ l, a l * w l = ∑ k : Fin 64, a ⟨64 * g + k, by omega⟩ * W k := by
  have e : ∑ l, a l * w l = ∑ q : Fin 4 × Fin 64, a ⟨64 * q.1 + q.2, by omega⟩ * w ⟨64 * q.1 + q.2, by omega⟩ :=
    (Fintype.sum_equiv (finProdFinEquiv (m := 4) (n := 64)) _ _ fun q => by
      have : (⟨64 * q.1 + q.2, by omega⟩ : Fin 256) = finProdFinEquiv q := Fin.ext (by simp [finProdFinEquiv]; omega)
      rw [this]).symm
  rw [e, Fintype.sum_prod_type, Finset.sum_eq_single g]
  · exact Finset.sum_congr rfl fun k _ => by rw [h g k, if_pos rfl]
  · exact fun d _ hd => Finset.sum_eq_zero fun k _ => by rw [h d k, if_neg hd, mul_zero]
  · exact fun hg => absurd (Finset.mem_univ _) hg

end Cert.MixModel

end
-- ==== Proof.MixKernel.lean ====
/-
  The mixers' forward kernel: what one grid point computes, read at an index.
-/
module

public import proofs.«01_k».proof.Proof.MixModel
public import proofs.«01_k».proof.Proof.Gen.MixFwdIdeal.Frame

@[expose] public section

set_option maxRecDepth 16384

noncomputable section

namespace Cert.MixFwdIdeal.Value

open Cert.MixFwdIdeal Cert.MixFwdIdeal.Gen Idealize.ShloMosaic Idealize.ShloMosaic.TcCoe Idealize.SL.Sem
open Cert.MixModel

/-- The blocks point `i` reads are those of tile `t` of the projected rows: the tile itself and the `32` rows before it. -/
structure Tile (x : Fin 8192 → Fin 2560 → EReal) (t : Fin 16) (i : grid0.Coords) (v1 : FVec Ideal S32x1280 .f32) (v4 : FVec Ideal S512x1280 .f32) : Prop where
  i : (i 0).val = t.val
  cur : ∀ p (l : Fin 1280), v4 (ix2 p l) = x (token t p) ⟨l, by omega⟩
  halo : ∀ (h : 0 < t.val) (r : Fin 32) (l : Fin 1280), v1 (ix2 r l) = x ⟨512 * t - 32 + r, by omega⟩ ⟨l, by omega⟩

theorem at2 (x : Fin 8192 → Fin 2560 → EReal) {s s' : Fin 8192} {l l' : Fin 2560} (h : s.val = s'.val) (k : l.val = l'.val) : x s l = x s' l' := by
  rw [Fin.ext h, Fin.ext k]

variable {x : Fin 8192 → Fin 2560 → EReal} {t : Fin 16} {i : grid0.Coords} {v1 : FVec Ideal S32x1280 .f32} {v4 : FVec Ideal S512x1280 .f32}

/-- The rows of the tile with those before it: each is the token so many back. -/
theorem ext_at (h : Tile x t i v1 v4) (p : Fin 512) (r : Fin 544) (hr : p.val ≤ r.val ∧ r.val ≤ 32 + p.val) (l : Fin 1280) :
    k0_pay2 (F := Ideal) i v1 v4 (ix2 r l) = back (fun s => x s ⟨l, by omega⟩) (token t p) (32 + p - r) := by
  have hp := p.isLt
  pointwise [k0_pay2]
  unfold back
  by_cases h32 : r.val < 32
  · refine (dif_pos h32).trans ?_
    rw [h.i]
    by_cases h0 : 0 < t.val
    · rw [show Scalar.cmpi CmpIPredicate.sgt (BitVec.ofNat 32 t.val) 0#32 = 1#1 from
        (WordCmp.cmpi_sgt_ofNat_eq_one_iff (by omega) (by omega)).2 h0, dif_pos (by simp only [token]; omega)]
      exact (h.halo h0 _ _).trans (at2 x (by simp only [token]; omega) rfl)
    · rw [show Scalar.cmpi CmpIPredicate.sgt (BitVec.ofNat 32 t.val) 0#32 = 0#1 from
        (WordCmp.cmpi_sgt_ofNat_eq_zero_iff (by omega) (by omega)).2 h0, dif_neg (by simp only [token]; omega)]
      rfl
  · refine (dif_neg h32).trans ?_
    rw [dif_pos (by simp only [token]; omega)]
    exact (h.cur _ _).trans (at2 x (by simp only [token]; omega) rfl)

theorem ext0_at (h : Tile x t i v1 v4) (p : Fin 512) (r : Fin 544) (hr : p.val ≤ r.val ∧ r.val ≤ 32 + p.val) (l : Fin 256) :
    k0_pay3 (F := Ideal) i v1 v4 (ix2 r l) = back (fun s => x s ⟨l, by omega⟩) (token t p) (32 + p - r) := by
  pointwise [k0_pay3]
  exact ext_at h p r hr ⟨l, by omega⟩

/-! ## The window sums, doubled four times -/

/-- A block added to itself so many rows down. -/
def twice (k : BitVec 32) (v : FVec Ideal S544x256 .f32) : FVec Ideal S544x256 .f32 := addf v (dynamicRotate 0 k none v rotates_S544x256_d0)

theorem twice1 (v : FVec Ideal S544x256 .f32) (r : Fin 544) (l : Fin 256) : twice 1#32 v (ix2 r l) = v (ix2 r l) + v (ix2 ⟨(r + 544 - 1) % 544, by omega⟩ l) := by
  pointwise [twice]
theorem twice2 (v : FVec Ideal S544x256 .f32) (r : Fin 544) (l : Fin 256) : twice 2#32 v (ix2 r l) = v (ix2 r l) + v (ix2 ⟨(r + 544 - 2) % 544, by omega⟩ l) := by
  pointwise [twice]
theorem twice4 (v : FVec Ideal S544x256 .f32) (r : Fin 544) (l : Fin 256) : twice 4#32 v (ix2 r l) = v (ix2 r l) + v (ix2 ⟨(r + 544 - 4) % 544, by omega⟩ l) := by
  pointwise [twice]
theorem twice8 (v : FVec Ideal S544x256 .f32) (r : Fin 544) (l : Fin 256) : twice 8#32 v (ix2 r l) = v (ix2 r l) + v (ix2 ⟨(r + 544 - 8) % 544, by omega⟩ l) := by
  pointwise [twice]

/-- Lane `l` of `v` holds the sums of `w` values of `G` from the row's own on. -/
def Windows (G : ℕ → EReal) (p : Fin 512) (l : Fin 256) (w : ℕ) (v : FVec Ideal S544x256 .f32) : Prop :=
  ∀ (r : Fin 544) (j : ℕ), j + w ≤ 32 → r.val + j = 32 + p.val → v (ix2 r l) = ∑ q ∈ Finset.range w, G (j + q)

theorem Windows.twice {G : ℕ → EReal} {p : Fin 512} {l : Fin 256} {w : ℕ} {v u : FVec Ideal S544x256 .f32} (h : Windows G p l w v) (hw : 0 < w)
    (hu : ∀ r : Fin 544, u (ix2 r l) = v (ix2 r l) + v (ix2 ⟨(r + 544 - w) % 544, Nat.mod_lt _ (by decide)⟩ l)) : Windows G p l (w + w) u := by
  intro r j hj hr
  have hp := p.isLt
  rw [hu, h r j (by omega) hr, h ⟨(r + 544 - w) % 544, Nat.mod_lt _ (by decide)⟩ (j + w) (by omega) (by simp only; omega), Finset.sum_range_add]
  simp only [Nat.add_assoc]

theorem pay4_eq (i : grid0.Coords) (v1 : FVec Ideal S32x1280 .f32) (v4 : FVec Ideal S512x1280 .f32) (p : Fin 512) (l : Fin 256) :
    k0_pay4 (F := Ideal) i v1 v4 (ix2 p l)
      = if l.val < 64 then twice 1#32 (k0_pay3 i v1 v4) (ix2 ⟨32 + p, by omega⟩ l)
        else if l.val < 128 then twice 2#32 (twice 1#32 (k0_pay3 i v1 v4)) (ix2 ⟨32 + p, by omega⟩ l)
        else if l.val < 192 then twice 4#32 (twice 2#32 (twice 1#32 (k0_pay3 i v1 v4))) (ix2 ⟨32 + p, by omega⟩ l)
        else twice 8#32 (twice 4#32 (twice 2#32 (twice 1#32 (k0_pay3 i v1 v4)))) (ix2 ⟨32 + p, by omega⟩ l) := by
  unfold k0_pay4
  generalize k0_pay3 (F := Ideal) i v1 v4 = u
  show extractStridedSlice S512x256 ![32, 0] (select _ (twice 1#32 u) (select _ (twice 2#32 (twice 1#32 u)) (select _ (twice 4#32 (twice 2#32 (twice 1#32 u)))
    (twice 8#32 (twice 4#32 (twice 2#32 (twice 1#32 u))))))) _ (ix2 p l) = _
  generalize twice 8#32 (twice 4#32 (twice 2#32 (twice 1#32 u))) = u8
  generalize twice 4#32 (twice 2#32 (twice 1#32 u)) = u4
  generalize twice 2#32 (twice 1#32 u) = u2
  generalize twice 1#32 u = u1
  pointwise []
  word_cmp

/-- The pooled sum of a lane: over the window of its group. -/
theorem pool_at (h : Tile x t i v1 v4) (p : Fin 512) (l : Fin 256) :
    k0_pay4 (F := Ideal) i v1 v4 (ix2 p l) = ∑ j ∈ Finset.range (width (l / 64)), back (fun k => x k ⟨l, by omega⟩) (token t p) j := by
  have hp := p.isLt
  have w1 : Windows (back (fun k => x k ⟨l, by omega⟩) (token t p)) p l 1 (k0_pay3 (F := Ideal) i v1 v4) := by
    intro r j hj hr
    rw [ext0_at h p r (by omega), Finset.sum_range_one, show 32 + p.val - r.val = j + 0 by omega]
  have w2 := w1.twice (by decide) (fun r => twice1 _ r l)
  have w4 := w2.twice (by decide) (fun r => twice2 _ r l)
  have w8 := w4.twice (by decide) (fun r => twice4 _ r l)
  have w16 := w8.twice (by decide) (fun r => twice8 _ r l)
  rw [pay4_eq, w2 ⟨32 + p, by omega⟩ 0 (by decide) rfl, w4 ⟨32 + p, by omega⟩ 0 (by decide) rfl, w8 ⟨32 + p, by omega⟩ 0 (by decide) rfl,
    w16 ⟨32 + p, by omega⟩ 0 (by decide) rfl]
  simp only [Nat.zero_add]
  unfold width
  by_cases h1 : l.val < 64
  · rw [if_pos h1, if_pos (by omega)]
  by_cases h2 : l.val < 128
  · rw [if_neg h1, if_pos h2, if_neg (by omega), if_pos (by omega)]
  by_cases h3 : l.val < 192
  · rw [if_neg h1, if_neg h2, if_pos h3, if_neg (by omega), if_neg (by omega), if_pos (by omega)]
  · rw [if_neg h1, if_neg h2, if_neg h3, if_neg (by omega), if_neg (by omega), if_neg (by omega)]

/-- The token's number. -/
theorem token_at (h : (i 0).val = t.val) (p : Fin 512) : k0_pay5 (F := Ideal) i (ix2 p 0) = (((token t p).val : ℝ) : EReal) := by
  pointwise [k0_pay5]
  rw [h, ← sitofp_ofNat _ (by simp only [token]; omega)]
  refine congrArg (FloatOps.sitofp (F := Ideal) .f32) ?_
  show IntOp.addi (IntOp.muli (BitVec.ofNat 32 t.val) (BitVec.ofNat 32 512)) (BitVec.ofNat 32 p.val) = _
  rw [WordCmp.muli_ofNat, WordCmp.addi_ofNat]
  exact congrArg (BitVec.ofNat 32) (by simp only [token]; omega)

/-- The first mixer before its product. -/
theorem diff_at (h : Tile x t i v1 v4) (p : Fin 512) (l : Fin 256) :
    k0_pay8 (F := Ideal) (k0_pay3 i v1 v4) (k0_pay4 i v1 v4) (iota .tc S1x256 32 [1] iota_S1x256_d1_w32) (k0_pay5 i) k0_pay6 k0_pay7 192#32 (ix2 p l)
      = diff x (token t p) l := by
  have hp := p.isLt
  unfold k0_pay8
  have hu := ext0_at h p ⟨32 + p, by omega⟩ (by simp only; omega) l
  have hs := pool_at h p l
  have ht := token_at h.i p
  generalize k0_pay3 (F := Ideal) i v1 v4 = u at *
  generalize k0_pay4 (F := Ideal) i v1 v4 = s at *
  generalize k0_pay5 (F := Ideal) i = n at *
  pointwise [k0_pay6, k0_pay7]
  rw [hu, hs, ht]
  unfold diff
  refine congrArg₂ (· - ·) (congrArg _ (congrArg _ ?_)) ?_
  · word_cmp
    simp only [decide_eq_true_eq, ofBits_2, ofBits_4, ofBits_8, ofBits_16]
    unfold width
    by_cases h1 : l.val < 64
    · rw [if_pos h1, if_pos (by omega)]
    by_cases h2 : l.val < 128
    · rw [if_neg h1, if_pos h2, if_neg (by omega), if_pos (by omega)]
    by_cases h3 : l.val < 192
    · rw [if_neg h1, if_neg h2, if_pos h3, if_neg (by omega), if_neg (by omega), if_pos (by omega)]
    · rw [if_neg h1, if_neg h2, if_neg h3, if_neg (by omega), if_neg (by omega), if_neg (by omega)]
  · unfold back
    rw [dif_pos (by simp only [token]; omega)]
    exact at2 x (by simp only; omega) rfl

end Cert.MixFwdIdeal.Value

end
-- ==== Proof.MixConv.lean ====
/-
  The mixers' forward kernel: the convolution, the norm and the two gated products of one grid point, read at an index.
-/
module

public import proofs.«01_k».proof.Proof.MixKernel

@[expose] public section

set_option maxRecDepth 16384

noncomputable section

namespace Cert.MixFwdIdeal.Value

open Cert.MixFwdIdeal Cert.MixFwdIdeal.Gen Idealize.ShloMosaic Idealize.ShloMosaic.TcCoe Idealize.SL.Sem
open Cert.MixModel

variable {x : Fin 8192 → Fin 2560 → EReal} {t : Fin 16} {i : grid0.Coords} {v1 : FVec Ideal S32x1280 .f32} {v4 : FVec Ideal S512x1280 .f32}

/-- The gated rows of the tile with those before it. -/
theorem hid_at (h : Tile x t i v1 v4) (p : Fin 512) (r : Fin 544) (hr : p.val ≤ r.val ∧ r.val ≤ 32 + p.val) (l : Fin 256) :
    k0_pay13 (F := Ideal) (k0_pay10 (k0_pay2 i v1 v4)) (k0_pay11 (k0_pay2 i v1 v4)) k0_pay12 (ix2 r l) = back (hid x l) (token t p) (32 + p - r) := by
  have e := ext_at h p r hr
  generalize k0_pay2 (F := Ideal) i v1 v4 = E at *
  pointwise [k0_pay13, k0_pay10, k0_pay11, k0_pay12]
  rw [e ⟨512 + l, by omega⟩, e ⟨768 + l, by omega⟩]
  unfold back
  by_cases hs : 32 + p.val - r.val ≤ (token t p).val
  · rw [dif_pos hs, dif_pos hs, dif_pos hs]; rfl
  · rw [dif_neg hs, dif_neg hs, dif_neg hs, zero_mul]

/-- The convolution's rows, from the gated rows' factors `a` and `c / b`, the taps `x4` and the bias `x5`. -/
def convRows (a b c : FVec Ideal S544x256 .f32) (x4 : Vec Ideal S32x256 .f32) (x5 : Vec Ideal S1x1x256 .f32) : FVec Ideal S512x256 .f32 :=
  k0_pay29 (k0_pay19 a b c) (k0_pay20 a b c) (k0_pay28 (k0_pay18 a b c) (k0_pay19 a b c) (k0_pay25 (k0_pay16 a b c) (k0_pay17 a b c) (k0_pay24 (k0_pay14 a b c) (k0_pay15 a b c) (k0_pay21 a b c x5 (View.ld x4 r0_4) (View.ld x4 r0_5) (View.ld x4 r0_6) (View.ld x4 r0_7)) (k0_pay22 a b c) (k0_pay23 (View.ld x4 r0_8)) (View.ld x4 r0_9) (View.ld x4 r0_10) (View.ld x4 r0_11) (View.ld x4 r0_12) (View.ld x4 r0_13) (View.ld x4 r0_14) (View.ld x4 r0_15)) (View.ld x4 r0_16) (View.ld x4 r0_17) (View.ld x4 r0_18) (View.ld x4 r0_19) (View.ld x4 r0_20) (View.ld x4 r0_21) (View.ld x4 r0_22)) (k0_pay26 (k0_pay17 a b c)) (k0_pay27 (View.ld x4 r0_23)) (View.ld x4 r0_24) (View.ld x4 r0_25) (View.ld x4 r0_26) (View.ld x4 r0_27) (View.ld x4 r0_28) (View.ld x4 r0_29) (View.ld x4 r0_30))
    (View.ld x4 r0_31) (View.ld x4 r0_32) (View.ld x4 r0_33) (View.ld x4 r0_34)

/-- A column of the taps. -/
def tapAt (x4 : Vec Ideal S32x256 .f32) (l : Fin 256) (j : ℕ) : EReal := if h : j < 32 then x4 (ix2 ⟨j, h⟩ l) else 0

/-- A value read `k` rows up from row `n + p`. -/
theorem up (p : Fin 512) {n k : ℕ} (hn : n ≤ 32) (hk : k ≤ n) : 32 + p.val - (n + p.val + 544 - k) % 544 = 32 - n + k := by
  have := p.isLt
  omega
theorem up0 (p : Fin 512) {n : ℕ} (hn : n ≤ 32) : 32 + p.val - (n + p.val) = 32 - n := by omega

/-- The convolution's rows are the bias and the weighted sum of the `31` values up to the row's own. -/
theorem conv_at (a b c : FVec Ideal S544x256 .f32) (x4 : Vec Ideal S32x256 .f32) (x5 : Vec Ideal S1x1x256 .f32) (G : ℕ → EReal) (p : Fin 512) (l : Fin 256)
    (hG : ∀ r : Fin 544, p.val ≤ r.val ∧ r.val ≤ 32 + p.val → k0_pay13 a b c (ix2 r l) = G (32 + p - r)) :
    convRows a b c x4 x5 (ix2 p l) = (∑ j ∈ Finset.range 31, tapAt x4 l j * G (30 - j)) + x5 (ix3 0 0 l) := by
  have hp := p.isLt
  pointwise [convRows, k0_pay29, k0_pay28, k0_pay27, k0_pay26, k0_pay25, k0_pay24, k0_pay23, k0_pay22, k0_pay21, k0_pay20, k0_pay19, k0_pay18, k0_pay17, k0_pay16, k0_pay15, k0_pay14]
  simp (disch := (simp only; omega)) only [hG]
  simp (disch := decide) only [up, up0, Nat.reduceSub, Nat.reduceAdd, Finset.sum_range_succ, Finset.sum_range_zero, zero_add]
  have ht : ∀ n : Fin 32, x4 (ix2 n l) = tapAt x4 l n.val := fun n => by unfold tapAt; rw [dif_pos n.isLt]
  simp only [ht, Fin.isValue, Fin.coe_ofNat_eq_mod, Nat.reduceMod]
  ac_rfl

/-- The convolution's rows, in the model's words. -/
theorem conv_rows (h : Tile x t i v1 v4) (x4 : Vec Ideal S32x256 .f32) (x5 : Vec Ideal S1x1x256 .f32) (p : Fin 512) (l : Fin 256) :
    convRows (k0_pay10 (k0_pay2 i v1 v4)) (k0_pay11 (k0_pay2 i v1 v4)) k0_pay12 x4 x5 (ix2 p l)
      = conv (hid x l) (tapAt x4 l) (token t p) + x5 (ix3 0 0 l) :=
  conv_at _ _ _ x4 x5 (back (hid x l) (token t p)) p l fun r hr => hid_at h p r hr l

/-- The rows normalised and scaled, and then shifted. -/
theorem norm_at (v92 v93 : FVec Ideal S544x256 .f32) (v258 : FVec Ideal S512x256 .f32) (a b c d : Vec Ideal S1x256 .f32) (g e : Vec Ideal S1x1x256 .f32)
    (p : Fin 512) (l : Fin 256) :
    k0_pay30 (F := Ideal) v92 v93 v258 a b c d g (ix2 p l) + e (ix3 0 0 l)
      = norm (fun k => k0_pay29 (F := Ideal) v92 v93 v258 a b c d (ix2 p k)) (fun k => g (ix3 0 0 k)) (fun k => e (ix3 0 0 k)) l := by
  unfold k0_pay30
  generalize k0_pay29 (F := Ideal) v92 v93 v258 a b c d = q
  pointwise []
  rfl

/-- The rows normalised and scaled, from the same. -/
def normRows (a b c : FVec Ideal S544x256 .f32) (x4 : Vec Ideal S32x256 .f32) (x5 g : Vec Ideal S1x1x256 .f32) : FVec Ideal S512x256 .f32 :=
  k0_pay30 (k0_pay19 a b c) (k0_pay20 a b c) (k0_pay28 (k0_pay18 a b c) (k0_pay19 a b c) (k0_pay25 (k0_pay16 a b c) (k0_pay17 a b c) (k0_pay24 (k0_pay14 a b c) (k0_pay15 a b c) (k0_pay21 a b c x5 (View.ld x4 r0_4) (View.ld x4 r0_5) (View.ld x4 r0_6) (View.ld x4 r0_7)) (k0_pay22 a b c) (k0_pay23 (View.ld x4 r0_8)) (View.ld x4 r0_9) (View.ld x4 r0_10) (View.ld x4 r0_11) (View.ld x4 r0_12) (View.ld x4 r0_13) (View.ld x4 r0_14) (View.ld x4 r0_15)) (View.ld x4 r0_16) (View.ld x4 r0_17) (View.ld x4 r0_18) (View.ld x4 r0_19) (View.ld x4 r0_20) (View.ld x4 r0_21) (View.ld x4 r0_22)) (k0_pay26 (k0_pay17 a b c)) (k0_pay27 (View.ld x4 r0_23)) (View.ld x4 r0_24) (View.ld x4 r0_25) (View.ld x4 r0_26) (View.ld x4 r0_27) (View.ld x4 r0_28) (View.ld x4 r0_29) (View.ld x4 r0_30))
    (View.ld x4 r0_31) (View.ld x4 r0_32) (View.ld x4 r0_33) (View.ld x4 r0_34) g

/-- The convolution's rows normalised, scaled and shifted. -/
theorem normRows_at (a b c : FVec Ideal S544x256 .f32) (x4 : Vec Ideal S32x256 .f32) (x5 g e : Vec Ideal S1x1x256 .f32) (p : Fin 512) (l : Fin 256) :
    normRows a b c x4 x5 g (ix2 p l) + e (ix3 0 0 l) = norm (fun k => convRows a b c x4 x5 (ix2 p k)) (fun k => g (ix3 0 0 k)) (fun k => e (ix3 0 0 k)) l :=
  norm_at _ _ _ _ _ _ _ g e p l

/-- The first mixer's gated product. -/
theorem pooled_at (v4 : Vec Ideal S512x1280 .f32) (v7 : FVec Ideal S544x256 .f32) (v32 : FVec Ideal S512x256 .f32) (v33 : IVec S1x256 32) (v37 : FVec Ideal S512x1 .f32)
    (v39 v41 : IVec S1x256 1) (n : BitVec 32) (v61 : Vec Ideal S256x256 .bf16) (v64 : Vec Ideal S1x1x256 .f32) (p : Fin 512) (l : Fin 256) :
    k0_pay9 (F := Ideal) v4 v7 v32 v33 v37 v39 v41 n v61 v64 (ix2 p l)
      = (∑ k, k0_pay8 (F := Ideal) v7 v32 v33 v37 v39 v41 n (ix2 p k) * v61 (ix2 k l)) * v64 (ix3 0 0 l) * swish (v4 (ix2 p ⟨256 + l, by omega⟩)) := by
  unfold k0_pay9
  generalize k0_pay8 (F := Ideal) v7 v32 v33 v37 v39 v41 n = q
  pointwise []
  rfl

/-- The two mixers' rows, side by side. -/
theorem mixed_at (v4 : Vec Ideal S512x1280 .f32) (v76 v302 : FVec Ideal S512x256 .f32) (v303 : Vec Ideal S1x1x256 .f32) (v316 : Vec Ideal S256x256 .bf16) (p l : Fin 512) :
    k0_pay1 (F := Ideal) v4 v76 v302 v303 v316 (ix2 p l)
      = if h : l.val < 256 then v76 (ix2 p ⟨l, h⟩)
        else (∑ k, swish (v302 (ix2 p k) + v303 (ix3 0 0 k)) * v316 (ix2 k ⟨l - 256, by omega⟩)) * swish (v4 (ix2 p ⟨1024 + (l - 256), by omega⟩)) := by
  pointwise [k0_pay1]
  rfl

end Cert.MixFwdIdeal.Value

end
-- ==== Proof.MixEntry.lean ====
/-
  The mixers' forward kernel: the operands its call is given, as the host prepares them from the arguments.
-/
module

public import proofs.«01_k».proof.Proof.MixModel
public import proofs.«01_k».proof.Proof.Gen.MixFwdIdeal.Frame
public import Idealize.ShloMosaic.Lib.Pipeline.ValueKit

@[expose] public section

set_option maxRecDepth 16384

noncomputable section

namespace Cert.MixFwdIdeal.Value

open Cert.MixFwdIdeal Cert.MixFwdIdeal.Gen Idealize.ShloMosaic Idealize.ShloMosaic.TcCoe Idealize.SL.Sem

variable (m : (ℓ : Loc nD τ sig) → Buf (Elt Ideal) ℓ) (c : Dev nD)

theorem scale_entry : V m c main_v12 = shapeCast S2x1x256 (m ((c : Thread nD τ).loc main_arg2)) shapeCasts_S2x256_S2x1x256 := rfl
theorem bias_entry : V m c main_v16 = shapeCast S2x1x256 (m ((c : Thread nD τ).loc main_arg4)) shapeCasts_S2x256_S2x1x256 := rfl
theorem norm_entry : V m c main_v17 = shapeCast S2x1x256 (m ((c : Thread nD τ).loc main_arg5)) shapeCasts_S2x256_S2x1x256 := rfl
theorem shift_entry : V m c main_v18 = shapeCast S2x1x256 (m ((c : Thread nD τ).loc main_arg6)) shapeCasts_S2x256_S2x1x256 := rfl

/-- The taps, turned and padded to `32` rows. -/
def taps (x : FVec Ideal S31x256 .f32) : FVec Ideal S32x256 .f32 :=
  transpose S32x256 [1, 0] (pad S256x32 ![0, 0] ![0, 1] ![0, 0] (transpose S256x31 [1, 0] x transposes_S31x256_S256x31_1_0)
    (sitofp .f32 (constantI S_ 32 0#32)) pads_S256x31_S256x32_000_010 h_S_) transposes_S256x32_S32x256_1_0

theorem taps_at (x : FVec Ideal S31x256 .f32) (j : Fin 31) (l : Fin 256) : taps x (ix2 ⟨j, by omega⟩ l) = x (ix2 j l) := by
  pointwise [taps]

/-- The group of `64` a position belongs to, as the host computes it. -/
def groupOf (v : IVec S256x256 32) : IVec S256x256 32 :=
  select (andi (cmpi .ne (signi v) (broadcastInDim S256x256 ![] bcast_S_S256x256 (signi (constantI S_ 32 64#32))))
      (cmpi .ne (Host.remsi v (broadcastInDim S256x256 ![] bcast_S_S256x256 (constantI S_ 32 64#32))) (broadcastInDim S256x256 ![] bcast_S_S256x256 (constantI S_ 32 0#32))))
    (subi (Host.divsi v (broadcastInDim S256x256 ![] bcast_S_S256x256 (constantI S_ 32 64#32))) (broadcastInDim S256x256 ![] bcast_S_S256x256 (constantI S_ 32 1#32)))
    (Host.divsi v (broadcastInDim S256x256 ![] bcast_S_S256x256 (constantI S_ 32 64#32)))

theorem groupOf_at (v : IVec S256x256 32) (r l n : Fin 256) (h : v (ix2 r l) = BitVec.ofNat 32 n) : groupOf v (ix2 r l) = BitVec.ofNat 32 (n / 64) := by
  pointwise [groupOf]
  rw [h]
  clear h
  revert n
  decide +kernel

/-- The four groups' weights on the diagonal of one square. -/
def weights (x : FVec Ideal S4x64x64 .f32) : FVec Ideal S256x256 .bf16 :=
  truncf .bf16 (select (cmpi .eq (groupOf (iotaInDim S256x256 32 0)) (groupOf (iotaInDim S256x256 32 1)))
    (shapeCast S256x256 (broadcastInDim S1x256x4x64 ![0, 1, 2, 3] bcast_S1x256x1x64_S1x256x4x64_0_1_2_3
      (shapeCast S1x256x1x64 (shapeCast S256x64 x shapeCasts_S4x64x64_S256x64) shapeCasts_S256x64_S1x256x1x64)) shapeCasts_S1x256x4x64_S256x256)
    (broadcastInDim S256x256 ![] bcast_S_S256x256 (constant S_ .f32 0x00000000#32))) bitsLt_bf16_f32

theorem weights_at (x : FVec Ideal S4x64x64 .f32) (r l : Fin 256) :
    weights x (ix2 r l) = if r.val / 64 = l.val / 64 then x (ix3 ⟨r / 64, by omega⟩ ⟨r % 64, by omega⟩ ⟨l % 64, by omega⟩) else 0 := by
  pointwise [weights]
  rw [groupOf_at _ r l r (by pointwise []), groupOf_at _ r l l (by pointwise [])]
  word_cmp

set_option maxHeartbeats 4000000 in
theorem taps_entry : V m c main_v15 = taps (m ((c : Thread nD τ).loc main_arg3)) := by
  unfold V
  simp only [hostOps0, hostOps0_1, hostOps0_2, hostOps0_3, hostOps0_4, hostOps0_5, hostOps0_6, hostOps0_7, hostOps0_8, List.flatten_cons, List.flatten_nil, List.append_nil,
    List.cons_append, List.nil_append, StableHlo.TRef.binary, StableHlo.TRef.unary, StableHlo.TRef.nullary, StableHlo.TRef.ternary, StableHlo.TRef.toBuf, StableHlo.TRef.ofBuf, cast_eq]
  entry_read
  rfl

set_option maxHeartbeats 4000000 in
theorem weights_entry : V m c main_v11 = weights (m ((c : Thread nD τ).loc main_arg1)) := by
  unfold V
  simp only [hostOps0, hostOps0_1, hostOps0_2, hostOps0_3, hostOps0_4, hostOps0_5, hostOps0_6, hostOps0_7, hostOps0_8, List.flatten_cons, List.flatten_nil, List.append_nil,
    List.cons_append, List.nil_append, StableHlo.TRef.binary, StableHlo.TRef.unary, StableHlo.TRef.nullary, StableHlo.TRef.ternary, StableHlo.TRef.toBuf, StableHlo.TRef.ofBuf, cast_eq]
  entry_read
  rfl

end Cert.MixFwdIdeal.Value

end
-- ==== Proof.MixRef.lean ====
/-
  The mixers' forward reference, read at an index.
-/
module

public import proofs.«01_k».proof.Proof.MixModel
public import proofs.«01_k».proof.Proof.Gen.MixFwdRefIdeal.Read

@[expose] public section

set_option maxRecDepth 16384

noncomputable section

namespace Cert.MixFwdRefIdeal.Value

open Cert.MixFwdRefIdeal Cert.MixFwdRefIdeal.Gen Cert.MixFwdRefIdeal.Read Idealize.ShloMosaic Idealize.ShloMosaic.TcCoe Idealize.SL.Sem
open Cert.MixModel

variable (x0 : S8192x2560.Idx → EReal) (x1 : S4x64x64.Idx → EReal) (x3 : S31x256.Idx → EReal) (x2 x4 x5 x6 : S2x256.Idx → EReal) (x7 : S256x256.Idx → EReal)

/-- The projected rows by token and column. -/
def rows (s : Fin 8192) (l : Fin 2560) : EReal := x0 (ix2 s l)

/-- The width of a group's window. -/
theorem width_at : ∀ g : Fin 4, val_main_v11 (F := Ideal) (ix2 g 0) = BitVec.ofNat 32 (width g) := by
  intro g
  pointwise [val_main_v11, val_main_v10, val_main_v6, val_main_v7, val_main_v8, val_main_v9, val_main_c, val_main_c_0, val_main_c_1, val_main_c_2]
  fin_cases g <;> rfl

theorem width_le (g : ℕ) : width g ≤ 16 := by unfold width; split_ifs <;> decide

theorem zero_at : val_main_cst (F := Ideal) ix0 = (0 : EReal) := by pointwise [val_main_cst]
theorem zero_at' : val_main_cst_8 (F := Ideal) ix0 = (0 : EReal) := by pointwise [val_main_cst_8]

/-- The windowed sum. -/
theorem window_at (s : Fin 8192) (g : Fin 4) (k : Fin 64) : val_main_v21 (F := Ideal) x0 (ix3 s g k)
    = ∑ j ∈ Finset.range (width g), back (fun s => rows x0 s ⟨64 * g + k, by omega⟩) s j := by
  pointwise [val_main_v21, val_main_v20, val_main_v19, val_main_v18, val_main_v17, val_main_v16, val_main_v15, val_main_v14, val_main_v13, val_main_v12, val_main_cst_3,
    val_main_call0_v1, val_main_call0_v2, val_main_call0_v0, val_main_v5, val_main_v0]
  rw [width_at, ← window_sum]
  have hw := width_le g
  refine Finset.sum_congr rfl fun q _ => ?_
  rw [WordCmp.addi_ofNat]
  word_cmp
  refine if_congr Iff.rfl ?_ zero_at
  exact congrArg x0 (congrArg (ix2 q) (Fin.ext (by simp only; omega)))

/-- The mean over the window less the token. -/
theorem diff_at (s : Fin 8192) (g : Fin 4) (k : Fin 64) : val_main_v34 (F := Ideal) x0 (ix3 s g k) = diff (rows x0) s ⟨64 * g + k, by omega⟩ := by
  have hw := width_le g
  pointwise [val_main_v34, val_main_v33, val_main_v32, val_main_v31, val_main_v30, val_main_v29, val_main_v28, val_main_v27, val_main_v26, val_main_v25, val_main_v24, val_main_v23,
    val_main_v22, val_main_v5, val_main_v0, val_main_cst_4]
  rw [window_at, width_at, sitofp_ofNat _ (by omega), sitofp_ofNat _ (by omega)]
  unfold diff
  have hg : (64 * g.val + k.val) / 64 = g.val := by omega
  simp only [hg]
  refine congrArg₂ (· - ·) rfl ?_
  exact congrArg x0 (congrArg (ix2 s) (Fin.ext (by simp only; omega)))

/-- The gated rows. -/
theorem hid_at (s : Fin 8192) (l : Fin 256) : val_main_v49 (F := Ideal) x0 (ix2 s l) = hid (rows x0) l s := by
  pointwise [val_main_v49, val_main_v48, val_main_v47, val_main_v46, val_main_v45, val_main_v44, val_main_v43, val_main_v2, val_main_v3, val_main_cst_5, val_main_cst_6]
  rw [neg_eq]
  rfl

/-- What a tap reads. -/
theorem tap_at (s : Fin 8192) (j : Fin 31) (l : Fin 256) : val_main_v58 (F := Ideal) x0 (ix3 s j l) = back (hid (rows x0) l) s (30 - j) := by
  pointwise [val_main_v58, val_main_v57, val_main_v56, val_main_v55, val_main_v54, val_main_v53, val_main_v52, val_main_v51, val_main_v50, val_main_c_7,
    val_main_call1_v1, val_main_call1_v2, val_main_call1_v0, val_main_cst_9]
  rw [← tap_sum]
  refine Finset.sum_congr rfl fun q _ => ?_
  rw [hid_at, WordCmp.addi_ofNat, WordCmp.addi_ofNat]
  word_cmp
  exact if_congr Iff.rfl rfl zero_at'

/-- A column of the taps. -/
def tapAt (l : Fin 256) (j : ℕ) : EReal := if h : j < 31 then x3 (ix2 ⟨j, h⟩ l) else 0

/-- The convolution with its bias. -/
theorem conv_at (s : Fin 8192) (l : Fin 256) : val_main_v67 (F := Ideal) x0 x3 x4 (ix2 s l)
    = conv (hid (rows x0) l) (tapAt x3 l) s + x4 (ix2 0 l) := by
  pointwise [val_main_v67, val_main_v66, val_main_v65, val_main_v64, val_main_v63, val_main_v62, val_main_v61, val_main_v60, val_main_v59, val_main_cst_10]
  refine congrArg (· + _) ?_
  unfold conv
  rw [← Fin.sum_univ_eq_sum_range (fun j => tapAt x3 l j * back (hid (rows x0) l) s (30 - j)) 31]
  refine Finset.sum_congr rfl fun j _ => ?_
  rw [tap_at, mul_comm]
  unfold tapAt
  rw [dif_pos j.isLt]

/-- The first mixer's product, scaled. -/
theorem pooled_at (s : Fin 8192) (l : Fin 256) : val_main_v42 (F := Ideal) x0 x1 x2 (ix2 s l)
    = (∑ k : Fin 64, diff (rows x0) s ⟨64 * (l / 64) + k, by omega⟩ * x1 (ix3 ⟨l / 64, by omega⟩ k ⟨l % 64, by omega⟩)) * x2 (ix2 0 l) := by
  pointwise [val_main_v42, val_main_v41, val_main_v40, val_main_v39, val_main_v38, val_main_v37, val_main_v36, val_main_v35]
  refine congrArg (· * _) (Finset.sum_congr rfl fun k _ => ?_)
  rw [diff_at, mul_comm]

/-- The rows normalised, scaled and shifted. -/
theorem norm_at (s : Fin 8192) (l : Fin 256) : val_main_v95 (F := Ideal) x0 x3 x4 x5 x6 (ix2 s l)
    = norm (fun k => val_main_v67 (F := Ideal) x0 x3 x4 (ix2 s k)) (fun k => x5 (ix2 0 k)) (fun k => x6 (ix2 0 k)) l := by
  pointwise [val_main_v95, val_main_v94, val_main_v93, val_main_v92, val_main_v91, val_main_v90, val_main_v89, val_main_v88, val_main_v87, val_main_v86, val_main_v85, val_main_v84,
    val_main_v83, val_main_v82, val_main_v81, val_main_v80, val_main_v79, val_main_v78, val_main_v77, val_main_v76, val_main_v75, val_main_v74, val_main_v73, val_main_v72,
    val_main_v71, val_main_v70, val_main_v69, val_main_v68, val_main_cst_11, val_main_cst_12, val_main_cst_13, val_main_cst_14, val_main_cst_15]
  rfl

theorem swish_gate (s : Fin 8192) (l : Fin 256) : val_main_v98 (F := Ideal) x0 (ix2 s l) = swish (rows x0 s ⟨256 + l, by omega⟩) := by
  pointwise [val_main_v98, val_main_call3_v5, val_main_call3_v4, val_main_call3_v3, val_main_call3_v2, val_main_call3_v1, val_main_call3_v0, val_main_call3_cst, val_main_call3_cst_0, val_main_v1]
  rw [neg_eq]
  rfl
theorem swish_gate' (s : Fin 8192) (l : Fin 256) : val_main_v100 (F := Ideal) x0 (ix2 s l) = swish (rows x0 s ⟨1024 + l, by omega⟩) := by
  pointwise [val_main_v100, val_main_call4_v5, val_main_call4_v4, val_main_call4_v3, val_main_call4_v2, val_main_call4_v1, val_main_call4_v0, val_main_call4_cst, val_main_call4_cst_0, val_main_v4]
  rw [neg_eq]
  rfl
theorem swish_norm (s : Fin 8192) (l : Fin 256) : val_main_v96 (F := Ideal) x0 x3 x4 x5 x6 (ix2 s l) = swish (val_main_v95 (F := Ideal) x0 x3 x4 x5 x6 (ix2 s l)) := by
  pointwise [val_main_v96, val_main_call2_v5, val_main_call2_v4, val_main_call2_v3, val_main_call2_v2, val_main_call2_v1, val_main_call2_v0, val_main_call2_cst, val_main_call2_cst_0]
  rw [neg_eq]
  rfl

/-- The two mixers' rows, side by side. -/
theorem mixed_at (s : Fin 8192) (l : Fin 512) : val_main_v103 (F := Ideal) x0 x1 x2 x3 x4 x5 x6 x7 (ix2 s l)
    = if h : l.val < 256 then val_main_v42 (F := Ideal) x0 x1 x2 (ix2 s ⟨l, h⟩) * swish (rows x0 s ⟨256 + l, by omega⟩)
      else (∑ k, swish (val_main_v95 (F := Ideal) x0 x3 x4 x5 x6 (ix2 s k)) * x7 (ix2 k ⟨l - 256, by omega⟩)) * swish (rows x0 s ⟨1024 + (l - 256), by omega⟩) := by
  pointwise [val_main_v103, val_main_v102, val_main_v99, val_main_v101, val_main_v97]
  by_cases h : l.val < 256
  · rw [dif_pos h, dif_pos h, swish_gate]
  · rw [dif_neg h, dif_neg h, swish_gate' x0 s ⟨l - 256, by omega⟩]
    simp only [swish_norm]

/-- The first mixer before its product, lane by lane. -/
theorem saved_at (s : Fin 8192) (l : Fin 256) : val_main_v105 (F := Ideal) x0 (ix2 s l) = diff (rows x0) s l := by
  pointwise [val_main_v105, val_main_v104]
  rw [diff_at]
  exact congrArg (diff (rows x0) s) (Fin.ext (by simp only; omega))

end Cert.MixFwdRefIdeal.Value

end
-- ==== Proof.MixFinal.lean ====
/-
  The mixers' forward kernel: its three arrays after the run are the reference's.
-/
module

public import proofs.«01_k».proof.Proof.MixConv
public import proofs.«01_k».proof.Proof.MixEntry
public import proofs.«01_k».proof.Proof.MixRef
public import proofs.«01_k».proof.Proof.Gen.MixFwdIdeal.Value
public import Idealize.ShloMosaic.Lib.Pipeline.ValueKit

@[expose] public section

set_option maxRecDepth 16384

noncomputable section

namespace Cert.MixFwdIdeal.Value

open Cert.MixFwdIdeal Cert.MixFwdIdeal.Gen Idealize.ShloMosaic Idealize.ShloMosaic.TcCoe Idealize.SL.Sem
open Idealize.ShloMosaic.Pipeline (Dat)
open Cert.MixModel
open Cert.MixFwdRefIdeal.Value (rows)

theorem idx : ∀ t : Fin cfg0.N, win0_0.index t = ![t.val, 0] ∧ win0_1.index t = ![16 * t.val - 1, 0] ∧ win0_2.index t = ![0, 0]
    ∧ win0_3.index t = ![0, 0, 0] ∧ win0_4.index t = ![0, 0] ∧ win0_5.index t = ![0, 0, 0] ∧ win0_6.index t = ![0, 0, 0] ∧ win0_7.index t = ![0, 0, 0]
    ∧ win0_8.index t = ![0, 0] ∧ win0_9.index t = ![t.val, 0] ∧ win0_10.index t = ![t.val, 0] ∧ win0_11.index t = ![t.val, 0] :=
  (by decide +kernel : ∀ t : Fin grid0.N, _)
theorem coord : ∀ t : Fin cfg0.N, ((grid0.coords t) 0).val = t.val := (by decide +kernel : ∀ t : Fin grid0.N, _)

variable (m : (ℓ : Loc nD τ sig) → Buf (Elt Ideal) ℓ) (c : Dev nD)

/-- Point `t` as a tile number. -/
def tile (t : Fin cfg0.N) : Fin 16 := ⟨t, lt_of_lt_of_eq t.isLt N_0⟩

theorem blk0 (t : Fin cfg0.N) (p : Fin 512) (l : Fin 1280) :
    iblk m c 0 t (ix2 p l) = rows (m ((c : Thread nD τ).loc main_arg0)) (token (tile t) p) ⟨l, by omega⟩ := by
  unfold rows
  blk_ext [iblk, V, idx t, token, tile]
theorem blk1 (t : Fin cfg0.N) (h : 0 < (tile t).val) (p : Fin 32) (l : Fin 1280) :
    iblk m c 1 t (ix2 p l) = rows (m ((c : Thread nD τ).loc main_arg0)) ⟨512 * tile t - 32 + p, by omega⟩ ⟨l, by omega⟩ := by
  unfold rows
  have h' : 0 < t.val := h
  blk_ext [iblk, V, idx t, tile]
theorem blk3 (t : Fin cfg0.N) (l : Fin 256) : iblk m c 3 t (ix3 0 0 l) = m ((c : Thread nD τ).loc main_arg2) (ix2 0 l) := by
  refine Eq.trans (?_ : _ = V m c main_v12 (ix3 0 0 l)) ?_
  · blk_ext [iblk, idx t]
  · rw [scale_entry]
    pointwise
theorem blk5 (t : Fin cfg0.N) (l : Fin 256) : iblk m c 5 t (ix3 0 0 l) = m ((c : Thread nD τ).loc main_arg4) (ix2 0 l) := by
  refine Eq.trans (?_ : _ = V m c main_v16 (ix3 0 0 l)) ?_
  · blk_ext [iblk, idx t]
  · rw [bias_entry]
    pointwise
theorem blk6 (t : Fin cfg0.N) (l : Fin 256) : iblk m c 6 t (ix3 0 0 l) = m ((c : Thread nD τ).loc main_arg5) (ix2 0 l) := by
  refine Eq.trans (?_ : _ = V m c main_v17 (ix3 0 0 l)) ?_
  · blk_ext [iblk, idx t]
  · rw [norm_entry]
    pointwise
theorem blk7 (t : Fin cfg0.N) (l : Fin 256) : iblk m c 7 t (ix3 0 0 l) = m ((c : Thread nD τ).loc main_arg6) (ix2 0 l) := by
  refine Eq.trans (?_ : _ = V m c main_v18 (ix3 0 0 l)) ?_
  · blk_ext [iblk, idx t]
  · rw [shift_entry]
    pointwise
theorem blk8 (t : Fin cfg0.N) (k l : Fin 256) : iblk m c 8 t (ix2 k l) = m ((c : Thread nD τ).loc main_arg7) (ix2 k l) := by
  blk_simp [iblk, idx t]
  entry_read
  pointwise
  blk_ext [idx t]
theorem blk4 (t : Fin cfg0.N) (j : Fin 31) (l : Fin 256) : iblk m c 4 t (ix2 ⟨j, by omega⟩ l) = m ((c : Thread nD τ).loc main_arg3) (ix2 j l) := by
  refine Eq.trans (?_ : _ = V m c main_v15 (ix2 ⟨j, by omega⟩ l)) ?_
  · blk_ext [iblk, idx t]
  · rw [taps_entry, taps_at]
theorem blk2 (t : Fin cfg0.N) (r l : Fin 256) : iblk m c 2 t (ix2 r l)
    = if r.val / 64 = l.val / 64 then m ((c : Thread nD τ).loc main_arg1) (ix3 ⟨r / 64, by omega⟩ ⟨r % 64, by omega⟩ ⟨l % 64, by omega⟩) else (0 : EReal) := by
  refine Eq.trans (?_ : _ = V m c main_v11 (ix2 r l)) ?_
  · blk_ext [iblk, idx t]
  · rw [weights_entry, weights_at]

/-- Point `t` reads its own tile and the rows before it. -/
theorem tileAt (t : Fin cfg0.N) : Tile (rows (m ((c : Thread nD τ).loc main_arg0))) (tile t) (grid0.coords t) (iblk m c 1 t) (iblk m c 0 t) :=
  ⟨coord t, blk0 m c t, blk1 m c t⟩

/-- The convolution against the padded taps is the one against the taps. -/
theorem conv_taps (t : Fin cfg0.N) (f : Fin 8192 → EReal) (l : Fin 256) (s : Fin 8192) :
    conv f (tapAt (iblk m c 4 t) l) s = conv f (Cert.MixFwdRefIdeal.Value.tapAt (m ((c : Thread nD τ).loc main_arg3)) l) s := by
  refine Finset.sum_congr rfl fun j hj => congrArg (· * _) ?_
  have h : j < 31 := Finset.mem_range.1 hj
  unfold tapAt Cert.MixFwdRefIdeal.Value.tapAt
  rw [dif_pos (by omega), dif_pos h]
  exact blk4 m c t ⟨j, h⟩ l

/-- The product with the square of weights is the product within each group. -/
theorem group_at (t : Fin cfg0.N) (a : Fin 256 → EReal) (l : Fin 256) : ∑ k : Fin 256, a k * iblk m c 2 t (ix2 k l)
    = ∑ k : Fin 64, a ⟨64 * (l / 64) + k, by omega⟩ * m ((c : Thread nD τ).loc main_arg1) (ix3 ⟨l / 64, by omega⟩ k ⟨l % 64, by omega⟩) := by
  refine group_sum a _ ⟨l / 64, by omega⟩ (fun k => m ((c : Thread nD τ).loc main_arg1) (ix3 ⟨l / 64, by omega⟩ k ⟨l % 64, by omega⟩)) fun e k => ?_
  rw [blk2]
  by_cases h : e.val = l.val / 64
  · rw [if_pos (by simp only; omega), if_pos (Fin.ext h)]
    exact congrArg _ (congr (congr (congrArg ix3 (Fin.ext (by simp only; omega))) (Fin.ext (by simp only; omega))) rfl)
  · rw [if_neg (by simp only; omega), if_neg fun k => h (congrArg Fin.val k)]

/-- What a point leaves in its block of the first mixer's saved rows. -/
theorem saved_point (t : Fin cfg0.N) (p : Fin 512) (l : Fin 256) :
    k0_pay8 (F := Ideal) (k0_pay3 (grid0.coords t) (iblk m c 1 t) (iblk m c 0 t)) (k0_pay4 (grid0.coords t) (iblk m c 1 t) (iblk m c 0 t))
      (iota .tc S1x256 32 [1] iota_S1x256_d1_w32) (k0_pay5 (grid0.coords t)) k0_pay6 k0_pay7 192#32 (ix2 p l)
    = Cert.MixFwdRefIdeal.Read.val_main_v105 (F := Ideal) (m ((c : Thread nD τ).loc main_arg0)) (ix2 (token (tile t) p) l) :=
  (diff_at (tileAt m c t) p l).trans (Cert.MixFwdRefIdeal.Value.saved_at _ _ _).symm

/-- What a point leaves in its block of the convolution's rows. -/
theorem conv_point (t : Fin cfg0.N) (p : Fin 512) (l : Fin 256) :
    convRows (k0_pay10 (k0_pay2 (grid0.coords t) (iblk m c 1 t) (iblk m c 0 t))) (k0_pay11 (k0_pay2 (grid0.coords t) (iblk m c 1 t) (iblk m c 0 t))) k0_pay12
      (iblk m c 4 t) (iblk m c 5 t) (ix2 p l)
    = Cert.MixFwdRefIdeal.Read.val_main_v67 (F := Ideal) (m ((c : Thread nD τ).loc main_arg0)) (m ((c : Thread nD τ).loc main_arg3)) (m ((c : Thread nD τ).loc main_arg4))
        (ix2 (token (tile t) p) l) := by
  rw [conv_rows (tileAt m c t), conv_taps, blk5, Cert.MixFwdRefIdeal.Value.conv_at]

/-- What a point leaves in its block of the mixers' rows. -/
theorem mixed_point (t : Fin cfg0.N) (p l : Fin 512) :
    k0_pay1 (F := Ideal) (iblk m c 0 t)
      (k0_pay9 (iblk m c 0 t) (k0_pay3 (grid0.coords t) (iblk m c 1 t) (iblk m c 0 t)) (k0_pay4 (grid0.coords t) (iblk m c 1 t) (iblk m c 0 t))
        (iota .tc S1x256 32 [1] iota_S1x256_d1_w32) (k0_pay5 (grid0.coords t)) k0_pay6 k0_pay7 192#32 (iblk m c 2 t) (iblk m c 3 t))
      (normRows (k0_pay10 (k0_pay2 (grid0.coords t) (iblk m c 1 t) (iblk m c 0 t))) (k0_pay11 (k0_pay2 (grid0.coords t) (iblk m c 1 t) (iblk m c 0 t))) k0_pay12
        (iblk m c 4 t) (iblk m c 5 t) (iblk m c 6 t))
      (iblk m c 7 t) (iblk m c 8 t) (ix2 p l)
    = Cert.MixFwdRefIdeal.Read.val_main_v103 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (ix2 (token (tile t) p) l) := by
  rw [mixed_at, Cert.MixFwdRefIdeal.Value.mixed_at]
  by_cases h : l.val < 256
  · rw [dif_pos h, dif_pos h, pooled_at, blk3, blk0 m c t, Cert.MixFwdRefIdeal.Value.pooled_at, group_at]
    simp only [diff_at (tileAt m c t)]
  · rw [dif_neg h, dif_neg h, blk0 m c t]
    refine congrArg (· * _) (Finset.sum_congr rfl fun k _ => ?_)
    rw [normRows_at, Cert.MixFwdRefIdeal.Value.norm_at, blk8]
    simp only [conv_point, blk6, blk7]

theorem emb9 (t : Fin cfg0.N) (y : S512x512.Idx) :
    ((View.whole main_v20_0).slice (win0_9.rect t)).emb y = (ix2 (token (tile t) (y 0)) (y 1) : S8192x512.Idx) := by
  blk_ext [idx t, token, tile]
theorem emb10 (t : Fin cfg0.N) (y : S512x256.Idx) :
    ((View.whole main_v20_1).slice (win0_10.rect t)).emb y = (ix2 (token (tile t) (y 0)) (y 1) : S8192x256.Idx) := by
  blk_ext [idx t, token, tile]
theorem emb11 (t : Fin cfg0.N) (y : S512x256.Idx) :
    ((View.whole main_v20_2).slice (win0_11.rect t)).emb y = (ix2 (token (tile t) (y 0)) (y 1) : S8192x256.Idx) := by
  blk_ext [idx t, token, tile]

/-- The mixers' rows after the run are the reference's. -/
theorem final9 : (dats m 0 c).arrAt 9 (cfgs 0).N = Cert.MixFwdRefIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp
  rw [after0_9]
  unfold_out out0_9
  frame_out
  rw [emb9]
  idx_vars y
  exact mixed_point m c t _ _

/-- The convolution's rows after the run are the reference's. -/
theorem final10 : (dats m 0 c).arrAt 10 (cfgs 0).N = Cert.MixFwdRefIdeal.Read.val_main_v67 (F := Ideal) (m ((c : Thread nD τ).loc main_arg0)) (m ((c : Thread nD τ).loc main_arg3)) (m ((c : Thread nD τ).loc main_arg4)) := by
  refine (dats m 0 c).arrAt_eq_of_covers 10 _ (by decide +kernel) fun t hf y => ?_
  blk_simp
  rw [after0_10]
  unfold_out out0_10
  frame_out
  rw [emb10]
  idx_vars y
  exact conv_point m c t _ _

/-- The first mixer's saved rows after the run are the reference's. -/
theorem final11 : (dats m 0 c).arrAt 11 (cfgs 0).N = Cert.MixFwdRefIdeal.Read.val_main_v105 (F := Ideal) (m ((c : Thread nD τ).loc main_arg0)) := by
  refine (dats m 0 c).arrAt_eq_of_covers 11 _ (by decide +kernel) fun t hf y => ?_
  blk_simp
  rw [after0_11]
  unfold_out out0_11
  frame_out
  rw [emb11]
  idx_vars y
  exact saved_point m c t _ _

end Cert.MixFwdIdeal.Value

end
-- ==== Proof.MixClaim.lean ====
/-
  The mixers' forward kernel: the two runs side by side.
-/
module

public import proofs.«01_k».proof.Defs
public import proofs.«01_k».proof.Proof.MixFinal
public import proofs.«01_k».proof.Proof.Gen.MixFwdRefIdeal.Run
public import Idealize.ShloMosaic.Lib.Claim

@[expose] public section

set_option maxRecDepth 16384

noncomputable section

namespace Cert.MixFwdIdeal.Value

open Cert.MixFwdIdeal Cert.MixFwdIdeal.Gen Idealize.ShloMosaic Idealize.ShloMosaic.TcCoe Idealize.SL.Sem

/-- The kernel's mixed rows, convolution rows and saved rows are the reference's, on every argument. -/
theorem algebraic : Cert.algebraic_MixFwdIdeal_MixFwdRefIdeal := by
  pair_intro
  · run_from (run_blocks m g)
  · refine (θ_run Cert.MixFwdRefIdeal.defs _ _).mono (fun r h c => ?_) (Cert.MixFwdRefIdeal.Value.run (F := Ideal) m' g')
    obtain ⟨h103, h67, h105, k⟩ := h c
    obtain ⟨a0, a1, a2, a3, a4, a5, a6, a7⟩ := hagree c
    refine ⟨h103.trans ?_, h67.trans ?_, h105.trans ?_, k⟩
    · refine (Cert.MixFwdRefIdeal.Read.val_main_v103_eq _ _).trans
        ((congr (congr (congr (congr (congr (congr (congr (congrArg Cert.MixFwdRefIdeal.Read.val_main_v103 a0) a1) a2) a3) a4) a5) a6) a7).trans (final9 m c).symm)
    · refine (Cert.MixFwdRefIdeal.Read.val_main_v67_eq _ _ _).trans
        ((congr (congr (congrArg Cert.MixFwdRefIdeal.Read.val_main_v67 a0) a3) a4).trans (final10 m c).symm)
    · exact (Cert.MixFwdRefIdeal.Read.val_main_v105_eq _).trans ((congrArg Cert.MixFwdRefIdeal.Read.val_main_v105 a0).trans (final11 m c).symm)

end Cert.MixFwdIdeal.Value

end
-- ==== Proof.ProjModel.lean ====
/-
  The projections of the forward pass on the extended reals: rows normalised by their mean square, and products of rows with a weight.
-/
module

public import proofs.«01_k».proof.Proof.MixModel

@[expose] public section

set_option maxRecDepth 16384

noncomputable section

namespace Cert.ProjModel

open Idealize.ShloMosaic

/-- A row of 1024 entries over the root of its mean square, times a scale. -/
def normed (x g : Fin 1024 → EReal) (d : Fin 1024) : EReal :=
  x d * Ideal.rsqrt (Ideal.div (∑ k : Fin 1024, x k * x k) (Ideal.ofBits .f32 0x44800000#32) + Ideal.ofBits .f32 0x358637BD#32) * g d

/-- A row times a weight of which entry `k` of a column is `w k`. -/
def product (x w : Fin 1024 → EReal) : EReal := ∑ k : Fin 1024, x k * w k

/-- Two half rows side by side. -/
def beside (a b : Fin 512 → EReal) (k : Fin 1024) : EReal := if h : k.val < 512 then a ⟨k, h⟩ else b ⟨k - 512, by omega⟩

/-- The product of two half rows side by side is the sum of the halves' products. -/
theorem product_beside (a b : Fin 512 → EReal) (w : Fin 1024 → EReal) : product (beside a b) w
    = ∑ x : Fin 512, a x * w ⟨x, by omega⟩ + ∑ x : Fin 512, b x * w ⟨512 + x, by omega⟩ := by
  refine (Fin.sum_univ_add (a := 512) (b := 512) fun k : Fin 1024 => beside a b k * w k).trans (congrArg₂ (· + ·) ?_ ?_) <;>
    refine Finset.sum_congr rfl fun x _ => congrArg (· * _) ?_ <;> unfold beside
  · exact dif_pos x.isLt
  · refine (dif_neg (by simp)).trans (congrArg b (Fin.ext (by simp)))

end Cert.ProjModel

end
-- ==== Proof.InProjFinal.lean ====
/-
  The first projection's kernel: its rows after the run are the reference's.
-/
module

public import proofs.«01_k».proof.Proof.ProjModel
public import proofs.«01_k».proof.Proof.Gen.InProjRefIdeal.Read
public import proofs.«01_k».proof.Proof.Gen.InProjIdeal.Value
public import Idealize.ShloMosaic.Lib.Pipeline.ValueKit

@[expose] public section

set_option maxRecDepth 16384

noncomputable section

namespace Cert.InProjRefIdeal.Value

open Cert.InProjRefIdeal Cert.InProjRefIdeal.Gen Cert.InProjRefIdeal.Read Idealize.ShloMosaic Idealize.ShloMosaic.TcCoe Idealize.SL.Sem
open Cert.ProjModel

/-- The reference's rows at an index. -/
theorem rows_at (x0 : S8192x1024.Idx → EReal) (x1 : S2x1024.Idx → EReal) (x2 : S1024x2560.Idx → EReal) (s : Fin 8192) (e : Fin 2560) :
    val_main_v15 (F := Ideal) x0 x1 x2 (ix2 s e)
      = product (normed (fun k => x0 (ix2 s k)) fun k => x1 (ix2 0 k)) fun k => x2 (ix2 k e) := by
  pointwise [val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

end Cert.InProjRefIdeal.Value

namespace Cert.InProjIdeal.Value

open Cert.InProjIdeal Cert.InProjIdeal.Gen Idealize.ShloMosaic Idealize.ShloMosaic.TcCoe Idealize.SL.Sem
open Idealize.ShloMosaic.Pipeline (Dat)
open Cert.ProjModel
open Cert.MixModel (token)

/-- What a point computes, at an index. -/
theorem rows_at (v0 : FVec Ideal S512x1024 .f32) (v11 : FVec Ideal S1x1x1024 .f32) (v15 : FVec Ideal S2560x1024 .bf16) (p : Fin 512) (e : Fin 2560) :
    k0_pay1 (F := Ideal) v0 v11 v15 (ix2 p e)
      = product (normed (fun k => v0 (ix2 p k)) fun k => v11 (ix3 0 0 k)) fun k => v15 (ix2 e k) := by
  pointwise [k0_pay1]
  rfl

theorem idx : ∀ t : Fin cfg0.N, win0_0.index t = ![t.val, 0] ∧ win0_1.index t = ![0, 0, 0] ∧ win0_2.index t = ![0, 0] ∧ win0_3.index t = ![t.val, 0] :=
  (by decide +kernel : ∀ t : Fin grid0.N, _)

variable (m : (ℓ : Loc nD τ sig) → Buf (Elt Ideal) ℓ) (c : Dev nD)

/-- Point `t` as a tile number. -/
def tile (t : Fin cfg0.N) : Fin 16 := ⟨t, lt_of_lt_of_eq t.isLt N_0⟩

theorem blk0 (t : Fin cfg0.N) (p : Fin 512) (k : Fin 1024) : iblk m c 0 t (ix2 p k) = m ((c : Thread nD τ).loc main_arg0) (ix2 (token (tile t) p) k) := by
  blk_ext [iblk, V, idx t, token, tile]
theorem blk1 (t : Fin cfg0.N) (k : Fin 1024) : iblk m c 1 t (ix3 0 0 k) = m ((c : Thread nD τ).loc main_arg1) (ix2 0 k) := by
  blk_simp [iblk, idx t]
  entry_read
  pointwise
  blk_ext [idx t]
theorem blk2 (t : Fin cfg0.N) (e : Fin 2560) (k : Fin 1024) : iblk m c 2 t (ix2 e k) = m ((c : Thread nD τ).loc main_arg2) (ix2 k e) := by
  blk_simp [iblk, idx t]
  entry_read
  pointwise
  blk_ext [idx t]

/-- Where entry `y` of point `t`'s block of rows sits in the array. -/
theorem emb3 (t : Fin cfg0.N) (y : S512x2560.Idx) :
    ((View.whole main_v3).slice (win0_3.rect t)).emb y = (ix2 (token (tile t) (y 0)) (y 1) : S8192x2560.Idx) := by
  blk_ext [idx t, token, tile]

/-- The rows after the run are the reference's. -/
theorem final3 : (dats m 0 c).arrAt 3 (cfgs 0).N
    = Cert.InProjRefIdeal.Read.val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  rw [emb3]
  idx_vars y
  rw [rows_at, Cert.InProjRefIdeal.Value.rows_at]
  simp only [blk0, blk1, blk2]

end Cert.InProjIdeal.Value

end
-- ==== Proof.OutInFinal.lean ====
/-
  The output projection and the next layer's projection in one kernel: its two arrays after the run are the reference's.
-/
module

public import proofs.«01_k».proof.Proof.ProjModel
public import proofs.«01_k».proof.Proof.Gen.OutInProjRefIdeal.Read
public import proofs.«01_k».proof.Proof.Gen.OutInProjIdeal.Value
public import Idealize.ShloMosaic.Lib.Pipeline.ValueKit

@[expose] public section

set_option maxRecDepth 16384

noncomputable section

namespace Cert.OutInProjRefIdeal.Value

open Cert.OutInProjRefIdeal Cert.OutInProjRefIdeal.Gen Cert.OutInProjRefIdeal.Read Idealize.ShloMosaic Idealize.ShloMosaic.TcCoe Idealize.SL.Sem
open Cert.ProjModel

variable (x0 : S8192x1024.Idx → EReal) (x1 x2 : S8192x512.Idx → EReal) (x3 : S1024x1024.Idx → EReal) (x4 : S2x1024.Idx → EReal) (x5 : S1024x2560.Idx → EReal)

/-- The mixers' rows side by side. -/
theorem cat_at (s : Fin 8192) (k : Fin 1024) : val_main_v2 (F := Ideal) x1 x2 (ix2 s k) = beside (fun l => x1 (ix2 s l)) (fun l => x2 (ix2 s l)) k := by
  pointwise [val_main_v2, val_main_v1, val_main_v0]
  rfl

/-- The reference's next rows at an index. -/
theorem next_at (s : Fin 8192) (d : Fin 1024) : val_main_v4 (F := Ideal) x0 x1 x2 x3 (ix2 s d)
    = x0 (ix2 s d) + product (beside (fun l => x1 (ix2 s l)) fun l => x2 (ix2 s l)) fun k => x3 (ix2 k d) := by
  pointwise [val_main_v4, val_main_v3]
  simp only [cat_at]
  rfl

/-- The reference's projected rows at an index. -/
theorem rows_at (s : Fin 8192) (e : Fin 2560) : val_main_v20 (F := Ideal) x0 x1 x2 x3 x4 x5 (ix2 s e)
    = product (normed (fun k => val_main_v4 (F := Ideal) x0 x1 x2 x3 (ix2 s k)) fun k => x4 (ix2 1 k)) fun k => x5 (ix2 k e) := by
  pointwise [val_main_v20, val_main_v19, val_main_v18, val_main_v17, val_main_v16, val_main_v15, val_main_v14, val_main_v13, val_main_v12, val_main_v11, val_main_v10,
    val_main_v9, val_main_v8, val_main_v7, val_main_v6, val_main_v5, val_main_cst, val_main_cst_0, val_main_cst_1]
  rfl

end Cert.OutInProjRefIdeal.Value

namespace Cert.OutInProjIdeal.Value

open Cert.OutInProjIdeal Cert.OutInProjIdeal.Gen Idealize.ShloMosaic Idealize.ShloMosaic.TcCoe Idealize.SL.Sem
open Idealize.ShloMosaic.Pipeline (Dat)
open Cert.ProjModel
open Cert.MixModel (token)

section Point
variable (v0 v1 : FVec Ideal S512x512 .bf16) (v3 : FVec Ideal S512x1024 .f32) (v4 : FVec Ideal S1024x1024 .bf16) (v19 : FVec Ideal S1x1x1024 .f32)
  (v23 : FVec Ideal S2560x1024 .bf16)

/-- The next rows a point computes, at an index. -/
theorem next_at (p : Fin 512) (d : Fin 1024) : k0_pay1 (F := Ideal) v0 v1 v3 v4 (ix2 p d)
    = v3 (ix2 p d) + product (beside (fun l => v0 (ix2 p l)) fun l => v1 (ix2 p l)) fun k => v4 (ix2 k d) := by
  rw [product_beside]
  pointwise [k0_pay1]

/-- The projected rows a point computes, at an index. -/
theorem rows_at (p : Fin 512) (e : Fin 2560) : k0_pay2 (F := Ideal) v0 v1 v3 v4 v19 v23 (ix2 p e)
    = product (normed (fun k => k0_pay1 (F := Ideal) v0 v1 v3 v4 (ix2 p k)) fun k => v19 (ix3 0 0 k)) fun k => v23 (ix2 e k) := by
  unfold k0_pay2
  generalize k0_pay1 (F := Ideal) v0 v1 v3 v4 = r
  pointwise []
  rfl
end Point

theorem idx : ∀ t : Fin cfg0.N, win0_0.index t = ![t.val, 0] ∧ win0_1.index t = ![t.val, 0] ∧ win0_2.index t = ![t.val, 0] ∧ win0_3.index t = ![0, 0]
    ∧ win0_4.index t = ![1, 0, 0] ∧ win0_5.index t = ![0, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

/-- Point `t` as a tile number. -/
def tile (t : Fin cfg0.N) : Fin 16 := ⟨t, lt_of_lt_of_eq t.isLt N_0⟩

theorem blk0 (t : Fin cfg0.N) (p : Fin 512) (k : Fin 1024) : iblk m c 0 t (ix2 p k) = m ((c : Thread nD τ).loc main_arg0) (ix2 (token (tile t) p) k) := by
  blk_ext [iblk, V, idx t, token, tile]
theorem blk1 (t : Fin cfg0.N) (p l : Fin 512) : iblk m c 1 t (ix2 p l) = m ((c : Thread nD τ).loc main_arg1) (ix2 (token (tile t) p) l) := by
  blk_ext [iblk, V, idx t, token, tile]
theorem blk2 (t : Fin cfg0.N) (p l : Fin 512) : iblk m c 2 t (ix2 p l) = m ((c : Thread nD τ).loc main_arg2) (ix2 (token (tile t) p) l) := by
  blk_ext [iblk, V, idx t, token, tile]
theorem blk3 (t : Fin cfg0.N) (k d : Fin 1024) : iblk m c 3 t (ix2 k d) = m ((c : Thread nD τ).loc main_arg3) (ix2 k d) := by
  blk_simp [iblk, idx t]
  entry_read
  pointwise
  blk_ext [idx t]
theorem blk4 (t : Fin cfg0.N) (k : Fin 1024) : iblk m c 4 t (ix3 0 0 k) = m ((c : Thread nD τ).loc main_arg4) (ix2 1 k) := by
  blk_simp [iblk, idx t]
  entry_read
  pointwise
  blk_ext [idx t]
theorem blk5 (t : Fin cfg0.N) (e : Fin 2560) (k : Fin 1024) : iblk m c 5 t (ix2 e k) = m ((c : Thread nD τ).loc main_arg5) (ix2 k e) := by
  blk_simp [iblk, idx t]
  entry_read
  pointwise
  blk_ext [idx t]

theorem emb6 (t : Fin cfg0.N) (y : S512x1024.Idx) :
    ((View.whole main_v4_0).slice (win0_6.rect t)).emb y = (ix2 (token (tile t) (y 0)) (y 1) : S8192x1024.Idx) := by
  blk_ext [idx t, token, tile]
theorem emb7 (t : Fin cfg0.N) (y : S512x2560.Idx) :
    ((View.whole main_v4_1).slice (win0_7.rect t)).emb y = (ix2 (token (tile t) (y 0)) (y 1) : S8192x2560.Idx) := by
  blk_ext [idx t, token, tile]

/-- What a point leaves in its block of the next rows. -/
theorem next_point (t : Fin cfg0.N) (p : Fin 512) (d : Fin 1024) :
    k0_pay1 (F := Ideal) (iblk m c 1 t) (iblk m c 2 t) (iblk m c 0 t) (iblk m c 3 t) (ix2 p d)
    = Cert.OutInProjRefIdeal.Read.val_main_v4 (F := Ideal) (m ((c : Thread nD τ).loc main_arg0)) (m ((c : Thread nD τ).loc main_arg1)) (m ((c : Thread nD τ).loc main_arg2))
        (m ((c : Thread nD τ).loc main_arg3)) (ix2 (token (tile t) p) d) := by
  rw [next_at, Cert.OutInProjRefIdeal.Value.next_at]
  simp only [blk0, blk1, blk2, blk3]

/-- The next rows after the run are the reference's. -/
theorem final6 : (dats m 0 c).arrAt 6 (cfgs 0).N
    = Cert.OutInProjRefIdeal.Read.val_main_v4 (F := Ideal) (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t hf y => ?_
  blk_simp
  rw [after0_6]
  unfold out0_6
  frame_out
  rw [emb6]
  idx_vars y
  exact next_point m c t _ _

/-- The projected rows after the run are the reference's. -/
theorem final7 : (dats m 0 c).arrAt 7 (cfgs 0).N
    = Cert.OutInProjRefIdeal.Read.val_main_v20 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  unfold out0_7
  frame_out
  rw [emb7]
  idx_vars y
  rw [rows_at, Cert.OutInProjRefIdeal.Value.rows_at]
  simp only [next_point, blk4, blk5]

end Cert.OutInProjIdeal.Value

end
-- ==== Proof.OutBwdFinal.lean ====
/-
  The output projection's backward kernel: the gradient of the mixers' rows, written tile by tile, and the gradient of the weight, summed over
  the tiles and written at the last, are the reference's after the run.
-/
module

public import proofs.«01_k».proof.Proof.ProjModel
public import proofs.«01_k».proof.Proof.Gen.OutBwdRefIdeal.Read
public import proofs.«01_k».proof.Proof.Gen.OutBwdIdeal.Value
public import Idealize.ShloMosaic.Lib.Pipeline.ValueKit

@[expose] public section

set_option maxRecDepth 16384

noncomputable section

namespace Cert.OutBwdRefIdeal.Value

open Cert.OutBwdRefIdeal Cert.OutBwdRefIdeal.Gen Cert.OutBwdRefIdeal.Read Idealize.ShloMosaic Idealize.ShloMosaic.TcCoe Idealize.SL.Sem
open Cert.ProjModel

variable (x0 : S8192x1024.Idx → EReal) (x1 x2 : S8192x512.Idx → EReal) (x3 : S1024x1024.Idx → EReal)

/-- The reference's gradient of the mixers' rows at an index. -/
theorem back_at (s : Fin 8192) (k : Fin 1024) :
    val_main_v6 (F := Ideal) x0 x3 (ix2 s k) = product (fun d => x0 (ix2 s d)) fun d => x3 (ix2 k d) := by
  pointwise [val_main_v6]
  rfl

/-- The reference's gradient of the weight at an index. -/
theorem weight_at (k d : Fin 1024) : val_main_v7 (F := Ideal) x0 x1 x2 (ix2 k d)
    = ∑ s : Fin 8192, beside (fun l => x1 (ix2 s l)) (fun l => x2 (ix2 s l)) k * x0 (ix2 s d) := by
  pointwise [val_main_v7, val_main_v5, val_main_v4, val_main_v2, val_main_v1, val_main_v0]
  refine Finset.sum_congr rfl fun s _ => ?_
  rw [mul_comm]
  rfl

end Cert.OutBwdRefIdeal.Value

namespace Cert.OutBwdIdeal.Value

open Cert.OutBwdIdeal Cert.OutBwdIdeal.Gen Idealize.ShloMosaic Idealize.ShloMosaic.TcCoe Idealize.SL.Sem
open Idealize.ShloMosaic.Pipeline (Dat)
open Cert.ProjModel
open Cert.MixModel (token)

section Point
variable (v0 : FVec Ideal S512x1024 .f32) (v2 : FVec Ideal S1024x1024 .bf16) (v9 v10 : FVec Ideal S512x512 .bf16) (v12 : FVec Ideal S1024x1024 .f32)

/-- The gradient rows a point computes, at an index. -/
theorem back_at (p : Fin 512) (k : Fin 1024) : k0_pay2 (F := Ideal) v0 v2 (ix2 p k) = product (fun d => v0 (ix2 p d)) fun d => v2 (ix2 k d) := by
  pointwise [k0_pay2, k0_pay1]
  rfl

/-- The sum over the tiles so far with a point's own tile added, at an index. -/
theorem weight_at (k d : Fin 1024) : k0_pay4 (F := Ideal) v0 v9 v10 v12 (ix2 k d)
    = v12 (ix2 k d) + ∑ q : Fin 512, beside (fun l => v9 (ix2 q l)) (fun l => v10 (ix2 q l)) k * v0 (ix2 q d) := by
  pointwise [k0_pay4, k0_pay1]
  rfl

theorem zero_at (k d : Fin 1024) : k0_pay3 (F := Ideal) (ix2 k d) = (0 : EReal) := by pointwise [k0_pay3]
end Point

theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![0, 0] :=
  (by decide +kernel : ∀ t : Fin grid0.N, _)

variable (m : (ℓ : Loc nD τ sig) → Buf (Elt Ideal) ℓ) (c : Dev nD)

/-- Point `t` as a tile number. -/
def tile (t : Fin cfg0.N) : Fin 16 := ⟨t, lt_of_lt_of_eq t.isLt N_0⟩

theorem blk0 (t : Fin cfg0.N) (p : Fin 512) (d : Fin 1024) : iblk m c 0 t (ix2 p d) = m ((c : Thread nD τ).loc main_arg0) (ix2 (token (tile t) p) d) := by
  blk_ext [iblk, V, idx t, token, tile]
theorem blk1 (t : Fin cfg0.N) (p l : Fin 512) : iblk m c 1 t (ix2 p l) = m ((c : Thread nD τ).loc main_arg1) (ix2 (token (tile t) p) l) := by
  blk_ext [iblk, V, idx t, token, tile]
theorem blk2 (t : Fin cfg0.N) (p l : Fin 512) : iblk m c 2 t (ix2 p l) = m ((c : Thread nD τ).loc main_arg2) (ix2 (token (tile t) p) l) := by
  blk_ext [iblk, V, idx t, token, tile]
theorem blk3 (t : Fin cfg0.N) (k d : Fin 1024) : iblk m c 3 t (ix2 k d) = m ((c : Thread nD τ).loc main_arg3) (ix2 k d) := by
  blk_simp [iblk, idx t]
  entry_read
  pointwise
  blk_ext [idx t]

theorem emb4 (t : Fin cfg0.N) (y : S512x1024.Idx) :
    ((View.whole main_v1_0).slice (win0_4.rect t)).emb y = (ix2 (token (tile t) (y 0)) (y 1) : S8192x1024.Idx) := by
  blk_ext [idx t, token, tile]

/-- What a point leaves in its block of gradient rows. -/
theorem back_point (t : Fin cfg0.N) (y : S512x1024.Idx) : k0_pay2 (F := Ideal) (iblk m c 0 t) (iblk m c 3 t) y
    = Cert.OutBwdRefIdeal.Read.val_main_v6 (F := Ideal) (m ((c : Thread nD τ).loc main_arg0)) (m ((c : Thread nD τ).loc main_arg3))
        (((View.whole main_v1_0).slice (win0_4.rect t)).emb y) := by
  rw [emb4]
  idx_vars y
  rw [back_at, Cert.OutBwdRefIdeal.Value.back_at]
  simp only [blk0, blk3]

/-- The gradient rows after the run are the reference's. -/
theorem final_back : (dats m 0 c).arrAt 4 (cfgs 0).N
    = Cert.OutBwdRefIdeal.Read.val_main_v6 (F := Ideal) (m ((c : Thread nD τ).loc main_arg0)) (m ((c : Thread nD τ).loc main_arg3)) := by
  refine (dats m 0 c).arrAt_eq_of_covers 4 _ (by decide +kernel) fun t hf y => ?_
  blk_simp
  rw [after0_4]
  by_cases h0 : t.val % 16 = 0
  · rw [outsAt0_A m c t h0 (by omega)]; frame_out
    exact back_point m c t y
  · by_cases h1 : t.val % 16 = 15
    · rw [outsAt0_C m c t h0 h1]; frame_out
      exact back_point m c t y
    · rw [outsAt0_B m c t h0 h1]; frame_out
      exact back_point m c t y

/-- What tile `t` adds to the gradient of the weight. -/
def share (t : Fin cfg0.N) (j : S1024x1024.Idx) : EReal :=
  ∑ q : Fin 512, beside (fun l => m ((c : Thread nD τ).loc main_arg1) (ix2 (token (tile t) q) l))
    (fun l => m ((c : Thread nD τ).loc main_arg2) (ix2 (token (tile t) q) l)) (j 0) * m ((c : Thread nD τ).loc main_arg0) (ix2 (token (tile t) q) (j 1))

theorem step (t : Fin cfg0.N) (v12 : FVec Ideal S1024x1024 .f32) (j : S1024x1024.Idx) :
    k0_pay4 (F := Ideal) (iblk m c 0 t) (iblk m c 1 t) (iblk m c 2 t) v12 j = v12 j + share m c t j := by
  idx_vars j
  rw [weight_at]
  simp only [blk0, blk1, blk2]
  rfl

/-- The sum the kernel keeps holds every tile's share after the last point. -/
theorem kept (j : S1024x1024.Idx) : (outsAt0 m c t0_15.val t0_15.isLt).2.2 j = (0 : EReal) + ∑ t : Fin cfg0.N, share m c t j :=
  Pipeline.eq_sum_fin_of_reset_step_apply_last (fun n h => (outsAt0 m c n h).2.2) 16 (fun _ => (0 : EReal)) (share m c)
    (fun t h0 j => by
      rw [outsAt0_A m c t h0 (by omega)]; frame_out
      rw [step]
      idx_vars j
      rw [zero_at])
    (fun t h0 j => by
      by_cases h1 : t.val % 16 = 15
      · rw [outsAt0_C m c t h0 h1]; frame_out
        rw [step]
        exact congrArg (fun v : FVec Ideal S1024x1024 .f32 => v j + share m c t j) (Memref.IsWhole.read_unread _ _)
      · rw [outsAt0_B m c t h0 h1]; frame_out
        rw [step]
        exact congrArg (fun v : FVec Ideal S1024x1024 .f32 => v j + share m c t j) (Memref.IsWhole.read_unread _ _))
    (le_of_eq N_0) t0_15 rfl j

/-- The last point writes what it keeps. -/
theorem written : (outsAt0 m c t0_15.val t0_15.isLt).2.1 = k0_pay5 (F := Ideal) (outsAt0 m c t0_15.val t0_15.isLt).2.2 := by
  rw [outsAt0_C m c t0_15 (by decide) (by decide)]
  frame_out

/-- The gradient of the weight after the run is the reference's. -/
theorem final_weight : (dats m 0 c).arrAt 5 (cfgs 0).N
    = Cert.OutBwdRefIdeal.Read.val_main_v7 (F := Ideal) (m ((c : Thread nD τ).loc main_arg0)) (m ((c : Thread nD τ).loc main_arg1)) (m ((c : Thread nD τ).loc main_arg2)) := by
  refine (dats m 0 c).arrAt_eq_of_after_last 5 t0_15 (by decide +kernel) _ fun j => ?_
  blk_simp
  rw [after0_5, written]
  have hk := kept m c j
  generalize (outsAt0 m c t0_15.val t0_15.isLt).2.2 = k at hk ⊢
  idx_vars j
  rw [Cert.OutBwdRefIdeal.Value.weight_at]
  pointwise [k0_pay5]
  rw [hk, zero_add]
  refine Fin.sum_mul_add_congr fun s k hl => ?_
  have e : token (tile s) k = ⟨s * 512 + k, hl⟩ := Fin.ext (by simp only [token, tile]; omega)
  rw [e]
  rfl

end Cert.OutBwdIdeal.Value

end
-- ==== Proof.ProjClaim.lean ====
/-
  The forward projections and the output projection's backward: the runs of each kernel and its reference side by side.
-/
module

public import proofs.«01_k».proof.Defs
public import proofs.«01_k».proof.Proof.InProjFinal
public import proofs.«01_k».proof.Proof.OutInFinal
public import proofs.«01_k».proof.Proof.OutBwdFinal
public import proofs.«01_k».proof.Proof.Gen.InProjRefIdeal.Run
public import proofs.«01_k».proof.Proof.Gen.OutInProjRefIdeal.Run
public import proofs.«01_k».proof.Proof.Gen.OutBwdRefIdeal.Run
public import Idealize.ShloMosaic.Lib.Claim

@[expose] public section

set_option maxRecDepth 16384

noncomputable section

namespace Cert.InProjIdeal.Value

open Cert.InProjIdeal Cert.InProjIdeal.Gen Idealize.ShloMosaic Idealize.ShloMosaic.TcCoe Idealize.SL.Sem

/-- The first projection's rows are the reference's, on every argument. -/
theorem algebraic : Cert.algebraic_InProjIdeal_InProjRefIdeal := by
  pair_intro
  · run_from (run_blocks m g)
  · refine (θ_run Cert.InProjRefIdeal.defs _ _).mono (fun r h c => ?_) (Cert.InProjRefIdeal.Value.run (F := Ideal) m' g')
    obtain ⟨h15, k⟩ := h c
    obtain ⟨a0, a1, a2⟩ := hagree c
    exact ⟨h15.trans ((Cert.InProjRefIdeal.Read.val_main_v15_eq _ _ _).trans
      ((congr (congr (congrArg Cert.InProjRefIdeal.Read.val_main_v15 a0) a1) a2).trans (final3 m c).symm)), k⟩

end Cert.InProjIdeal.Value

namespace Cert.OutInProjIdeal.Value

open Cert.OutInProjIdeal Cert.OutInProjIdeal.Gen Idealize.ShloMosaic Idealize.ShloMosaic.TcCoe Idealize.SL.Sem

/-- The next rows and their projection are the reference's, on every argument. -/
theorem algebraic : Cert.algebraic_OutInProjIdeal_OutInProjRefIdeal := by
  pair_intro
  · run_from (run_blocks m g)
  · refine (θ_run Cert.OutInProjRefIdeal.defs _ _).mono (fun r h c => ?_) (Cert.OutInProjRefIdeal.Value.run (F := Ideal) m' g')
    obtain ⟨h4, h20, k⟩ := h c
    obtain ⟨a0, a1, a2, a3, a4, a5⟩ := hagree c
    refine ⟨h4.trans ?_, h20.trans ?_, k⟩
    · exact (Cert.OutInProjRefIdeal.Read.val_main_v4_eq _ _ _ _).trans
        ((congr (congr (congr (congrArg Cert.OutInProjRefIdeal.Read.val_main_v4 a0) a1) a2) a3).trans (final6 m c).symm)
    · exact (Cert.OutInProjRefIdeal.Read.val_main_v20_eq _ _ _ _ _ _).trans
        ((congr (congr (congr (congr (congr (congrArg Cert.OutInProjRefIdeal.Read.val_main_v20 a0) a1) a2) a3) a4) a5).trans (final7 m c).symm)

end Cert.OutInProjIdeal.Value

namespace Cert.OutBwdIdeal.Value

open Cert.OutBwdIdeal Cert.OutBwdIdeal.Gen Idealize.ShloMosaic Idealize.ShloMosaic.TcCoe Idealize.SL.Sem

/-- The gradients of the mixers' rows and of the weight are the reference's, on every argument. -/
theorem algebraic : Cert.algebraic_OutBwdIdeal_OutBwdRefIdeal := by
  pair_intro
  · run_from (run_blocks m g)
  · refine (θ_run Cert.OutBwdRefIdeal.defs _ _).mono (fun r h c => ?_) (Cert.OutBwdRefIdeal.Value.run (F := Ideal) m' g')
    obtain ⟨h6, h7, k⟩ := h c
    obtain ⟨a0, a1, a2, a3⟩ := hagree c
    refine ⟨h6.trans ?_, h7.trans ?_, k⟩
    · exact (Cert.OutBwdRefIdeal.Read.val_main_v6_eq _ _).trans
        ((congr (congrArg Cert.OutBwdRefIdeal.Read.val_main_v6 a0) a3).trans (final_back m c).symm)
    · exact (Cert.OutBwdRefIdeal.Read.val_main_v7_eq _ _ _).trans
        ((congr (congr (congrArg Cert.OutBwdRefIdeal.Read.val_main_v7 a0) a1) a2).trans (final_weight m c).symm)

end Cert.OutBwdIdeal.Value

end
-- ==== Proof.AdamWModel.lean ====
/-
  One entry of the optimiser's step: the sum of the eight devices' parts of a gradient, the two running means it moves, and
  the change of the weight, with the constants as the program's words.
-/
module

public import Idealize.ShloMosaic.Lib.Pointwise
public import Idealize.ShloMosaic.PureOps.Ideal.Laws

@[expose] public section

noncomputable section

namespace Cert.AdamWModel

open Idealize.ShloMosaic

/-- The sum of the eight devices' parts. -/
def total (p : Fin 8 → EReal) : EReal := ∑ d : Fin 8, p d

/-- The running mean of the gradient, moved towards `g`. -/
def mean (m g : EReal) : EReal := Ideal.ofBits .f32 0x3F666666#32 * m + Ideal.ofBits .f32 0x3DCCCCCD#32 * g

/-- The running mean of the gradient's square, moved towards that of `g`. -/
def square (v g : EReal) : EReal := Ideal.ofBits .f32 0x3F7FBE77#32 * v + Ideal.ofBits .f32 0x3A83126F#32 * (g * g)

/-- The change of a weight `w`, from its running means before the step and the gradient. -/
def change (w m v g : EReal) : EReal :=
  Ideal.ofBits .f32 0xBA83126F#32 * (Ideal.div (Ideal.div (mean m g) (Ideal.ofBits .f32 0x3F26BD02#32))
      (Ideal.sqrt (Ideal.div (square v g) (Ideal.ofBits .f32 0x3C231ACC#32)) + Ideal.ofBits .f32 0x322BCC77#32)
    + Ideal.ofBits .f32 0x3C23D70A#32 * w)

end Cert.AdamWModel

end
-- ==== Proof.AdamWFinal.lean ====
/-
  The optimiser of the output projection's weight: the gradient, the weight's change and the two running means its kernel
  leaves are the reference's.
-/
module

public import proofs.«01_k».proof.Proof.AdamWModel
public import proofs.«01_k».proof.Proof.Gen.AdamWRefIdeal.Read
public import proofs.«01_k».proof.Proof.Gen.AdamWIdeal.Value
public import Idealize.ShloMosaic.Lib.Pipeline.ValueKit

@[expose] public section

set_option maxRecDepth 16384

noncomputable section

namespace Cert.AdamWRefIdeal.Value

open Cert.AdamWRefIdeal Cert.AdamWRefIdeal.Gen Cert.AdamWRefIdeal.Read Idealize.ShloMosaic Idealize.ShloMosaic.TcCoe Idealize.SL.Sem
open Cert.AdamWModel

variable (x0 x1 : S8x128x1024.Idx → EReal) (x2 x3 x4 : S2x128x1024.Idx → EReal) (r : Fin 128) (k : Fin 1024)

/-- The reference's gradient of the first layer, at an index. -/
theorem grad0_at : val_main_v6 (F := Ideal) x0 x1 (ix3 0 r k) = total fun d => x0 (ix3 d r k) := by
  pointwise [val_main_v6, val_main_v5, val_main_v4, val_main_v3, val_main_v2, val_main_v1, val_main_v0, val_main_cst, val_main_cst_0]
  rfl
/-- The reference's gradient of the second layer, at an index. -/
theorem grad1_at : val_main_v6 (F := Ideal) x0 x1 (ix3 1 r k) = total fun d => x1 (ix3 d r k) := by
  pointwise [val_main_v6, val_main_v5, val_main_v4, val_main_v3, val_main_v2, val_main_v1, val_main_v0, val_main_cst, val_main_cst_0]
  rfl

variable (l : Fin 2)

/-- The reference's gradient of either layer, at an index. -/
theorem grad_at : val_main_v6 (F := Ideal) x0 x1 (ix3 l r k) = total fun d => (![x0, x1] : Fin 2 → S8x128x1024.Idx → EReal) l (ix3 d r k) :=
  match l with
  | 0 => grad0_at x0 x1 r k
  | 1 => grad1_at x0 x1 r k

/-- The reference's running mean of the gradient, at an index. -/
theorem mean_at : val_main_v11 (F := Ideal) x0 x1 x3 (ix3 l r k) = mean (x3 (ix3 l r k)) (val_main_v6 (F := Ideal) x0 x1 (ix3 l r k)) := by
  unfold val_main_v11 val_main_v10
  generalize val_main_v6 (F := Ideal) x0 x1 = g
  pointwise [val_main_v9, val_main_v8, val_main_v7, val_main_cst_1, val_main_cst_2]
  rfl

/-- The reference's running mean of the gradient's square, at an index. -/
theorem square_at : val_main_v17 (F := Ideal) x0 x1 x4 (ix3 l r k) = square (x4 (ix3 l r k)) (val_main_v6 (F := Ideal) x0 x1 (ix3 l r k)) := by
  unfold val_main_v17 val_main_v16 val_main_v14
  generalize val_main_v6 (F := Ideal) x0 x1 = g
  pointwise [val_main_v15, val_main_v13, val_main_v12, val_main_cst_3, val_main_cst_4]
  rfl

/-- The reference's change of the weight, at an index. -/
theorem change_at : val_main_v30 (F := Ideal) x0 x1 x2 x3 x4 (ix3 l r k)
    = change (x2 (ix3 l r k)) (x3 (ix3 l r k)) (x4 (ix3 l r k)) (val_main_v6 (F := Ideal) x0 x1 (ix3 l r k)) := by
  unfold change
  rw [← mean_at, ← square_at]
  unfold val_main_v30 val_main_v28 val_main_v25 val_main_v24 val_main_v22 val_main_v21 val_main_v19
  generalize val_main_v11 (F := Ideal) x0 x1 x3 = a
  generalize val_main_v17 (F := Ideal) x0 x1 x4 = b
  pointwise [val_main_v29, val_main_v27, val_main_v26, val_main_v23, val_main_v20, val_main_v18, val_main_cst_5, val_main_cst_6, val_main_cst_7, val_main_cst_8,
    val_main_cst_9]

end Cert.AdamWRefIdeal.Value

namespace Cert.AdamWIdeal.Value

open Cert.AdamWIdeal Cert.AdamWIdeal.Gen Idealize.ShloMosaic Idealize.ShloMosaic.TcCoe Idealize.SL.Sem
open Idealize.ShloMosaic.Pipeline (Dat)
open Cert.AdamWModel

section Body

variable (X : Fin 8 → FVec Ideal S1x64x1024 .bf16) (g : FVec Ideal S64x1024 .f32) (a b w : FVec Ideal S1x64x1024 .f32)
  (p : Fin 64) (k : Fin 1024)

/-- What a point sums for the first layer, at an index. -/
theorem sum0_at : k0_pay4 (F := Ideal) (X 0) (X 1) (X 2) (X 3) (X 4) (X 5) (X 6) (X 7) (ix2 p k) = total fun d => X d (ix3 0 p k) := by
  rw [total, Fin.sum_univ_eight]
  pointwise [k0_pay4]
/-- What a point sums for the second layer, at an index. -/
theorem sum1_at : k0_pay12 (F := Ideal) (k0_pay11 (X 0) (X 1) (X 2) (X 3) (X 4) (X 5) (X 6)) (X 7) (ix2 p k) = total fun d => X d (ix3 0 p k) := by
  rw [total, Fin.sum_univ_eight]
  pointwise [k0_pay12, k0_pay11]

/-- The running mean of the gradient a point forms, at an index. -/
theorem mean_at : k0_pay6 (F := Ideal) g a (ix2 p k) = mean (a (ix3 0 p k)) (g (ix2 p k)) := by
  pointwise [k0_pay6]
  rfl

/-- The running mean of the square a point forms, at an index. -/
theorem square_at : k0_pay7 (F := Ideal) g b (ix2 p k) = square (b (ix3 0 p k)) (g (ix2 p k)) := by
  pointwise [k0_pay7]
  rfl

/-- The change of the weight a point forms, at an index. -/
theorem change_at : k0_pay8 (F := Ideal) g w a b (ix3 0 p k) = change (w (ix3 0 p k)) (a (ix3 0 p k)) (b (ix3 0 p k)) (g (ix2 p k)) := by
  unfold change
  rw [← mean_at, ← square_at]
  unfold k0_pay8
  generalize k0_pay6 (F := Ideal) g a = a'
  generalize k0_pay7 (F := Ideal) g b = b'
  pointwise []

/-- A layer's values stored as the one row of tiles they are, at an index. -/
theorem row_at : k0_pay5 (F := Ideal) g (ix3 0 p k) = g (ix2 p k) := by
  pointwise [k0_pay5]

end Body

section Point

variable (A B : Vec Ideal S8x64x1024 .bf16) (w a b : Vec Ideal S2x64x1024 .f32) (l : Fin 2) (p : Fin 64) (k : Fin 1024)

/-- The eight devices' parts a point reads of a layer. -/
def parts (A : Vec Ideal S8x64x1024 .bf16) : Fin 8 → FVec Ideal S1x64x1024 .bf16 :=
  ![View.ld A r0_0, View.ld A r0_1, View.ld A r0_2, View.ld A r0_3, View.ld A r0_4, View.ld A r0_5, View.ld A r0_6, View.ld A r0_7]
theorem parts_at (d : Fin 8) : parts A d (ix3 0 p k) = A (ix3 d p k) := by
  fin_cases d <;> exact View.ld_unit_apply_of _ _ _ _ _ _ fun x => by fin_cases x <;> simp

/-- What a point reads of a layer of the weight or of a running mean. -/
def layer (w : Vec Ideal S2x64x1024 .f32) : Fin 2 → FVec Ideal S1x64x1024 .f32 := ![View.ld w r0_8, View.ld w r0_9]
theorem layer_at : layer w l (ix3 0 p k) = w (ix3 l p k) := by
  fin_cases l <;> exact View.ld_unit_apply_of _ _ _ _ _ _ fun x => by fin_cases x <;> simp

/-- The two layers' stores, at an index. -/
theorem stores_at (U : Fin 2 → Vec Ideal S1x64x1024 .f32) :
    View.canon (Val := Elt Ideal) (e := .f32) [⟨r0_9, U 1⟩, ⟨r0_8, U 0⟩] (ix3 l p k : S2x64x1024.Idx) = U l (ix3 0 p k) := by
  canon_tiles x hx
  all_goals
    have h0 : (l : ℕ) = _ := hx0
    have h1 : (p : ℕ) = x 1 := hx1
    have h2 : (k : ℕ) = x 2 := hx2
    rw [show x = ix3 0 p k from funext fun a => by
      fin_cases a
      · exact Subsingleton.elim (α := Fin 1) _ _
      · exact Fin.ext h1.symm
      · exact Fin.ext h2.symm]
  · obtain rfl : l = 1 := by omega
    rfl
  · obtain rfl : l = 0 := by omega
    rfl

/-- The gradient a point forms of a layer. -/
def sums (A B : Vec Ideal S8x64x1024 .bf16) (w a b : Vec Ideal S2x64x1024 .f32) : Fin 2 → FVec Ideal S64x1024 .f32 :=
  ![k0_pay17 A B w a b, k0_pay12 (k0_pay18 A B w a b) (View.ld B r0_7)]
theorem sums_at : sums A B w a b l (ix2 p k) = total fun d => (![A, B] : Fin 2 → Vec Ideal S8x64x1024 .bf16) l (ix3 d p k) :=
  match l with
  | 0 => (sum0_at (parts A) p k).trans (congrArg total (funext fun d => parts_at A p k d))
  | 1 => (sum1_at (parts B) p k).trans (congrArg total (funext fun d => parts_at B p k d))

/-- The four output blocks of a point, at an index. -/
theorem out_grad_at : out0_5 (F := Ideal) A B w a b (ix3 l p k) = sums A B w a b l (ix2 p k) :=
  (stores_at l p k fun l => k0_pay5 (sums A B w a b l)).trans (row_at _ p k)
theorem out_change_at : out0_6 (F := Ideal) A B w a b (ix3 l p k)
    = change (w (ix3 l p k)) (a (ix3 l p k)) (b (ix3 l p k)) (sums A B w a b l (ix2 p k)) := by
  refine (stores_at l p k fun l => k0_pay8 (sums A B w a b l) (layer w l) (layer a l) (layer b l)).trans ?_
  rw [change_at]
  simp only [layer_at]
theorem out_mean_at : out0_7 (F := Ideal) A B w a b (ix3 l p k) = mean (a (ix3 l p k)) (sums A B w a b l (ix2 p k)) := by
  refine (stores_at l p k fun l => k0_pay5 (k0_pay6 (sums A B w a b l) (layer a l))).trans ?_
  rw [row_at, mean_at, layer_at]
theorem out_square_at : out0_8 (F := Ideal) A B w a b (ix3 l p k) = square (b (ix3 l p k)) (sums A B w a b l (ix2 p k)) := by
  refine (stores_at l p k fun l => k0_pay5 (k0_pay7 (sums A B w a b l) (layer b l))).trans ?_
  rw [row_at, square_at, layer_at]

end Point

theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0] ∧ win0_6.index t = ![0, t.val, 0]
    ∧ win0_7.index t = ![0, t.val, 0] ∧ win0_8.index t = ![0, t.val, 0] :=
  (by decide +kernel : ∀ t : Fin grid0.N, _)

variable (m : (ℓ : Loc nD τ sig) → Buf (Elt Ideal) ℓ) (c : Dev nD)

/-- Row `p` of point `t`'s tile of 64 rows. -/
def row (t : Fin cfg0.N) (p : Fin 64) : Fin 128 := ⟨64 * t.val + p, by have := lt_of_lt_of_eq t.isLt N_0; omega⟩

theorem blk0 (t : Fin cfg0.N) (d : Fin 8) (p : Fin 64) (k : Fin 1024) : iblk m c 0 t (ix3 d p k) = m ((c : Thread nD τ).loc main_arg0) (ix3 d (row t p) k) := by
  blk_ext [iblk, V, idx t, row]
theorem blk1 (t : Fin cfg0.N) (d : Fin 8) (p : Fin 64) (k : Fin 1024) : iblk m c 1 t (ix3 d p k) = m ((c : Thread nD τ).loc main_arg1) (ix3 d (row t p) k) := by
  blk_ext [iblk, V, idx t, row]
theorem blk2 (t : Fin cfg0.N) (l : Fin 2) (p : Fin 64) (k : Fin 1024) : iblk m c 2 t (ix3 l p k) = m ((c : Thread nD τ).loc main_arg2) (ix3 l (row t p) k) := by
  blk_ext [iblk, V, idx t, row]
theorem blk3 (t : Fin cfg0.N) (l : Fin 2) (p : Fin 64) (k : Fin 1024) : iblk m c 3 t (ix3 l p k) = m ((c : Thread nD τ).loc main_arg3) (ix3 l (row t p) k) := by
  blk_ext [iblk, V, idx t, row]
theorem blk4 (t : Fin cfg0.N) (l : Fin 2) (p : Fin 64) (k : Fin 1024) : iblk m c 4 t (ix3 l p k) = m ((c : Thread nD τ).loc main_arg4) (ix3 l (row t p) k) := by
  blk_ext [iblk, V, idx t, row]

/-- The gradient of a point's tile is the reference's. -/
theorem sums_eq (t : Fin cfg0.N) (l : Fin 2) (p : Fin 64) (k : Fin 1024) :
    sums (iblk m c 0 t) (iblk m c 1 t) (iblk m c 2 t) (iblk m c 3 t) (iblk m c 4 t) l (ix2 p k)
      = Cert.AdamWRefIdeal.Read.val_main_v6 (F := Ideal) (m ((c : Thread nD τ).loc main_arg0)) (m ((c : Thread nD τ).loc main_arg1)) (ix3 l (row t p) k) := by
  rw [sums_at, Cert.AdamWRefIdeal.Value.grad_at]
  refine congrArg total (funext fun d => ?_)
  match l with
  | 0 => exact blk0 m c t d p k
  | 1 => exact blk1 m c t d p k

/-- Where entry `y` of point `t`'s block of an output sits in the array. -/
theorem emb5 (t : Fin cfg0.N) (y : S2x64x1024.Idx) : ((View.whole main_v0_0).slice (win0_5.rect t)).emb y = (ix3 (y 0) (row t (y 1)) (y 2) : S2x128x1024.Idx) := by
  blk_ext [idx t, row]
theorem emb6 (t : Fin cfg0.N) (y : S2x64x1024.Idx) : ((View.whole main_v0_1).slice (win0_6.rect t)).emb y = (ix3 (y 0) (row t (y 1)) (y 2) : S2x128x1024.Idx) := by
  blk_ext [idx t, row]
theorem emb7 (t : Fin cfg0.N) (y : S2x64x1024.Idx) : ((View.whole main_v0_2).slice (win0_7.rect t)).emb y = (ix3 (y 0) (row t (y 1)) (y 2) : S2x128x1024.Idx) := by
  blk_ext [idx t, row]
theorem emb8 (t : Fin cfg0.N) (y : S2x64x1024.Idx) : ((View.whole main_v0_3).slice (win0_8.rect t)).emb y = (ix3 (y 0) (row t (y 1)) (y 2) : S2x128x1024.Idx) := by
  blk_ext [idx t, row]

/-- The gradient after the run is the reference's. -/
theorem final_grad : (dats m 0 c).arrAt 5 (cfgs 0).N
    = Cert.AdamWRefIdeal.Read.val_main_v6 (F := Ideal) (m ((c : Thread nD τ).loc main_arg0)) (m ((c : Thread nD τ).loc main_arg1)) := by
  refine (dats m 0 c).arrAt_eq_of_covers 5 _ (by decide +kernel) fun t hf y => ?_
  blk_simp
  rw [after0_5, emb5]
  idx_vars y
  rw [out_grad_at, sums_eq]

/-- The weight's change after the run is the reference's. -/
theorem final_change : (dats m 0 c).arrAt 6 (cfgs 0).N
    = Cert.AdamWRefIdeal.Read.val_main_v30 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, emb6]
  idx_vars y
  rw [out_change_at, sums_eq, blk2, blk3, blk4, Cert.AdamWRefIdeal.Value.change_at]

/-- The running mean of the gradient after the run is the reference's. -/
theorem final_mean : (dats m 0 c).arrAt 7 (cfgs 0).N
    = Cert.AdamWRefIdeal.Read.val_main_v11 (F := Ideal) (m ((c : Thread nD τ).loc main_arg0)) (m ((c : Thread nD τ).loc main_arg1))
        (m ((c : Thread nD τ).loc main_arg3)) := by
  refine (dats m 0 c).arrAt_eq_of_covers 7 _ (by decide +kernel) fun t hf y => ?_
  blk_simp
  rw [after0_7, emb7]
  idx_vars y
  rw [out_mean_at, sums_eq, blk3, Cert.AdamWRefIdeal.Value.mean_at]

/-- The running mean of the gradient's square after the run is the reference's. -/
theorem final_square : (dats m 0 c).arrAt 8 (cfgs 0).N
    = Cert.AdamWRefIdeal.Read.val_main_v17 (F := Ideal) (m ((c : Thread nD τ).loc main_arg0)) (m ((c : Thread nD τ).loc main_arg1))
        (m ((c : Thread nD τ).loc main_arg4)) := by
  refine (dats m 0 c).arrAt_eq_of_covers 8 _ (by decide +kernel) fun t hf y => ?_
  blk_simp
  rw [after0_8, emb8]
  idx_vars y
  rw [out_square_at, sums_eq, blk4, Cert.AdamWRefIdeal.Value.square_at]

end Cert.AdamWIdeal.Value

end
-- ==== Proof.AdamWClaim.lean ====
/-
  The optimiser of the output projection's weight: the runs of its kernel and of its reference side by side.
-/
module

public import proofs.«01_k».proof.Defs
public import proofs.«01_k».proof.Proof.AdamWFinal
public import proofs.«01_k».proof.Proof.Gen.AdamWRefIdeal.Run
public import Idealize.ShloMosaic.Lib.Claim

@[expose] public section

set_option maxRecDepth 16384

noncomputable section

namespace Cert.AdamWIdeal.Value

open Cert.AdamWIdeal Cert.AdamWIdeal.Gen Idealize.ShloMosaic Idealize.ShloMosaic.TcCoe Idealize.SL.Sem

/-- The summed gradient, the weight's change and the two running means are the reference's, on every argument. -/
theorem algebraic : Cert.algebraic_AdamWIdeal_AdamWRefIdeal := by
  pair_intro
  · run_from (run_blocks m g)
  · refine (θ_run Cert.AdamWRefIdeal.defs _ _).mono (fun r h c => ?_) (Cert.AdamWRefIdeal.Value.run (F := Ideal) m' g')
    obtain ⟨h6, h30, h11, h17, k⟩ := h c
    obtain ⟨a0, a1, a2, a3, a4⟩ := hagree c
    refine ⟨h6.trans ?_, h30.trans ?_, h11.trans ?_, h17.trans ?_, k⟩
    · exact (Cert.AdamWRefIdeal.Read.val_main_v6_eq _ _).trans
        ((congr (congrArg Cert.AdamWRefIdeal.Read.val_main_v6 a0) a1).trans (final_grad m c).symm)
    · exact (Cert.AdamWRefIdeal.Read.val_main_v30_eq _ _ _ _ _).trans
        ((congr (congr (congr (congr (congrArg Cert.AdamWRefIdeal.Read.val_main_v30 a0) a1) a2) a3) a4).trans (final_change m c).symm)
    · exact (Cert.AdamWRefIdeal.Read.val_main_v11_eq _ _ _).trans
        ((congr (congr (congrArg Cert.AdamWRefIdeal.Read.val_main_v11 a0) a1) a3).trans (final_mean m c).symm)
    · exact (Cert.AdamWRefIdeal.Read.val_main_v17_eq _ _ _).trans
        ((congr (congr (congrArg Cert.AdamWRefIdeal.Read.val_main_v17 a0) a1) a4).trans (final_square m c).symm)

end Cert.AdamWIdeal.Value

end
-- ==== Proof.lean ====
module

public import proofs.«01_k».proof.Defs
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.LossClaim
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.Pre_loss_head_finite
public import proofs.«01_k».proof.Proof.Gen.AttnBwd
public import proofs.«01_k».proof.Proof.Gen.AttnBwd.Frame
public import proofs.«01_k».proof.Proof.Gen.AttnBwdIdeal
public import proofs.«01_k».proof.Proof.Gen.AttnBwdIdeal.Frame
public import proofs.«01_k».proof.Proof.AttnClaim
public import proofs.«01_k».proof.Proof.InClaim
public import proofs.«01_k».proof.Proof.DxClaim
public import proofs.«01_k».proof.Proof.FwdClaim
public import proofs.«01_k».proof.Proof.MixClaim
public import proofs.«01_k».proof.Proof.ProjClaim
public import proofs.«01_k».proof.Proof.AdamWClaim
public import proofs.«01_k».proof.Proof.Gen.InBwd
public import proofs.«01_k».proof.Proof.Gen.InBwd.Frame
public import proofs.«01_k».proof.Proof.Gen.InBwdIdeal
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InBwdRefIdeal.Read
public import proofs.«01_k».proof.Proof.Gen.Pre_in_bwd_finite
public import proofs.«01_k».proof.Proof.Gen.AttnBwdIdeal.Value
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.Pre_in_dx_finite
public import proofs.«01_k».proof.Proof.Gen.AttnFwd
public import proofs.«01_k».proof.Proof.Gen.MixFwd
public import proofs.«01_k».proof.Proof.Gen.AttnFwd.Frame
public import proofs.«01_k».proof.Proof.Gen.MixFwd.Frame
public import proofs.«01_k».proof.Proof.Gen.AttnFwdIdeal
public import proofs.«01_k».proof.Proof.Gen.MixFwdIdeal
public import proofs.«01_k».proof.Proof.Gen.AttnFwdIdeal.Frame
public import proofs.«01_k».proof.Proof.Gen.MixFwdIdeal.Frame
public import proofs.«01_k».proof.Proof.Gen.AttnFwdIdeal.Value
public import proofs.«01_k».proof.Proof.Gen.MixFwdIdeal.Value
public import proofs.«01_k».proof.Proof.Gen.AttnFwdRefIdeal
public import proofs.«01_k».proof.Proof.Gen.MixFwdRefIdeal
public import proofs.«01_k».proof.Proof.Gen.AttnFwdRefIdeal.Run
public import proofs.«01_k».proof.Proof.Gen.MixFwdRefIdeal.Run
public import proofs.«01_k».proof.Proof.Gen.AttnFwdRefIdeal.Read
public import proofs.«01_k».proof.Proof.Gen.MixFwdRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.OutInProj
public import proofs.«01_k».proof.Proof.Gen.OutInProj.Frame
public import proofs.«01_k».proof.Proof.Gen.OutInProjIdeal
public import proofs.«01_k».proof.Proof.Gen.OutInProjIdeal.Frame
public import proofs.«01_k».proof.Proof.Gen.OutInProjIdeal.Value
public import proofs.«01_k».proof.Proof.Gen.OutInProjRefIdeal
public import proofs.«01_k».proof.Proof.Gen.OutInProjRefIdeal.Run
public import proofs.«01_k».proof.Proof.Gen.OutInProjRefIdeal.Read
public import proofs.«01_k».proof.Proof.Gen.OutBwd
public import proofs.«01_k».proof.Proof.Gen.OutBwd.Frame
public import proofs.«01_k».proof.Proof.Gen.OutBwdIdeal
public import proofs.«01_k».proof.Proof.Gen.OutBwdIdeal.Frame
public import proofs.«01_k».proof.Proof.Gen.OutBwdIdeal.Value
public import proofs.«01_k».proof.Proof.Gen.OutBwdRefIdeal
public import proofs.«01_k».proof.Proof.Gen.OutBwdRefIdeal.Run
public import proofs.«01_k».proof.Proof.Gen.OutBwdRefIdeal.Read
public import proofs.«01_k».proof.Proof.Gen.AdamW
public import proofs.«01_k».proof.Proof.Gen.AdamW.Frame
public import proofs.«01_k».proof.Proof.Gen.AdamWIdeal
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.AdamWRefIdeal.Read
public import proofs.«01_k».proof.Proof.Gen.Pre_attn_fwd_finite
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.Pre_attn_bwd_finite
public import Idealize.ShloMosaic.Adequacy
public import Idealize.ShloMosaic.Init

@[expose] public section

noncomputable section

namespace Cert.Proof

open Idealize.ShloMosaic Idealize.SL.Sem Cert.LossHead

/-- The loss head's reference is a line of host operations that declares no semaphore. -/
theorem frame_loss_head_reference : Cert.quiescent_LossHeadRefIdeal := fun m ρ _ =>
  (θ_run Cert.LossHeadRefIdeal.defs _ _).mono (fun r h => ⟨fun c => (h c).2.2.2, sem_eq_zero_of_no_sems (by decide) r.2⟩)
    (Cert.LossHeadRefIdeal.Value.run (F := Ideal) m ρ)

/-- So is the attention's. -/
theorem frame_attn_bwd_reference : Cert.quiescent_AttnBwdRefIdeal := fun m ρ _ =>
  (θ_run Cert.AttnBwdRefIdeal.defs _ _).mono (fun r h => ⟨fun c => (h c).2.2, sem_eq_zero_of_no_sems (by decide) r.2⟩)
    (Cert.AttnBwdRefIdeal.Value.run (F := Ideal) m ρ)

/-- So is the in-projection's. -/
theorem frame_in_bwd_reference : Cert.quiescent_InBwdRefIdeal := fun m ρ _ =>
  (θ_run Cert.InBwdRefIdeal.defs _ _).mono (fun r h => ⟨fun c => (h c).2.2, sem_eq_zero_of_no_sems (by decide) r.2⟩)
    (Cert.InBwdRefIdeal.Value.run (F := Ideal) m ρ)

/-- So is the first layer's in-projection's. -/
theorem frame_in_dx_reference : Cert.quiescent_InDxRefIdeal := fun m ρ _ =>
  (θ_run Cert.InDxRefIdeal.defs _ _).mono (fun r h => ⟨fun c => (h c).2.2, sem_eq_zero_of_no_sems (by decide) r.2⟩)
    (Cert.InDxRefIdeal.Value.run (F := Ideal) m ρ)

/-- So is the forward attention's. -/
theorem frame_attn_fwd_reference : Cert.quiescent_AttnFwdRefIdeal := fun m ρ _ =>
  (θ_run Cert.AttnFwdRefIdeal.defs _ _).mono (fun r h => ⟨fun c => (h c).2.2, sem_eq_zero_of_no_sems (by decide) r.2⟩)
    (Cert.AttnFwdRefIdeal.Value.run (F := Ideal) m ρ)

/-- So is the mixers'. -/
theorem frame_mix_fwd_reference : Cert.quiescent_MixFwdRefIdeal := fun m ρ _ =>
  (θ_run Cert.MixFwdRefIdeal.defs _ _).mono (fun r h => ⟨fun c => (h c).2.2.2, sem_eq_zero_of_no_sems (by decide) r.2⟩)
    (Cert.MixFwdRefIdeal.Value.run (F := Ideal) m ρ)

/-- So is that of the first projection. -/
theorem frame_in_proj_reference : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- So is that of the output projection with the next layer's. -/
theorem frame_out_in_proj_reference : Cert.quiescent_OutInProjRefIdeal := fun m ρ _ =>
  (θ_run Cert.OutInProjRefIdeal.defs _ _).mono (fun r h => ⟨fun c => (h c).2.2, sem_eq_zero_of_no_sems (by decide) r.2⟩)
    (Cert.OutInProjRefIdeal.Value.run (F := Ideal) m ρ)

/-- So is that of the output projection's gradient. -/
theorem frame_out_bwd_reference : Cert.quiescent_OutBwdRefIdeal := fun m ρ _ =>
  (θ_run Cert.OutBwdRefIdeal.defs _ _).mono (fun r h => ⟨fun c => (h c).2.2, sem_eq_zero_of_no_sems (by decide) r.2⟩)
    (Cert.OutBwdRefIdeal.Value.run (F := Ideal) m ρ)

/-- So is that of the optimiser. -/
theorem frame_adamw_reference : Cert.quiescent_AdamWRefIdeal := fun m ρ _ =>
  (θ_run Cert.AdamWRefIdeal.defs _ _).mono (fun r h => ⟨fun c => (h c).2.2.2.2, sem_eq_zero_of_no_sems (by decide) r.2⟩)
    (Cert.AdamWRefIdeal.Value.run (F := Ideal) m ρ)

theorem claim : Cert.Claim := ⟨Cert.LossHead.Gen.facts, Cert.LossHeadIdeal.Gen.facts, Cert.LossHeadRefIdeal.Gen.facts,
  Cert.AttnBwd.Gen.facts, Cert.AttnBwdIdeal.Gen.facts, Cert.AttnBwdRefIdeal.Gen.facts,
  Cert.InBwd.Gen.facts, Cert.InBwdIdeal.Gen.facts, Cert.InBwdRefIdeal.Gen.facts,
  Cert.InDx.Gen.facts, Cert.InDxIdeal.Gen.facts, Cert.InDxRefIdeal.Gen.facts,
  Cert.AttnFwd.Gen.facts, Cert.AttnFwdIdeal.Gen.facts, Cert.AttnFwdRefIdeal.Gen.facts,
  Cert.MixFwd.Gen.facts, Cert.MixFwdIdeal.Gen.facts, Cert.MixFwdRefIdeal.Gen.facts,
  Cert.InProj.Gen.facts, Cert.InProjIdeal.Gen.facts, Cert.InProjRefIdeal.Gen.facts,
  Cert.OutInProj.Gen.facts, Cert.OutInProjIdeal.Gen.facts, Cert.OutInProjRefIdeal.Gen.facts,
  Cert.OutBwd.Gen.facts, Cert.OutBwdIdeal.Gen.facts, Cert.OutBwdRefIdeal.Gen.facts,
  Cert.AdamW.Gen.facts, Cert.AdamWIdeal.Gen.facts, Cert.AdamWRefIdeal.Gen.facts,
  Cert.Pre_loss_head_finite.Gen.facts, Cert.Pre_attn_bwd_finite.Gen.facts, Cert.Pre_in_bwd_finite.Gen.facts, Cert.Pre_in_dx_finite.Gen.facts, Cert.Pre_attn_fwd_finite.Gen.facts,
  fun m ρ _ => Cert.LossHead.Gen.frame m ρ,
  fun m ρ _ => Cert.LossHeadIdeal.Gen.frame m ρ,
  fun m ρ _ => Cert.LossHeadIdeal.Gen.frame m ρ,
  frame_loss_head_reference,
  fun m ρ _ => frame_loss_head_reference m ρ trivial,
  fun m ρ _ => Cert.AttnBwd.Gen.frame m ρ,
  fun m ρ _ => Cert.AttnBwdIdeal.Gen.frame m ρ,
  fun m ρ _ => Cert.AttnBwdIdeal.Gen.frame m ρ,
  frame_attn_bwd_reference,
  fun m ρ _ => frame_attn_bwd_reference m ρ trivial,
  fun m ρ _ => Cert.InBwd.Gen.frame m ρ,
  fun m ρ _ => Cert.InBwdIdeal.Gen.frame m ρ,
  fun m ρ _ => Cert.InBwdIdeal.Gen.frame m ρ,
  frame_in_bwd_reference,
  fun m ρ _ => frame_in_bwd_reference m ρ trivial,
  fun m ρ _ => Cert.InDx.Gen.frame m ρ,
  fun m ρ _ => Cert.InDxIdeal.Gen.frame m ρ,
  fun m ρ _ => Cert.InDxIdeal.Gen.frame m ρ,
  frame_in_dx_reference,
  fun m ρ _ => frame_in_dx_reference m ρ trivial,
  fun m ρ _ => Cert.AttnFwd.Gen.frame m ρ,
  fun m ρ _ => Cert.AttnFwdIdeal.Gen.frame m ρ,
  fun m ρ _ => Cert.AttnFwdIdeal.Gen.frame m ρ,
  frame_attn_fwd_reference,
  fun m ρ _ => frame_attn_fwd_reference m ρ trivial,
  fun m ρ _ => Cert.MixFwd.Gen.frame m ρ,
  fun m ρ _ => Cert.MixFwdIdeal.Gen.frame m ρ,
  frame_mix_fwd_reference,
  fun m ρ _ => Cert.InProj.Gen.frame m ρ,
  fun m ρ _ => Cert.InProjIdeal.Gen.frame m ρ,
  frame_in_proj_reference,
  fun m ρ _ => Cert.OutInProj.Gen.frame m ρ,
  fun m ρ _ => Cert.OutInProjIdeal.Gen.frame m ρ,
  frame_out_in_proj_reference,
  fun m ρ _ => Cert.OutBwd.Gen.frame m ρ,
  fun m ρ _ => Cert.OutBwdIdeal.Gen.frame m ρ,
  frame_out_bwd_reference,
  fun m ρ _ => Cert.AdamW.Gen.frame m ρ,
  fun m ρ _ => Cert.AdamWIdeal.Gen.frame m ρ,
  frame_adamw_reference,
  trivial,
  Cert.LossHeadIdeal.Value.algebraic,
  IdealRules.named_const.statement Cert.AttnBwdIdeal.κ "mask" .f32 0xF149F2CA#32 ⊥ rfl,
  Cert.AttnBwdIdeal.Value.algebraic,
  trivial,
  Cert.InBwdIdeal.Value.algebraic,
  trivial,
  Cert.InDxIdeal.Value.algebraic,
  IdealRules.named_const.statement Cert.AttnFwdIdeal.κ "mask" .f32 0xF149F2CA#32 ⊥ rfl,
  Cert.AttnFwdIdeal.Value.algebraic,
  trivial,
  Cert.MixFwdIdeal.Value.algebraic,
  trivial,
  Cert.InProjIdeal.Value.algebraic,
  trivial,
  Cert.OutInProjIdeal.Value.algebraic,
  trivial,
  Cert.OutBwdIdeal.Value.algebraic,
  trivial,
  Cert.AdamWIdeal.Value.algebraic⟩

end Cert.Proof

end
